-- ==== Defs.lean ====
def Pre_AttnLat (m : (ℓ : Loc Cert.AttnLat.nD Cert.AttnLat.τ Cert.AttnLat.sig) → Buf (Elt Bits) ℓ) : Prop :=
  True

def Pre_AttnLatIdeal (m : (ℓ : Loc Cert.AttnLatIdeal.nD Cert.AttnLatIdeal.τ Cert.AttnLatIdeal.sig) → Buf (Elt Ideal) ℓ) : Prop :=
  True

def Pre_AttnLatIdeal_scores_finite [hPre_scores_finite : Cert.Pre_scores_finite.Facts] (m : (ℓ : Loc Cert.AttnLatIdeal.nD Cert.AttnLatIdeal.τ Cert.AttnLatIdeal.sig) → Buf (Elt Ideal) ℓ) : Prop :=
  ∀ c : Dev Cert.AttnLatIdeal.nD,
    (Cert.Pre_scores_finite.fn (F := Ideal) (m ((c.tc : Thread Cert.AttnLatIdeal.nD Cert.AttnLatIdeal.τ).loc Cert.AttnLatIdeal.main_arg0)) (m ((c.tc : Thread Cert.AttnLatIdeal.nD Cert.AttnLatIdeal.τ).loc Cert.AttnLatIdeal.main_arg1)) (m ((c.tc : Thread Cert.AttnLatIdeal.nD Cert.AttnLatIdeal.τ).loc Cert.AttnLatIdeal.main_arg2)) (m ((c.tc : Thread Cert.AttnLatIdeal.nD Cert.AttnLatIdeal.τ).loc Cert.AttnLatIdeal.main_arg3)) (m ((c.tc : Thread Cert.AttnLatIdeal.nD Cert.AttnLatIdeal.τ).loc Cert.AttnLatIdeal.main_arg4))) = (fun _ => 1#1)

def Pre_AttnLatRefIdeal (m : (ℓ : Loc Cert.AttnLatRefIdeal.nD Cert.AttnLatRefIdeal.τ Cert.AttnLatRefIdeal.sig) → Buf (Elt Ideal) ℓ) : Prop :=
  True

def Pre_AttnLatRefIdeal_scores_finite [hPre_scores_finite : Cert.Pre_scores_finite.Facts] (m : (ℓ : Loc Cert.AttnLatRefIdeal.nD Cert.AttnLatRefIdeal.τ Cert.AttnLatRefIdeal.sig) → Buf (Elt Ideal) ℓ) : Prop :=
  ∀ c : Dev Cert.AttnLatRefIdeal.nD,
    (Cert.Pre_scores_finite.fn (F := Ideal) (m ((c.tc : Thread Cert.AttnLatRefIdeal.nD Cert.AttnLatRefIdeal.τ).loc Cert.AttnLatRefIdeal.main_arg0)) (m ((c.tc : Thread Cert.AttnLatRefIdeal.nD Cert.AttnLatRefIdeal.τ).loc Cert.AttnLatRefIdeal.main_arg1)) (m ((c.tc : Thread Cert.AttnLatRefIdeal.nD Cert.AttnLatRefIdeal.τ).loc Cert.AttnLatRefIdeal.main_arg2)) (m ((c.tc : Thread Cert.AttnLatRefIdeal.nD Cert.AttnLatRefIdeal.τ).loc Cert.AttnLatRefIdeal.main_arg3)) (m ((c.tc : Thread Cert.AttnLatRefIdeal.nD Cert.AttnLatRefIdeal.τ).loc Cert.AttnLatRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_AttnCtx (m : (ℓ : Loc Cert.AttnCtx.nD Cert.AttnCtx.τ Cert.AttnCtx.sig) → Buf (Elt Bits) ℓ) : Prop :=
  True

def Pre_AttnCtxIdeal (m : (ℓ : Loc Cert.AttnCtxIdeal.nD Cert.AttnCtxIdeal.τ Cert.AttnCtxIdeal.sig) → Buf (Elt Ideal) ℓ) : Prop :=
  True

def Pre_AttnCtxIdeal_ctx_scores_finite [hPre_ctx_scores_finite : Cert.Pre_ctx_scores_finite.Facts] (m : (ℓ : Loc Cert.AttnCtxIdeal.nD Cert.AttnCtxIdeal.τ Cert.AttnCtxIdeal.sig) → Buf (Elt Ideal) ℓ) : Prop :=
  ∀ c : Dev Cert.AttnCtxIdeal.nD,
    (Cert.Pre_ctx_scores_finite.fn (F := Ideal) (m ((c.tc : Thread Cert.AttnCtxIdeal.nD Cert.AttnCtxIdeal.τ).loc Cert.AttnCtxIdeal.main_arg0)) (m ((c.tc : Thread Cert.AttnCtxIdeal.nD Cert.AttnCtxIdeal.τ).loc Cert.AttnCtxIdeal.main_arg1)) (m ((c.tc : Thread Cert.AttnCtxIdeal.nD Cert.AttnCtxIdeal.τ).loc Cert.AttnCtxIdeal.main_arg2))) = (fun _ => 1#1)

def Pre_AttnCtxRefIdeal (m : (ℓ : Loc Cert.AttnCtxRefIdeal.nD Cert.AttnCtxRefIdeal.τ Cert.AttnCtxRefIdeal.sig) → Buf (Elt Ideal) ℓ) : Prop :=
  True

def Pre_AttnCtxRefIdeal_ctx_scores_finite [hPre_ctx_scores_finite : Cert.Pre_ctx_scores_finite.Facts] (m : (ℓ : Loc Cert.AttnCtxRefIdeal.nD Cert.AttnCtxRefIdeal.τ Cert.AttnCtxRefIdeal.sig) → Buf (Elt Ideal) ℓ) : Prop :=
  ∀ c : Dev Cert.AttnCtxRefIdeal.nD,
    (Cert.Pre_ctx_scores_finite.fn (F := Ideal) (m ((c.tc : Thread Cert.AttnCtxRefIdeal.nD Cert.AttnCtxRefIdeal.τ).loc Cert.AttnCtxRefIdeal.main_arg0)) (m ((c.tc : Thread Cert.AttnCtxRefIdeal.nD Cert.AttnCtxRefIdeal.τ).loc Cert.AttnCtxRefIdeal.main_arg1)) (m ((c.tc : Thread Cert.AttnCtxRefIdeal.nD Cert.AttnCtxRefIdeal.τ).loc Cert.AttnCtxRefIdeal.main_arg2))) = (fun _ => 1#1)

def Pre_MlaCtx (m : (ℓ : Loc Cert.MlaCtx.nD Cert.MlaCtx.τ Cert.MlaCtx.sig) → Buf (Elt Bits) ℓ) : Prop :=
  True

def Pre_MlaCtxIdeal (m : (ℓ : Loc Cert.MlaCtxIdeal.nD Cert.MlaCtxIdeal.τ Cert.MlaCtxIdeal.sig) → Buf (Elt Ideal) ℓ) : Prop :=
  True

def Pre_MlaCtxIdeal_fill_zero [hPre_fill_zero : Cert.Pre_fill_zero.Facts] (m : (ℓ : Loc Cert.MlaCtxIdeal.nD Cert.MlaCtxIdeal.τ Cert.MlaCtxIdeal.sig) → Buf (Elt Ideal) ℓ) : Prop :=
  ∀ c : Dev Cert.MlaCtxIdeal.nD,
    (Cert.Pre_fill_zero.fn (F := Ideal) (m ((c.tc : Thread Cert.MlaCtxIdeal.nD Cert.MlaCtxIdeal.τ).loc Cert.MlaCtxIdeal.main_arg0)) (m ((c.tc : Thread Cert.MlaCtxIdeal.nD Cert.MlaCtxIdeal.τ).loc Cert.MlaCtxIdeal.main_arg1)) (m ((c.tc : Thread Cert.MlaCtxIdeal.nD Cert.MlaCtxIdeal.τ).loc Cert.MlaCtxIdeal.main_arg2)) (m ((c.tc : Thread Cert.MlaCtxIdeal.nD Cert.MlaCtxIdeal.τ).loc Cert.MlaCtxIdeal.main_arg3)) (m ((c.tc : Thread Cert.MlaCtxIdeal.nD Cert.MlaCtxIdeal.τ).loc Cert.MlaCtxIdeal.main_arg4)) (m ((c.tc : Thread Cert.MlaCtxIdeal.nD Cert.MlaCtxIdeal.τ).loc Cert.MlaCtxIdeal.main_arg5)) (m ((c.tc : Thread Cert.MlaCtxIdeal.nD Cert.MlaCtxIdeal.τ).loc Cert.MlaCtxIdeal.main_arg6)) (m ((c.tc : Thread Cert.MlaCtxIdeal.nD Cert.MlaCtxIdeal.τ).loc Cert.MlaCtxIdeal.main_arg7)) (m ((c.tc : Thread Cert.MlaCtxIdeal.nD Cert.MlaCtxIdeal.τ).loc Cert.MlaCtxIdeal.main_arg8))) = (fun _ => 1#1)

def Pre_MlaCtxRefIdeal (m : (ℓ : Loc Cert.MlaCtxRefIdeal.nD Cert.MlaCtxRefIdeal.τ Cert.MlaCtxRefIdeal.sig) → Buf (Elt Ideal) ℓ) : Prop :=
  True

def Pre_MlaCtxRefIdeal_fill_zero [hPre_fill_zero : Cert.Pre_fill_zero.Facts] (m : (ℓ : Loc Cert.MlaCtxRefIdeal.nD Cert.MlaCtxRefIdeal.τ Cert.MlaCtxRefIdeal.sig) → Buf (Elt Ideal) ℓ) : Prop :=
  ∀ c : Dev Cert.MlaCtxRefIdeal.nD,
    (Cert.Pre_fill_zero.fn (F := Ideal) (m ((c.tc : Thread Cert.MlaCtxRefIdeal.nD Cert.MlaCtxRefIdeal.τ).loc Cert.MlaCtxRefIdeal.main_arg0)) (m ((c.tc : Thread Cert.MlaCtxRefIdeal.nD Cert.MlaCtxRefIdeal.τ).loc Cert.MlaCtxRefIdeal.main_arg1)) (m ((c.tc : Thread Cert.MlaCtxRefIdeal.nD Cert.MlaCtxRefIdeal.τ).loc Cert.MlaCtxRefIdeal.main_arg2)) (m ((c.tc : Thread Cert.MlaCtxRefIdeal.nD Cert.MlaCtxRefIdeal.τ).loc Cert.MlaCtxRefIdeal.main_arg3)) (m ((c.tc : Thread Cert.MlaCtxRefIdeal.nD Cert.MlaCtxRefIdeal.τ).loc Cert.MlaCtxRefIdeal.main_arg4)) (m ((c.tc : Thread Cert.MlaCtxRefIdeal.nD Cert.MlaCtxRefIdeal.τ).loc Cert.MlaCtxRefIdeal.main_arg5)) (m ((c.tc : Thread Cert.MlaCtxRefIdeal.nD Cert.MlaCtxRefIdeal.τ).loc Cert.MlaCtxRefIdeal.main_arg6)) (m ((c.tc : Thread Cert.MlaCtxRefIdeal.nD Cert.MlaCtxRefIdeal.τ).loc Cert.MlaCtxRefIdeal.main_arg7)) (m ((c.tc : Thread Cert.MlaCtxRefIdeal.nD Cert.MlaCtxRefIdeal.τ).loc Cert.MlaCtxRefIdeal.main_arg8))) = (fun _ => 1#1)

def Pre_MlaCache (m : (ℓ : Loc Cert.MlaCache.nD Cert.MlaCache.τ Cert.MlaCache.sig) → Buf (Elt Bits) ℓ) : Prop :=
  True

def Pre_MlaCacheIdeal (m : (ℓ : Loc Cert.MlaCacheIdeal.nD Cert.MlaCacheIdeal.τ Cert.MlaCacheIdeal.sig) → Buf (Elt Ideal) ℓ) : Prop :=
  True

def Pre_MlaCacheRefIdeal (m : (ℓ : Loc Cert.MlaCacheRefIdeal.nD Cert.MlaCacheRefIdeal.τ Cert.MlaCacheRefIdeal.sig) → Buf (Elt Ideal) ℓ) : Prop :=
  True

def Pre_MlaLat (m : (ℓ : Loc Cert.MlaLat.nD Cert.MlaLat.τ Cert.MlaLat.sig) → Buf (Elt Bits) ℓ) : Prop :=
  True

def Pre_MlaLatIdeal (m : (ℓ : Loc Cert.MlaLatIdeal.nD Cert.MlaLatIdeal.τ Cert.MlaLatIdeal.sig) → Buf (Elt Ideal) ℓ) : Prop :=
  True

def Pre_MlaLatIdeal_fill_zero_lat [hPre_fill_zero_lat : Cert.Pre_fill_zero_lat.Facts] (m : (ℓ : Loc Cert.MlaLatIdeal.nD Cert.MlaLatIdeal.τ Cert.MlaLatIdeal.sig) → Buf (Elt Ideal) ℓ) : Prop :=
  ∀ c : Dev Cert.MlaLatIdeal.nD,
    (Cert.Pre_fill_zero_lat.fn (F := Ideal) (m ((c.tc : Thread Cert.MlaLatIdeal.nD Cert.MlaLatIdeal.τ).loc Cert.MlaLatIdeal.main_arg0)) (m ((c.tc : Thread Cert.MlaLatIdeal.nD Cert.MlaLatIdeal.τ).loc Cert.MlaLatIdeal.main_arg1)) (m ((c.tc : Thread Cert.MlaLatIdeal.nD Cert.MlaLatIdeal.τ).loc Cert.MlaLatIdeal.main_arg2)) (m ((c.tc : Thread Cert.MlaLatIdeal.nD Cert.MlaLatIdeal.τ).loc Cert.MlaLatIdeal.main_arg3)) (m ((c.tc : Thread Cert.MlaLatIdeal.nD Cert.MlaLatIdeal.τ).loc Cert.MlaLatIdeal.main_arg4)) (m ((c.tc : Thread Cert.MlaLatIdeal.nD Cert.MlaLatIdeal.τ).loc Cert.MlaLatIdeal.main_arg5)) (m ((c.tc : Thread Cert.MlaLatIdeal.nD Cert.MlaLatIdeal.τ).loc Cert.MlaLatIdeal.main_arg6)) (m ((c.tc : Thread Cert.MlaLatIdeal.nD Cert.MlaLatIdeal.τ).loc Cert.MlaLatIdeal.main_arg7)) (m ((c.tc : Thread Cert.MlaLatIdeal.nD Cert.MlaLatIdeal.τ).loc Cert.MlaLatIdeal.main_arg8))) = (fun _ => 1#1)

def Pre_MlaLatRefIdeal (m : (ℓ : Loc Cert.MlaLatRefIdeal.nD Cert.MlaLatRefIdeal.τ Cert.MlaLatRefIdeal.sig) → Buf (Elt Ideal) ℓ) : Prop :=
  True

def Pre_MlaLatRefIdeal_fill_zero_lat [hPre_fill_zero_lat : Cert.Pre_fill_zero_lat.Facts] (m : (ℓ : Loc Cert.MlaLatRefIdeal.nD Cert.MlaLatRefIdeal.τ Cert.MlaLatRefIdeal.sig) → Buf (Elt Ideal) ℓ) : Prop :=
  ∀ c : Dev Cert.MlaLatRefIdeal.nD,
    (Cert.Pre_fill_zero_lat.fn (F := Ideal) (m ((c.tc : Thread Cert.MlaLatRefIdeal.nD Cert.MlaLatRefIdeal.τ).loc Cert.MlaLatRefIdeal.main_arg0)) (m ((c.tc : Thread Cert.MlaLatRefIdeal.nD Cert.MlaLatRefIdeal.τ).loc Cert.MlaLatRefIdeal.main_arg1)) (m ((c.tc : Thread Cert.MlaLatRefIdeal.nD Cert.MlaLatRefIdeal.τ).loc Cert.MlaLatRefIdeal.main_arg2)) (m ((c.tc : Thread Cert.MlaLatRefIdeal.nD Cert.MlaLatRefIdeal.τ).loc Cert.MlaLatRefIdeal.main_arg3)) (m ((c.tc : Thread Cert.MlaLatRefIdeal.nD Cert.MlaLatRefIdeal.τ).loc Cert.MlaLatRefIdeal.main_arg4)) (m ((c.tc : Thread Cert.MlaLatRefIdeal.nD Cert.MlaLatRefIdeal.τ).loc Cert.MlaLatRefIdeal.main_arg5)) (m ((c.tc : Thread Cert.MlaLatRefIdeal.nD Cert.MlaLatRefIdeal.τ).loc Cert.MlaLatRefIdeal.main_arg6)) (m ((c.tc : Thread Cert.MlaLatRefIdeal.nD Cert.MlaLatRefIdeal.τ).loc Cert.MlaLatRefIdeal.main_arg7)) (m ((c.tc : Thread Cert.MlaLatRefIdeal.nD Cert.MlaLatRefIdeal.τ).loc Cert.MlaLatRefIdeal.main_arg8))) = (fun _ => 1#1)

def quiescent_AttnLat [hAttnLat : Cert.AttnLat.Facts] : Prop :=
  ∀ (m : (ℓ : Loc Cert.AttnLat.nD Cert.AttnLat.τ Cert.AttnLat.sig) → Buf (Elt Bits) ℓ) (g : Dev Cert.AttnLat.nD → PrngReg), Pre_AttnLat m →
    θ_run (Cert.AttnLat.defs (F := Bits)) (onTc (τ := Cert.AttnLat.τ) (Cert.AttnLat.main (F := Bits))) ⟨m, fun _ => 0, g⟩ (fun r => (∀ c : Dev Cert.AttnLat.nD,
      r.2.mem ((c.tc : Thread Cert.AttnLat.nD Cert.AttnLat.τ).loc Cert.AttnLat.main_arg0) = m ((c.tc : Thread Cert.AttnLat.nD Cert.AttnLat.τ).loc Cert.AttnLat.main_arg0)
      ∧ r.2.mem ((c.tc : Thread Cert.AttnLat.nD Cert.AttnLat.τ).loc Cert.AttnLat.main_arg1) = m ((c.tc : Thread Cert.AttnLat.nD Cert.AttnLat.τ).loc Cert.AttnLat.main_arg1)
      ∧ r.2.mem ((c.tc : Thread Cert.AttnLat.nD Cert.AttnLat.τ).loc Cert.AttnLat.main_arg2) = m ((c.tc : Thread Cert.AttnLat.nD Cert.AttnLat.τ).loc Cert.AttnLat.main_arg2)
      ∧ r.2.mem ((c.tc : Thread Cert.AttnLat.nD Cert.AttnLat.τ).loc Cert.AttnLat.main_arg3) = m ((c.tc : Thread Cert.AttnLat.nD Cert.AttnLat.τ).loc Cert.AttnLat.main_arg3)
      ∧ r.2.mem ((c.tc : Thread Cert.AttnLat.nD Cert.AttnLat.τ).loc Cert.AttnLat.main_arg4) = m ((c.tc : Thread Cert.AttnLat.nD Cert.AttnLat.τ).loc Cert.AttnLat.main_arg4))
      ∧ r.2.sem = fun _ => 0)

def quiescent_AttnLatIdeal [hAttnLatIdeal : Cert.AttnLatIdeal.Facts] : Prop :=
  ∀ (m : (ℓ : Loc Cert.AttnLatIdeal.nD Cert.AttnLatIdeal.τ Cert.AttnLatIdeal.sig) → Buf (Elt Ideal) ℓ) (g : Dev Cert.AttnLatIdeal.nD → PrngReg), Pre_AttnLatIdeal m →
    θ_run (Cert.AttnLatIdeal.defs (F := Ideal)) (onTc (τ := Cert.AttnLatIdeal.τ) (Cert.AttnLatIdeal.main (F := Ideal))) ⟨m, fun _ => 0, g⟩ (fun r => (∀ c : Dev Cert.AttnLatIdeal.nD,
      r.2.mem ((c.tc : Thread Cert.AttnLatIdeal.nD Cert.AttnLatIdeal.τ).loc Cert.AttnLatIdeal.main_arg0) = m ((c.tc : Thread Cert.AttnLatIdeal.nD Cert.AttnLatIdeal.τ).loc Cert.AttnLatIdeal.main_arg0)
      ∧ r.2.mem ((c.tc : Thread Cert.AttnLatIdeal.nD Cert.AttnLatIdeal.τ).loc Cert.AttnLatIdeal.main_arg1) = m ((c.tc : Thread Cert.AttnLatIdeal.nD Cert.AttnLatIdeal.τ).loc Cert.AttnLatIdeal.main_arg1)
      ∧ r.2.mem ((c.tc : Thread Cert.AttnLatIdeal.nD Cert.AttnLatIdeal.τ).loc Cert.AttnLatIdeal.main_arg2) = m ((c.tc : Thread Cert.AttnLatIdeal.nD Cert.AttnLatIdeal.τ).loc Cert.AttnLatIdeal.main_arg2)
      ∧ r.2.mem ((c.tc : Thread Cert.AttnLatIdeal.nD Cert.AttnLatIdeal.τ).loc Cert.AttnLatIdeal.main_arg3) = m ((c.tc : Thread Cert.AttnLatIdeal.nD Cert.AttnLatIdeal.τ).loc Cert.AttnLatIdeal.main_arg3)
      ∧ r.2.mem ((c.tc : Thread Cert.AttnLatIdeal.nD Cert.AttnLatIdeal.τ).loc Cert.AttnLatIdeal.main_arg4) = m ((c.tc : Thread Cert.AttnLatIdeal.nD Cert.AttnLatIdeal.τ).loc Cert.AttnLatIdeal.main_arg4))
      ∧ r.2.sem = fun _ => 0)

def quiescent_AttnLatIdeal_pre_scores_finite [hAttnLatIdeal : Cert.AttnLatIdeal.Facts] [hPre_scores_finite : Cert.Pre_scores_finite.Facts] : Prop :=
  ∀ (m : (ℓ : Loc Cert.AttnLatIdeal.nD Cert.AttnLatIdeal.τ Cert.AttnLatIdeal.sig) → Buf (Elt Ideal) ℓ) (g : Dev Cert.AttnLatIdeal.nD → PrngReg), Pre_AttnLatIdeal_scores_finite m →
    θ_run (Cert.AttnLatIdeal.defs (F := Ideal)) (onTc (τ := Cert.AttnLatIdeal.τ) (Cert.AttnLatIdeal.main (F := Ideal))) ⟨m, fun _ => 0, g⟩ (fun r => (∀ c : Dev Cert.AttnLatIdeal.nD,
      r.2.mem ((c.tc : Thread Cert.AttnLatIdeal.nD Cert.AttnLatIdeal.τ).loc Cert.AttnLatIdeal.main_arg0) = m ((c.tc : Thread Cert.AttnLatIdeal.nD Cert.AttnLatIdeal.τ).loc Cert.AttnLatIdeal.main_arg0)
      ∧ r.2.mem ((c.tc : Thread Cert.AttnLatIdeal.nD Cert.AttnLatIdeal.τ).loc Cert.AttnLatIdeal.main_arg1) = m ((c.tc : Thread Cert.AttnLatIdeal.nD Cert.AttnLatIdeal.τ).loc Cert.AttnLatIdeal.main_arg1)
      ∧ r.2.mem ((c.tc : Thread Cert.AttnLatIdeal.nD Cert.AttnLatIdeal.τ).loc Cert.AttnLatIdeal.main_arg2) = m ((c.tc : Thread Cert.AttnLatIdeal.nD Cert.AttnLatIdeal.τ).loc Cert.AttnLatIdeal.main_arg2)
      ∧ r.2.mem ((c.tc : Thread Cert.AttnLatIdeal.nD Cert.AttnLatIdeal.τ).loc Cert.AttnLatIdeal.main_arg3) = m ((c.tc : Thread Cert.AttnLatIdeal.nD Cert.AttnLatIdeal.τ).loc Cert.AttnLatIdeal.main_arg3)
      ∧ r.2.mem ((c.tc : Thread Cert.AttnLatIdeal.nD Cert.AttnLatIdeal.τ).loc Cert.AttnLatIdeal.main_arg4) = m ((c.tc : Thread Cert.AttnLatIdeal.nD Cert.AttnLatIdeal.τ).loc Cert.AttnLatIdeal.main_arg4))
      ∧ r.2.sem = fun _ => 0)

def quiescent_AttnLatRefIdeal [hAttnLatRefIdeal : Cert.AttnLatRefIdeal.Facts] : Prop :=
  ∀ (m : (ℓ : Loc Cert.AttnLatRefIdeal.nD Cert.AttnLatRefIdeal.τ Cert.AttnLatRefIdeal.sig) → Buf (Elt Ideal) ℓ) (g : Dev Cert.AttnLatRefIdeal.nD → PrngReg), Pre_AttnLatRefIdeal m →
    θ_run (Cert.AttnLatRefIdeal.defs (F := Ideal)) (onTc (τ := Cert.AttnLatRefIdeal.τ) (Cert.AttnLatRefIdeal.main (F := Ideal))) ⟨m, fun _ => 0, g⟩ (fun r => (∀ c : Dev Cert.AttnLatRefIdeal.nD,
      r.2.mem ((c.tc : Thread Cert.AttnLatRefIdeal.nD Cert.AttnLatRefIdeal.τ).loc Cert.AttnLatRefIdeal.main_arg0) = m ((c.tc : Thread Cert.AttnLatRefIdeal.nD Cert.AttnLatRefIdeal.τ).loc Cert.AttnLatRefIdeal.main_arg0)
      ∧ r.2.mem ((c.tc : Thread Cert.AttnLatRefIdeal.nD Cert.AttnLatRefIdeal.τ).loc Cert.AttnLatRefIdeal.main_arg1) = m ((c.tc : Thread Cert.AttnLatRefIdeal.nD Cert.AttnLatRefIdeal.τ).loc Cert.AttnLatRefIdeal.main_arg1)
      ∧ r.2.mem ((c.tc : Thread Cert.AttnLatRefIdeal.nD Cert.AttnLatRefIdeal.τ).loc Cert.AttnLatRefIdeal.main_arg2) = m ((c.tc : Thread Cert.AttnLatRefIdeal.nD Cert.AttnLatRefIdeal.τ).loc Cert.AttnLatRefIdeal.main_arg2)
      ∧ r.2.mem ((c.tc : Thread Cert.AttnLatRefIdeal.nD Cert.AttnLatRefIdeal.τ).loc Cert.AttnLatRefIdeal.main_arg3) = m ((c.tc : Thread Cert.AttnLatRefIdeal.nD Cert.AttnLatRefIdeal.τ).loc Cert.AttnLatRefIdeal.main_arg3)
      ∧ r.2.mem ((c.tc : Thread Cert.AttnLatRefIdeal.nD Cert.AttnLatRefIdeal.τ).loc Cert.AttnLatRefIdeal.main_arg4) = m ((c.tc : Thread Cert.AttnLatRefIdeal.nD Cert.AttnLatRefIdeal.τ).loc Cert.AttnLatRefIdeal.main_arg4))
      ∧ r.2.sem = fun _ => 0)

def quiescent_AttnLatRefIdeal_pre_scores_finite [hAttnLatRefIdeal : Cert.AttnLatRefIdeal.Facts] [hPre_scores_finite : Cert.Pre_scores_finite.Facts] : Prop :=
  ∀ (m : (ℓ : Loc Cert.AttnLatRefIdeal.nD Cert.AttnLatRefIdeal.τ Cert.AttnLatRefIdeal.sig) → Buf (Elt Ideal) ℓ) (g : Dev Cert.AttnLatRefIdeal.nD → PrngReg), Pre_AttnLatRefIdeal_scores_finite m →
    θ_run (Cert.AttnLatRefIdeal.defs (F := Ideal)) (onTc (τ := Cert.AttnLatRefIdeal.τ) (Cert.AttnLatRefIdeal.main (F := Ideal))) ⟨m, fun _ => 0, g⟩ (fun r => (∀ c : Dev Cert.AttnLatRefIdeal.nD,
      r.2.mem ((c.tc : Thread Cert.AttnLatRefIdeal.nD Cert.AttnLatRefIdeal.τ).loc Cert.AttnLatRefIdeal.main_arg0) = m ((c.tc : Thread Cert.AttnLatRefIdeal.nD Cert.AttnLatRefIdeal.τ).loc Cert.AttnLatRefIdeal.main_arg0)
      ∧ r.2.mem ((c.tc : Thread Cert.AttnLatRefIdeal.nD Cert.AttnLatRefIdeal.τ).loc Cert.AttnLatRefIdeal.main_arg1) = m ((c.tc : Thread Cert.AttnLatRefIdeal.nD Cert.AttnLatRefIdeal.τ).loc Cert.AttnLatRefIdeal.main_arg1)
      ∧ r.2.mem ((c.tc : Thread Cert.AttnLatRefIdeal.nD Cert.AttnLatRefIdeal.τ).loc Cert.AttnLatRefIdeal.main_arg2) = m ((c.tc : Thread Cert.AttnLatRefIdeal.nD Cert.AttnLatRefIdeal.τ).loc Cert.AttnLatRefIdeal.main_arg2)
      ∧ r.2.mem ((c.tc : Thread Cert.AttnLatRefIdeal.nD Cert.AttnLatRefIdeal.τ).loc Cert.AttnLatRefIdeal.main_arg3) = m ((c.tc : Thread Cert.AttnLatRefIdeal.nD Cert.AttnLatRefIdeal.τ).loc Cert.AttnLatRefIdeal.main_arg3)
      ∧ r.2.mem ((c.tc : Thread Cert.AttnLatRefIdeal.nD Cert.AttnLatRefIdeal.τ).loc Cert.AttnLatRefIdeal.main_arg4) = m ((c.tc : Thread Cert.AttnLatRefIdeal.nD Cert.AttnLatRefIdeal.τ).loc Cert.AttnLatRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_AttnCtx [hAttnCtx : Cert.AttnCtx.Facts] : Prop :=
  ∀ (m : (ℓ : Loc Cert.AttnCtx.nD Cert.AttnCtx.τ Cert.AttnCtx.sig) → Buf (Elt Bits) ℓ) (g : Dev Cert.AttnCtx.nD → PrngReg), Pre_AttnCtx m →
    θ_run (Cert.AttnCtx.defs (F := Bits)) (onTc (τ := Cert.AttnCtx.τ) (Cert.AttnCtx.main (F := Bits))) ⟨m, fun _ => 0, g⟩ (fun r => (∀ c : Dev Cert.AttnCtx.nD,
      r.2.mem ((c.tc : Thread Cert.AttnCtx.nD Cert.AttnCtx.τ).loc Cert.AttnCtx.main_arg0) = m ((c.tc : Thread Cert.AttnCtx.nD Cert.AttnCtx.τ).loc Cert.AttnCtx.main_arg0)
      ∧ r.2.mem ((c.tc : Thread Cert.AttnCtx.nD Cert.AttnCtx.τ).loc Cert.AttnCtx.main_arg1) = m ((c.tc : Thread Cert.AttnCtx.nD Cert.AttnCtx.τ).loc Cert.AttnCtx.main_arg1)
      ∧ r.2.mem ((c.tc : Thread Cert.AttnCtx.nD Cert.AttnCtx.τ).loc Cert.AttnCtx.main_arg2) = m ((c.tc : Thread Cert.AttnCtx.nD Cert.AttnCtx.τ).loc Cert.AttnCtx.main_arg2))
      ∧ r.2.sem = fun _ => 0)

def quiescent_AttnCtxIdeal [hAttnCtxIdeal : Cert.AttnCtxIdeal.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg), Pre_AttnCtxIdeal m →
    θ_run (Cert.AttnCtxIdeal.defs (F := Ideal)) (onTc (τ := Cert.AttnCtxIdeal.τ) (Cert.AttnCtxIdeal.main (F := Ideal))) ⟨m, fun _ => 0, g⟩ (fun r => (∀ c : Dev Cert.AttnCtxIdeal.nD,
      r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
      ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
      ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2))
      ∧ r.2.sem = fun _ => 0)

def quiescent_AttnCtxIdeal_pre_ctx_scores_finite [hAttnCtxIdeal : Cert.AttnCtxIdeal.Facts] [hPre_ctx_scores_finite : Cert.Pre_ctx_scores_finite.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg), Pre_AttnCtxIdeal_ctx_scores_finite m →
    θ_run (Cert.AttnCtxIdeal.defs (F := Ideal)) (onTc (τ := Cert.AttnCtxIdeal.τ) (Cert.AttnCtxIdeal.main (F := Ideal))) ⟨m, fun _ => 0, g⟩ (fun r => (∀ c : Dev Cert.AttnCtxIdeal.nD,
      r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
      ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
      ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2))
      ∧ r.2.sem = fun _ => 0)

def quiescent_AttnCtxRefIdeal [hAttnCtxRefIdeal : Cert.AttnCtxRefIdeal.Facts] : Prop :=
  ∀ (m : (ℓ : Loc Cert.AttnCtxRefIdeal.nD Cert.AttnCtxRefIdeal.τ Cert.AttnCtxRefIdeal.sig) → Buf (Elt Ideal) ℓ) (g : Dev Cert.AttnCtxRefIdeal.nD → PrngReg), Pre_AttnCtxRefIdeal m →
    θ_run (Cert.AttnCtxRefIdeal.defs (F := Ideal)) (onTc (τ := Cert.AttnCtxRefIdeal.τ) (Cert.AttnCtxRefIdeal.main (F := Ideal))) ⟨m, fun _ => 0, g⟩ (fun r => (∀ c : Dev Cert.AttnCtxRefIdeal.nD,
      r.2.mem ((c.tc : Thread Cert.AttnCtxRefIdeal.nD Cert.AttnCtxRefIdeal.τ).loc Cert.AttnCtxRefIdeal.main_arg0) = m ((c.tc : Thread Cert.AttnCtxRefIdeal.nD Cert.AttnCtxRefIdeal.τ).loc Cert.AttnCtxRefIdeal.main_arg0)
      ∧ r.2.mem ((c.tc : Thread Cert.AttnCtxRefIdeal.nD Cert.AttnCtxRefIdeal.τ).loc Cert.AttnCtxRefIdeal.main_arg1) = m ((c.tc : Thread Cert.AttnCtxRefIdeal.nD Cert.AttnCtxRefIdeal.τ).loc Cert.AttnCtxRefIdeal.main_arg1)
      ∧ r.2.mem ((c.tc : Thread Cert.AttnCtxRefIdeal.nD Cert.AttnCtxRefIdeal.τ).loc Cert.AttnCtxRefIdeal.main_arg2) = m ((c.tc : Thread Cert.AttnCtxRefIdeal.nD Cert.AttnCtxRefIdeal.τ).loc Cert.AttnCtxRefIdeal.main_arg2))
      ∧ r.2.sem = fun _ => 0)

def quiescent_AttnCtxRefIdeal_pre_ctx_scores_finite [hAttnCtxRefIdeal : Cert.AttnCtxRefIdeal.Facts] [hPre_ctx_scores_finite : Cert.Pre_ctx_scores_finite.Facts] : Prop :=
  ∀ (m : (ℓ : Loc Cert.AttnCtxRefIdeal.nD Cert.AttnCtxRefIdeal.τ Cert.AttnCtxRefIdeal.sig) → Buf (Elt Ideal) ℓ) (g : Dev Cert.AttnCtxRefIdeal.nD → PrngReg), Pre_AttnCtxRefIdeal_ctx_scores_finite m →
    θ_run (Cert.AttnCtxRefIdeal.defs (F := Ideal)) (onTc (τ := Cert.AttnCtxRefIdeal.τ) (Cert.AttnCtxRefIdeal.main (F := Ideal))) ⟨m, fun _ => 0, g⟩ (fun r => (∀ c : Dev Cert.AttnCtxRefIdeal.nD,
      r.2.mem ((c.tc : Thread Cert.AttnCtxRefIdeal.nD Cert.AttnCtxRefIdeal.τ).loc Cert.AttnCtxRefIdeal.main_arg0) = m ((c.tc : Thread Cert.AttnCtxRefIdeal.nD Cert.AttnCtxRefIdeal.τ).loc Cert.AttnCtxRefIdeal.main_arg0)
      ∧ r.2.mem ((c.tc : Thread Cert.AttnCtxRefIdeal.nD Cert.AttnCtxRefIdeal.τ).loc Cert.AttnCtxRefIdeal.main_arg1) = m ((c.tc : Thread Cert.AttnCtxRefIdeal.nD Cert.AttnCtxRefIdeal.τ).loc Cert.AttnCtxRefIdeal.main_arg1)
      ∧ r.2.mem ((c.tc : Thread Cert.AttnCtxRefIdeal.nD Cert.AttnCtxRefIdeal.τ).loc Cert.AttnCtxRefIdeal.main_arg2) = m ((c.tc : Thread Cert.AttnCtxRefIdeal.nD Cert.AttnCtxRefIdeal.τ).loc Cert.AttnCtxRefIdeal.main_arg2))
      ∧ r.2.sem = fun _ => 0)

def quiescent_MlaCtx [hMlaCtx : Cert.MlaCtx.Facts] : Prop :=
  ∀ (m : (ℓ : Loc Cert.MlaCtx.nD Cert.MlaCtx.τ Cert.MlaCtx.sig) → Buf (Elt Bits) ℓ) (g : Dev Cert.MlaCtx.nD → PrngReg), Pre_MlaCtx m →
    θ_run (Cert.MlaCtx.defs (F := Bits)) (onTc (τ := Cert.MlaCtx.τ) (Cert.MlaCtx.main (F := Bits))) ⟨m, fun _ => 0, g⟩ (fun r => (∀ c : Dev Cert.MlaCtx.nD,
      r.2.mem ((c.tc : Thread Cert.MlaCtx.nD Cert.MlaCtx.τ).loc Cert.MlaCtx.main_arg0) = m ((c.tc : Thread Cert.MlaCtx.nD Cert.MlaCtx.τ).loc Cert.MlaCtx.main_arg0)
      ∧ r.2.mem ((c.tc : Thread Cert.MlaCtx.nD Cert.MlaCtx.τ).loc Cert.MlaCtx.main_arg1) = m ((c.tc : Thread Cert.MlaCtx.nD Cert.MlaCtx.τ).loc Cert.MlaCtx.main_arg1)
      ∧ r.2.mem ((c.tc : Thread Cert.MlaCtx.nD Cert.MlaCtx.τ).loc Cert.MlaCtx.main_arg2) = m ((c.tc : Thread Cert.MlaCtx.nD Cert.MlaCtx.τ).loc Cert.MlaCtx.main_arg2)
      ∧ r.2.mem ((c.tc : Thread Cert.MlaCtx.nD Cert.MlaCtx.τ).loc Cert.MlaCtx.main_arg3) = m ((c.tc : Thread Cert.MlaCtx.nD Cert.MlaCtx.τ).loc Cert.MlaCtx.main_arg3)
      ∧ r.2.mem ((c.tc : Thread Cert.MlaCtx.nD Cert.MlaCtx.τ).loc Cert.MlaCtx.main_arg4) = m ((c.tc : Thread Cert.MlaCtx.nD Cert.MlaCtx.τ).loc Cert.MlaCtx.main_arg4)
      ∧ r.2.mem ((c.tc : Thread Cert.MlaCtx.nD Cert.MlaCtx.τ).loc Cert.MlaCtx.main_arg5) = m ((c.tc : Thread Cert.MlaCtx.nD Cert.MlaCtx.τ).loc Cert.MlaCtx.main_arg5)
      ∧ r.2.mem ((c.tc : Thread Cert.MlaCtx.nD Cert.MlaCtx.τ).loc Cert.MlaCtx.main_arg6) = m ((c.tc : Thread Cert.MlaCtx.nD Cert.MlaCtx.τ).loc Cert.MlaCtx.main_arg6)
      ∧ r.2.mem ((c.tc : Thread Cert.MlaCtx.nD Cert.MlaCtx.τ).loc Cert.MlaCtx.main_arg7) = m ((c.tc : Thread Cert.MlaCtx.nD Cert.MlaCtx.τ).loc Cert.MlaCtx.main_arg7)
      ∧ r.2.mem ((c.tc : Thread Cert.MlaCtx.nD Cert.MlaCtx.τ).loc Cert.MlaCtx.main_arg8) = m ((c.tc : Thread Cert.MlaCtx.nD Cert.MlaCtx.τ).loc Cert.MlaCtx.main_arg8))
      ∧ r.2.sem = fun _ => 0)

def quiescent_MlaCtxIdeal [hMlaCtxIdeal : Cert.MlaCtxIdeal.Facts] : Prop :=
  ∀ (m : (ℓ : Loc Cert.MlaCtxIdeal.nD Cert.MlaCtxIdeal.τ Cert.MlaCtxIdeal.sig) → Buf (Elt Ideal) ℓ) (g : Dev Cert.MlaCtxIdeal.nD → PrngReg), Pre_MlaCtxIdeal m →
    θ_run (Cert.MlaCtxIdeal.defs (F := Ideal)) (onTc (τ := Cert.MlaCtxIdeal.τ) (Cert.MlaCtxIdeal.main (F := Ideal))) ⟨m, fun _ => 0, g⟩ (fun r => (∀ c : Dev Cert.MlaCtxIdeal.nD,
      r.2.mem ((c.tc : Thread Cert.MlaCtxIdeal.nD Cert.MlaCtxIdeal.τ).loc Cert.MlaCtxIdeal.main_arg0) = m ((c.tc : Thread Cert.MlaCtxIdeal.nD Cert.MlaCtxIdeal.τ).loc Cert.MlaCtxIdeal.main_arg0)
      ∧ r.2.mem ((c.tc : Thread Cert.MlaCtxIdeal.nD Cert.MlaCtxIdeal.τ).loc Cert.MlaCtxIdeal.main_arg1) = m ((c.tc : Thread Cert.MlaCtxIdeal.nD Cert.MlaCtxIdeal.τ).loc Cert.MlaCtxIdeal.main_arg1)
      ∧ r.2.mem ((c.tc : Thread Cert.MlaCtxIdeal.nD Cert.MlaCtxIdeal.τ).loc Cert.MlaCtxIdeal.main_arg2) = m ((c.tc : Thread Cert.MlaCtxIdeal.nD Cert.MlaCtxIdeal.τ).loc Cert.MlaCtxIdeal.main_arg2)
      ∧ r.2.mem ((c.tc : Thread Cert.MlaCtxIdeal.nD Cert.MlaCtxIdeal.τ).loc Cert.MlaCtxIdeal.main_arg3) = m ((c.tc : Thread Cert.MlaCtxIdeal.nD Cert.MlaCtxIdeal.τ).loc Cert.MlaCtxIdeal.main_arg3)
      ∧ r.2.mem ((c.tc : Thread Cert.MlaCtxIdeal.nD Cert.MlaCtxIdeal.τ).loc Cert.MlaCtxIdeal.main_arg4) = m ((c.tc : Thread Cert.MlaCtxIdeal.nD Cert.MlaCtxIdeal.τ).loc Cert.MlaCtxIdeal.main_arg4)
      ∧ r.2.mem ((c.tc : Thread Cert.MlaCtxIdeal.nD Cert.MlaCtxIdeal.τ).loc Cert.MlaCtxIdeal.main_arg5) = m ((c.tc : Thread Cert.MlaCtxIdeal.nD Cert.MlaCtxIdeal.τ).loc Cert.MlaCtxIdeal.main_arg5)
      ∧ r.2.mem ((c.tc : Thread Cert.MlaCtxIdeal.nD Cert.MlaCtxIdeal.τ).loc Cert.MlaCtxIdeal.main_arg6) = m ((c.tc : Thread Cert.MlaCtxIdeal.nD Cert.MlaCtxIdeal.τ).loc Cert.MlaCtxIdeal.main_arg6)
      ∧ r.2.mem ((c.tc : Thread Cert.MlaCtxIdeal.nD Cert.MlaCtxIdeal.τ).loc Cert.MlaCtxIdeal.main_arg7) = m ((c.tc : Thread Cert.MlaCtxIdeal.nD Cert.MlaCtxIdeal.τ).loc Cert.MlaCtxIdeal.main_arg7)
      ∧ r.2.mem ((c.tc : Thread Cert.MlaCtxIdeal.nD Cert.MlaCtxIdeal.τ).loc Cert.MlaCtxIdeal.main_arg8) = m ((c.tc : Thread Cert.MlaCtxIdeal.nD Cert.MlaCtxIdeal.τ).loc Cert.MlaCtxIdeal.main_arg8))
      ∧ r.2.sem = fun _ => 0)

def quiescent_MlaCtxIdeal_pre_fill_zero [hMlaCtxIdeal : Cert.MlaCtxIdeal.Facts] [hPre_fill_zero : Cert.Pre_fill_zero.Facts] : Prop :=
  ∀ (m : (ℓ : Loc Cert.MlaCtxIdeal.nD Cert.MlaCtxIdeal.τ Cert.MlaCtxIdeal.sig) → Buf (Elt Ideal) ℓ) (g : Dev Cert.MlaCtxIdeal.nD → PrngReg), Pre_MlaCtxIdeal_fill_zero m →
    θ_run (Cert.MlaCtxIdeal.defs (F := Ideal)) (onTc (τ := Cert.MlaCtxIdeal.τ) (Cert.MlaCtxIdeal.main (F := Ideal))) ⟨m, fun _ => 0, g⟩ (fun r => (∀ c : Dev Cert.MlaCtxIdeal.nD,
      r.2.mem ((c.tc : Thread Cert.MlaCtxIdeal.nD Cert.MlaCtxIdeal.τ).loc Cert.MlaCtxIdeal.main_arg0) = m ((c.tc : Thread Cert.MlaCtxIdeal.nD Cert.MlaCtxIdeal.τ).loc Cert.MlaCtxIdeal.main_arg0)
      ∧ r.2.mem ((c.tc : Thread Cert.MlaCtxIdeal.nD Cert.MlaCtxIdeal.τ).loc Cert.MlaCtxIdeal.main_arg1) = m ((c.tc : Thread Cert.MlaCtxIdeal.nD Cert.MlaCtxIdeal.τ).loc Cert.MlaCtxIdeal.main_arg1)
      ∧ r.2.mem ((c.tc : Thread Cert.MlaCtxIdeal.nD Cert.MlaCtxIdeal.τ).loc Cert.MlaCtxIdeal.main_arg2) = m ((c.tc : Thread Cert.MlaCtxIdeal.nD Cert.MlaCtxIdeal.τ).loc Cert.MlaCtxIdeal.main_arg2)
      ∧ r.2.mem ((c.tc : Thread Cert.MlaCtxIdeal.nD Cert.MlaCtxIdeal.τ).loc Cert.MlaCtxIdeal.main_arg3) = m ((c.tc : Thread Cert.MlaCtxIdeal.nD Cert.MlaCtxIdeal.τ).loc Cert.MlaCtxIdeal.main_arg3)
      ∧ r.2.mem ((c.tc : Thread Cert.MlaCtxIdeal.nD Cert.MlaCtxIdeal.τ).loc Cert.MlaCtxIdeal.main_arg4) = m ((c.tc : Thread Cert.MlaCtxIdeal.nD Cert.MlaCtxIdeal.τ).loc Cert.MlaCtxIdeal.main_arg4)
      ∧ r.2.mem ((c.tc : Thread Cert.MlaCtxIdeal.nD Cert.MlaCtxIdeal.τ).loc Cert.MlaCtxIdeal.main_arg5) = m ((c.tc : Thread Cert.MlaCtxIdeal.nD Cert.MlaCtxIdeal.τ).loc Cert.MlaCtxIdeal.main_arg5)
      ∧ r.2.mem ((c.tc : Thread Cert.MlaCtxIdeal.nD Cert.MlaCtxIdeal.τ).loc Cert.MlaCtxIdeal.main_arg6) = m ((c.tc : Thread Cert.MlaCtxIdeal.nD Cert.MlaCtxIdeal.τ).loc Cert.MlaCtxIdeal.main_arg6)
      ∧ r.2.mem ((c.tc : Thread Cert.MlaCtxIdeal.nD Cert.MlaCtxIdeal.τ).loc Cert.MlaCtxIdeal.main_arg7) = m ((c.tc : Thread Cert.MlaCtxIdeal.nD Cert.MlaCtxIdeal.τ).loc Cert.MlaCtxIdeal.main_arg7)
      ∧ r.2.mem ((c.tc : Thread Cert.MlaCtxIdeal.nD Cert.MlaCtxIdeal.τ).loc Cert.MlaCtxIdeal.main_arg8) = m ((c.tc : Thread Cert.MlaCtxIdeal.nD Cert.MlaCtxIdeal.τ).loc Cert.MlaCtxIdeal.main_arg8))
      ∧ r.2.sem = fun _ => 0)

def quiescent_MlaCtxRefIdeal [hMlaCtxRefIdeal : Cert.MlaCtxRefIdeal.Facts] : Prop :=
  ∀ (m : (ℓ : Loc Cert.MlaCtxRefIdeal.nD Cert.MlaCtxRefIdeal.τ Cert.MlaCtxRefIdeal.sig) → Buf (Elt Ideal) ℓ) (g : Dev Cert.MlaCtxRefIdeal.nD → PrngReg), Pre_MlaCtxRefIdeal m →
    θ_run (Cert.MlaCtxRefIdeal.defs (F := Ideal)) (onTc (τ := Cert.MlaCtxRefIdeal.τ) (Cert.MlaCtxRefIdeal.main (F := Ideal))) ⟨m, fun _ => 0, g⟩ (fun r => (∀ c : Dev Cert.MlaCtxRefIdeal.nD,
      r.2.mem ((c.tc : Thread Cert.MlaCtxRefIdeal.nD Cert.MlaCtxRefIdeal.τ).loc Cert.MlaCtxRefIdeal.main_arg0) = m ((c.tc : Thread Cert.MlaCtxRefIdeal.nD Cert.MlaCtxRefIdeal.τ).loc Cert.MlaCtxRefIdeal.main_arg0)
      ∧ r.2.mem ((c.tc : Thread Cert.MlaCtxRefIdeal.nD Cert.MlaCtxRefIdeal.τ).loc Cert.MlaCtxRefIdeal.main_arg1) = m ((c.tc : Thread Cert.MlaCtxRefIdeal.nD Cert.MlaCtxRefIdeal.τ).loc Cert.MlaCtxRefIdeal.main_arg1)
      ∧ r.2.mem ((c.tc : Thread Cert.MlaCtxRefIdeal.nD Cert.MlaCtxRefIdeal.τ).loc Cert.MlaCtxRefIdeal.main_arg2) = m ((c.tc : Thread Cert.MlaCtxRefIdeal.nD Cert.MlaCtxRefIdeal.τ).loc Cert.MlaCtxRefIdeal.main_arg2)
      ∧ r.2.mem ((c.tc : Thread Cert.MlaCtxRefIdeal.nD Cert.MlaCtxRefIdeal.τ).loc Cert.MlaCtxRefIdeal.main_arg3) = m ((c.tc : Thread Cert.MlaCtxRefIdeal.nD Cert.MlaCtxRefIdeal.τ).loc Cert.MlaCtxRefIdeal.main_arg3)
      ∧ r.2.mem ((c.tc : Thread Cert.MlaCtxRefIdeal.nD Cert.MlaCtxRefIdeal.τ).loc Cert.MlaCtxRefIdeal.main_arg4) = m ((c.tc : Thread Cert.MlaCtxRefIdeal.nD Cert.MlaCtxRefIdeal.τ).loc Cert.MlaCtxRefIdeal.main_arg4)
      ∧ r.2.mem ((c.tc : Thread Cert.MlaCtxRefIdeal.nD Cert.MlaCtxRefIdeal.τ).loc Cert.MlaCtxRefIdeal.main_arg5) = m ((c.tc : Thread Cert.MlaCtxRefIdeal.nD Cert.MlaCtxRefIdeal.τ).loc Cert.MlaCtxRefIdeal.main_arg5)
      ∧ r.2.mem ((c.tc : Thread Cert.MlaCtxRefIdeal.nD Cert.MlaCtxRefIdeal.τ).loc Cert.MlaCtxRefIdeal.main_arg6) = m ((c.tc : Thread Cert.MlaCtxRefIdeal.nD Cert.MlaCtxRefIdeal.τ).loc Cert.MlaCtxRefIdeal.main_arg6)
      ∧ r.2.mem ((c.tc : Thread Cert.MlaCtxRefIdeal.nD Cert.MlaCtxRefIdeal.τ).loc Cert.MlaCtxRefIdeal.main_arg7) = m ((c.tc : Thread Cert.MlaCtxRefIdeal.nD Cert.MlaCtxRefIdeal.τ).loc Cert.MlaCtxRefIdeal.main_arg7)
      ∧ r.2.mem ((c.tc : Thread Cert.MlaCtxRefIdeal.nD Cert.MlaCtxRefIdeal.τ).loc Cert.MlaCtxRefIdeal.main_arg8) = m ((c.tc : Thread Cert.MlaCtxRefIdeal.nD Cert.MlaCtxRefIdeal.τ).loc Cert.MlaCtxRefIdeal.main_arg8))
      ∧ r.2.sem = fun _ => 0)

def quiescent_MlaCtxRefIdeal_pre_fill_zero [hMlaCtxRefIdeal : Cert.MlaCtxRefIdeal.Facts] [hPre_fill_zero : Cert.Pre_fill_zero.Facts] : Prop :=
  ∀ (m : (ℓ : Loc Cert.MlaCtxRefIdeal.nD Cert.MlaCtxRefIdeal.τ Cert.MlaCtxRefIdeal.sig) → Buf (Elt Ideal) ℓ) (g : Dev Cert.MlaCtxRefIdeal.nD → PrngReg), Pre_MlaCtxRefIdeal_fill_zero m →
    θ_run (Cert.MlaCtxRefIdeal.defs (F := Ideal)) (onTc (τ := Cert.MlaCtxRefIdeal.τ) (Cert.MlaCtxRefIdeal.main (F := Ideal))) ⟨m, fun _ => 0, g⟩ (fun r => (∀ c : Dev Cert.MlaCtxRefIdeal.nD,
      r.2.mem ((c.tc : Thread Cert.MlaCtxRefIdeal.nD Cert.MlaCtxRefIdeal.τ).loc Cert.MlaCtxRefIdeal.main_arg0) = m ((c.tc : Thread Cert.MlaCtxRefIdeal.nD Cert.MlaCtxRefIdeal.τ).loc Cert.MlaCtxRefIdeal.main_arg0)
      ∧ r.2.mem ((c.tc : Thread Cert.MlaCtxRefIdeal.nD Cert.MlaCtxRefIdeal.τ).loc Cert.MlaCtxRefIdeal.main_arg1) = m ((c.tc : Thread Cert.MlaCtxRefIdeal.nD Cert.MlaCtxRefIdeal.τ).loc Cert.MlaCtxRefIdeal.main_arg1)
      ∧ r.2.mem ((c.tc : Thread Cert.MlaCtxRefIdeal.nD Cert.MlaCtxRefIdeal.τ).loc Cert.MlaCtxRefIdeal.main_arg2) = m ((c.tc : Thread Cert.MlaCtxRefIdeal.nD Cert.MlaCtxRefIdeal.τ).loc Cert.MlaCtxRefIdeal.main_arg2)
      ∧ r.2.mem ((c.tc : Thread Cert.MlaCtxRefIdeal.nD Cert.MlaCtxRefIdeal.τ).loc Cert.MlaCtxRefIdeal.main_arg3) = m ((c.tc : Thread Cert.MlaCtxRefIdeal.nD Cert.MlaCtxRefIdeal.τ).loc Cert.MlaCtxRefIdeal.main_arg3)
      ∧ r.2.mem ((c.tc : Thread Cert.MlaCtxRefIdeal.nD Cert.MlaCtxRefIdeal.τ).loc Cert.MlaCtxRefIdeal.main_arg4) = m ((c.tc : Thread Cert.MlaCtxRefIdeal.nD Cert.MlaCtxRefIdeal.τ).loc Cert.MlaCtxRefIdeal.main_arg4)
      ∧ r.2.mem ((c.tc : Thread Cert.MlaCtxRefIdeal.nD Cert.MlaCtxRefIdeal.τ).loc Cert.MlaCtxRefIdeal.main_arg5) = m ((c.tc : Thread Cert.MlaCtxRefIdeal.nD Cert.MlaCtxRefIdeal.τ).loc Cert.MlaCtxRefIdeal.main_arg5)
      ∧ r.2.mem ((c.tc : Thread Cert.MlaCtxRefIdeal.nD Cert.MlaCtxRefIdeal.τ).loc Cert.MlaCtxRefIdeal.main_arg6) = m ((c.tc : Thread Cert.MlaCtxRefIdeal.nD Cert.MlaCtxRefIdeal.τ).loc Cert.MlaCtxRefIdeal.main_arg6)
      ∧ r.2.mem ((c.tc : Thread Cert.MlaCtxRefIdeal.nD Cert.MlaCtxRefIdeal.τ).loc Cert.MlaCtxRefIdeal.main_arg7) = m ((c.tc : Thread Cert.MlaCtxRefIdeal.nD Cert.MlaCtxRefIdeal.τ).loc Cert.MlaCtxRefIdeal.main_arg7)
      ∧ r.2.mem ((c.tc : Thread Cert.MlaCtxRefIdeal.nD Cert.MlaCtxRefIdeal.τ).loc Cert.MlaCtxRefIdeal.main_arg8) = m ((c.tc : Thread Cert.MlaCtxRefIdeal.nD Cert.MlaCtxRefIdeal.τ).loc Cert.MlaCtxRefIdeal.main_arg8))
      ∧ r.2.sem = fun _ => 0)

def quiescent_MlaCache [hMlaCache : Cert.MlaCache.Facts] : Prop :=
  ∀ (m : (ℓ : Loc Cert.MlaCache.nD Cert.MlaCache.τ Cert.MlaCache.sig) → Buf (Elt Bits) ℓ) (g : Dev Cert.MlaCache.nD → PrngReg), Pre_MlaCache m →
    θ_run (Cert.MlaCache.defs (F := Bits)) (onTc (τ := Cert.MlaCache.τ) (Cert.MlaCache.main (F := Bits))) ⟨m, fun _ => 0, g⟩ (fun r => (∀ c : Dev Cert.MlaCache.nD,
      r.2.mem ((c.tc : Thread Cert.MlaCache.nD Cert.MlaCache.τ).loc Cert.MlaCache.main_arg0) = m ((c.tc : Thread Cert.MlaCache.nD Cert.MlaCache.τ).loc Cert.MlaCache.main_arg0)
      ∧ r.2.mem ((c.tc : Thread Cert.MlaCache.nD Cert.MlaCache.τ).loc Cert.MlaCache.main_arg1) = m ((c.tc : Thread Cert.MlaCache.nD Cert.MlaCache.τ).loc Cert.MlaCache.main_arg1)
      ∧ r.2.mem ((c.tc : Thread Cert.MlaCache.nD Cert.MlaCache.τ).loc Cert.MlaCache.main_arg2) = m ((c.tc : Thread Cert.MlaCache.nD Cert.MlaCache.τ).loc Cert.MlaCache.main_arg2)
      ∧ r.2.mem ((c.tc : Thread Cert.MlaCache.nD Cert.MlaCache.τ).loc Cert.MlaCache.main_arg3) = m ((c.tc : Thread Cert.MlaCache.nD Cert.MlaCache.τ).loc Cert.MlaCache.main_arg3))
      ∧ r.2.sem = fun _ => 0)

def quiescent_MlaCacheIdeal [hMlaCacheIdeal : Cert.MlaCacheIdeal.Facts] : Prop :=
  ∀ (m : (ℓ : Loc Cert.MlaCacheIdeal.nD Cert.MlaCacheIdeal.τ Cert.MlaCacheIdeal.sig) → Buf (Elt Ideal) ℓ) (g : Dev Cert.MlaCacheIdeal.nD → PrngReg), Pre_MlaCacheIdeal m →
    θ_run (Cert.MlaCacheIdeal.defs (F := Ideal)) (onTc (τ := Cert.MlaCacheIdeal.τ) (Cert.MlaCacheIdeal.main (F := Ideal))) ⟨m, fun _ => 0, g⟩ (fun r => (∀ c : Dev Cert.MlaCacheIdeal.nD,
      r.2.mem ((c.tc : Thread Cert.MlaCacheIdeal.nD Cert.MlaCacheIdeal.τ).loc Cert.MlaCacheIdeal.main_arg0) = m ((c.tc : Thread Cert.MlaCacheIdeal.nD Cert.MlaCacheIdeal.τ).loc Cert.MlaCacheIdeal.main_arg0)
      ∧ r.2.mem ((c.tc : Thread Cert.MlaCacheIdeal.nD Cert.MlaCacheIdeal.τ).loc Cert.MlaCacheIdeal.main_arg1) = m ((c.tc : Thread Cert.MlaCacheIdeal.nD Cert.MlaCacheIdeal.τ).loc Cert.MlaCacheIdeal.main_arg1)
      ∧ r.2.mem ((c.tc : Thread Cert.MlaCacheIdeal.nD Cert.MlaCacheIdeal.τ).loc Cert.MlaCacheIdeal.main_arg2) = m ((c.tc : Thread Cert.MlaCacheIdeal.nD Cert.MlaCacheIdeal.τ).loc Cert.MlaCacheIdeal.main_arg2)
      ∧ r.2.mem ((c.tc : Thread Cert.MlaCacheIdeal.nD Cert.MlaCacheIdeal.τ).loc Cert.MlaCacheIdeal.main_arg3) = m ((c.tc : Thread Cert.MlaCacheIdeal.nD Cert.MlaCacheIdeal.τ).loc Cert.MlaCacheIdeal.main_arg3))
      ∧ r.2.sem = fun _ => 0)

def quiescent_MlaCacheRefIdeal [hMlaCacheRefIdeal : Cert.MlaCacheRefIdeal.Facts] : Prop :=
  ∀ (m : (ℓ : Loc Cert.MlaCacheRefIdeal.nD Cert.MlaCacheRefIdeal.τ Cert.MlaCacheRefIdeal.sig) → Buf (Elt Ideal) ℓ) (g : Dev Cert.MlaCacheRefIdeal.nD → PrngReg), Pre_MlaCacheRefIdeal m →
    θ_run (Cert.MlaCacheRefIdeal.defs (F := Ideal)) (onTc (τ := Cert.MlaCacheRefIdeal.τ) (Cert.MlaCacheRefIdeal.main (F := Ideal))) ⟨m, fun _ => 0, g⟩ (fun r => (∀ c : Dev Cert.MlaCacheRefIdeal.nD,
      r.2.mem ((c.tc : Thread Cert.MlaCacheRefIdeal.nD Cert.MlaCacheRefIdeal.τ).loc Cert.MlaCacheRefIdeal.main_arg0) = m ((c.tc : Thread Cert.MlaCacheRefIdeal.nD Cert.MlaCacheRefIdeal.τ).loc Cert.MlaCacheRefIdeal.main_arg0)
      ∧ r.2.mem ((c.tc : Thread Cert.MlaCacheRefIdeal.nD Cert.MlaCacheRefIdeal.τ).loc Cert.MlaCacheRefIdeal.main_arg1) = m ((c.tc : Thread Cert.MlaCacheRefIdeal.nD Cert.MlaCacheRefIdeal.τ).loc Cert.MlaCacheRefIdeal.main_arg1)
      ∧ r.2.mem ((c.tc : Thread Cert.MlaCacheRefIdeal.nD Cert.MlaCacheRefIdeal.τ).loc Cert.MlaCacheRefIdeal.main_arg2) = m ((c.tc : Thread Cert.MlaCacheRefIdeal.nD Cert.MlaCacheRefIdeal.τ).loc Cert.MlaCacheRefIdeal.main_arg2)
      ∧ r.2.mem ((c.tc : Thread Cert.MlaCacheRefIdeal.nD Cert.MlaCacheRefIdeal.τ).loc Cert.MlaCacheRefIdeal.main_arg3) = m ((c.tc : Thread Cert.MlaCacheRefIdeal.nD Cert.MlaCacheRefIdeal.τ).loc Cert.MlaCacheRefIdeal.main_arg3))
      ∧ r.2.sem = fun _ => 0)

def quiescent_MlaLat [hMlaLat : Cert.MlaLat.Facts] : Prop :=
  ∀ (m : (ℓ : Loc Cert.MlaLat.nD Cert.MlaLat.τ Cert.MlaLat.sig) → Buf (Elt Bits) ℓ) (g : Dev Cert.MlaLat.nD → PrngReg), Pre_MlaLat m →
    θ_run (Cert.MlaLat.defs (F := Bits)) (onTc (τ := Cert.MlaLat.τ) (Cert.MlaLat.main (F := Bits))) ⟨m, fun _ => 0, g⟩ (fun r => (∀ c : Dev Cert.MlaLat.nD,
      r.2.mem ((c.tc : Thread Cert.MlaLat.nD Cert.MlaLat.τ).loc Cert.MlaLat.main_arg0) = m ((c.tc : Thread Cert.MlaLat.nD Cert.MlaLat.τ).loc Cert.MlaLat.main_arg0)
      ∧ r.2.mem ((c.tc : Thread Cert.MlaLat.nD Cert.MlaLat.τ).loc Cert.MlaLat.main_arg1) = m ((c.tc : Thread Cert.MlaLat.nD Cert.MlaLat.τ).loc Cert.MlaLat.main_arg1)
      ∧ r.2.mem ((c.tc : Thread Cert.MlaLat.nD Cert.MlaLat.τ).loc Cert.MlaLat.main_arg2) = m ((c.tc : Thread Cert.MlaLat.nD Cert.MlaLat.τ).loc Cert.MlaLat.main_arg2)
      ∧ r.2.mem ((c.tc : Thread Cert.MlaLat.nD Cert.MlaLat.τ).loc Cert.MlaLat.main_arg3) = m ((c.tc : Thread Cert.MlaLat.nD Cert.MlaLat.τ).loc Cert.MlaLat.main_arg3)
      ∧ r.2.mem ((c.tc : Thread Cert.MlaLat.nD Cert.MlaLat.τ).loc Cert.MlaLat.main_arg4) = m ((c.tc : Thread Cert.MlaLat.nD Cert.MlaLat.τ).loc Cert.MlaLat.main_arg4)
      ∧ r.2.mem ((c.tc : Thread Cert.MlaLat.nD Cert.MlaLat.τ).loc Cert.MlaLat.main_arg5) = m ((c.tc : Thread Cert.MlaLat.nD Cert.MlaLat.τ).loc Cert.MlaLat.main_arg5)
      ∧ r.2.mem ((c.tc : Thread Cert.MlaLat.nD Cert.MlaLat.τ).loc Cert.MlaLat.main_arg6) = m ((c.tc : Thread Cert.MlaLat.nD Cert.MlaLat.τ).loc Cert.MlaLat.main_arg6)
      ∧ r.2.mem ((c.tc : Thread Cert.MlaLat.nD Cert.MlaLat.τ).loc Cert.MlaLat.main_arg7) = m ((c.tc : Thread Cert.MlaLat.nD Cert.MlaLat.τ).loc Cert.MlaLat.main_arg7)
      ∧ r.2.mem ((c.tc : Thread Cert.MlaLat.nD Cert.MlaLat.τ).loc Cert.MlaLat.main_arg8) = m ((c.tc : Thread Cert.MlaLat.nD Cert.MlaLat.τ).loc Cert.MlaLat.main_arg8))
      ∧ r.2.sem = fun _ => 0)

def quiescent_MlaLatIdeal [hMlaLatIdeal : Cert.MlaLatIdeal.Facts] : Prop :=
  ∀ (m : (ℓ : Loc Cert.MlaLatIdeal.nD Cert.MlaLatIdeal.τ Cert.MlaLatIdeal.sig) → Buf (Elt Ideal) ℓ) (g : Dev Cert.MlaLatIdeal.nD → PrngReg), Pre_MlaLatIdeal m →
    θ_run (Cert.MlaLatIdeal.defs (F := Ideal)) (onTc (τ := Cert.MlaLatIdeal.τ) (Cert.MlaLatIdeal.main (F := Ideal))) ⟨m, fun _ => 0, g⟩ (fun r => (∀ c : Dev Cert.MlaLatIdeal.nD,
      r.2.mem ((c.tc : Thread Cert.MlaLatIdeal.nD Cert.MlaLatIdeal.τ).loc Cert.MlaLatIdeal.main_arg0) = m ((c.tc : Thread Cert.MlaLatIdeal.nD Cert.MlaLatIdeal.τ).loc Cert.MlaLatIdeal.main_arg0)
      ∧ r.2.mem ((c.tc : Thread Cert.MlaLatIdeal.nD Cert.MlaLatIdeal.τ).loc Cert.MlaLatIdeal.main_arg1) = m ((c.tc : Thread Cert.MlaLatIdeal.nD Cert.MlaLatIdeal.τ).loc Cert.MlaLatIdeal.main_arg1)
      ∧ r.2.mem ((c.tc : Thread Cert.MlaLatIdeal.nD Cert.MlaLatIdeal.τ).loc Cert.MlaLatIdeal.main_arg2) = m ((c.tc : Thread Cert.MlaLatIdeal.nD Cert.MlaLatIdeal.τ).loc Cert.MlaLatIdeal.main_arg2)
      ∧ r.2.mem ((c.tc : Thread Cert.MlaLatIdeal.nD Cert.MlaLatIdeal.τ).loc Cert.MlaLatIdeal.main_arg3) = m ((c.tc : Thread Cert.MlaLatIdeal.nD Cert.MlaLatIdeal.τ).loc Cert.MlaLatIdeal.main_arg3)
      ∧ r.2.mem ((c.tc : Thread Cert.MlaLatIdeal.nD Cert.MlaLatIdeal.τ).loc Cert.MlaLatIdeal.main_arg4) = m ((c.tc : Thread Cert.MlaLatIdeal.nD Cert.MlaLatIdeal.τ).loc Cert.MlaLatIdeal.main_arg4)
      ∧ r.2.mem ((c.tc : Thread Cert.MlaLatIdeal.nD Cert.MlaLatIdeal.τ).loc Cert.MlaLatIdeal.main_arg5) = m ((c.tc : Thread Cert.MlaLatIdeal.nD Cert.MlaLatIdeal.τ).loc Cert.MlaLatIdeal.main_arg5)
      ∧ r.2.mem ((c.tc : Thread Cert.MlaLatIdeal.nD Cert.MlaLatIdeal.τ).loc Cert.MlaLatIdeal.main_arg6) = m ((c.tc : Thread Cert.MlaLatIdeal.nD Cert.MlaLatIdeal.τ).loc Cert.MlaLatIdeal.main_arg6)
      ∧ r.2.mem ((c.tc : Thread Cert.MlaLatIdeal.nD Cert.MlaLatIdeal.τ).loc Cert.MlaLatIdeal.main_arg7) = m ((c.tc : Thread Cert.MlaLatIdeal.nD Cert.MlaLatIdeal.τ).loc Cert.MlaLatIdeal.main_arg7)
      ∧ r.2.mem ((c.tc : Thread Cert.MlaLatIdeal.nD Cert.MlaLatIdeal.τ).loc Cert.MlaLatIdeal.main_arg8) = m ((c.tc : Thread Cert.MlaLatIdeal.nD Cert.MlaLatIdeal.τ).loc Cert.MlaLatIdeal.main_arg8))
      ∧ r.2.sem = fun _ => 0)

def quiescent_MlaLatIdeal_pre_fill_zero_lat [hMlaLatIdeal : Cert.MlaLatIdeal.Facts] [hPre_fill_zero_lat : Cert.Pre_fill_zero_lat.Facts] : Prop :=
  ∀ (m : (ℓ : Loc Cert.MlaLatIdeal.nD Cert.MlaLatIdeal.τ Cert.MlaLatIdeal.sig) → Buf (Elt Ideal) ℓ) (g : Dev Cert.MlaLatIdeal.nD → PrngReg), Pre_MlaLatIdeal_fill_zero_lat m →
    θ_run (Cert.MlaLatIdeal.defs (F := Ideal)) (onTc (τ := Cert.MlaLatIdeal.τ) (Cert.MlaLatIdeal.main (F := Ideal))) ⟨m, fun _ => 0, g⟩ (fun r => (∀ c : Dev Cert.MlaLatIdeal.nD,
      r.2.mem ((c.tc : Thread Cert.MlaLatIdeal.nD Cert.MlaLatIdeal.τ).loc Cert.MlaLatIdeal.main_arg0) = m ((c.tc : Thread Cert.MlaLatIdeal.nD Cert.MlaLatIdeal.τ).loc Cert.MlaLatIdeal.main_arg0)
      ∧ r.2.mem ((c.tc : Thread Cert.MlaLatIdeal.nD Cert.MlaLatIdeal.τ).loc Cert.MlaLatIdeal.main_arg1) = m ((c.tc : Thread Cert.MlaLatIdeal.nD Cert.MlaLatIdeal.τ).loc Cert.MlaLatIdeal.main_arg1)
      ∧ r.2.mem ((c.tc : Thread Cert.MlaLatIdeal.nD Cert.MlaLatIdeal.τ).loc Cert.MlaLatIdeal.main_arg2) = m ((c.tc : Thread Cert.MlaLatIdeal.nD Cert.MlaLatIdeal.τ).loc Cert.MlaLatIdeal.main_arg2)
      ∧ r.2.mem ((c.tc : Thread Cert.MlaLatIdeal.nD Cert.MlaLatIdeal.τ).loc Cert.MlaLatIdeal.main_arg3) = m ((c.tc : Thread Cert.MlaLatIdeal.nD Cert.MlaLatIdeal.τ).loc Cert.MlaLatIdeal.main_arg3)
      ∧ r.2.mem ((c.tc : Thread Cert.MlaLatIdeal.nD Cert.MlaLatIdeal.τ).loc Cert.MlaLatIdeal.main_arg4) = m ((c.tc : Thread Cert.MlaLatIdeal.nD Cert.MlaLatIdeal.τ).loc Cert.MlaLatIdeal.main_arg4)
      ∧ r.2.mem ((c.tc : Thread Cert.MlaLatIdeal.nD Cert.MlaLatIdeal.τ).loc Cert.MlaLatIdeal.main_arg5) = m ((c.tc : Thread Cert.MlaLatIdeal.nD Cert.MlaLatIdeal.τ).loc Cert.MlaLatIdeal.main_arg5)
      ∧ r.2.mem ((c.tc : Thread Cert.MlaLatIdeal.nD Cert.MlaLatIdeal.τ).loc Cert.MlaLatIdeal.main_arg6) = m ((c.tc : Thread Cert.MlaLatIdeal.nD Cert.MlaLatIdeal.τ).loc Cert.MlaLatIdeal.main_arg6)
      ∧ r.2.mem ((c.tc : Thread Cert.MlaLatIdeal.nD Cert.MlaLatIdeal.τ).loc Cert.MlaLatIdeal.main_arg7) = m ((c.tc : Thread Cert.MlaLatIdeal.nD Cert.MlaLatIdeal.τ).loc Cert.MlaLatIdeal.main_arg7)
      ∧ r.2.mem ((c.tc : Thread Cert.MlaLatIdeal.nD Cert.MlaLatIdeal.τ).loc Cert.MlaLatIdeal.main_arg8) = m ((c.tc : Thread Cert.MlaLatIdeal.nD Cert.MlaLatIdeal.τ).loc Cert.MlaLatIdeal.main_arg8))
      ∧ r.2.sem = fun _ => 0)

def quiescent_MlaLatRefIdeal [hMlaLatRefIdeal : Cert.MlaLatRefIdeal.Facts] : Prop :=
  ∀ (m : (ℓ : Loc Cert.MlaLatRefIdeal.nD Cert.MlaLatRefIdeal.τ Cert.MlaLatRefIdeal.sig) → Buf (Elt Ideal) ℓ) (g : Dev Cert.MlaLatRefIdeal.nD → PrngReg), Pre_MlaLatRefIdeal m →
    θ_run (Cert.MlaLatRefIdeal.defs (F := Ideal)) (onTc (τ := Cert.MlaLatRefIdeal.τ) (Cert.MlaLatRefIdeal.main (F := Ideal))) ⟨m, fun _ => 0, g⟩ (fun r => (∀ c : Dev Cert.MlaLatRefIdeal.nD,
      r.2.mem ((c.tc : Thread Cert.MlaLatRefIdeal.nD Cert.MlaLatRefIdeal.τ).loc Cert.MlaLatRefIdeal.main_arg0) = m ((c.tc : Thread Cert.MlaLatRefIdeal.nD Cert.MlaLatRefIdeal.τ).loc Cert.MlaLatRefIdeal.main_arg0)
      ∧ r.2.mem ((c.tc : Thread Cert.MlaLatRefIdeal.nD Cert.MlaLatRefIdeal.τ).loc Cert.MlaLatRefIdeal.main_arg1) = m ((c.tc : Thread Cert.MlaLatRefIdeal.nD Cert.MlaLatRefIdeal.τ).loc Cert.MlaLatRefIdeal.main_arg1)
      ∧ r.2.mem ((c.tc : Thread Cert.MlaLatRefIdeal.nD Cert.MlaLatRefIdeal.τ).loc Cert.MlaLatRefIdeal.main_arg2) = m ((c.tc : Thread Cert.MlaLatRefIdeal.nD Cert.MlaLatRefIdeal.τ).loc Cert.MlaLatRefIdeal.main_arg2)
      ∧ r.2.mem ((c.tc : Thread Cert.MlaLatRefIdeal.nD Cert.MlaLatRefIdeal.τ).loc Cert.MlaLatRefIdeal.main_arg3) = m ((c.tc : Thread Cert.MlaLatRefIdeal.nD Cert.MlaLatRefIdeal.τ).loc Cert.MlaLatRefIdeal.main_arg3)
      ∧ r.2.mem ((c.tc : Thread Cert.MlaLatRefIdeal.nD Cert.MlaLatRefIdeal.τ).loc Cert.MlaLatRefIdeal.main_arg4) = m ((c.tc : Thread Cert.MlaLatRefIdeal.nD Cert.MlaLatRefIdeal.τ).loc Cert.MlaLatRefIdeal.main_arg4)
      ∧ r.2.mem ((c.tc : Thread Cert.MlaLatRefIdeal.nD Cert.MlaLatRefIdeal.τ).loc Cert.MlaLatRefIdeal.main_arg5) = m ((c.tc : Thread Cert.MlaLatRefIdeal.nD Cert.MlaLatRefIdeal.τ).loc Cert.MlaLatRefIdeal.main_arg5)
      ∧ r.2.mem ((c.tc : Thread Cert.MlaLatRefIdeal.nD Cert.MlaLatRefIdeal.τ).loc Cert.MlaLatRefIdeal.main_arg6) = m ((c.tc : Thread Cert.MlaLatRefIdeal.nD Cert.MlaLatRefIdeal.τ).loc Cert.MlaLatRefIdeal.main_arg6)
      ∧ r.2.mem ((c.tc : Thread Cert.MlaLatRefIdeal.nD Cert.MlaLatRefIdeal.τ).loc Cert.MlaLatRefIdeal.main_arg7) = m ((c.tc : Thread Cert.MlaLatRefIdeal.nD Cert.MlaLatRefIdeal.τ).loc Cert.MlaLatRefIdeal.main_arg7)
      ∧ r.2.mem ((c.tc : Thread Cert.MlaLatRefIdeal.nD Cert.MlaLatRefIdeal.τ).loc Cert.MlaLatRefIdeal.main_arg8) = m ((c.tc : Thread Cert.MlaLatRefIdeal.nD Cert.MlaLatRefIdeal.τ).loc Cert.MlaLatRefIdeal.main_arg8))
      ∧ r.2.sem = fun _ => 0)

def quiescent_MlaLatRefIdeal_pre_fill_zero_lat [hMlaLatRefIdeal : Cert.MlaLatRefIdeal.Facts] [hPre_fill_zero_lat : Cert.Pre_fill_zero_lat.Facts] : Prop :=
  ∀ (m : (ℓ : Loc Cert.MlaLatRefIdeal.nD Cert.MlaLatRefIdeal.τ Cert.MlaLatRefIdeal.sig) → Buf (Elt Ideal) ℓ) (g : Dev Cert.MlaLatRefIdeal.nD → PrngReg), Pre_MlaLatRefIdeal_fill_zero_lat m →
    θ_run (Cert.MlaLatRefIdeal.defs (F := Ideal)) (onTc (τ := Cert.MlaLatRefIdeal.τ) (Cert.MlaLatRefIdeal.main (F := Ideal))) ⟨m, fun _ => 0, g⟩ (fun r => (∀ c : Dev Cert.MlaLatRefIdeal.nD,
      r.2.mem ((c.tc : Thread Cert.MlaLatRefIdeal.nD Cert.MlaLatRefIdeal.τ).loc Cert.MlaLatRefIdeal.main_arg0) = m ((c.tc : Thread Cert.MlaLatRefIdeal.nD Cert.MlaLatRefIdeal.τ).loc Cert.MlaLatRefIdeal.main_arg0)
      ∧ r.2.mem ((c.tc : Thread Cert.MlaLatRefIdeal.nD Cert.MlaLatRefIdeal.τ).loc Cert.MlaLatRefIdeal.main_arg1) = m ((c.tc : Thread Cert.MlaLatRefIdeal.nD Cert.MlaLatRefIdeal.τ).loc Cert.MlaLatRefIdeal.main_arg1)
      ∧ r.2.mem ((c.tc : Thread Cert.MlaLatRefIdeal.nD Cert.MlaLatRefIdeal.τ).loc Cert.MlaLatRefIdeal.main_arg2) = m ((c.tc : Thread Cert.MlaLatRefIdeal.nD Cert.MlaLatRefIdeal.τ).loc Cert.MlaLatRefIdeal.main_arg2)
      ∧ r.2.mem ((c.tc : Thread Cert.MlaLatRefIdeal.nD Cert.MlaLatRefIdeal.τ).loc Cert.MlaLatRefIdeal.main_arg3) = m ((c.tc : Thread Cert.MlaLatRefIdeal.nD Cert.MlaLatRefIdeal.τ).loc Cert.MlaLatRefIdeal.main_arg3)
      ∧ r.2.mem ((c.tc : Thread Cert.MlaLatRefIdeal.nD Cert.MlaLatRefIdeal.τ).loc Cert.MlaLatRefIdeal.main_arg4) = m ((c.tc : Thread Cert.MlaLatRefIdeal.nD Cert.MlaLatRefIdeal.τ).loc Cert.MlaLatRefIdeal.main_arg4)
      ∧ r.2.mem ((c.tc : Thread Cert.MlaLatRefIdeal.nD Cert.MlaLatRefIdeal.τ).loc Cert.MlaLatRefIdeal.main_arg5) = m ((c.tc : Thread Cert.MlaLatRefIdeal.nD Cert.MlaLatRefIdeal.τ).loc Cert.MlaLatRefIdeal.main_arg5)
      ∧ r.2.mem ((c.tc : Thread Cert.MlaLatRefIdeal.nD Cert.MlaLatRefIdeal.τ).loc Cert.MlaLatRefIdeal.main_arg6) = m ((c.tc : Thread Cert.MlaLatRefIdeal.nD Cert.MlaLatRefIdeal.τ).loc Cert.MlaLatRefIdeal.main_arg6)
      ∧ r.2.mem ((c.tc : Thread Cert.MlaLatRefIdeal.nD Cert.MlaLatRefIdeal.τ).loc Cert.MlaLatRefIdeal.main_arg7) = m ((c.tc : Thread Cert.MlaLatRefIdeal.nD Cert.MlaLatRefIdeal.τ).loc Cert.MlaLatRefIdeal.main_arg7)
      ∧ r.2.mem ((c.tc : Thread Cert.MlaLatRefIdeal.nD Cert.MlaLatRefIdeal.τ).loc Cert.MlaLatRefIdeal.main_arg8) = m ((c.tc : Thread Cert.MlaLatRefIdeal.nD Cert.MlaLatRefIdeal.τ).loc Cert.MlaLatRefIdeal.main_arg8))
      ∧ r.2.sem = fun _ => 0)

def preserves_AttnLat_AttnLatIdeal : Prop :=
  True

def algebraic_AttnLatIdeal_AttnLatRefIdeal_pre_scores_finite [hAttnLatIdeal : Cert.AttnLatIdeal.Facts] [hAttnLatRefIdeal : Cert.AttnLatRefIdeal.Facts] [hPre_scores_finite : Cert.Pre_scores_finite.Facts] : Prop :=
  ∀ (m : (ℓ : Loc Cert.AttnLatIdeal.nD Cert.AttnLatIdeal.τ Cert.AttnLatIdeal.sig) → Buf (Elt Ideal) ℓ) (g : Dev Cert.AttnLatIdeal.nD → PrngReg)
    (m' : (ℓ : Loc Cert.AttnLatRefIdeal.nD Cert.AttnLatRefIdeal.τ Cert.AttnLatRefIdeal.sig) → Buf (Elt Ideal) ℓ) (g' : Dev Cert.AttnLatRefIdeal.nD → PrngReg), Pre_AttnLatIdeal_scores_finite m →
    (∀ c : Dev Cert.AttnLatIdeal.nD,
      m' ((c.tc : Thread Cert.AttnLatRefIdeal.nD Cert.AttnLatRefIdeal.τ).loc Cert.AttnLatRefIdeal.main_arg0) = m ((c.tc : Thread Cert.AttnLatIdeal.nD Cert.AttnLatIdeal.τ).loc Cert.AttnLatIdeal.main_arg0)
      ∧ m' ((c.tc : Thread Cert.AttnLatRefIdeal.nD Cert.AttnLatRefIdeal.τ).loc Cert.AttnLatRefIdeal.main_arg1) = m ((c.tc : Thread Cert.AttnLatIdeal.nD Cert.AttnLatIdeal.τ).loc Cert.AttnLatIdeal.main_arg1)
      ∧ m' ((c.tc : Thread Cert.AttnLatRefIdeal.nD Cert.AttnLatRefIdeal.τ).loc Cert.AttnLatRefIdeal.main_arg2) = m ((c.tc : Thread Cert.AttnLatIdeal.nD Cert.AttnLatIdeal.τ).loc Cert.AttnLatIdeal.main_arg2)
      ∧ m' ((c.tc : Thread Cert.AttnLatRefIdeal.nD Cert.AttnLatRefIdeal.τ).loc Cert.AttnLatRefIdeal.main_arg3) = m ((c.tc : Thread Cert.AttnLatIdeal.nD Cert.AttnLatIdeal.τ).loc Cert.AttnLatIdeal.main_arg3)
      ∧ m' ((c.tc : Thread Cert.AttnLatRefIdeal.nD Cert.AttnLatRefIdeal.τ).loc Cert.AttnLatRefIdeal.main_arg4) = m ((c.tc : Thread Cert.AttnLatIdeal.nD Cert.AttnLatIdeal.τ).loc Cert.AttnLatIdeal.main_arg4)) →
    ∃ (v0 : (c : Dev Cert.AttnLatIdeal.nD) → Buf (Elt Ideal) ((c.tc : Thread Cert.AttnLatIdeal.nD Cert.AttnLatIdeal.τ).loc Cert.AttnLatIdeal.main_v0)),
      θ_run (Cert.AttnLatIdeal.defs (F := Ideal)) (onTc (τ := Cert.AttnLatIdeal.τ) (Cert.AttnLatIdeal.main (F := Ideal))) ⟨m, fun _ => 0, g⟩ (fun r => ∀ c : Dev Cert.AttnLatIdeal.nD,
          r.2.mem ((c.tc : Thread Cert.AttnLatIdeal.nD Cert.AttnLatIdeal.τ).loc Cert.AttnLatIdeal.main_v0) = v0 c
          ∧ r.2.mem ((c.tc : Thread Cert.AttnLatIdeal.nD Cert.AttnLatIdeal.τ).loc Cert.AttnLatIdeal.main_arg0) = m ((c.tc : Thread Cert.AttnLatIdeal.nD Cert.AttnLatIdeal.τ).loc Cert.AttnLatIdeal.main_arg0)
          ∧ r.2.mem ((c.tc : Thread Cert.AttnLatIdeal.nD Cert.AttnLatIdeal.τ).loc Cert.AttnLatIdeal.main_arg1) = m ((c.tc : Thread Cert.AttnLatIdeal.nD Cert.AttnLatIdeal.τ).loc Cert.AttnLatIdeal.main_arg1)
          ∧ r.2.mem ((c.tc : Thread Cert.AttnLatIdeal.nD Cert.AttnLatIdeal.τ).loc Cert.AttnLatIdeal.main_arg2) = m ((c.tc : Thread Cert.AttnLatIdeal.nD Cert.AttnLatIdeal.τ).loc Cert.AttnLatIdeal.main_arg2)
          ∧ r.2.mem ((c.tc : Thread Cert.AttnLatIdeal.nD Cert.AttnLatIdeal.τ).loc Cert.AttnLatIdeal.main_arg3) = m ((c.tc : Thread Cert.AttnLatIdeal.nD Cert.AttnLatIdeal.τ).loc Cert.AttnLatIdeal.main_arg3)
          ∧ r.2.mem ((c.tc : Thread Cert.AttnLatIdeal.nD Cert.AttnLatIdeal.τ).loc Cert.AttnLatIdeal.main_arg4) = m ((c.tc : Thread Cert.AttnLatIdeal.nD Cert.AttnLatIdeal.τ).loc Cert.AttnLatIdeal.main_arg4))
      ∧ θ_run (Cert.AttnLatRefIdeal.defs (F := Ideal)) (onTc (τ := Cert.AttnLatRefIdeal.τ) (Cert.AttnLatRefIdeal.main (F := Ideal))) ⟨m', fun _ => 0, g'⟩ (fun r => ∀ c : Dev Cert.AttnLatRefIdeal.nD,
          r.2.mem ((c.tc : Thread Cert.AttnLatRefIdeal.nD Cert.AttnLatRefIdeal.τ).loc Cert.AttnLatRefIdeal.main_v33) = v0 c
          ∧ r.2.mem ((c.tc : Thread Cert.AttnLatRefIdeal.nD Cert.AttnLatRefIdeal.τ).loc Cert.AttnLatRefIdeal.main_arg0) = m' ((c.tc : Thread Cert.AttnLatRefIdeal.nD Cert.AttnLatRefIdeal.τ).loc Cert.AttnLatRefIdeal.main_arg0)
          ∧ r.2.mem ((c.tc : Thread Cert.AttnLatRefIdeal.nD Cert.AttnLatRefIdeal.τ).loc Cert.AttnLatRefIdeal.main_arg1) = m' ((c.tc : Thread Cert.AttnLatRefIdeal.nD Cert.AttnLatRefIdeal.τ).loc Cert.AttnLatRefIdeal.main_arg1)
          ∧ r.2.mem ((c.tc : Thread Cert.AttnLatRefIdeal.nD Cert.AttnLatRefIdeal.τ).loc Cert.AttnLatRefIdeal.main_arg2) = m' ((c.tc : Thread Cert.AttnLatRefIdeal.nD Cert.AttnLatRefIdeal.τ).loc Cert.AttnLatRefIdeal.main_arg2)
          ∧ r.2.mem ((c.tc : Thread Cert.AttnLatRefIdeal.nD Cert.AttnLatRefIdeal.τ).loc Cert.AttnLatRefIdeal.main_arg3) = m' ((c.tc : Thread Cert.AttnLatRefIdeal.nD Cert.AttnLatRefIdeal.τ).loc Cert.AttnLatRefIdeal.main_arg3)
          ∧ r.2.mem ((c.tc : Thread Cert.AttnLatRefIdeal.nD Cert.AttnLatRefIdeal.τ).loc Cert.AttnLatRefIdeal.main_arg4) = m' ((c.tc : Thread Cert.AttnLatRefIdeal.nD Cert.AttnLatRefIdeal.τ).loc Cert.AttnLatRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v78) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v59) = v0 c
          ∧ r.2.mem ((c.tc : Thread Cert.InProjRefIdeal.nD Cert.InProjRefIdeal.τ).loc Cert.InProjRefIdeal.main_v61) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v28) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_AttnCtx_AttnCtxIdeal : Prop :=
  True

def algebraic_AttnCtxIdeal_AttnCtxRefIdeal_pre_ctx_scores_finite [hAttnCtxIdeal : Cert.AttnCtxIdeal.Facts] [hAttnCtxRefIdeal : Cert.AttnCtxRefIdeal.Facts] [hPre_ctx_scores_finite : Cert.Pre_ctx_scores_finite.Facts] : Prop :=
  ∀ (m : (ℓ : Loc Cert.AttnCtxIdeal.nD Cert.AttnCtxIdeal.τ Cert.AttnCtxIdeal.sig) → Buf (Elt Ideal) ℓ) (g : Dev Cert.AttnCtxIdeal.nD → PrngReg)
    (m' : (ℓ : Loc Cert.AttnCtxRefIdeal.nD Cert.AttnCtxRefIdeal.τ Cert.AttnCtxRefIdeal.sig) → Buf (Elt Ideal) ℓ) (g' : Dev Cert.AttnCtxRefIdeal.nD → PrngReg), Pre_AttnCtxIdeal_ctx_scores_finite m →
    (∀ c : Dev Cert.AttnCtxIdeal.nD,
      m' ((c.tc : Thread Cert.AttnCtxRefIdeal.nD Cert.AttnCtxRefIdeal.τ).loc Cert.AttnCtxRefIdeal.main_arg0) = m ((c.tc : Thread Cert.AttnCtxIdeal.nD Cert.AttnCtxIdeal.τ).loc Cert.AttnCtxIdeal.main_arg0)
      ∧ m' ((c.tc : Thread Cert.AttnCtxRefIdeal.nD Cert.AttnCtxRefIdeal.τ).loc Cert.AttnCtxRefIdeal.main_arg1) = m ((c.tc : Thread Cert.AttnCtxIdeal.nD Cert.AttnCtxIdeal.τ).loc Cert.AttnCtxIdeal.main_arg1)
      ∧ m' ((c.tc : Thread Cert.AttnCtxRefIdeal.nD Cert.AttnCtxRefIdeal.τ).loc Cert.AttnCtxRefIdeal.main_arg2) = m ((c.tc : Thread Cert.AttnCtxIdeal.nD Cert.AttnCtxIdeal.τ).loc Cert.AttnCtxIdeal.main_arg2)) →
    ∃ (v0 : (c : Dev Cert.AttnCtxIdeal.nD) → Buf (Elt Ideal) ((c.tc : Thread Cert.AttnCtxIdeal.nD Cert.AttnCtxIdeal.τ).loc Cert.AttnCtxIdeal.main_v0)),
      θ_run (Cert.AttnCtxIdeal.defs (F := Ideal)) (onTc (τ := Cert.AttnCtxIdeal.τ) (Cert.AttnCtxIdeal.main (F := Ideal))) ⟨m, fun _ => 0, g⟩ (fun r => ∀ c : Dev Cert.AttnCtxIdeal.nD,
          r.2.mem ((c.tc : Thread Cert.AttnCtxIdeal.nD Cert.AttnCtxIdeal.τ).loc Cert.AttnCtxIdeal.main_v0) = v0 c
          ∧ r.2.mem ((c.tc : Thread Cert.AttnCtxIdeal.nD Cert.AttnCtxIdeal.τ).loc Cert.AttnCtxIdeal.main_arg0) = m ((c.tc : Thread Cert.AttnCtxIdeal.nD Cert.AttnCtxIdeal.τ).loc Cert.AttnCtxIdeal.main_arg0)
          ∧ r.2.mem ((c.tc : Thread Cert.AttnCtxIdeal.nD Cert.AttnCtxIdeal.τ).loc Cert.AttnCtxIdeal.main_arg1) = m ((c.tc : Thread Cert.AttnCtxIdeal.nD Cert.AttnCtxIdeal.τ).loc Cert.AttnCtxIdeal.main_arg1)
          ∧ r.2.mem ((c.tc : Thread Cert.AttnCtxIdeal.nD Cert.AttnCtxIdeal.τ).loc Cert.AttnCtxIdeal.main_arg2) = m ((c.tc : Thread Cert.AttnCtxIdeal.nD Cert.AttnCtxIdeal.τ).loc Cert.AttnCtxIdeal.main_arg2))
      ∧ θ_run (Cert.AttnCtxRefIdeal.defs (F := Ideal)) (onTc (τ := Cert.AttnCtxRefIdeal.τ) (Cert.AttnCtxRefIdeal.main (F := Ideal))) ⟨m', fun _ => 0, g'⟩ (fun r => ∀ c : Dev Cert.AttnCtxRefIdeal.nD,
          r.2.mem ((c.tc : Thread Cert.AttnCtxRefIdeal.nD Cert.AttnCtxRefIdeal.τ).loc Cert.AttnCtxRefIdeal.main_v27) = v0 c
          ∧ r.2.mem ((c.tc : Thread Cert.AttnCtxRefIdeal.nD Cert.AttnCtxRefIdeal.τ).loc Cert.AttnCtxRefIdeal.main_arg0) = m' ((c.tc : Thread Cert.AttnCtxRefIdeal.nD Cert.AttnCtxRefIdeal.τ).loc Cert.AttnCtxRefIdeal.main_arg0)
          ∧ r.2.mem ((c.tc : Thread Cert.AttnCtxRefIdeal.nD Cert.AttnCtxRefIdeal.τ).loc Cert.AttnCtxRefIdeal.main_arg1) = m' ((c.tc : Thread Cert.AttnCtxRefIdeal.nD Cert.AttnCtxRefIdeal.τ).loc Cert.AttnCtxRefIdeal.main_arg1)
          ∧ r.2.mem ((c.tc : Thread Cert.AttnCtxRefIdeal.nD Cert.AttnCtxRefIdeal.τ).loc Cert.AttnCtxRefIdeal.main_arg2) = m' ((c.tc : Thread Cert.AttnCtxRefIdeal.nD Cert.AttnCtxRefIdeal.τ).loc Cert.AttnCtxRefIdeal.main_arg2))

def preserves_MlaCtx_MlaCtxIdeal : Prop :=
  True

def algebraic_MlaCtxIdeal_MlaCtxRefIdeal_pre_fill_zero [hMlaCtxIdeal : Cert.MlaCtxIdeal.Facts] [hMlaCtxRefIdeal : Cert.MlaCtxRefIdeal.Facts] [hPre_fill_zero : Cert.Pre_fill_zero.Facts] : Prop :=
  ∀ (m : (ℓ : Loc Cert.MlaCtxIdeal.nD Cert.MlaCtxIdeal.τ Cert.MlaCtxIdeal.sig) → Buf (Elt Ideal) ℓ) (g : Dev Cert.MlaCtxIdeal.nD → PrngReg)
    (m' : (ℓ : Loc Cert.MlaCtxRefIdeal.nD Cert.MlaCtxRefIdeal.τ Cert.MlaCtxRefIdeal.sig) → Buf (Elt Ideal) ℓ) (g' : Dev Cert.MlaCtxRefIdeal.nD → PrngReg), Pre_MlaCtxIdeal_fill_zero m →
    (∀ c : Dev Cert.MlaCtxIdeal.nD,
      m' ((c.tc : Thread Cert.MlaCtxRefIdeal.nD Cert.MlaCtxRefIdeal.τ).loc Cert.MlaCtxRefIdeal.main_arg0) = m ((c.tc : Thread Cert.MlaCtxIdeal.nD Cert.MlaCtxIdeal.τ).loc Cert.MlaCtxIdeal.main_arg0)
      ∧ m' ((c.tc : Thread Cert.MlaCtxRefIdeal.nD Cert.MlaCtxRefIdeal.τ).loc Cert.MlaCtxRefIdeal.main_arg1) = m ((c.tc : Thread Cert.MlaCtxIdeal.nD Cert.MlaCtxIdeal.τ).loc Cert.MlaCtxIdeal.main_arg1)
      ∧ m' ((c.tc : Thread Cert.MlaCtxRefIdeal.nD Cert.MlaCtxRefIdeal.τ).loc Cert.MlaCtxRefIdeal.main_arg2) = m ((c.tc : Thread Cert.MlaCtxIdeal.nD Cert.MlaCtxIdeal.τ).loc Cert.MlaCtxIdeal.main_arg2)
      ∧ m' ((c.tc : Thread Cert.MlaCtxRefIdeal.nD Cert.MlaCtxRefIdeal.τ).loc Cert.MlaCtxRefIdeal.main_arg3) = m ((c.tc : Thread Cert.MlaCtxIdeal.nD Cert.MlaCtxIdeal.τ).loc Cert.MlaCtxIdeal.main_arg3)
      ∧ m' ((c.tc : Thread Cert.MlaCtxRefIdeal.nD Cert.MlaCtxRefIdeal.τ).loc Cert.MlaCtxRefIdeal.main_arg4) = m ((c.tc : Thread Cert.MlaCtxIdeal.nD Cert.MlaCtxIdeal.τ).loc Cert.MlaCtxIdeal.main_arg4)
      ∧ m' ((c.tc : Thread Cert.MlaCtxRefIdeal.nD Cert.MlaCtxRefIdeal.τ).loc Cert.MlaCtxRefIdeal.main_arg5) = m ((c.tc : Thread Cert.MlaCtxIdeal.nD Cert.MlaCtxIdeal.τ).loc Cert.MlaCtxIdeal.main_arg5)
      ∧ m' ((c.tc : Thread Cert.MlaCtxRefIdeal.nD Cert.MlaCtxRefIdeal.τ).loc Cert.MlaCtxRefIdeal.main_arg6) = m ((c.tc : Thread Cert.MlaCtxIdeal.nD Cert.MlaCtxIdeal.τ).loc Cert.MlaCtxIdeal.main_arg6)
      ∧ m' ((c.tc : Thread Cert.MlaCtxRefIdeal.nD Cert.MlaCtxRefIdeal.τ).loc Cert.MlaCtxRefIdeal.main_arg7) = m ((c.tc : Thread Cert.MlaCtxIdeal.nD Cert.MlaCtxIdeal.τ).loc Cert.MlaCtxIdeal.main_arg7)
      ∧ m' ((c.tc : Thread Cert.MlaCtxRefIdeal.nD Cert.MlaCtxRefIdeal.τ).loc Cert.MlaCtxRefIdeal.main_arg8) = m ((c.tc : Thread Cert.MlaCtxIdeal.nD Cert.MlaCtxIdeal.τ).loc Cert.MlaCtxIdeal.main_arg8)) →
    ∃ (v0 : (c : Dev Cert.MlaCtxIdeal.nD) → Buf (Elt Ideal) ((c.tc : Thread Cert.MlaCtxIdeal.nD Cert.MlaCtxIdeal.τ).loc Cert.MlaCtxIdeal.main_v19_0)) (v1 : (c : Dev Cert.MlaCtxIdeal.nD) → Buf (Elt Ideal) ((c.tc : Thread Cert.MlaCtxIdeal.nD Cert.MlaCtxIdeal.τ).loc Cert.MlaCtxIdeal.main_v19_1)) (v2 : (c : Dev Cert.MlaCtxIdeal.nD) → Buf (Elt Ideal) ((c.tc : Thread Cert.MlaCtxIdeal.nD Cert.MlaCtxIdeal.τ).loc Cert.MlaCtxIdeal.main_v19_2)) (v3 : (c : Dev Cert.MlaCtxIdeal.nD) → Buf (Elt Ideal) ((c.tc : Thread Cert.MlaCtxIdeal.nD Cert.MlaCtxIdeal.τ).loc Cert.MlaCtxIdeal.main_v19_3)) (v4 : (c : Dev Cert.MlaCtxIdeal.nD) → Buf (Elt Ideal) ((c.tc : Thread Cert.MlaCtxIdeal.nD Cert.MlaCtxIdeal.τ).loc Cert.MlaCtxIdeal.main_v19_4)),
      θ_run (Cert.MlaCtxIdeal.defs (F := Ideal)) (onTc (τ := Cert.MlaCtxIdeal.τ) (Cert.MlaCtxIdeal.main (F := Ideal))) ⟨m, fun _ => 0, g⟩ (fun r => ∀ c : Dev Cert.MlaCtxIdeal.nD,
          r.2.mem ((c.tc : Thread Cert.MlaCtxIdeal.nD Cert.MlaCtxIdeal.τ).loc Cert.MlaCtxIdeal.main_v19_0) = v0 c
          ∧ r.2.mem ((c.tc : Thread Cert.MlaCtxIdeal.nD Cert.MlaCtxIdeal.τ).loc Cert.MlaCtxIdeal.main_v19_1) = v1 c
          ∧ r.2.mem ((c.tc : Thread Cert.MlaCtxIdeal.nD Cert.MlaCtxIdeal.τ).loc Cert.MlaCtxIdeal.main_v19_2) = v2 c
          ∧ r.2.mem ((c.tc : Thread Cert.MlaCtxIdeal.nD Cert.MlaCtxIdeal.τ).loc Cert.MlaCtxIdeal.main_v19_3) = v3 c
          ∧ r.2.mem ((c.tc : Thread Cert.MlaCtxIdeal.nD Cert.MlaCtxIdeal.τ).loc Cert.MlaCtxIdeal.main_v19_4) = v4 c
          ∧ r.2.mem ((c.tc : Thread Cert.MlaCtxIdeal.nD Cert.MlaCtxIdeal.τ).loc Cert.MlaCtxIdeal.main_arg0) = m ((c.tc : Thread Cert.MlaCtxIdeal.nD Cert.MlaCtxIdeal.τ).loc Cert.MlaCtxIdeal.main_arg0)
          ∧ r.2.mem ((c.tc : Thread Cert.MlaCtxIdeal.nD Cert.MlaCtxIdeal.τ).loc Cert.MlaCtxIdeal.main_arg1) = m ((c.tc : Thread Cert.MlaCtxIdeal.nD Cert.MlaCtxIdeal.τ).loc Cert.MlaCtxIdeal.main_arg1)
          ∧ r.2.mem ((c.tc : Thread Cert.MlaCtxIdeal.nD Cert.MlaCtxIdeal.τ).loc Cert.MlaCtxIdeal.main_arg2) = m ((c.tc : Thread Cert.MlaCtxIdeal.nD Cert.MlaCtxIdeal.τ).loc Cert.MlaCtxIdeal.main_arg2)
          ∧ r.2.mem ((c.tc : Thread Cert.MlaCtxIdeal.nD Cert.MlaCtxIdeal.τ).loc Cert.MlaCtxIdeal.main_arg3) = m ((c.tc : Thread Cert.MlaCtxIdeal.nD Cert.MlaCtxIdeal.τ).loc Cert.MlaCtxIdeal.main_arg3)
          ∧ r.2.mem ((c.tc : Thread Cert.MlaCtxIdeal.nD Cert.MlaCtxIdeal.τ).loc Cert.MlaCtxIdeal.main_arg4) = m ((c.tc : Thread Cert.MlaCtxIdeal.nD Cert.MlaCtxIdeal.τ).loc Cert.MlaCtxIdeal.main_arg4)
          ∧ r.2.mem ((c.tc : Thread Cert.MlaCtxIdeal.nD Cert.MlaCtxIdeal.τ).loc Cert.MlaCtxIdeal.main_arg5) = m ((c.tc : Thread Cert.MlaCtxIdeal.nD Cert.MlaCtxIdeal.τ).loc Cert.MlaCtxIdeal.main_arg5)
          ∧ r.2.mem ((c.tc : Thread Cert.MlaCtxIdeal.nD Cert.MlaCtxIdeal.τ).loc Cert.MlaCtxIdeal.main_arg6) = m ((c.tc : Thread Cert.MlaCtxIdeal.nD Cert.MlaCtxIdeal.τ).loc Cert.MlaCtxIdeal.main_arg6)
          ∧ r.2.mem ((c.tc : Thread Cert.MlaCtxIdeal.nD Cert.MlaCtxIdeal.τ).loc Cert.MlaCtxIdeal.main_arg7) = m ((c.tc : Thread Cert.MlaCtxIdeal.nD Cert.MlaCtxIdeal.τ).loc Cert.MlaCtxIdeal.main_arg7)
          ∧ r.2.mem ((c.tc : Thread Cert.MlaCtxIdeal.nD Cert.MlaCtxIdeal.τ).loc Cert.MlaCtxIdeal.main_arg8) = m ((c.tc : Thread Cert.MlaCtxIdeal.nD Cert.MlaCtxIdeal.τ).loc Cert.MlaCtxIdeal.main_arg8))
      ∧ θ_run (Cert.MlaCtxRefIdeal.defs (F := Ideal)) (onTc (τ := Cert.MlaCtxRefIdeal.τ) (Cert.MlaCtxRefIdeal.main (F := Ideal))) ⟨m', fun _ => 0, g'⟩ (fun r => ∀ c : Dev Cert.MlaCtxRefIdeal.nD,
          r.2.mem ((c.tc : Thread Cert.MlaCtxRefIdeal.nD Cert.MlaCtxRefIdeal.τ).loc Cert.MlaCtxRefIdeal.main_v99) = v0 c
          ∧ r.2.mem ((c.tc : Thread Cert.MlaCtxRefIdeal.nD Cert.MlaCtxRefIdeal.τ).loc Cert.MlaCtxRefIdeal.main_v103) = v1 c
          ∧ r.2.mem ((c.tc : Thread Cert.MlaCtxRefIdeal.nD Cert.MlaCtxRefIdeal.τ).loc Cert.MlaCtxRefIdeal.main_v105) = v2 c
          ∧ r.2.mem ((c.tc : Thread Cert.MlaCtxRefIdeal.nD Cert.MlaCtxRefIdeal.τ).loc Cert.MlaCtxRefIdeal.main_v59) = v3 c
          ∧ r.2.mem ((c.tc : Thread Cert.MlaCtxRefIdeal.nD Cert.MlaCtxRefIdeal.τ).loc Cert.MlaCtxRefIdeal.main_v72) = v4 c
          ∧ r.2.mem ((c.tc : Thread Cert.MlaCtxRefIdeal.nD Cert.MlaCtxRefIdeal.τ).loc Cert.MlaCtxRefIdeal.main_arg0) = m' ((c.tc : Thread Cert.MlaCtxRefIdeal.nD Cert.MlaCtxRefIdeal.τ).loc Cert.MlaCtxRefIdeal.main_arg0)
          ∧ r.2.mem ((c.tc : Thread Cert.MlaCtxRefIdeal.nD Cert.MlaCtxRefIdeal.τ).loc Cert.MlaCtxRefIdeal.main_arg1) = m' ((c.tc : Thread Cert.MlaCtxRefIdeal.nD Cert.MlaCtxRefIdeal.τ).loc Cert.MlaCtxRefIdeal.main_arg1)
          ∧ r.2.mem ((c.tc : Thread Cert.MlaCtxRefIdeal.nD Cert.MlaCtxRefIdeal.τ).loc Cert.MlaCtxRefIdeal.main_arg2) = m' ((c.tc : Thread Cert.MlaCtxRefIdeal.nD Cert.MlaCtxRefIdeal.τ).loc Cert.MlaCtxRefIdeal.main_arg2)
          ∧ r.2.mem ((c.tc : Thread Cert.MlaCtxRefIdeal.nD Cert.MlaCtxRefIdeal.τ).loc Cert.MlaCtxRefIdeal.main_arg3) = m' ((c.tc : Thread Cert.MlaCtxRefIdeal.nD Cert.MlaCtxRefIdeal.τ).loc Cert.MlaCtxRefIdeal.main_arg3)
          ∧ r.2.mem ((c.tc : Thread Cert.MlaCtxRefIdeal.nD Cert.MlaCtxRefIdeal.τ).loc Cert.MlaCtxRefIdeal.main_arg4) = m' ((c.tc : Thread Cert.MlaCtxRefIdeal.nD Cert.MlaCtxRefIdeal.τ).loc Cert.MlaCtxRefIdeal.main_arg4)
          ∧ r.2.mem ((c.tc : Thread Cert.MlaCtxRefIdeal.nD Cert.MlaCtxRefIdeal.τ).loc Cert.MlaCtxRefIdeal.main_arg5) = m' ((c.tc : Thread Cert.MlaCtxRefIdeal.nD Cert.MlaCtxRefIdeal.τ).loc Cert.MlaCtxRefIdeal.main_arg5)
          ∧ r.2.mem ((c.tc : Thread Cert.MlaCtxRefIdeal.nD Cert.MlaCtxRefIdeal.τ).loc Cert.MlaCtxRefIdeal.main_arg6) = m' ((c.tc : Thread Cert.MlaCtxRefIdeal.nD Cert.MlaCtxRefIdeal.τ).loc Cert.MlaCtxRefIdeal.main_arg6)
          ∧ r.2.mem ((c.tc : Thread Cert.MlaCtxRefIdeal.nD Cert.MlaCtxRefIdeal.τ).loc Cert.MlaCtxRefIdeal.main_arg7) = m' ((c.tc : Thread Cert.MlaCtxRefIdeal.nD Cert.MlaCtxRefIdeal.τ).loc Cert.MlaCtxRefIdeal.main_arg7)
          ∧ r.2.mem ((c.tc : Thread Cert.MlaCtxRefIdeal.nD Cert.MlaCtxRefIdeal.τ).loc Cert.MlaCtxRefIdeal.main_arg8) = m' ((c.tc : Thread Cert.MlaCtxRefIdeal.nD Cert.MlaCtxRefIdeal.τ).loc Cert.MlaCtxRefIdeal.main_arg8))

def preserves_MlaCache_MlaCacheIdeal : Prop :=
  True

def algebraic_MlaCacheIdeal_MlaCacheRefIdeal [hMlaCacheIdeal : Cert.MlaCacheIdeal.Facts] [hMlaCacheRefIdeal : Cert.MlaCacheRefIdeal.Facts] : Prop :=
  ∀ (m : (ℓ : Loc Cert.MlaCacheIdeal.nD Cert.MlaCacheIdeal.τ Cert.MlaCacheIdeal.sig) → Buf (Elt Ideal) ℓ) (g : Dev Cert.MlaCacheIdeal.nD → PrngReg)
    (m' : (ℓ : Loc Cert.MlaCacheRefIdeal.nD Cert.MlaCacheRefIdeal.τ Cert.MlaCacheRefIdeal.sig) → Buf (Elt Ideal) ℓ) (g' : Dev Cert.MlaCacheRefIdeal.nD → PrngReg), Pre_MlaCacheIdeal m →
    (∀ c : Dev Cert.MlaCacheIdeal.nD,
      m' ((c.tc : Thread Cert.MlaCacheRefIdeal.nD Cert.MlaCacheRefIdeal.τ).loc Cert.MlaCacheRefIdeal.main_arg0) = m ((c.tc : Thread Cert.MlaCacheIdeal.nD Cert.MlaCacheIdeal.τ).loc Cert.MlaCacheIdeal.main_arg0)
      ∧ m' ((c.tc : Thread Cert.MlaCacheRefIdeal.nD Cert.MlaCacheRefIdeal.τ).loc Cert.MlaCacheRefIdeal.main_arg1) = m ((c.tc : Thread Cert.MlaCacheIdeal.nD Cert.MlaCacheIdeal.τ).loc Cert.MlaCacheIdeal.main_arg1)
      ∧ m' ((c.tc : Thread Cert.MlaCacheRefIdeal.nD Cert.MlaCacheRefIdeal.τ).loc Cert.MlaCacheRefIdeal.main_arg2) = m ((c.tc : Thread Cert.MlaCacheIdeal.nD Cert.MlaCacheIdeal.τ).loc Cert.MlaCacheIdeal.main_arg2)
      ∧ m' ((c.tc : Thread Cert.MlaCacheRefIdeal.nD Cert.MlaCacheRefIdeal.τ).loc Cert.MlaCacheRefIdeal.main_arg3) = m ((c.tc : Thread Cert.MlaCacheIdeal.nD Cert.MlaCacheIdeal.τ).loc Cert.MlaCacheIdeal.main_arg3)) →
    ∃ (v0 : (c : Dev Cert.MlaCacheIdeal.nD) → Buf (Elt Ideal) ((c.tc : Thread Cert.MlaCacheIdeal.nD Cert.MlaCacheIdeal.τ).loc Cert.MlaCacheIdeal.main_v15_0)) (v1 : (c : Dev Cert.MlaCacheIdeal.nD) → Buf (Elt Ideal) ((c.tc : Thread Cert.MlaCacheIdeal.nD Cert.MlaCacheIdeal.τ).loc Cert.MlaCacheIdeal.main_v15_1)),
      θ_run (Cert.MlaCacheIdeal.defs (F := Ideal)) (onTc (τ := Cert.MlaCacheIdeal.τ) (Cert.MlaCacheIdeal.main (F := Ideal))) ⟨m, fun _ => 0, g⟩ (fun r => ∀ c : Dev Cert.MlaCacheIdeal.nD,
          r.2.mem ((c.tc : Thread Cert.MlaCacheIdeal.nD Cert.MlaCacheIdeal.τ).loc Cert.MlaCacheIdeal.main_v15_0) = v0 c
          ∧ r.2.mem ((c.tc : Thread Cert.MlaCacheIdeal.nD Cert.MlaCacheIdeal.τ).loc Cert.MlaCacheIdeal.main_v15_1) = v1 c
          ∧ r.2.mem ((c.tc : Thread Cert.MlaCacheIdeal.nD Cert.MlaCacheIdeal.τ).loc Cert.MlaCacheIdeal.main_arg0) = m ((c.tc : Thread Cert.MlaCacheIdeal.nD Cert.MlaCacheIdeal.τ).loc Cert.MlaCacheIdeal.main_arg0)
          ∧ r.2.mem ((c.tc : Thread Cert.MlaCacheIdeal.nD Cert.MlaCacheIdeal.τ).loc Cert.MlaCacheIdeal.main_arg1) = m ((c.tc : Thread Cert.MlaCacheIdeal.nD Cert.MlaCacheIdeal.τ).loc Cert.MlaCacheIdeal.main_arg1)
          ∧ r.2.mem ((c.tc : Thread Cert.MlaCacheIdeal.nD Cert.MlaCacheIdeal.τ).loc Cert.MlaCacheIdeal.main_arg2) = m ((c.tc : Thread Cert.MlaCacheIdeal.nD Cert.MlaCacheIdeal.τ).loc Cert.MlaCacheIdeal.main_arg2)
          ∧ r.2.mem ((c.tc : Thread Cert.MlaCacheIdeal.nD Cert.MlaCacheIdeal.τ).loc Cert.MlaCacheIdeal.main_arg3) = m ((c.tc : Thread Cert.MlaCacheIdeal.nD Cert.MlaCacheIdeal.τ).loc Cert.MlaCacheIdeal.main_arg3))
      ∧ θ_run (Cert.MlaCacheRefIdeal.defs (F := Ideal)) (onTc (τ := Cert.MlaCacheRefIdeal.τ) (Cert.MlaCacheRefIdeal.main (F := Ideal))) ⟨m', fun _ => 0, g'⟩ (fun r => ∀ c : Dev Cert.MlaCacheRefIdeal.nD,
          r.2.mem ((c.tc : Thread Cert.MlaCacheRefIdeal.nD Cert.MlaCacheRefIdeal.τ).loc Cert.MlaCacheRefIdeal.main_v28) = v0 c
          ∧ r.2.mem ((c.tc : Thread Cert.MlaCacheRefIdeal.nD Cert.MlaCacheRefIdeal.τ).loc Cert.MlaCacheRefIdeal.main_v30) = v1 c
          ∧ r.2.mem ((c.tc : Thread Cert.MlaCacheRefIdeal.nD Cert.MlaCacheRefIdeal.τ).loc Cert.MlaCacheRefIdeal.main_arg0) = m' ((c.tc : Thread Cert.MlaCacheRefIdeal.nD Cert.MlaCacheRefIdeal.τ).loc Cert.MlaCacheRefIdeal.main_arg0)
          ∧ r.2.mem ((c.tc : Thread Cert.MlaCacheRefIdeal.nD Cert.MlaCacheRefIdeal.τ).loc Cert.MlaCacheRefIdeal.main_arg1) = m' ((c.tc : Thread Cert.MlaCacheRefIdeal.nD Cert.MlaCacheRefIdeal.τ).loc Cert.MlaCacheRefIdeal.main_arg1)
          ∧ r.2.mem ((c.tc : Thread Cert.MlaCacheRefIdeal.nD Cert.MlaCacheRefIdeal.τ).loc Cert.MlaCacheRefIdeal.main_arg2) = m' ((c.tc : Thread Cert.MlaCacheRefIdeal.nD Cert.MlaCacheRefIdeal.τ).loc Cert.MlaCacheRefIdeal.main_arg2)
          ∧ r.2.mem ((c.tc : Thread Cert.MlaCacheRefIdeal.nD Cert.MlaCacheRefIdeal.τ).loc Cert.MlaCacheRefIdeal.main_arg3) = m' ((c.tc : Thread Cert.MlaCacheRefIdeal.nD Cert.MlaCacheRefIdeal.τ).loc Cert.MlaCacheRefIdeal.main_arg3))

def preserves_MlaLat_MlaLatIdeal : Prop :=
  True

def algebraic_MlaLatIdeal_MlaLatRefIdeal_pre_fill_zero_lat [hMlaLatIdeal : Cert.MlaLatIdeal.Facts] [hMlaLatRefIdeal : Cert.MlaLatRefIdeal.Facts] [hPre_fill_zero_lat : Cert.Pre_fill_zero_lat.Facts] : Prop :=
  ∀ (m : (ℓ : Loc Cert.MlaLatIdeal.nD Cert.MlaLatIdeal.τ Cert.MlaLatIdeal.sig) → Buf (Elt Ideal) ℓ) (g : Dev Cert.MlaLatIdeal.nD → PrngReg)
    (m' : (ℓ : Loc Cert.MlaLatRefIdeal.nD Cert.MlaLatRefIdeal.τ Cert.MlaLatRefIdeal.sig) → Buf (Elt Ideal) ℓ) (g' : Dev Cert.MlaLatRefIdeal.nD → PrngReg), Pre_MlaLatIdeal_fill_zero_lat m →
    (∀ c : Dev Cert.MlaLatIdeal.nD,
      m' ((c.tc : Thread Cert.MlaLatRefIdeal.nD Cert.MlaLatRefIdeal.τ).loc Cert.MlaLatRefIdeal.main_arg0) = m ((c.tc : Thread Cert.MlaLatIdeal.nD Cert.MlaLatIdeal.τ).loc Cert.MlaLatIdeal.main_arg0)
      ∧ m' ((c.tc : Thread Cert.MlaLatRefIdeal.nD Cert.MlaLatRefIdeal.τ).loc Cert.MlaLatRefIdeal.main_arg1) = m ((c.tc : Thread Cert.MlaLatIdeal.nD Cert.MlaLatIdeal.τ).loc Cert.MlaLatIdeal.main_arg1)
      ∧ m' ((c.tc : Thread Cert.MlaLatRefIdeal.nD Cert.MlaLatRefIdeal.τ).loc Cert.MlaLatRefIdeal.main_arg2) = m ((c.tc : Thread Cert.MlaLatIdeal.nD Cert.MlaLatIdeal.τ).loc Cert.MlaLatIdeal.main_arg2)
      ∧ m' ((c.tc : Thread Cert.MlaLatRefIdeal.nD Cert.MlaLatRefIdeal.τ).loc Cert.MlaLatRefIdeal.main_arg3) = m ((c.tc : Thread Cert.MlaLatIdeal.nD Cert.MlaLatIdeal.τ).loc Cert.MlaLatIdeal.main_arg3)
      ∧ m' ((c.tc : Thread Cert.MlaLatRefIdeal.nD Cert.MlaLatRefIdeal.τ).loc Cert.MlaLatRefIdeal.main_arg4) = m ((c.tc : Thread Cert.MlaLatIdeal.nD Cert.MlaLatIdeal.τ).loc Cert.MlaLatIdeal.main_arg4)
      ∧ m' ((c.tc : Thread Cert.MlaLatRefIdeal.nD Cert.MlaLatRefIdeal.τ).loc Cert.MlaLatRefIdeal.main_arg5) = m ((c.tc : Thread Cert.MlaLatIdeal.nD Cert.MlaLatIdeal.τ).loc Cert.MlaLatIdeal.main_arg5)
      ∧ m' ((c.tc : Thread Cert.MlaLatRefIdeal.nD Cert.MlaLatRefIdeal.τ).loc Cert.MlaLatRefIdeal.main_arg6) = m ((c.tc : Thread Cert.MlaLatIdeal.nD Cert.MlaLatIdeal.τ).loc Cert.MlaLatIdeal.main_arg6)
      ∧ m' ((c.tc : Thread Cert.MlaLatRefIdeal.nD Cert.MlaLatRefIdeal.τ).loc Cert.MlaLatRefIdeal.main_arg7) = m ((c.tc : Thread Cert.MlaLatIdeal.nD Cert.MlaLatIdeal.τ).loc Cert.MlaLatIdeal.main_arg7)
      ∧ m' ((c.tc : Thread Cert.MlaLatRefIdeal.nD Cert.MlaLatRefIdeal.τ).loc Cert.MlaLatRefIdeal.main_arg8) = m ((c.tc : Thread Cert.MlaLatIdeal.nD Cert.MlaLatIdeal.τ).loc Cert.MlaLatIdeal.main_arg8)) →
    ∃ (v0 : (c : Dev Cert.MlaLatIdeal.nD) → Buf (Elt Ideal) ((c.tc : Thread Cert.MlaLatIdeal.nD Cert.MlaLatIdeal.τ).loc Cert.MlaLatIdeal.main_v51_0)) (v1 : (c : Dev Cert.MlaLatIdeal.nD) → Buf (Elt Ideal) ((c.tc : Thread Cert.MlaLatIdeal.nD Cert.MlaLatIdeal.τ).loc Cert.MlaLatIdeal.main_v51_1)) (v2 : (c : Dev Cert.MlaLatIdeal.nD) → Buf (Elt Ideal) ((c.tc : Thread Cert.MlaLatIdeal.nD Cert.MlaLatIdeal.τ).loc Cert.MlaLatIdeal.main_v51_2)) (v3 : (c : Dev Cert.MlaLatIdeal.nD) → Buf (Elt Ideal) ((c.tc : Thread Cert.MlaLatIdeal.nD Cert.MlaLatIdeal.τ).loc Cert.MlaLatIdeal.main_v51_3)) (v4 : (c : Dev Cert.MlaLatIdeal.nD) → Buf (Elt Ideal) ((c.tc : Thread Cert.MlaLatIdeal.nD Cert.MlaLatIdeal.τ).loc Cert.MlaLatIdeal.main_v51_4)),
      θ_run (Cert.MlaLatIdeal.defs (F := Ideal)) (onTc (τ := Cert.MlaLatIdeal.τ) (Cert.MlaLatIdeal.main (F := Ideal))) ⟨m, fun _ => 0, g⟩ (fun r => ∀ c : Dev Cert.MlaLatIdeal.nD,
          r.2.mem ((c.tc : Thread Cert.MlaLatIdeal.nD Cert.MlaLatIdeal.τ).loc Cert.MlaLatIdeal.main_v51_0) = v0 c
          ∧ r.2.mem ((c.tc : Thread Cert.MlaLatIdeal.nD Cert.MlaLatIdeal.τ).loc Cert.MlaLatIdeal.main_v51_1) = v1 c
          ∧ r.2.mem ((c.tc : Thread Cert.MlaLatIdeal.nD Cert.MlaLatIdeal.τ).loc Cert.MlaLatIdeal.main_v51_2) = v2 c
          ∧ r.2.mem ((c.tc : Thread Cert.MlaLatIdeal.nD Cert.MlaLatIdeal.τ).loc Cert.MlaLatIdeal.main_v51_3) = v3 c
          ∧ r.2.mem ((c.tc : Thread Cert.MlaLatIdeal.nD Cert.MlaLatIdeal.τ).loc Cert.MlaLatIdeal.main_v51_4) = v4 c
          ∧ r.2.mem ((c.tc : Thread Cert.MlaLatIdeal.nD Cert.MlaLatIdeal.τ).loc Cert.MlaLatIdeal.main_arg0) = m ((c.tc : Thread Cert.MlaLatIdeal.nD Cert.MlaLatIdeal.τ).loc Cert.MlaLatIdeal.main_arg0)
          ∧ r.2.mem ((c.tc : Thread Cert.MlaLatIdeal.nD Cert.MlaLatIdeal.τ).loc Cert.MlaLatIdeal.main_arg1) = m ((c.tc : Thread Cert.MlaLatIdeal.nD Cert.MlaLatIdeal.τ).loc Cert.MlaLatIdeal.main_arg1)
          ∧ r.2.mem ((c.tc : Thread Cert.MlaLatIdeal.nD Cert.MlaLatIdeal.τ).loc Cert.MlaLatIdeal.main_arg2) = m ((c.tc : Thread Cert.MlaLatIdeal.nD Cert.MlaLatIdeal.τ).loc Cert.MlaLatIdeal.main_arg2)
          ∧ r.2.mem ((c.tc : Thread Cert.MlaLatIdeal.nD Cert.MlaLatIdeal.τ).loc Cert.MlaLatIdeal.main_arg3) = m ((c.tc : Thread Cert.MlaLatIdeal.nD Cert.MlaLatIdeal.τ).loc Cert.MlaLatIdeal.main_arg3)
          ∧ r.2.mem ((c.tc : Thread Cert.MlaLatIdeal.nD Cert.MlaLatIdeal.τ).loc Cert.MlaLatIdeal.main_arg4) = m ((c.tc : Thread Cert.MlaLatIdeal.nD Cert.MlaLatIdeal.τ).loc Cert.MlaLatIdeal.main_arg4)
          ∧ r.2.mem ((c.tc : Thread Cert.MlaLatIdeal.nD Cert.MlaLatIdeal.τ).loc Cert.MlaLatIdeal.main_arg5) = m ((c.tc : Thread Cert.MlaLatIdeal.nD Cert.MlaLatIdeal.τ).loc Cert.MlaLatIdeal.main_arg5)
          ∧ r.2.mem ((c.tc : Thread Cert.MlaLatIdeal.nD Cert.MlaLatIdeal.τ).loc Cert.MlaLatIdeal.main_arg6) = m ((c.tc : Thread Cert.MlaLatIdeal.nD Cert.MlaLatIdeal.τ).loc Cert.MlaLatIdeal.main_arg6)
          ∧ r.2.mem ((c.tc : Thread Cert.MlaLatIdeal.nD Cert.MlaLatIdeal.τ).loc Cert.MlaLatIdeal.main_arg7) = m ((c.tc : Thread Cert.MlaLatIdeal.nD Cert.MlaLatIdeal.τ).loc Cert.MlaLatIdeal.main_arg7)
          ∧ r.2.mem ((c.tc : Thread Cert.MlaLatIdeal.nD Cert.MlaLatIdeal.τ).loc Cert.MlaLatIdeal.main_arg8) = m ((c.tc : Thread Cert.MlaLatIdeal.nD Cert.MlaLatIdeal.τ).loc Cert.MlaLatIdeal.main_arg8))
      ∧ θ_run (Cert.MlaLatRefIdeal.defs (F := Ideal)) (onTc (τ := Cert.MlaLatRefIdeal.τ) (Cert.MlaLatRefIdeal.main (F := Ideal))) ⟨m', fun _ => 0, g'⟩ (fun r => ∀ c : Dev Cert.MlaLatRefIdeal.nD,
          r.2.mem ((c.tc : Thread Cert.MlaLatRefIdeal.nD Cert.MlaLatRefIdeal.τ).loc Cert.MlaLatRefIdeal.main_v211) = v0 c
          ∧ r.2.mem ((c.tc : Thread Cert.MlaLatRefIdeal.nD Cert.MlaLatRefIdeal.τ).loc Cert.MlaLatRefIdeal.main_v215) = v1 c
          ∧ r.2.mem ((c.tc : Thread Cert.MlaLatRefIdeal.nD Cert.MlaLatRefIdeal.τ).loc Cert.MlaLatRefIdeal.main_v217) = v2 c
          ∧ r.2.mem ((c.tc : Thread Cert.MlaLatRefIdeal.nD Cert.MlaLatRefIdeal.τ).loc Cert.MlaLatRefIdeal.main_v84) = v3 c
          ∧ r.2.mem ((c.tc : Thread Cert.MlaLatRefIdeal.nD Cert.MlaLatRefIdeal.τ).loc Cert.MlaLatRefIdeal.main_v97) = v4 c
          ∧ r.2.mem ((c.tc : Thread Cert.MlaLatRefIdeal.nD Cert.MlaLatRefIdeal.τ).loc Cert.MlaLatRefIdeal.main_arg0) = m' ((c.tc : Thread Cert.MlaLatRefIdeal.nD Cert.MlaLatRefIdeal.τ).loc Cert.MlaLatRefIdeal.main_arg0)
          ∧ r.2.mem ((c.tc : Thread Cert.MlaLatRefIdeal.nD Cert.MlaLatRefIdeal.τ).loc Cert.MlaLatRefIdeal.main_arg1) = m' ((c.tc : Thread Cert.MlaLatRefIdeal.nD Cert.MlaLatRefIdeal.τ).loc Cert.MlaLatRefIdeal.main_arg1)
          ∧ r.2.mem ((c.tc : Thread Cert.MlaLatRefIdeal.nD Cert.MlaLatRefIdeal.τ).loc Cert.MlaLatRefIdeal.main_arg2) = m' ((c.tc : Thread Cert.MlaLatRefIdeal.nD Cert.MlaLatRefIdeal.τ).loc Cert.MlaLatRefIdeal.main_arg2)
          ∧ r.2.mem ((c.tc : Thread Cert.MlaLatRefIdeal.nD Cert.MlaLatRefIdeal.τ).loc Cert.MlaLatRefIdeal.main_arg3) = m' ((c.tc : Thread Cert.MlaLatRefIdeal.nD Cert.MlaLatRefIdeal.τ).loc Cert.MlaLatRefIdeal.main_arg3)
          ∧ r.2.mem ((c.tc : Thread Cert.MlaLatRefIdeal.nD Cert.MlaLatRefIdeal.τ).loc Cert.MlaLatRefIdeal.main_arg4) = m' ((c.tc : Thread Cert.MlaLatRefIdeal.nD Cert.MlaLatRefIdeal.τ).loc Cert.MlaLatRefIdeal.main_arg4)
          ∧ r.2.mem ((c.tc : Thread Cert.MlaLatRefIdeal.nD Cert.MlaLatRefIdeal.τ).loc Cert.MlaLatRefIdeal.main_arg5) = m' ((c.tc : Thread Cert.MlaLatRefIdeal.nD Cert.MlaLatRefIdeal.τ).loc Cert.MlaLatRefIdeal.main_arg5)
          ∧ r.2.mem ((c.tc : Thread Cert.MlaLatRefIdeal.nD Cert.MlaLatRefIdeal.τ).loc Cert.MlaLatRefIdeal.main_arg6) = m' ((c.tc : Thread Cert.MlaLatRefIdeal.nD Cert.MlaLatRefIdeal.τ).loc Cert.MlaLatRefIdeal.main_arg6)
          ∧ r.2.mem ((c.tc : Thread Cert.MlaLatRefIdeal.nD Cert.MlaLatRefIdeal.τ).loc Cert.MlaLatRefIdeal.main_arg7) = m' ((c.tc : Thread Cert.MlaLatRefIdeal.nD Cert.MlaLatRefIdeal.τ).loc Cert.MlaLatRefIdeal.main_arg7)
          ∧ r.2.mem ((c.tc : Thread Cert.MlaLatRefIdeal.nD Cert.MlaLatRefIdeal.τ).loc Cert.MlaLatRefIdeal.main_arg8) = m' ((c.tc : Thread Cert.MlaLatRefIdeal.nD Cert.MlaLatRefIdeal.τ).loc Cert.MlaLatRefIdeal.main_arg8))

def Claim : Prop :=
  ∃ (hAttnLat : Cert.AttnLat.Facts) (hAttnLatIdeal : Cert.AttnLatIdeal.Facts) (hAttnLatRefIdeal : Cert.AttnLatRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hAttnCtx : Cert.AttnCtx.Facts) (hAttnCtxIdeal : Cert.AttnCtxIdeal.Facts) (hAttnCtxRefIdeal : Cert.AttnCtxRefIdeal.Facts) (hMlaCtx : Cert.MlaCtx.Facts) (hMlaCtxIdeal : Cert.MlaCtxIdeal.Facts) (hMlaCtxRefIdeal : Cert.MlaCtxRefIdeal.Facts) (hMlaCache : Cert.MlaCache.Facts) (hMlaCacheIdeal : Cert.MlaCacheIdeal.Facts) (hMlaCacheRefIdeal : Cert.MlaCacheRefIdeal.Facts) (hMlaLat : Cert.MlaLat.Facts) (hMlaLatIdeal : Cert.MlaLatIdeal.Facts) (hMlaLatRefIdeal : Cert.MlaLatRefIdeal.Facts) (hPre_scores_finite : Cert.Pre_scores_finite.Facts) (hPre_ctx_scores_finite : Cert.Pre_ctx_scores_finite.Facts) (hPre_fill_zero : Cert.Pre_fill_zero.Facts) (hPre_fill_zero_lat : Cert.Pre_fill_zero_lat.Facts),
    quiescent_AttnLat (hAttnLat := hAttnLat)
    ∧ quiescent_AttnLatIdeal (hAttnLatIdeal := hAttnLatIdeal)
    ∧ quiescent_AttnLatIdeal_pre_scores_finite (hAttnLatIdeal := hAttnLatIdeal) (hPre_scores_finite := hPre_scores_finite)
    ∧ quiescent_AttnLatRefIdeal (hAttnLatRefIdeal := hAttnLatRefIdeal)
    ∧ quiescent_AttnLatRefIdeal_pre_scores_finite (hAttnLatRefIdeal := hAttnLatRefIdeal) (hPre_scores_finite := hPre_scores_finite)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_AttnCtx (hAttnCtx := hAttnCtx)
    ∧ quiescent_AttnCtxIdeal (hAttnCtxIdeal := hAttnCtxIdeal)
    ∧ quiescent_AttnCtxIdeal_pre_ctx_scores_finite (hAttnCtxIdeal := hAttnCtxIdeal) (hPre_ctx_scores_finite := hPre_ctx_scores_finite)
    ∧ quiescent_AttnCtxRefIdeal (hAttnCtxRefIdeal := hAttnCtxRefIdeal)
    ∧ quiescent_AttnCtxRefIdeal_pre_ctx_scores_finite (hAttnCtxRefIdeal := hAttnCtxRefIdeal) (hPre_ctx_scores_finite := hPre_ctx_scores_finite)
    ∧ quiescent_MlaCtx (hMlaCtx := hMlaCtx)
    ∧ quiescent_MlaCtxIdeal (hMlaCtxIdeal := hMlaCtxIdeal)
    ∧ quiescent_MlaCtxIdeal_pre_fill_zero (hMlaCtxIdeal := hMlaCtxIdeal) (hPre_fill_zero := hPre_fill_zero)
    ∧ quiescent_MlaCtxRefIdeal (hMlaCtxRefIdeal := hMlaCtxRefIdeal)
    ∧ quiescent_MlaCtxRefIdeal_pre_fill_zero (hMlaCtxRefIdeal := hMlaCtxRefIdeal) (hPre_fill_zero := hPre_fill_zero)
    ∧ quiescent_MlaCache (hMlaCache := hMlaCache)
    ∧ quiescent_MlaCacheIdeal (hMlaCacheIdeal := hMlaCacheIdeal)
    ∧ quiescent_MlaCacheRefIdeal (hMlaCacheRefIdeal := hMlaCacheRefIdeal)
    ∧ quiescent_MlaLat (hMlaLat := hMlaLat)
    ∧ quiescent_MlaLatIdeal (hMlaLatIdeal := hMlaLatIdeal)
    ∧ quiescent_MlaLatIdeal_pre_fill_zero_lat (hMlaLatIdeal := hMlaLatIdeal) (hPre_fill_zero_lat := hPre_fill_zero_lat)
    ∧ quiescent_MlaLatRefIdeal (hMlaLatRefIdeal := hMlaLatRefIdeal)
    ∧ quiescent_MlaLatRefIdeal_pre_fill_zero_lat (hMlaLatRefIdeal := hMlaLatRefIdeal) (hPre_fill_zero_lat := hPre_fill_zero_lat)
    ∧ preserves_AttnLat_AttnLatIdeal
    ∧ algebraic_AttnLatIdeal_AttnLatRefIdeal_pre_scores_finite (hAttnLatIdeal := hAttnLatIdeal) (hAttnLatRefIdeal := hAttnLatRefIdeal) (hPre_scores_finite := hPre_scores_finite)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_AttnCtx_AttnCtxIdeal
    ∧ algebraic_AttnCtxIdeal_AttnCtxRefIdeal_pre_ctx_scores_finite (hAttnCtxIdeal := hAttnCtxIdeal) (hAttnCtxRefIdeal := hAttnCtxRefIdeal) (hPre_ctx_scores_finite := hPre_ctx_scores_finite)
    ∧ preserves_MlaCtx_MlaCtxIdeal
    ∧ algebraic_MlaCtxIdeal_MlaCtxRefIdeal_pre_fill_zero (hMlaCtxIdeal := hMlaCtxIdeal) (hMlaCtxRefIdeal := hMlaCtxRefIdeal) (hPre_fill_zero := hPre_fill_zero)
    ∧ preserves_MlaCache_MlaCacheIdeal
    ∧ algebraic_MlaCacheIdeal_MlaCacheRefIdeal (hMlaCacheIdeal := hMlaCacheIdeal) (hMlaCacheRefIdeal := hMlaCacheRefIdeal)
    ∧ preserves_MlaLat_MlaLatIdeal
    ∧ algebraic_MlaLatIdeal_MlaLatRefIdeal_pre_fill_zero_lat (hMlaLatIdeal := hMlaLatIdeal) (hMlaLatRefIdeal := hMlaLatRefIdeal) (hPre_fill_zero_lat := hPre_fill_zero_lat)
-- ==== Pre_ctx_scores_finite.lean ====
abbrev S8192x1024 : Shape := ⟨2, ![8192, 1024]⟩
abbrev S8192x512 : Shape := ⟨2, ![8192, 512]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .bf16) (main_arg1 : FVec F S8192x1024 .bf16) (main_arg2 : FVec F S8192x512 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  main_v10
-- ==== Pre_fill_zero.lean ====
abbrev S12288x768 : Shape := ⟨2, ![12288, 768]⟩
abbrev S384 : Shape := ⟨1, ![384]⟩
abbrev S384x768 : Shape := ⟨2, ![384, 768]⟩
abbrev S128 : Shape := ⟨1, ![128]⟩
abbrev S64 : Shape := ⟨1, ![64]⟩
abbrev S256 : Shape := ⟨1, ![256]⟩
abbrev S256x1024 : Shape := ⟨2, ![256, 1024]⟩
abbrev S8192x64 : Shape := ⟨2, ![8192, 64]⟩
abbrev S_ : Shape := ⟨0, ![]⟩

class Facts : Prop where
  slices_S12288x768_S8192x64_0_704 : S12288x768.Slices ![0, 704] S8192x64
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S12288x768 .f32) (main_arg1 : FVec F S384 .f32) (main_arg2 : FVec F S384x768 .f32) (main_arg3 : FVec F S128 .f32) (main_arg4 : FVec F S64 .f32) (main_arg5 : FVec F S256 .f32) (main_arg6 : FVec F S256x1024 .f32) (main_arg7 : FVec F S128 .f32) (main_arg8 : FVec F S64 .f32) : IVec S_ 1 :=
  let main_v0 : FVec F S8192x64 .f32 := (extractStridedSlice S8192x64 ![0, 704] · slices_S12288x768_S8192x64_0_704) main_arg0
  let main_cst : FVec F S_ .f32 := constant S_ .f32 0x00000000#32
  let main_v1 : FVec F S8192x64 .f32 := broadcastInDim S8192x64 ![] bcast_S_S8192x64 main_cst
  let main_v2 : IVec S8192x64 1 := cmpf .oeq main_v0 main_v1
  let main_c : IVec S_ 1 := constantI S_ 1 1#1
  let main_v3 : IVec S_ 1 := (fun x v => Host.reduce IntOp.andi x v reducesTo_S8192x64_S_d0_1 h_S_) main_v2 main_c
  main_v3
-- ==== Pre_fill_zero_lat.lean ====
abbrev S12288x768 : Shape := ⟨2, ![12288, 768]⟩
abbrev S384 : Shape := ⟨1, ![384]⟩
abbrev S384x768 : Shape := ⟨2, ![384, 768]⟩
abbrev S128 : Shape := ⟨1, ![128]⟩
abbrev S64 : Shape := ⟨1, ![64]⟩
abbrev S256 : Shape := ⟨1, ![256]⟩
abbrev S256x1024 : Shape := ⟨2, ![256, 1024]⟩
abbrev S4096x64 : Shape := ⟨2, ![4096, 64]⟩
abbrev S_ : Shape := ⟨0, ![]⟩

class Facts : Prop where
  slices_S12288x768_S4096x64_8192_704 : S12288x768.Slices ![8192, 704] S4096x64
  bcast_S_S4096x64 : S_.BroadcastsInDim S4096x64 (![] : Fin 0 → Fin S4096x64.rank)
  reducesTo_S4096x64_S_d0_1 : S4096x64.ReducesTo [0, 1] S_
  h_S_ : 0 < S_.numel

variable [Facts]

def fn {F : FTy → Type} [FloatOps F] (main_arg0 : FVec F S12288x768 .f32) (main_arg1 : FVec F S384 .f32) (main_arg2 : FVec F S384x768 .f32) (main_arg3 : FVec F S128 .f32) (main_arg4 : FVec F S64 .f32) (main_arg5 : FVec F S256 .f32) (main_arg6 : FVec F S256x1024 .f32) (main_arg7 : FVec F S128 .f32) (main_arg8 : FVec F S64 .f32) : IVec S_ 1 :=
  let main_v0 : FVec F S4096x64 .f32 := (extractStridedSlice S4096x64 ![8192, 704] · slices_S12288x768_S4096x64_8192_704) main_arg0
  let main_cst : FVec F S_ .f32 := constant S_ .f32 0x00000000#32
  let main_v1 : FVec F S4096x64 .f32 := broadcastInDim S4096x64 ![] bcast_S_S4096x64 main_cst
  let main_v2 : IVec S4096x64 1 := cmpf .oeq main_v0 main_v1
  let main_c : IVec S_ 1 := constantI S_ 1 1#1
  let main_v3 : IVec S_ 1 := (fun x v => Host.reduce IntOp.andi x v reducesTo_S4096x64_S_d0_1 h_S_) main_v2 main_c
  main_v3
-- ==== Pre_scores_finite.lean ====
abbrev S4096x1024 : Shape := ⟨2, ![4096, 1024]⟩
abbrev S4096x512 : Shape := ⟨2, ![4096, 512]⟩
abbrev S512x1024 : Shape := ⟨2, ![512, 1024]⟩
abbrev S512x512 : Shape := ⟨2, ![512, 512]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S4096x1024 .bf16) (main_arg1 : FVec F S4096x1024 .bf16) (main_arg2 : FVec F S4096x512 .bf16) (main_arg3 : FVec F S512x1024 .bf16) (main_arg4 : FVec F S512x512 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S512x1024 .f32 := (extf .f32 · bitsLt_bf16_f32) main_arg3
  let main_v12 : FVec F S512x1024 .f32 := Host.absf main_v11
  let main_cst_2 : FVec F S_ .f32 := constant S_ .f32 0x7F800000#32
  let main_v13 : FVec F S512x1024 .f32 := broadcastInDim S512x1024 ![] bcast_S_S512x1024 main_cst_2
  let main_v14 : IVec S512x1024 1 := cmpf .olt main_v12 main_v13
  let main_c_3 : IVec S_ 1 := constantI S_ 1 1#1
  let main_v15 : IVec S_ 1 := (fun x v => Host.reduce IntOp.andi x v reducesTo_S512x1024_S_d0_1 h_S_) main_v14 main_c_3
  let main_v16 : IVec S_ 1 := andi main_v10 main_v15
  main_v16
-- ==== AttnLat.lean ====
abbrev S4096x1024 : Shape := ⟨2, ![4096, 1024]⟩
abbrev S4096x512 : Shape := ⟨2, ![4096, 512]⟩
abbrev S512x1024 : Shape := ⟨2, ![512, 1024]⟩
abbrev S512x512 : Shape := ⟨2, ![512, 512]⟩
abbrev S256x1024 : Shape := ⟨2, ![256, 1024]⟩
abbrev S2048x1024 : Shape := ⟨2, ![2048, 1024]⟩
abbrev S2048x512 : Shape := ⟨2, ![2048, 512]⟩
abbrev S256x512 : Shape := ⟨2, ![256, 512]⟩
abbrev S256x256 : Shape := ⟨2, ![256, 256]⟩
abbrev S2048x256 : Shape := ⟨2, ![2048, 256]⟩
abbrev S256x2048 : Shape := ⟨2, ![256, 2048]⟩
abbrev S256 : Shape := ⟨1, ![256]⟩
abbrev S256x1 : Shape := ⟨2, ![256, 1]⟩
abbrev S2048x128 : Shape := ⟨2, ![2048, 128]⟩
abbrev S256x128 : Shape := ⟨2, ![256, 128]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S512x1024, .bf16⟩
  | .hbm, ⟨4, _⟩ => ⟨S512x512, .bf16⟩
  | .hbm, ⟨5, _⟩ => ⟨S4096x512, .bf16⟩
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnLatRefIdeal.lean ====
abbrev S4096x1024 : Shape := ⟨2, ![4096, 1024]⟩
abbrev S4096x512 : Shape := ⟨2, ![4096, 512]⟩
abbrev S512x1024 : Shape := ⟨2, ![512, 1024]⟩
abbrev S512x512 : Shape := ⟨2, ![512, 512]⟩
abbrev S2x2048x4x256 : Shape := ⟨4, ![2, 2048, 4, 256]⟩
abbrev S2x256x4x256 : Shape := ⟨4, ![2, 256, 4, 256]⟩
abbrev S2x2304x4x256 : Shape := ⟨4, ![2, 2304, 4, 256]⟩
abbrev S2x2048x4x128 : Shape := ⟨4, ![2, 2048, 4, 128]⟩
abbrev S2x256x4x128 : Shape := ⟨4, ![2, 256, 4, 128]⟩
abbrev S2x2304x4x128 : Shape := ⟨4, ![2, 2304, 4, 128]⟩
abbrev S2x4x2048x2304 : Shape := ⟨4, ![2, 4, 2048, 2304]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S512x1024, .bf16⟩
  | .hbm, ⟨4, _⟩ => ⟨S512x512, .bf16⟩
  | .hbm, ⟨5, _⟩ => ⟨S4096x1024, .f32⟩
  | .hbm, ⟨6, _⟩ => ⟨S2x2048x4x256, .f32⟩
  | .hbm, ⟨7, _⟩ => ⟨S512x1024, .f32⟩
  | .hbm, ⟨8, _⟩ => ⟨S2x256x4x256, .f32⟩
  | .hbm, ⟨9, _⟩ => ⟨S2x2304x4x256, .f32⟩
  | .hbm, ⟨10, _⟩ => ⟨S4096x512, .f32⟩
  | .hbm, ⟨11, _⟩ => ⟨S2x2048x4x128, .f32⟩
  | .hbm, ⟨12, _⟩ => ⟨S512x512, .f32⟩
  | .hbm, ⟨13, _⟩ => ⟨S2x256x4x128, .f32⟩
  | .hbm, ⟨14, _⟩ => ⟨S2x2304x4x128, .f32⟩
  | .hbm, ⟨15, _⟩ => ⟨S4096x1024, .f32⟩
  | .hbm, ⟨16, _⟩ => ⟨S2x2048x4x256, .f32⟩
  | .hbm, ⟨17, _⟩ => ⟨S2x2048x4x128, .f32⟩
  | .hbm, ⟨18, _⟩ => ⟨S2x2048x4x128, .f32⟩
  | .hbm, ⟨19, _⟩ => ⟨S2x2304x4x128, .f32⟩
  | .hbm, ⟨20, _⟩ => ⟨S2x2304x4x128, .f32⟩
  | .hbm, ⟨21, _⟩ => ⟨S2x4x2048x2304, .f32⟩
  | .hbm, ⟨22, _⟩ => ⟨S2x4x2048x2304, .f32⟩
  | .hbm, ⟨23, _⟩ => ⟨S2x4x2048x2304, .f32⟩
  | .hbm, ⟨24, _⟩ => ⟨S_, .f32⟩
  | .hbm, ⟨25, _⟩ => ⟨S2x4x2048, .f32⟩
  | .hbm, ⟨26, _⟩ => ⟨S_, .f32⟩
  | .hbm, ⟨27, _⟩ => ⟨S2x4x2048, .f32⟩
  | .hbm, ⟨28, _⟩ => ⟨S2x4x2048, .f32⟩
  | .hbm, ⟨29, _⟩ => ⟨S2x4x2048x1, .f32⟩
  | .hbm, ⟨30, _⟩ => ⟨S2x4x2048x2304, .f32⟩
  | .hbm, ⟨31, _⟩ => ⟨S2x4x2048x2304, .f32⟩
  | .hbm, ⟨32, _⟩ => ⟨S2x4x2048x2304, .f32⟩
  | .hbm, ⟨33, _⟩ => ⟨S_, .f32⟩
  | .hbm, ⟨34, _⟩ => ⟨S2x4x2048, .f32⟩
  | .hbm, ⟨35, _⟩ => ⟨S2x4x2048x1, .f32⟩
  | .hbm, ⟨36, _⟩ => ⟨S2x4x2048x2304, .f32⟩
  | .hbm, ⟨37, _⟩ => ⟨S2x4x2048x2304, .f32⟩
  | .hbm, ⟨38, _⟩ => ⟨S2x4x128x2048, .f32⟩
  | .hbm, ⟨39, _⟩ => ⟨S2x2048x4x128, .f32⟩
  | .hbm, ⟨40, _⟩ => ⟨S4096x512, .f32⟩
  | .hbm, ⟨41, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Ffn.lean ====
abbrev S12288x1024 : Shape := ⟨2, ![12288, 1024]⟩
abbrev S4x8x6x1024 : Shape := ⟨4, ![4, 8, 6, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1x1x6x1024 : Shape := ⟨4, ![1, 1, 6, 1024]⟩
abbrev S1024x1408 : Shape := ⟨2, ![1024, 1408]⟩
abbrev S1408x1024 : Shape := ⟨2, ![1408, 1024]⟩
abbrev S6x1024 : Shape := ⟨2, ![6, 1024]⟩
abbrev S512 : Shape := ⟨1, ![512]⟩
abbrev S512x1 : Shape := ⟨2, ![512, 1]⟩
abbrev S512x1408 : Shape := ⟨2, ![512, 1408]⟩

abbrev nBuf : Space → Nat
  | .hbm => 11
  | .vmem => 15
  | .smem => 0
  | _ => 0

abbrev bufTy : (tb : Table) → Fin (tcTables nBuf tb) → BufTy
  | .hbm, ⟨0, _⟩ => ⟨S12288x1024, .f32⟩
  | .hbm, ⟨1, _⟩ => ⟨S4x8x6x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S12288x1024, .f32⟩
  | .local _ .vmem, ⟨0, _⟩ => ⟨S512x1024, .f32⟩
  | .local _ .vmem, ⟨1, _⟩ => ⟨S512x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1408x1024, .bf16⟩
  | .local _ .vmem, ⟨10, _⟩ => ⟨S1408x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![24, 2], ![false, false]⟩

def k0_cond2 (i : grid0.Coords) : BitVec 1 :=
  let arg1 : BitVec 32 := BitVec.ofNat 32 (i 1).val
  let c1_i32 : BitVec 32 := 1#32
  let v30 : BitVec 1 := Scalar.cmpi .eq arg1 c1_i32
  let v31 : BitVec 32 := Scalar.extui v30
  let c0_i32_21 : BitVec 32 := 0#32
  let v32 : BitVec 1 := Scalar.cmpi .ne v31 c0_i32_21
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c32_i32 : BitVec 32 := 32#32
  let v1 : BitVec 1 := Scalar.cmpi .slt v0 c32_i32
  let c32_i32_0 : BitVec 32 := 32#32
  let v2 : BitVec 32 := Scalar.subi v0 c32_i32_0
  let c8_i32 : BitVec 32 := 8#32
  let v3 : BitVec 32 := Scalar.divsi v2 c8_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c3_i32 : BitVec 32 := 3#32
  let c0_i32_7 : BitVec 32 := 0#32
  let c0_i32_8 : BitVec 32 := 0#32
  let c0_i32_9 : BitVec 32 := 0#32
  ![c3_i32.toNat, v21.toNat, c0_i32_7.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S12288x1024 : Shape := ⟨2, ![12288, 1024]⟩
abbrev S4x8x6x1024 : Shape := ⟨4, ![4, 8, 6, 1024]⟩
abbrev S1024 : Shape := ⟨1, ![1024]⟩
abbrev S1024x2816 : Shape := ⟨2, ![1024, 2816]⟩
abbrev S2816x1024 : Shape := ⟨2, ![2816, 1024]⟩
abbrev S8192x1024 : Shape := ⟨2, ![8192, 1024]⟩
abbrev S32x256x1024 : Shape := ⟨3, ![32, 256, 1024]⟩
abbrev S4096x1024 : Shape := ⟨2, ![4096, 1024]⟩
abbrev S2x2048x1024 : Shape := ⟨3, ![2, 2048, 1024]⟩
abbrev S1x1x1x1024 : Shape := ⟨4, ![1, 1, 1, 1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x2816 : Shape := ⟨3, ![32, 256, 2816]⟩
abbrev S2x2048 : Shape := ⟨2, ![2, 2048]⟩
abbrev S2x2048x1 : Shape := ⟨3, ![2, 2048, 1]⟩
abbrev S2x2048x2816 : Shape := ⟨3, ![2, 2048, 2816]⟩

abbrev nBuf : Space → Nat
  | .hbm => 109
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S4x8x6x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S32x256x1024, .f32⟩
  | .hbm, ⟨8, _⟩ => ⟨S4096x1024, .f32⟩
  | .hbm, ⟨9, _⟩ => ⟨S2x2048x1024, .f32⟩
  | .hbm, ⟨10, _⟩ => ⟨S1x1x1x1024, .f32⟩
  | .hbm, ⟨11, _⟩ => ⟨S1024, .f32⟩
  | .hbm, ⟨12, _⟩ => ⟨S1x2x1x1024, .f32⟩
  | .hbm, ⟨13, _⟩ => ⟨S2x1024, .f32⟩
  | .hbm, ⟨14, _⟩ => ⟨S2x1x1024, .f32⟩
  | .hbm, ⟨15, _⟩ => ⟨S1x1x1x1024, .f32⟩
  | .hbm, ⟨16, _⟩ => ⟨S1024, .f32⟩
  | .hbm, ⟨17, _⟩ => ⟨S1x2x1x1024, .f32⟩
  | .hbm, ⟨18, _⟩ => ⟨S2x1024, .f32⟩
  | .hbm, ⟨19, _⟩ => ⟨S2x1x1024, .f32⟩
  | .hbm, ⟨20, _⟩ => ⟨S1x1x1x1024, .f32⟩
  | .hbm, ⟨21, _⟩ => ⟨S1024, .f32⟩
  | .hbm, ⟨22, _⟩ => ⟨S1x2x1x1024, .f32⟩
  | .hbm, ⟨23, _⟩ => ⟨S2x1024, .f32⟩
  | .hbm, ⟨24, _⟩ => ⟨S2x1x1024, .f32⟩
  | .hbm, ⟨25, _⟩ => ⟨S32x256x1024, .f32⟩
  | .hbm, ⟨26, _⟩ => ⟨S_, .f32⟩
  | .hbm, ⟨27, _⟩ => ⟨S32x256, .f32⟩
  | .hbm, ⟨28, _⟩ => ⟨S32x256x1, .f32⟩
  | .hbm, ⟨29, _⟩ => ⟨S_, .f32⟩
  | .hbm, ⟨30, _⟩ => ⟨S32x256x1, .f32⟩
  | .hbm, ⟨31, _⟩ => ⟨S32x256x1, .f32⟩
  | .hbm, ⟨32, _⟩ => ⟨S_, .f32⟩
  | .hbm, ⟨33, _⟩ => ⟨S32x256x1, .f32⟩
  | .hbm, ⟨34, _⟩ => ⟨S32x256x1, .f32⟩
  | .hbm, ⟨35, _⟩ => ⟨S32x256x1, .f32⟩
  | .hbm, ⟨36, _⟩ => ⟨S32x256x1024, .f32⟩
  | .hbm, ⟨37, _⟩ => ⟨S32x256x1024, .f32⟩
  | .hbm, ⟨38, _⟩ => ⟨S1x1x1024, .f32⟩
  | .hbm, ⟨39, _⟩ => ⟨S32x256x1024, .f32⟩
  | .hbm, ⟨40, _⟩ => ⟨S32x256x1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1x1x1024, .f32⟩
  | .hbm, ⟨45, _⟩ => ⟨S32x256x1024, .f32⟩
  | .hbm, ⟨46, _⟩ => ⟨S32x256x1024, .f32⟩
  | .hbm, ⟨47, _⟩ => ⟨S1x1x1024, .f32⟩
  | .hbm, ⟨48, _⟩ => ⟨S32x256x1024, .f32⟩
  | .hbm, ⟨49, _⟩ => ⟨S32x256x1024, .f32⟩
  | .hbm, ⟨50, _⟩ => ⟨S32x256x2816, .f32⟩
  | .hbm, ⟨51, _⟩ => ⟨S32x256x2816, .f32⟩
  | .hbm, ⟨52, _⟩ => ⟨S32x256x2816, .f32⟩
  | .hbm, ⟨53, _⟩ => ⟨S_, .f32⟩
  | .hbm, ⟨54, _⟩ => ⟨S32x256x2816, .f32⟩
  | .hbm, ⟨55, _⟩ => ⟨S32x256x2816, .f32⟩
  | .hbm, ⟨56, _⟩ => ⟨S_, .f32⟩
  | .hbm, ⟨57, _⟩ => ⟨S32x256x2816, .f32⟩
  | .hbm, ⟨58, _⟩ => ⟨S32x256x2816, .f32⟩
  | .hbm, ⟨59, _⟩ => ⟨S32x256x2816, .f32⟩
  | .hbm, ⟨60, _⟩ => ⟨S32x256x2816, .f32⟩
  | .hbm, ⟨61, _⟩ => ⟨S32x256x2816, .f32⟩
  | .hbm, ⟨62, _⟩ => ⟨S32x256x1024, .f32⟩
  | .hbm, ⟨63, _⟩ => ⟨S1x1x1024, .f32⟩
  | .hbm, ⟨64, _⟩ => ⟨S32x256x1024, .f32⟩
  | .hbm, ⟨65, _⟩ => ⟨S32x256x1024, .f32⟩
  | .hbm, ⟨66, _⟩ => ⟨S32x256x1024, .f32⟩
  | .hbm, ⟨67, _⟩ => ⟨S2x2048x1024, .f32⟩
  | .hbm, ⟨68, _⟩ => ⟨S_, .f32⟩
  | .hbm, ⟨69, _⟩ => ⟨S2x2048, .f32⟩
  | .hbm, ⟨70, _⟩ => ⟨S2x2048x1, .f32⟩
  | .hbm, ⟨71, _⟩ => ⟨S_, .f32⟩
  | .hbm, ⟨72, _⟩ => ⟨S2x2048x1, .f32⟩
  | .hbm, ⟨73, _⟩ => ⟨S2x2048x1, .f32⟩
  | .hbm, ⟨74, _⟩ => ⟨S_, .f32⟩
  | .hbm, ⟨75, _⟩ => ⟨S2x2048x1, .f32⟩
  | .hbm, ⟨76, _⟩ => ⟨S2x2048x1, .f32⟩
  | .hbm, ⟨77, _⟩ => ⟨S2x2048x1, .f32⟩
  | .hbm, ⟨78, _⟩ => ⟨S2x2048x1024, .f32⟩
  | .hbm, ⟨79, _⟩ => ⟨S2x2048x1024, .f32⟩
  | .hbm, ⟨80, _⟩ => ⟨S1x1x1024, .f32⟩
  | .hbm, ⟨81, _⟩ => ⟨S2x2048x1024, .f32⟩
  | .hbm, ⟨82, _⟩ => ⟨S2x2048x1024, .f32⟩
  | .hbm, ⟨83, _⟩ => ⟨S_, .f32⟩
  | .hbm, ⟨84, _⟩ => ⟨S2x1x1024, .f32⟩
  | .hbm, ⟨85, _⟩ => ⟨S2x1x1024, .f32⟩
  | .hbm, ⟨86, _⟩ => ⟨S2x2048x1024, .f32⟩
  | .hbm, ⟨87, _⟩ => ⟨S2x2048x1024, .f32⟩
  | .hbm, ⟨88, _⟩ => ⟨S2x2048x1024, .f32⟩
  | .hbm, ⟨89, _⟩ => ⟨S2x2048x1024, .f32⟩
  | .hbm, ⟨90, _⟩ => ⟨S2x2048x2816, .f32⟩
  | .hbm, ⟨91, _⟩ => ⟨S2x2048x2816, .f32⟩
  | .hbm, ⟨92, _⟩ => ⟨S2x2048x2816, .f32⟩
  | .hbm, ⟨93, _⟩ => ⟨S_, .f32⟩
  | .hbm, ⟨94, _⟩ => ⟨S2x2048x2816, .f32⟩
  | .hbm, ⟨95, _⟩ => ⟨S2x2048x2816, .f32⟩
  | .hbm, ⟨96, _⟩ => ⟨S_, .f32⟩
  | .hbm, ⟨97, _⟩ => ⟨S2x2048x2816, .f32⟩
  | .hbm, ⟨98, _⟩ => ⟨S2x2048x2816, .f32⟩
  | .hbm, ⟨99, _⟩ => ⟨S2x2048x2816, .f32⟩
  | .hbm, ⟨100, _⟩ => ⟨S2x2048x2816, .f32⟩
  | .hbm, ⟨101, _⟩ => ⟨S2x2048x2816, .f32⟩
  | .hbm, ⟨102, _⟩ => ⟨S2x2048x1024, .f32⟩
  | .hbm, ⟨103, _⟩ => ⟨S2x2048x1024, .f32⟩
  | .hbm, ⟨104, _⟩ => ⟨S2x2048x1024, .f32⟩
  | .hbm, ⟨105, _⟩ => ⟨S2x2048x1024, .f32⟩
  | .hbm, ⟨106, _⟩ => ⟨S8192x1024, .f32⟩
  | .hbm, ⟨107, _⟩ => ⟨S4096x1024, .f32⟩
  | .hbm, ⟨108, _⟩ => ⟨S12288x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_3 : Ref sig .tc := ⟨.hbm, 68, rfl⟩
abbrev main_v50 : Ref sig .tc := ⟨.hbm, 69, rfl⟩
abbrev main_v51 : Ref sig .tc := ⟨.hbm, 70, rfl⟩
abbrev main_cst_4 : Ref sig .tc := ⟨.hbm, 71, rfl⟩
abbrev main_v52 : Ref sig .tc := ⟨.hbm, 72, rfl⟩
abbrev main_v53 : Ref sig .tc := ⟨.hbm, 73, rfl⟩
abbrev main_cst_5 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_6 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_call1_v0 : Ref sig .tc := ⟨.hbm, 91, rfl⟩
abbrev main_call1_v1 : Ref sig .tc := ⟨.hbm, 92, rfl⟩
abbrev main_call1_cst : Ref sig .tc := ⟨.hbm, 93, rfl⟩
abbrev main_call1_v2 : Ref sig .tc := ⟨.hbm, 94, rfl⟩
abbrev main_call1_v3 : Ref sig .tc := ⟨.hbm, 95, rfl⟩
abbrev main_call1_cst_0 : Ref sig .tc := ⟨.hbm, 96, rfl⟩
abbrev main_call1_v4 : Ref sig .tc := ⟨.hbm, 97, rfl⟩
abbrev main_call1_v5 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]
-- ==== InProj.lean ====
abbrev S12288x1024 : Shape := ⟨2, ![12288, 1024]⟩
abbrev S4x8x6x1024 : Shape := ⟨4, ![4, 8, 6, 1024]⟩
abbrev S1024 : Shape := ⟨1, ![1024]⟩
abbrev S1024x2496 : Shape := ⟨2, ![1024, 2496]⟩
abbrev S_ : Shape := ⟨0, ![]⟩
abbrev S1024x2560 : Shape := ⟨2, ![1024, 2560]⟩
abbrev S1x1024 : Shape := ⟨2, ![1, 1024]⟩
abbrev S12288x1792 : Shape := ⟨2, ![12288, 1792]⟩
abbrev S12288x768 : Shape := ⟨2, ![12288, 768]⟩
abbrev S256x1024 : Shape := ⟨2, ![256, 1024]⟩
abbrev S1x1x6x1024 : Shape := ⟨4, ![1, 1, 6, 1024]⟩
abbrev S256x1792 : Shape := ⟨2, ![256, 1792]⟩
abbrev S256x768 : Shape := ⟨2, ![256, 768]⟩
abbrev S6x1024 : Shape := ⟨2, ![6, 1024]⟩
abbrev S256 : Shape := ⟨1, ![256]⟩
abbrev S256x1 : Shape := ⟨2, ![256, 1]⟩
abbrev S256x2560 : Shape := ⟨2, ![256, 2560]⟩

abbrev nBuf : Space → Nat
  | .hbm => 11
  | .vmem => 10
  | .smem => 0
  | _ => 0

abbrev bufTy : (tb : Table) → Fin (tcTables nBuf tb) → BufTy
  | .hbm, ⟨0, _⟩ => ⟨S12288x1024, .f32⟩
  | .hbm, ⟨1, _⟩ => ⟨S4x8x6x1024, .f32⟩
  | .hbm, ⟨2, _⟩ => ⟨S1024, .f32⟩
  | .hbm, ⟨3, _⟩ => ⟨S1024x2496, .f32⟩
  | .hbm, ⟨4, _⟩ => ⟨S_, .i32⟩
  | .hbm, ⟨5, _⟩ => ⟨S_, .f32⟩
  | .hbm, ⟨6, _⟩ => ⟨S1024x2560, .f32⟩
  | .hbm, ⟨7, _⟩ => ⟨S1024x2560, .bf16⟩
  | .hbm, ⟨8, _⟩ => ⟨S1x1024, .f32⟩
  | .hbm, ⟨9, _⟩ => ⟨S12288x1792, .f32⟩
  | .hbm, ⟨10, _⟩ => ⟨S12288x768, .f32⟩
  | .local _ .vmem, ⟨0, _⟩ => ⟨S256x1024, .f32⟩
  | .local _ .vmem, ⟨1, _⟩ => ⟨S256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x2560, .bf16⟩
  | .local _ .vmem, ⟨6, _⟩ => ⟨S256x1792, .f32⟩
  | .local _ .vmem, ⟨7, _⟩ => ⟨S256x1792, .f32⟩
  | .local _ .vmem, ⟨8, _⟩ => ⟨S256x768, .f32⟩
  | .local _ .vmem, ⟨9, _⟩ => ⟨S256x768, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c2_i32 : BitVec 32 := 2#32
  let c0_i32_7 : BitVec 32 := 0#32
  let c0_i32_8 : BitVec 32 := 0#32
  let c0_i32_9 : BitVec 32 := 0#32
  ![c2_i32.toNat, v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InProjRefIdeal.lean ====
abbrev S12288x1024 : Shape := ⟨2, ![12288, 1024]⟩
abbrev S4x8x6x1024 : Shape := ⟨4, ![4, 8, 6, 1024]⟩
abbrev S1024 : Shape := ⟨1, ![1024]⟩
abbrev S1024x2496 : Shape := ⟨2, ![1024, 2496]⟩
abbrev S8192x1024 : Shape := ⟨2, ![8192, 1024]⟩
abbrev S32x256x1024 : Shape := ⟨3, ![32, 256, 1024]⟩
abbrev S4096x1024 : Shape := ⟨2, ![4096, 1024]⟩
abbrev S2x2048x1024 : Shape := ⟨3, ![2, 2048, 1024]⟩
abbrev S1x1x1x1024 : Shape := ⟨4, ![1, 1, 1, 1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x2496 : Shape := ⟨3, ![32, 256, 2496]⟩
abbrev S2x2048 : Shape := ⟨2, ![2, 2048]⟩
abbrev S2x2048x1 : Shape := ⟨3, ![2, 2048, 1]⟩
abbrev S2x2048x2496 : Shape := ⟨3, ![2, 2048, 2496]⟩
abbrev S8192x2496 : Shape := ⟨2, ![8192, 2496]⟩
abbrev S4096x2496 : Shape := ⟨2, ![4096, 2496]⟩
abbrev S12288x2496 : Shape := ⟨2, ![12288, 2496]⟩
abbrev S12288x1792 : Shape := ⟨2, ![12288, 1792]⟩
abbrev S12288x704 : Shape := ⟨2, ![12288, 704]⟩
abbrev S12288x768 : Shape := ⟨2, ![12288, 768]⟩

abbrev nBuf : Space → Nat
  | .hbm => 76
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S4x8x6x1024, .f32⟩
  | .hbm, ⟨2, _⟩ => ⟨S1024, .f32⟩
  | .hbm, ⟨3, _⟩ => ⟨S1024x2496, .f32⟩
  | .hbm, ⟨4, _⟩ => ⟨S8192x1024, .f32⟩
  | .hbm, ⟨5, _⟩ => ⟨S32x256x1024, .f32⟩
  | .hbm, ⟨6, _⟩ => ⟨S4096x1024, .f32⟩
  | .hbm, ⟨7, _⟩ => ⟨S2x2048x1024, .f32⟩
  | .hbm, ⟨8, _⟩ => ⟨S1x1x1x1024, .f32⟩
  | .hbm, ⟨9, _⟩ => ⟨S1024, .f32⟩
  | .hbm, ⟨10, _⟩ => ⟨S1x2x1x1024, .f32⟩
  | .hbm, ⟨11, _⟩ => ⟨S2x1024, .f32⟩
  | .hbm, ⟨12, _⟩ => ⟨S2x1x1024, .f32⟩
  | .hbm, ⟨13, _⟩ => ⟨S1x1x1x1024, .f32⟩
  | .hbm, ⟨14, _⟩ => ⟨S1024, .f32⟩
  | .hbm, ⟨15, _⟩ => ⟨S1x2x1x1024, .f32⟩
  | .hbm, ⟨16, _⟩ => ⟨S2x1024, .f32⟩
  | .hbm, ⟨17, _⟩ => ⟨S2x1x1024, .f32⟩
  | .hbm, ⟨18, _⟩ => ⟨S32x256x1024, .f32⟩
  | .hbm, ⟨19, _⟩ => ⟨S_, .f32⟩
  | .hbm, ⟨20, _⟩ => ⟨S32x256, .f32⟩
  | .hbm, ⟨21, _⟩ => ⟨S32x256x1, .f32⟩
  | .hbm, ⟨22, _⟩ => ⟨S_, .f32⟩
  | .hbm, ⟨23, _⟩ => ⟨S32x256x1, .f32⟩
  | .hbm, ⟨24, _⟩ => ⟨S32x256x1, .f32⟩
  | .hbm, ⟨25, _⟩ => ⟨S_, .f32⟩
  | .hbm, ⟨26, _⟩ => ⟨S32x256x1, .f32⟩
  | .hbm, ⟨27, _⟩ => ⟨S32x256x1, .f32⟩
  | .hbm, ⟨28, _⟩ => ⟨S32x256x1, .f32⟩
  | .hbm, ⟨29, _⟩ => ⟨S32x256x1024, .f32⟩
  | .hbm, ⟨30, _⟩ => ⟨S32x256x1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1x1024, .f32⟩
  | .hbm, ⟨38, _⟩ => ⟨S32x256x1024, .f32⟩
  | .hbm, ⟨39, _⟩ => ⟨S32x256x1024, .f32⟩
  | .hbm, ⟨40, _⟩ => ⟨S1x1x1024, .f32⟩
  | .hbm, ⟨41, _⟩ => ⟨S32x256x1024, .f32⟩
  | .hbm, ⟨42, _⟩ => ⟨S32x256x1024, .f32⟩
  | .hbm, ⟨43, _⟩ => ⟨S32x256x2496, .f32⟩
  | .hbm, ⟨44, _⟩ => ⟨S2x2048x1024, .f32⟩
  | .hbm, ⟨45, _⟩ => ⟨S_, .f32⟩
  | .hbm, ⟨46, _⟩ => ⟨S2x2048, .f32⟩
  | .hbm, ⟨47, _⟩ => ⟨S2x2048x1, .f32⟩
  | .hbm, ⟨48, _⟩ => ⟨S_, .f32⟩
  | .hbm, ⟨49, _⟩ => ⟨S2x2048x1, .f32⟩
  | .hbm, ⟨50, _⟩ => ⟨S2x2048x1, .f32⟩
  | .hbm, ⟨51, _⟩ => ⟨S_, .f32⟩
  | .hbm, ⟨52, _⟩ => ⟨S2x2048x1, .f32⟩
  | .hbm, ⟨53, _⟩ => ⟨S2x2048x1, .f32⟩
  | .hbm, ⟨54, _⟩ => ⟨S2x2048x1, .f32⟩
  | .hbm, ⟨55, _⟩ => ⟨S2x2048x1024, .f32⟩
  | .hbm, ⟨56, _⟩ => ⟨S2x2048x1024, .f32⟩
  | .hbm, ⟨57, _⟩ => ⟨S1x1x1024, .f32⟩
  | .hbm, ⟨58, _⟩ => ⟨S2x2048x1024, .f32⟩
  | .hbm, ⟨59, _⟩ => ⟨S2x2048x1024, .f32⟩
  | .hbm, ⟨60, _⟩ => ⟨S_, .f32⟩
  | .hbm, ⟨61, _⟩ => ⟨S2x1x1024, .f32⟩
  | .hbm, ⟨62, _⟩ => ⟨S2x1x1024, .f32⟩
  | .hbm, ⟨63, _⟩ => ⟨S2x2048x1024, .f32⟩
  | .hbm, ⟨64, _⟩ => ⟨S2x2048x1024, .f32⟩
  | .hbm, ⟨65, _⟩ => ⟨S2x2048x1024, .f32⟩
  | .hbm, ⟨66, _⟩ => ⟨S2x2048x1024, .f32⟩
  | .hbm, ⟨67, _⟩ => ⟨S2x2048x2496, .f32⟩
  | .hbm, ⟨68, _⟩ => ⟨S8192x2496, .f32⟩
  | .hbm, ⟨69, _⟩ => ⟨S4096x2496, .f32⟩
  | .hbm, ⟨70, _⟩ => ⟨S12288x2496, .f32⟩
  | .hbm, ⟨71, _⟩ => ⟨S12288x1792, .f32⟩
  | .hbm, ⟨72, _⟩ => ⟨S12288x704, .f32⟩
  | .hbm, ⟨73, _⟩ => ⟨S_, .i32⟩
  | .hbm, ⟨74, _⟩ => ⟨S_, .f32⟩
  | .hbm, ⟨75, _⟩ => ⟨S12288x768, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_c : Ref sig .tc := ⟨.hbm, 73, rfl⟩
abbrev main_call0_v0 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== OutProj.lean ====
abbrev S12288x1024 : Shape := ⟨2, ![12288, 1024]⟩
abbrev S8192x512 : Shape := ⟨2, ![8192, 512]⟩
abbrev S4096x512 : Shape := ⟨2, ![4096, 512]⟩
abbrev S4x8x6x1024 : Shape := ⟨4, ![4, 8, 6, 1024]⟩
abbrev S1024x1024 : Shape := ⟨2, ![1024, 1024]⟩
abbrev S12288x512 : Shape := ⟨2, ![12288, 512]⟩
abbrev S256x1024 : Shape := ⟨2, ![256, 1024]⟩
abbrev S256x512 : Shape := ⟨2, ![256, 512]⟩
abbrev S1x1x6x1024 : Shape := ⟨4, ![1, 1, 6, 1024]⟩
abbrev S6x1024 : Shape := ⟨2, ![6, 1024]⟩
abbrev S512x1024 : Shape := ⟨2, ![512, 1024]⟩
abbrev S1x1024 : Shape := ⟨2, ![1, 1024]⟩

abbrev nBuf : Space → Nat
  | .hbm => 11
  | .vmem => 11
  | .smem => 0
  | _ => 0

abbrev bufTy : (tb : Table) → Fin (tcTables nBuf tb) → BufTy
  | .hbm, ⟨0, _⟩ => ⟨S12288x1024, .f32⟩
  | .hbm, ⟨1, _⟩ => ⟨S8192x512, .bf16⟩
  | .hbm, ⟨2, _⟩ => ⟨S4096x512, .bf16⟩
  | .hbm, ⟨3, _⟩ => ⟨S8192x512, .bf16⟩
  | .hbm, ⟨4, _⟩ => ⟨S4096x512, .bf16⟩
  | .hbm, ⟨5, _⟩ => ⟨S4x8x6x1024, .f32⟩
  | .hbm, ⟨6, _⟩ => ⟨S1024x1024, .f32⟩
  | .hbm, ⟨7, _⟩ => ⟨S12288x512, .bf16⟩
  | .hbm, ⟨8, _⟩ => ⟨S12288x512, .bf16⟩
  | .hbm, ⟨9, _⟩ => ⟨S1024x1024, .bf16⟩
  | .hbm, ⟨10, _⟩ => ⟨S12288x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x1024, .bf16⟩
  | .local _ .vmem, ⟨7, _⟩ => ⟨S1x1x6x1024, .f32⟩
  | .local _ .vmem, ⟨8, _⟩ => ⟨S1x1x6x1024, .f32⟩
  | .local _ .vmem, ⟨9, _⟩ => ⟨S256x1024, .f32⟩
  | .local _ .vmem, ⟨10, _⟩ => ⟨S256x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c2_i32 : BitVec 32 := 2#32
  let c0_i32_7 : BitVec 32 := 0#32
  let c0_i32_8 : BitVec 32 := 0#32
  let c0_i32_9 : BitVec 32 := 0#32
  ![c2_i32.toNat, v20.toNat, c0_i32_7.toNat, c0_i32_8.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S12288x1024 : Shape := ⟨2, ![12288, 1024]⟩
abbrev S8192x512 : Shape := ⟨2, ![8192, 512]⟩
abbrev S4096x512 : Shape := ⟨2, ![4096, 512]⟩
abbrev S4x8x6x1024 : Shape := ⟨4, ![4, 8, 6, 1024]⟩
abbrev S1024x1024 : Shape := ⟨2, ![1024, 1024]⟩
abbrev S8192x1024 : Shape := ⟨2, ![8192, 1024]⟩
abbrev S32x256x1024 : Shape := ⟨3, ![32, 256, 1024]⟩
abbrev S4096x1024 : Shape := ⟨2, ![4096, 1024]⟩
abbrev S2x2048x1024 : Shape := ⟨3, ![2, 2048, 1024]⟩
abbrev S1x1x1x1024 : Shape := ⟨4, ![1, 1, 1, 1024]⟩
abbrev S1024 : Shape := ⟨1, ![1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S8192x512, .bf16⟩
  | .hbm, ⟨2, _⟩ => ⟨S4096x512, .bf16⟩
  | .hbm, ⟨3, _⟩ => ⟨S8192x512, .bf16⟩
  | .hbm, ⟨4, _⟩ => ⟨S4096x512, .bf16⟩
  | .hbm, ⟨5, _⟩ => ⟨S4x8x6x1024, .f32⟩
  | .hbm, ⟨6, _⟩ => ⟨S1024x1024, .f32⟩
  | .hbm, ⟨7, _⟩ => ⟨S8192x1024, .f32⟩
  | .hbm, ⟨8, _⟩ => ⟨S32x256x1024, .f32⟩
  | .hbm, ⟨9, _⟩ => ⟨S4096x1024, .f32⟩
  | .hbm, ⟨10, _⟩ => ⟨S2x2048x1024, .f32⟩
  | .hbm, ⟨11, _⟩ => ⟨S1x1x1x1024, .f32⟩
  | .hbm, ⟨12, _⟩ => ⟨S1024, .f32⟩
  | .hbm, ⟨13, _⟩ => ⟨S1x2x1x1024, .f32⟩
  | .hbm, ⟨14, _⟩ => ⟨S2x1024, .f32⟩
  | .hbm, ⟨15, _⟩ => ⟨S2x1x1024, .f32⟩
  | .hbm, ⟨16, _⟩ => ⟨S8192x512, .f32⟩
  | .hbm, ⟨17, _⟩ => ⟨S8192x512, .f32⟩
  | .hbm, ⟨18, _⟩ => ⟨S8192x1024, .f32⟩
  | .hbm, ⟨19, _⟩ => ⟨S8192x1024, .f32⟩
  | .hbm, ⟨20, _⟩ => ⟨S32x256x1024, .f32⟩
  | .hbm, ⟨21, _⟩ => ⟨S1x1x1024, .f32⟩
  | .hbm, ⟨22, _⟩ => ⟨S32x256x1024, .f32⟩
  | .hbm, ⟨23, _⟩ => ⟨S32x256x1024, .f32⟩
  | .hbm, ⟨24, _⟩ => ⟨S32x256x1024, .f32⟩
  | .hbm, ⟨25, _⟩ => ⟨S4096x512, .f32⟩
  | .hbm, ⟨26, _⟩ => ⟨S4096x512, .f32⟩
  | .hbm, ⟨27, _⟩ => ⟨S4096x1024, .f32⟩
  | .hbm, ⟨28, _⟩ => ⟨S4096x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S8192x1024, .f32⟩
  | .hbm, ⟨34, _⟩ => ⟨S4096x1024, .f32⟩
  | .hbm, ⟨35, _⟩ => ⟨S12288x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== AttnCtx.lean ====
abbrev S8192x1024 : Shape := ⟨2, ![8192, 1024]⟩
abbrev S8192x512 : Shape := ⟨2, ![8192, 512]⟩
abbrev S256x1024 : Shape := ⟨2, ![256, 1024]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S256x128 : Shape := ⟨2, ![256, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnCtxRefIdeal.lean ====
abbrev S8192x1024 : Shape := ⟨2, ![8192, 1024]⟩
abbrev S8192x512 : Shape := ⟨2, ![8192, 512]⟩
abbrev S32x256x4x256 : Shape := ⟨4, ![32, 256, 4, 256]⟩
abbrev S32x256x4x128 : Shape := ⟨4, ![32, 256, 4, 128]⟩
abbrev S32x4x256x256 : Shape := ⟨4, ![32, 4, 256, 256]⟩
abbrev S_ : Shape := ⟨0, ![]⟩
abbrev S32x4x256 : Shape := ⟨3, ![32, 4, 256]⟩
abbrev S32x4x256x1 : Shape := ⟨4, ![32, 4, 256, 1]⟩
abbrev S32x4x128x256 : Shape := ⟨4, ![32, 4, 128, 256]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x1024, .f32⟩
  | .hbm, ⟨4, _⟩ => ⟨S32x256x4x256, .f32⟩
  | .hbm, ⟨5, _⟩ => ⟨S8192x1024, .f32⟩
  | .hbm, ⟨6, _⟩ => ⟨S32x256x4x256, .f32⟩
  | .hbm, ⟨7, _⟩ => ⟨S8192x512, .f32⟩
  | .hbm, ⟨8, _⟩ => ⟨S32x256x4x128, .f32⟩
  | .hbm, ⟨9, _⟩ => ⟨S32x256x4x128, .f32⟩
  | .hbm, ⟨10, _⟩ => ⟨S32x256x4x128, .f32⟩
  | .hbm, ⟨11, _⟩ => ⟨S32x256x4x128, .f32⟩
  | .hbm, ⟨12, _⟩ => ⟨S32x256x4x128, .f32⟩
  | .hbm, ⟨13, _⟩ => ⟨S32x4x256x256, .f32⟩
  | .hbm, ⟨14, _⟩ => ⟨S32x4x256x256, .f32⟩
  | .hbm, ⟨15, _⟩ => ⟨S32x4x256x256, .f32⟩
  | .hbm, ⟨16, _⟩ => ⟨S_, .f32⟩
  | .hbm, ⟨17, _⟩ => ⟨S32x4x256, .f32⟩
  | .hbm, ⟨18, _⟩ => ⟨S_, .f32⟩
  | .hbm, ⟨19, _⟩ => ⟨S32x4x256, .f32⟩
  | .hbm, ⟨20, _⟩ => ⟨S32x4x256, .f32⟩
  | .hbm, ⟨21, _⟩ => ⟨S32x4x256x1, .f32⟩
  | .hbm, ⟨22, _⟩ => ⟨S32x4x256x256, .f32⟩
  | .hbm, ⟨23, _⟩ => ⟨S32x4x256x256, .f32⟩
  | .hbm, ⟨24, _⟩ => ⟨S32x4x256x256, .f32⟩
  | .hbm, ⟨25, _⟩ => ⟨S_, .f32⟩
  | .hbm, ⟨26, _⟩ => ⟨S32x4x256, .f32⟩
  | .hbm, ⟨27, _⟩ => ⟨S32x4x256x1, .f32⟩
  | .hbm, ⟨28, _⟩ => ⟨S32x4x256x256, .f32⟩
  | .hbm, ⟨29, _⟩ => ⟨S32x4x256x256, .f32⟩
  | .hbm, ⟨30, _⟩ => ⟨S32x4x128x256, .f32⟩
  | .hbm, ⟨31, _⟩ => ⟨S32x256x4x128, .f32⟩
  | .hbm, ⟨32, _⟩ => ⟨S8192x512, .f32⟩
  | .hbm, ⟨33, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== MlaCtx.lean ====
abbrev S12288x768 : Shape := ⟨2, ![12288, 768]⟩
abbrev S384 : Shape := ⟨1, ![384]⟩
abbrev S384x768 : Shape := ⟨2, ![384, 768]⟩
abbrev S128 : Shape := ⟨1, ![128]⟩
abbrev S64 : Shape := ⟨1, ![64]⟩
abbrev S256 : Shape := ⟨1, ![256]⟩
abbrev S256x1024 : Shape := ⟨2, ![256, 1024]⟩
abbrev S384x4x192 : Shape := ⟨3, ![384, 4, 192]⟩
abbrev S_ : Shape := ⟨0, ![]⟩
abbrev S384x4x256 : Shape := ⟨3, ![384, 4, 256]⟩
abbrev S384x1024 : Shape := ⟨2, ![384, 1024]⟩
abbrev S256x4x256 : Shape := ⟨3, ![256, 4, 256]⟩
abbrev S256x4x128 : Shape := ⟨3, ![256, 4, 128]⟩
abbrev S256x512 : Shape := ⟨2, ![256, 512]⟩
abbrev S1x384 : Shape := ⟨2, ![1, 384]⟩
abbrev S1x128 : Shape := ⟨2, ![1, 128]⟩
abbrev S1x256 : Shape := ⟨2, ![1, 256]⟩
abbrev S8192x1024 : Shape := ⟨2, ![8192, 1024]⟩
abbrev S8192x512 : Shape := ⟨2, ![8192, 512]⟩
abbrev S8192x256 : Shape := ⟨2, ![8192, 256]⟩
abbrev S8192x64 : Shape := ⟨2, ![8192, 64]⟩
abbrev S256x768 : Shape := ⟨2, ![256, 768]⟩
abbrev S256x256 : Shape := ⟨2, ![256, 256]⟩
abbrev S256x64 : Shape := ⟨2, ![256, 64]⟩
abbrev S256x384 : Shape := ⟨2, ![256, 384]⟩
abbrev S256x1 : Shape := ⟨2, ![256, 1]⟩
abbrev S256x128 : Shape := ⟨2, ![256, 128]⟩

abbrev nBuf : Space → Nat
  | .hbm => 39
  | .vmem => 20
  | .smem => 0
  | _ => 0

abbrev bufTy : (tb : Table) → Fin (tcTables nBuf tb) → BufTy
  | .hbm, ⟨0, _⟩ => ⟨S12288x768, .f32⟩
  | .hbm, ⟨1, _⟩ => ⟨S384, .f32⟩
  | .hbm, ⟨2, _⟩ => ⟨S384x768, .f32⟩
  | .hbm, ⟨3, _⟩ => ⟨S128, .f32⟩
  | .hbm, ⟨4, _⟩ => ⟨S64, .f32⟩
  | .hbm, ⟨5, _⟩ => ⟨S256, .f32⟩
  | .hbm, ⟨6, _⟩ => ⟨S256x1024, .f32⟩
  | .hbm, ⟨7, _⟩ => ⟨S128, .f32⟩
  | .hbm, ⟨8, _⟩ => ⟨S64, .f32⟩
  | .hbm, ⟨9, _⟩ => ⟨S384x4x192, .f32⟩
  | .hbm, ⟨10, _⟩ => ⟨S_, .i32⟩
  | .hbm, ⟨11, _⟩ => ⟨S_, .f32⟩
  | .hbm, ⟨12, _⟩ => ⟨S384x4x256, .f32⟩
  | .hbm, ⟨13, _⟩ => ⟨S384x1024, .f32⟩
  | .hbm, ⟨14, _⟩ => ⟨S256x4x256, .f32⟩
  | .hbm, ⟨15, _⟩ => ⟨S256x4x128, .f32⟩
  | .hbm, ⟨16, _⟩ => ⟨S256x512, .f32⟩
  | .hbm, ⟨17, _⟩ => ⟨S256x4x128, .f32⟩
  | .hbm, ⟨18, _⟩ => ⟨S256x512, .f32⟩
  | .hbm, ⟨19, _⟩ => ⟨S256x1024, .f32⟩
  | .hbm, ⟨20, _⟩ => ⟨S1x384, .f32⟩
  | .hbm, ⟨21, _⟩ => ⟨S384x1024, .bf16⟩
  | .hbm, ⟨22, _⟩ => ⟨S1x128, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S1x256, .f32⟩
  | .hbm, ⟨28, _⟩ => ⟨S256x1024, .bf16⟩
  | .hbm, ⟨29, _⟩ => ⟨S1x128, .f32⟩
  | .hbm, ⟨30, _⟩ => ⟨S_, .i32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S8192x1024, .bf16⟩
  | .hbm, ⟨35, _⟩ => ⟨S8192x1024, .bf16⟩
  | .hbm, ⟨36, _⟩ => ⟨S8192x512, .bf16⟩
  | .hbm, ⟨37, _⟩ => ⟨S8192x256, .f32⟩
  | .hbm, ⟨38, _⟩ => ⟨S8192x64, .f32⟩
  | .local _ .vmem, ⟨0, _⟩ => ⟨S256x768, .f32⟩
  | .local _ .vmem, ⟨1, _⟩ => ⟨S256x768, .f32⟩
  | .local _ .vmem, ⟨2, _⟩ => ⟨S1x384, .f32⟩
  | .local _ .vmem, ⟨3, _⟩ => ⟨S384x1024, .bf16⟩
  | .local _ .vmem, ⟨4, _⟩ => ⟨S1x128, .f32⟩
  | .local _ .vmem, ⟨5, _⟩ => ⟨S1x128, .f32⟩
  | .local _ .vmem, ⟨6, _⟩ => ⟨S1x256, .f32⟩
  | .local _ .vmem, ⟨7, _⟩ => ⟨S256x1024, .bf16⟩
  | .local _ .vmem, ⟨8, _⟩ => ⟨S1x128, .f32⟩
  | .local _ .vmem, ⟨9, _⟩ => ⟨S1x128, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x512, .bf16⟩
  | .local _ .vmem, ⟨15, _⟩ => ⟨S256x512, .bf16⟩
  | .local _ .vmem, ⟨16, _⟩ => ⟨S256x256, .f32⟩
  | .local _ .vmem, ⟨17, _⟩ => ⟨S256x256, .f32⟩
  | .local _ .vmem, ⟨18, _⟩ => ⟨S256x64, .f32⟩
  | .local _ .vmem, ⟨19, _⟩ => ⟨S256x64, .f32⟩
  | _, _ => ⟨S12288x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_v19_3 : Ref sig .tc := ⟨.hbm, 37, rfl⟩
abbrev main_v19_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MlaCtxRefIdeal.lean ====
abbrev S12288x768 : Shape := ⟨2, ![12288, 768]⟩
abbrev S384 : Shape := ⟨1, ![384]⟩
abbrev S384x768 : Shape := ⟨2, ![384, 768]⟩
abbrev S128 : Shape := ⟨1, ![128]⟩
abbrev S64 : Shape := ⟨1, ![64]⟩
abbrev S256 : Shape := ⟨1, ![256]⟩
abbrev S256x1024 : Shape := ⟨2, ![256, 1024]⟩
abbrev S8192x704 : Shape := ⟨2, ![8192, 704]⟩
abbrev S8192x384 : Shape := ⟨2, ![8192, 384]⟩
abbrev S8192x256 : Shape := ⟨2, ![8192, 256]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x384 : Shape := ⟨2, ![1, 384]⟩
abbrev S8192x768 : Shape := ⟨2, ![8192, 768]⟩
abbrev S8192x4x192 : Shape := ⟨3, ![8192, 4, 192]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩
abbrev S8192x4x64 : Shape := ⟨3, ![8192, 4, 64]⟩
abbrev S1x1x64 : Shape := ⟨3, ![1, 1, 64]⟩
abbrev S1x256 : Shape := ⟨2, ![1, 256]⟩
abbrev S1x64 : Shape := ⟨2, ![1, 64]⟩
abbrev S8192x1024 : Shape := ⟨2, ![8192, 1024]⟩
abbrev S8192x4x256 : Shape := ⟨3, ![8192, 4, 256]⟩
abbrev S8192x1x64 : Shape := ⟨3, ![8192, 1, 64]⟩
abbrev S8192x512 : Shape := ⟨2, ![8192, 512]⟩

abbrev nBuf : Space → Nat
  | .hbm => 139
  | .vmem => 0
  | .smem => 0
  | _ => 0

abbrev hbmTy0_0 (i : Nat) : BufTy := match i % 128 with
  | 0 => ⟨S12288x768, .f32⟩
  | 1 => ⟨S384, .f32⟩
  | 2 => ⟨S384x768, .f32⟩
  | 3 => ⟨S128, .f32⟩
  | 4 => ⟨S64, .f32⟩
  | 5 => ⟨S256, .f32⟩
  | 6 => ⟨S256x1024, .f32⟩
  | 7 => ⟨S128, .f32⟩
  | 8 => ⟨S64, .f32⟩
  | 9 => ⟨S8192x704, .f32⟩
  | 10 => ⟨S8192x384, .f32⟩
  | 11 => ⟨S8192x256, .f32⟩
  | 12 => ⟨S8192x64, .f32⟩
  | 13 => ⟨S8192x384, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x384, .f32⟩
  | 25 => ⟨S8192x384, .f32⟩
  | 26 => ⟨S1x384, .f32⟩
  | 27 => ⟨S8192x384, .f32⟩
  | 28 => ⟨S8192x384, .f32⟩
  | 29 => ⟨S8192x768, .f32⟩
  | 30 => ⟨S8192x4x192, .f32⟩
  | 31 => ⟨S8192x4x128, .f32⟩
  | 32 => ⟨S8192x4x128, .f32⟩
  | 33 => ⟨S_, .f32⟩
  | 34 => ⟨S8192x4, .f32⟩
  | 35 => ⟨S8192x4x1, .f32⟩
  | 36 => ⟨S_, .f32⟩
  | 37 => ⟨S8192x4x1, .f32⟩
  | 38 => ⟨S8192x4x1, .f32⟩
  | 39 => ⟨S_, .f32⟩
  | 40 => ⟨S8192x4x1, .f32⟩
  | 41 => ⟨S8192x4x1, .f32⟩
  | 42 => ⟨S8192x4x1, .f32⟩
  | 43 => ⟨S8192x4x128, .f32⟩
  | 44 => ⟨S8192x4x128, .f32⟩
  | 45 => ⟨S1x1x128, .f32⟩
  | 46 => ⟨S8192x4x128, .f32⟩
  | 47 => ⟨S8192x4x128, .f32⟩
  | 48 => ⟨S8192x4x64, .f32⟩
  | 49 => ⟨S8192x4x64, .f32⟩
  | 50 => ⟨S_, .f32⟩
  | 51 => ⟨S8192x4, .f32⟩
  | 52 => ⟨S8192x4x1, .f32⟩
  | 53 => ⟨S_, .f32⟩
  | 54 => ⟨S8192x4x1, .f32⟩
  | 55 => ⟨S8192x4x1, .f32⟩
  | 56 => ⟨S_, .f32⟩
  | 57 => ⟨S8192x4x1, .f32⟩
  | 58 => ⟨S8192x4x1, .f32⟩
  | 59 => ⟨S8192x4x1, .f32⟩
  | 60 => ⟨S8192x4x64, .f32⟩
  | 61 => ⟨S8192x4x64, .f32⟩
  | 62 => ⟨S1x1x64, .f32⟩
  | 63 => ⟨S8192x4x64, .f32⟩
  | 64 => ⟨S8192x4x64, .f32⟩
  | 65 => ⟨S8192x256, .f32⟩
  | 66 => ⟨S_, .f32⟩
  | 67 => ⟨S8192, .f32⟩
  | 68 => ⟨S8192x1, .f32⟩
  | 69 => ⟨S_, .f32⟩
  | 70 => ⟨S8192x1, .f32⟩
  | 71 => ⟨S8192x1, .f32⟩
  | 72 => ⟨S_, .f32⟩
  | 73 => ⟨S8192x1, .f32⟩
  | 74 => ⟨S8192x1, .f32⟩
  | 75 => ⟨S8192x1, .f32⟩
  | 76 => ⟨S8192x256, .f32⟩
  | 77 => ⟨S8192x256, .f32⟩
  | 78 => ⟨S1x256, .f32⟩
  | 79 => ⟨S8192x256, .f32⟩
  | 80 => ⟨S8192x256, .f32⟩
  | 81 => ⟨S8192x64, .f32⟩
  | 82 => ⟨S_, .f32⟩
  | 83 => ⟨S8192, .f32⟩
  | 84 => ⟨S8192x1, .f32⟩
  | 85 => ⟨S_, .f32⟩
  | 86 => ⟨S8192x1, .f32⟩
  | 87 => ⟨S8192x1, .f32⟩
  | 88 => ⟨S_, .f32⟩
  | 89 => ⟨S8192x1, .f32⟩
  | 90 => ⟨S8192x1, .f32⟩
  | 91 => ⟨S8192x1, .f32⟩
  | 92 => ⟨S8192x64, .f32⟩
  | 93 => ⟨S8192x64, .f32⟩
  | 94 => ⟨S1x64, .f32⟩
  | 95 => ⟨S8192x64, .f32⟩
  | 96 => ⟨S8192x64, .f32⟩
  | 97 => ⟨S8192x1024, .f32⟩
  | 98 => ⟨S8192x4x256, .f32⟩
  | 99 => ⟨S8192x4x128, .f32⟩
  | 100 => ⟨S8192x4x128, .f32⟩
  | 101 => ⟨S_, .f32⟩
  | 102 => ⟨S8192x4, .f32⟩
  | 103 => ⟨S8192x4x1, .f32⟩
  | 104 => ⟨S_, .f32⟩
  | 105 => ⟨S8192x4x1, .f32⟩
  | 106 => ⟨S8192x4x1, .f32⟩
  | 107 => ⟨S_, .f32⟩
  | 108 => ⟨S8192x4x1, .f32⟩
  | 109 => ⟨S8192x4x1, .f32⟩
  | 110 => ⟨S8192x4x1, .f32⟩
  | 111 => ⟨S8192x4x128, .f32⟩
  | 112 => ⟨S8192x4x128, .f32⟩
  | 113 => ⟨S1x1x128, .f32⟩
  | 114 => ⟨S8192x4x128, .f32⟩
  | 115 => ⟨S8192x4x128, .f32⟩
  | 116 => ⟨S8192x4x128, .f32⟩
  | 117 => ⟨S8192x1x64, .f32⟩
  | 118 => ⟨S8192x4x64, .f32⟩
  | 119 => ⟨S_, .f32⟩
  | 120 => ⟨S8192x4x128, .f32⟩
  | 121 => ⟨S8192x4x128, .f32⟩
  | 122 => ⟨S_, .f32⟩
  | 123 => ⟨S8192x4x64, .f32⟩
  | 124 => ⟨S8192x4x64, .f32⟩
  | 125 => ⟨S_, .i32⟩
  | 126 => ⟨S_, .f32⟩
  | 127 => ⟨S8192x4x128, .f32⟩
  | _ => ⟨S12288x768, .f32⟩

abbrev hbmTy0_1 (i : Nat) : BufTy := match i % 128 with
  | 0 => ⟨S8192x4x256, .f32⟩
  | 1 => ⟨S8192x1024, .f32⟩
  | 2 => ⟨S8192x1024, .bf16⟩
  | 3 => ⟨S_, .i32⟩
  | 4 => ⟨S_, .f32⟩
  | 5 => ⟨S8192x4x128, .f32⟩
  | 6 => ⟨S8192x4x256, .f32⟩
  | 7 => ⟨S8192x1024, .f32⟩
  | 8 => ⟨S8192x1024, .bf16⟩
  | 9 => ⟨S8192x512, .f32⟩
  | 10 => ⟨S8192x512, .bf16⟩
  | _ => ⟨S12288x768, .f32⟩

abbrev hbmTy (i : Nat) : BufTy := match i / 128 with
  | 0 => hbmTy0_0 i
  | 1 => hbmTy0_1 i
  | _ => ⟨S12288x768, .f32⟩

abbrev bufTy : (tb : Table) → Fin (tcTables nBuf tb) → BufTy
  | .hbm, ⟨i, _⟩ => hbmTy i
  | _, _ => ⟨S12288x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_14 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_cst_16 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_17 : Ref sig .tc := ⟨.hbm, 119, rfl⟩
abbrev main_v92 : Ref sig .tc := ⟨.hbm, 120, rfl⟩
abbrev main_v93 : Ref sig .tc := ⟨.hbm, 121, rfl⟩
abbrev main_cst_18 : Ref sig .tc := ⟨.hbm, 122, rfl⟩
abbrev main_v94 : Ref sig .tc := ⟨.hbm, 123, rfl⟩
abbrev main_v95 : Ref sig .tc := ⟨.hbm, 124, rfl⟩
abbrev main_c : Ref sig .tc := ⟨.hbm, 125, rfl⟩
abbrev main_call0_v0 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_c_19 : Ref sig .tc := ⟨.hbm, 131, rfl⟩
abbrev main_call1_v0 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩

abbrev nD : Nat := 1
abbrev τ : Topo := Topo.v7x

variable {F : FTy → Type} [FloatOps F]
-- ==== MlaCache.lean ====
abbrev S2x2x256x256 : Shape := ⟨4, ![2, 2, 256, 256]⟩
abbrev S2x2x256x64 : Shape := ⟨4, ![2, 2, 256, 64]⟩
abbrev S256x1024 : Shape := ⟨2, ![256, 1024]⟩
abbrev S128 : Shape := ⟨1, ![128]⟩
abbrev S256x4x256 : Shape := ⟨3, ![256, 4, 256]⟩
abbrev S256x4x128 : Shape := ⟨3, ![256, 4, 128]⟩
abbrev S256x512 : Shape := ⟨2, ![256, 512]⟩
abbrev S1x128 : Shape := ⟨2, ![1, 128]⟩
abbrev S2x1x256x64 : Shape := ⟨4, ![2, 1, 256, 64]⟩
abbrev S2x256x64 : Shape := ⟨3, ![2, 256, 64]⟩
abbrev S512x64 : Shape := ⟨2, ![512, 64]⟩
abbrev S_ : Shape := ⟨0, ![]⟩
abbrev S512x128 : Shape := ⟨2, ![512, 128]⟩
abbrev S2x1x256x256 : Shape := ⟨4, ![2, 1, 256, 256]⟩
abbrev S2x256x256 : Shape := ⟨3, ![2, 256, 256]⟩
abbrev S512x256 : Shape := ⟨2, ![512, 256]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 23
  | .vmem => 6
  | .smem => 0
  | _ => 0

abbrev bufTy : (tb : Table) → Fin (tcTables nBuf tb) → BufTy
  | .hbm, ⟨0, _⟩ => ⟨S2x2x256x256, .f32⟩
  | .hbm, ⟨1, _⟩ => ⟨S2x2x256x64, .f32⟩
  | .hbm, ⟨2, _⟩ => ⟨S256x1024, .f32⟩
  | .hbm, ⟨3, _⟩ => ⟨S128, .f32⟩
  | .hbm, ⟨4, _⟩ => ⟨S256x4x256, .f32⟩
  | .hbm, ⟨5, _⟩ => ⟨S256x4x128, .f32⟩
  | .hbm, ⟨6, _⟩ => ⟨S256x512, .f32⟩
  | .hbm, ⟨7, _⟩ => ⟨S256x4x128, .f32⟩
  | .hbm, ⟨8, _⟩ => ⟨S256x512, .f32⟩
  | .hbm, ⟨9, _⟩ => ⟨S256x1024, .f32⟩
  | .hbm, ⟨10, _⟩ => ⟨S256x1024, .bf16⟩
  | .hbm, ⟨11, _⟩ => ⟨S1x128, .f32⟩
  | .hbm, ⟨12, _⟩ => ⟨S2x1x256x64, .f32⟩
  | .hbm, ⟨13, _⟩ => ⟨S2x256x64, .f32⟩
  | .hbm, ⟨14, _⟩ => ⟨S512x64, .f32⟩
  | .hbm, ⟨15, _⟩ => ⟨S_, .i32⟩
  | .hbm, ⟨16, _⟩ => ⟨S_, .f32⟩
  | .hbm, ⟨17, _⟩ => ⟨S512x128, .f32⟩
  | .hbm, ⟨18, _⟩ => ⟨S2x1x256x256, .f32⟩
  | .hbm, ⟨19, _⟩ => ⟨S2x256x256, .f32⟩
  | .hbm, ⟨20, _⟩ => ⟨S512x256, .f32⟩
  | .hbm, ⟨21, _⟩ => ⟨S512x1024, .bf16⟩
  | .hbm, ⟨22, _⟩ => ⟨S512x512, .bf16⟩
  | .local _ .vmem, ⟨0, _⟩ => ⟨S512x256, .f32⟩
  | .local _ .vmem, ⟨1, _⟩ => ⟨S512x128, .f32⟩
  | .local _ .vmem, ⟨2, _⟩ => ⟨S256x1024, .bf16⟩
  | .local _ .vmem, ⟨3, _⟩ => ⟨S1x128, .f32⟩
  | .local _ .vmem, ⟨4, _⟩ => ⟨S512x1024, .bf16⟩
  | .local _ .vmem, ⟨5, _⟩ => ⟨S512x512, .bf16⟩
  | _, _ => ⟨S2x2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MlaCacheRefIdeal.lean ====
abbrev S2x2x256x256 : Shape := ⟨4, ![2, 2, 256, 256]⟩
abbrev S2x2x256x64 : Shape := ⟨4, ![2, 2, 256, 64]⟩
abbrev S256x1024 : Shape := ⟨2, ![256, 1024]⟩
abbrev S128 : Shape := ⟨1, ![128]⟩
abbrev S2x1x256x256 : Shape := ⟨4, ![2, 1, 256, 256]⟩
abbrev S2x256x256 : Shape := ⟨3, ![2, 256, 256]⟩
abbrev S512x256 : Shape := ⟨2, ![512, 256]⟩
abbrev S2x1x256x64 : Shape := ⟨4, ![2, 1, 256, 64]⟩
abbrev S2x256x64 : Shape := ⟨3, ![2, 256, 64]⟩
abbrev S512x64 : Shape := ⟨2, ![512, 64]⟩
abbrev S512x1024 : Shape := ⟨2, ![512, 1024]⟩
abbrev S512x4x256 : Shape := ⟨3, ![512, 4, 256]⟩
abbrev S512x4x128 : Shape := ⟨3, ![512, 4, 128]⟩
abbrev S_ : Shape := ⟨0, ![]⟩
abbrev S512x4 : Shape := ⟨2, ![512, 4]⟩
abbrev S512x4x1 : Shape := ⟨3, ![512, 4, 1]⟩
abbrev S1x1x128 : Shape := ⟨3, ![1, 1, 128]⟩
abbrev S512x1x64 : Shape := ⟨3, ![512, 1, 64]⟩
abbrev S512x4x64 : Shape := ⟨3, ![512, 4, 64]⟩
abbrev S512x512 : Shape := ⟨2, ![512, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x2x256x256, .f32⟩
  | .hbm, ⟨1, _⟩ => ⟨S2x2x256x64, .f32⟩
  | .hbm, ⟨2, _⟩ => ⟨S256x1024, .f32⟩
  | .hbm, ⟨3, _⟩ => ⟨S128, .f32⟩
  | .hbm, ⟨4, _⟩ => ⟨S2x1x256x256, .f32⟩
  | .hbm, ⟨5, _⟩ => ⟨S2x256x256, .f32⟩
  | .hbm, ⟨6, _⟩ => ⟨S512x256, .f32⟩
  | .hbm, ⟨7, _⟩ => ⟨S2x1x256x64, .f32⟩
  | .hbm, ⟨8, _⟩ => ⟨S2x256x64, .f32⟩
  | .hbm, ⟨9, _⟩ => ⟨S512x64, .f32⟩
  | .hbm, ⟨10, _⟩ => ⟨S512x1024, .f32⟩
  | .hbm, ⟨11, _⟩ => ⟨S512x4x256, .f32⟩
  | .hbm, ⟨12, _⟩ => ⟨S512x4x128, .f32⟩
  | .hbm, ⟨13, _⟩ => ⟨S512x4x128, .f32⟩
  | .hbm, ⟨14, _⟩ => ⟨S_, .f32⟩
  | .hbm, ⟨15, _⟩ => ⟨S512x4, .f32⟩
  | .hbm, ⟨16, _⟩ => ⟨S512x4x1, .f32⟩
  | .hbm, ⟨17, _⟩ => ⟨S_, .f32⟩
  | .hbm, ⟨18, _⟩ => ⟨S512x4x1, .f32⟩
  | .hbm, ⟨19, _⟩ => ⟨S512x4x1, .f32⟩
  | .hbm, ⟨20, _⟩ => ⟨S_, .f32⟩
  | .hbm, ⟨21, _⟩ => ⟨S512x4x1, .f32⟩
  | .hbm, ⟨22, _⟩ => ⟨S512x4x1, .f32⟩
  | .hbm, ⟨23, _⟩ => ⟨S512x4x1, .f32⟩
  | .hbm, ⟨24, _⟩ => ⟨S512x4x128, .f32⟩
  | .hbm, ⟨25, _⟩ => ⟨S512x4x128, .f32⟩
  | .hbm, ⟨26, _⟩ => ⟨S1x1x128, .f32⟩
  | .hbm, ⟨27, _⟩ => ⟨S512x4x128, .f32⟩
  | .hbm, ⟨28, _⟩ => ⟨S512x4x128, .f32⟩
  | .hbm, ⟨29, _⟩ => ⟨S512x4x128, .f32⟩
  | .hbm, ⟨30, _⟩ => ⟨S512x1x64, .f32⟩
  | .hbm, ⟨31, _⟩ => ⟨S512x4x64, .f32⟩
  | .hbm, ⟨32, _⟩ => ⟨S_, .i32⟩
  | .hbm, ⟨33, _⟩ => ⟨S_, .f32⟩
  | .hbm, ⟨34, _⟩ => ⟨S512x4x128, .f32⟩
  | .hbm, ⟨35, _⟩ => ⟨S512x4x256, .f32⟩
  | .hbm, ⟨36, _⟩ => ⟨S512x1024, .f32⟩
  | .hbm, ⟨37, _⟩ => ⟨S512x1024, .bf16⟩
  | .hbm, ⟨38, _⟩ => ⟨S512x512, .f32⟩
  | .hbm, ⟨39, _⟩ => ⟨S512x512, .bf16⟩
  | _, _ => ⟨S2x2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_call0_v0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== MlaLat.lean ====
abbrev S12288x768 : Shape := ⟨2, ![12288, 768]⟩
abbrev S384 : Shape := ⟨1, ![384]⟩
abbrev S384x768 : Shape := ⟨2, ![384, 768]⟩
abbrev S128 : Shape := ⟨1, ![128]⟩
abbrev S64 : Shape := ⟨1, ![64]⟩
abbrev S256 : Shape := ⟨1, ![256]⟩
abbrev S256x1024 : Shape := ⟨2, ![256, 1024]⟩
abbrev S384x4x192 : Shape := ⟨3, ![384, 4, 192]⟩
abbrev S_ : Shape := ⟨0, ![]⟩
abbrev S384x4x256 : Shape := ⟨3, ![384, 4, 256]⟩
abbrev S384x1024 : Shape := ⟨2, ![384, 1024]⟩
abbrev S256x4x256 : Shape := ⟨3, ![256, 4, 256]⟩
abbrev S256x4x128 : Shape := ⟨3, ![256, 4, 128]⟩
abbrev S256x512 : Shape := ⟨2, ![256, 512]⟩
abbrev S1x384 : Shape := ⟨2, ![1, 384]⟩
abbrev S1x128 : Shape := ⟨2, ![1, 128]⟩
abbrev S1x256 : Shape := ⟨2, ![1, 256]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x128 : Shape := ⟨2, ![2048, 128]⟩
abbrev S4096x1024 : Shape := ⟨2, ![4096, 1024]⟩
abbrev S4096x512 : Shape := ⟨2, ![4096, 512]⟩
abbrev S4096x256 : Shape := ⟨2, ![4096, 256]⟩
abbrev S4096x64 : Shape := ⟨2, ![4096, 64]⟩
abbrev S256x768 : Shape := ⟨2, ![256, 768]⟩
abbrev S256x128 : Shape := ⟨2, ![256, 128]⟩
abbrev S256x256 : Shape := ⟨2, ![256, 256]⟩
abbrev S256x64 : Shape := ⟨2, ![256, 64]⟩
abbrev S256x384 : Shape := ⟨2, ![256, 384]⟩
abbrev S256x1 : Shape := ⟨2, ![256, 1]⟩

abbrev nBuf : Space → Nat
  | .hbm => 112
  | .vmem => 24
  | .smem => 0
  | _ => 0

abbrev bufTy : (tb : Table) → Fin (tcTables nBuf tb) → BufTy
  | .hbm, ⟨0, _⟩ => ⟨S12288x768, .f32⟩
  | .hbm, ⟨1, _⟩ => ⟨S384, .f32⟩
  | .hbm, ⟨2, _⟩ => ⟨S384x768, .f32⟩
  | .hbm, ⟨3, _⟩ => ⟨S128, .f32⟩
  | .hbm, ⟨4, _⟩ => ⟨S64, .f32⟩
  | .hbm, ⟨5, _⟩ => ⟨S256, .f32⟩
  | .hbm, ⟨6, _⟩ => ⟨S256x1024, .f32⟩
  | .hbm, ⟨7, _⟩ => ⟨S128, .f32⟩
  | .hbm, ⟨8, _⟩ => ⟨S64, .f32⟩
  | .hbm, ⟨9, _⟩ => ⟨S384x4x192, .f32⟩
  | .hbm, ⟨10, _⟩ => ⟨S_, .i32⟩
  | .hbm, ⟨11, _⟩ => ⟨S_, .f32⟩
  | .hbm, ⟨12, _⟩ => ⟨S384x4x256, .f32⟩
  | .hbm, ⟨13, _⟩ => ⟨S384x1024, .f32⟩
  | .hbm, ⟨14, _⟩ => ⟨S256x4x256, .f32⟩
  | .hbm, ⟨15, _⟩ => ⟨S256x4x128, .f32⟩
  | .hbm, ⟨16, _⟩ => ⟨S256x512, .f32⟩
  | .hbm, ⟨17, _⟩ => ⟨S256x4x128, .f32⟩
  | .hbm, ⟨18, _⟩ => ⟨S256x512, .f32⟩
  | .hbm, ⟨19, _⟩ => ⟨S256x1024, .f32⟩
  | .hbm, ⟨20, _⟩ => ⟨S1x384, .f32⟩
  | .hbm, ⟨21, _⟩ => ⟨S384x1024, .bf16⟩
  | .hbm, ⟨22, _⟩ => ⟨S1x128, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S1x256, .f32⟩
  | .hbm, ⟨28, _⟩ => ⟨S256x1024, .bf16⟩
  | .hbm, ⟨29, _⟩ => ⟨S1x128, .f32⟩
  | .hbm, ⟨30, _⟩ => ⟨S_, .i32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S2048, .i32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S_, .i32⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S_, .i32⟩
  | .hbm, ⟨49, _⟩ => ⟨S2048, .i32⟩
  | .hbm, ⟨50, _⟩ => ⟨S2048, .i1⟩
  | .hbm, ⟨51, _⟩ => ⟨S2048, .i32⟩
  | .hbm, ⟨52, _⟩ => ⟨S2048, .i32⟩
  | .hbm, ⟨53, _⟩ => ⟨S_, .i32⟩
  | .hbm, ⟨54, _⟩ => ⟨S2048, .i32⟩
  | .hbm, ⟨55, _⟩ => ⟨S2048, .i1⟩
  | .hbm, ⟨56, _⟩ => ⟨S2048, .i1⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S2048, .i32⟩
  | .hbm, ⟨61, _⟩ => ⟨S2048, .f32⟩
  | .hbm, ⟨62, _⟩ => ⟨S2048x1, .f32⟩
  | .hbm, ⟨63, _⟩ => ⟨S1x16, .f32⟩
  | .hbm, ⟨64, _⟩ => ⟨S2048x16, .f32⟩
  | .hbm, ⟨65, _⟩ => ⟨S2048x16, .f32⟩
  | .hbm, ⟨66, _⟩ => ⟨S2048x16, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i1⟩
  | .hbm, ⟨71, _⟩ => ⟨S_, .i32⟩
  | .hbm, ⟨72, _⟩ => ⟨S_, .i32⟩
  | .hbm, ⟨73, _⟩ => ⟨S2048, .i32⟩
  | .hbm, ⟨74, _⟩ => ⟨S2048, .i32⟩
  | .hbm, ⟨75, _⟩ => ⟨S_, .i32⟩
  | .hbm, ⟨76, _⟩ => ⟨S2048, .i32⟩
  | .hbm, ⟨77, _⟩ => ⟨S2048, .i1⟩
  | .hbm, ⟨78, _⟩ => ⟨S_, .i32⟩
  | .hbm, ⟨79, _⟩ => ⟨S2048, .i32⟩
  | .hbm, ⟨80, _⟩ => ⟨S2048, .i1⟩
  | .hbm, ⟨81, _⟩ => ⟨S_, .i32⟩
  | .hbm, ⟨82, _⟩ => ⟨S_, .i1⟩
  | .hbm, ⟨83, _⟩ => ⟨S2048, .i1⟩
  | .hbm, ⟨84, _⟩ => ⟨S2048, .i1⟩
  | .hbm, ⟨85, _⟩ => ⟨S2048, .i1⟩
  | .hbm, ⟨86, _⟩ => ⟨S2048, .i32⟩
  | .hbm, ⟨87, _⟩ => ⟨S2048, .i32⟩
  | .hbm, ⟨88, _⟩ => ⟨S2048, .i32⟩
  | .hbm, ⟨89, _⟩ => ⟨S2048, .f32⟩
  | .hbm, ⟨90, _⟩ => ⟨S2048x1, .f32⟩
  | .hbm, ⟨91, _⟩ => ⟨S1x16, .f32⟩
  | .hbm, ⟨92, _⟩ => ⟨S2048x16, .f32⟩
  | .hbm, ⟨93, _⟩ => ⟨S2048x16, .f32⟩
  | .hbm, ⟨94, _⟩ => ⟨S2048x16, .f32⟩
  | .hbm, ⟨95, _⟩ => ⟨S_, .f32⟩
  | .hbm, ⟨96, _⟩ => ⟨S2048x64, .f32⟩
  | .hbm, ⟨97, _⟩ => ⟨S2048x16, .f32⟩
  | .hbm, ⟨98, _⟩ => ⟨S2048x16, .f32⟩
  | .hbm, ⟨99, _⟩ => ⟨S2048x128, .f32⟩
  | .hbm, ⟨100, _⟩ => ⟨S2048x16, .f32⟩
  | .hbm, ⟨101, _⟩ => ⟨S2048x16, .f32⟩
  | .hbm, ⟨102, _⟩ => ⟨S2048x16, .f32⟩
  | .hbm, ⟨103, _⟩ => ⟨S2048x16, .f32⟩
  | .hbm, ⟨104, _⟩ => ⟨S2048x16, .f32⟩
  | .hbm, ⟨105, _⟩ => ⟨S2048x16, .f32⟩
  | .hbm, ⟨106, _⟩ => ⟨S2048x128, .f32⟩
  | .hbm, ⟨107, _⟩ => ⟨S4096x1024, .bf16⟩
  | .hbm, ⟨108, _⟩ => ⟨S4096x1024, .bf16⟩
  | .hbm, ⟨109, _⟩ => ⟨S4096x512, .bf16⟩
  | .hbm, ⟨110, _⟩ => ⟨S4096x256, .f32⟩
  | .hbm, ⟨111, _⟩ => ⟨S4096x64, .f32⟩
  | .local _ .vmem, ⟨0, _⟩ => ⟨S256x768, .f32⟩
  | .local _ .vmem, ⟨1, _⟩ => ⟨S256x768, .f32⟩
  | .local _ .vmem, ⟨2, _⟩ => ⟨S1x384, .f32⟩
  | .local _ .vmem, ⟨3, _⟩ => ⟨S384x1024, .bf16⟩
  | .local _ .vmem, ⟨4, _⟩ => ⟨S1x128, .f32⟩
  | .local _ .vmem, ⟨5, _⟩ => ⟨S1x128, .f32⟩
  | .local _ .vmem, ⟨6, _⟩ => ⟨S1x256, .f32⟩
  | .local _ .vmem, ⟨7, _⟩ => ⟨S256x1024, .bf16⟩
  | .local _ .vmem, ⟨8, _⟩ => ⟨S1x128, .f32⟩
  | .local _ .vmem, ⟨9, _⟩ => ⟨S1x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x512, .bf16⟩
  | .local _ .vmem, ⟨19, _⟩ => ⟨S256x512, .bf16⟩
  | .local _ .vmem, ⟨20, _⟩ => ⟨S256x256, .f32⟩
  | .local _ .vmem, ⟨21, _⟩ => ⟨S256x256, .f32⟩
  | .local _ .vmem, ⟨22, _⟩ => ⟨S256x64, .f32⟩
  | .local _ .vmem, ⟨23, _⟩ => ⟨S256x64, .f32⟩
  | _, _ => ⟨S12288x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_call3_v3 : Ref sig .tc := ⟨.hbm, 47, rfl⟩
abbrev main_call3_v4 : Ref sig .tc := ⟨.hbm, 48, rfl⟩
abbrev main_call3_v5 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_c : Ref sig .tc := ⟨.hbm, 53, rfl⟩
abbrev main_call3_v9 : Ref sig .tc := ⟨.hbm, 54, rfl⟩
abbrev main_call3_v10 : Ref sig .tc := ⟨.hbm, 55, rfl⟩
abbrev main_call3_v11 : Ref sig .tc := ⟨.hbm, 56, rfl⟩
abbrev main_call3_c_0 : Ref sig .tc := ⟨.hbm, 57, rfl⟩
abbrev main_call3_v12 : Ref sig .tc := ⟨.hbm, 58, rfl⟩
abbrev main_call3_v13 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_c_4 : Ref sig .tc := ⟨.hbm, 67, rfl⟩
abbrev main_call4_v0 : Ref sig .tc := ⟨.hbm, 68, rfl⟩
abbrev main_call4_c : Ref sig .tc := ⟨.hbm, 69, rfl⟩
abbrev main_call4_v1 : Ref sig .tc := ⟨.hbm, 70, rfl⟩
abbrev main_call4_c_0 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_c_1 : Ref sig .tc := ⟨.hbm, 75, rfl⟩
abbrev main_call4_v5 : Ref sig .tc := ⟨.hbm, 76, rfl⟩
abbrev main_call4_v6 : Ref sig .tc := ⟨.hbm, 77, rfl⟩
abbrev main_call4_c_2 : Ref sig .tc := ⟨.hbm, 78, rfl⟩
abbrev main_call4_v7 : Ref sig .tc := ⟨.hbm, 79, rfl⟩
abbrev main_call4_v8 : Ref sig .tc := ⟨.hbm, 80, rfl⟩
abbrev main_call4_c_3 : Ref sig .tc := ⟨.hbm, 81, rfl⟩
abbrev main_call4_v9 : Ref sig .tc := ⟨.hbm, 82, rfl⟩
abbrev main_call4_v10 : Ref sig .tc := ⟨.hbm, 83, rfl⟩
abbrev main_call4_v11 : Ref sig .tc := ⟨.hbm, 84, rfl⟩
abbrev main_call4_v12 : Ref sig .tc := ⟨.hbm, 85, rfl⟩
abbrev main_call4_v13 : Ref sig .tc := ⟨.hbm, 86, rfl⟩
abbrev main_call4_v14 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_5 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51_0 : Ref sig .tc := ⟨.hbm, 107, rfl⟩
abbrev main_v51_1 : Ref sig .tc := ⟨.hbm, 108, rfl⟩
abbrev main_v51_2 : Ref sig .tc := ⟨.hbm, 109, rfl⟩
abbrev main_v51_3 : Ref sig .tc := ⟨.hbm, 110, rfl⟩
abbrev main_v51_4 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MlaLatRefIdeal.lean ====
abbrev S12288x768 : Shape := ⟨2, ![12288, 768]⟩
abbrev S384 : Shape := ⟨1, ![384]⟩
abbrev S384x768 : Shape := ⟨2, ![384, 768]⟩
abbrev S128 : Shape := ⟨1, ![128]⟩
abbrev S64 : Shape := ⟨1, ![64]⟩
abbrev S256 : Shape := ⟨1, ![256]⟩
abbrev S256x1024 : Shape := ⟨2, ![256, 1024]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S4096x704 : Shape := ⟨2, ![4096, 704]⟩
abbrev S4096x384 : Shape := ⟨2, ![4096, 384]⟩
abbrev S4096x256 : Shape := ⟨2, ![4096, 256]⟩
abbrev S4096x64 : Shape := ⟨2, ![4096, 64]⟩
abbrev S4096 : Shape := ⟨1, ![4096]⟩
abbrev S4096x1 : Shape := ⟨2, ![4096, 1]⟩
abbrev S1x384 : Shape := ⟨2, ![1, 384]⟩
abbrev S4096x768 : Shape := ⟨2, ![4096, 768]⟩
abbrev S4096x4x192 : Shape := ⟨3, ![4096, 4, 192]⟩
abbrev S4096x4x128 : Shape := ⟨3, ![4096, 4, 128]⟩
abbrev S4096x4 : Shape := ⟨2, ![4096, 4]⟩
abbrev S4096x4x1 : Shape := ⟨3, ![4096, 4, 1]⟩
abbrev S1x1x128 : Shape := ⟨3, ![1, 1, 128]⟩
abbrev S4096x4x64 : Shape := ⟨3, ![4096, 4, 64]⟩
abbrev S1x1x64 : Shape := ⟨3, ![1, 1, 64]⟩
abbrev S1x256 : Shape := ⟨2, ![1, 256]⟩
abbrev S2x2048x4x64 : Shape := ⟨4, ![2, 2048, 4, 64]⟩
abbrev S2048x1x16 : Shape := ⟨3, ![2048, 1, 16]⟩
abbrev S2x2048x4x32 : Shape := ⟨4, ![2, 2048, 4, 32]⟩
abbrev S2x2048x4x16 : Shape := ⟨4, ![2, 2048, 4, 16]⟩
abbrev S1x2048x1x16 : Shape := ⟨4, ![1, 2048, 1, 16]⟩
abbrev S2x2048x64 : Shape := ⟨3, ![2, 2048, 64]⟩
abbrev S2x2048x32 : Shape := ⟨3, ![2, 2048, 32]⟩
abbrev S2x2048x16 : Shape := ⟨3, ![2, 2048, 16]⟩
abbrev S1x2048x16 : Shape := ⟨3, ![1, 2048, 16]⟩
abbrev S4096x1024 : Shape := ⟨2, ![4096, 1024]⟩
abbrev S4096x4x256 : Shape := ⟨3, ![4096, 4, 256]⟩
abbrev S4096x1x64 : Shape := ⟨3, ![4096, 1, 64]⟩
abbrev S4096x512 : Shape := ⟨2, ![4096, 512]⟩

abbrev nBuf : Space → Nat
  | .hbm => 253
  | .vmem => 0
  | .smem => 0
  | _ => 0

abbrev hbmTy0_0 (i : Nat) : BufTy := match i % 128 with
  | 0 => ⟨S12288x768, .f32⟩
  | 1 => ⟨S384, .f32⟩
  | 2 => ⟨S384x768, .f32⟩
  | 3 => ⟨S128, .f32⟩
  | 4 => ⟨S64, .f32⟩
  | 5 => ⟨S256, .f32⟩
  | 6 => ⟨S256x1024, .f32⟩
  | 7 => ⟨S128, .f32⟩
  | 8 => ⟨S64, .f32⟩
  | 9 => ⟨S32, .i32⟩
  | 10 => ⟨S32x64, .i32⟩
  | 11 => ⟨S2048, .i32⟩
  | 12 => ⟨S2048, .f32⟩
  | 13 => ⟨S64, .i32⟩
  | 14 => ⟨S1x64, .i32⟩
  | 15 => ⟨S32x64, .i32⟩
  | 16 => ⟨S2048, .i32⟩
  | 17 => ⟨S2048, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S2048x1, .f32⟩
  | 27 => ⟨S1x16, .f32⟩
  | 28 => ⟨S2048x16, .f32⟩
  | 29 => ⟨S2048x16, .f32⟩
  | 30 => ⟨S2048x16, .f32⟩
  | 31 => ⟨S2048x1, .f32⟩
  | 32 => ⟨S1x16, .f32⟩
  | 33 => ⟨S2048x16, .f32⟩
  | 34 => ⟨S2048x16, .f32⟩
  | 35 => ⟨S2048x16, .f32⟩
  | 36 => ⟨S4096x704, .f32⟩
  | 37 => ⟨S4096x384, .f32⟩
  | 38 => ⟨S4096x256, .f32⟩
  | 39 => ⟨S4096x64, .f32⟩
  | 40 => ⟨S4096x384, .f32⟩
  | 41 => ⟨S_, .f32⟩
  | 42 => ⟨S4096, .f32⟩
  | 43 => ⟨S4096x1, .f32⟩
  | 44 => ⟨S_, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x1, .f32⟩
  | 51 => ⟨S4096x384, .f32⟩
  | 52 => ⟨S4096x384, .f32⟩
  | 53 => ⟨S1x384, .f32⟩
  | 54 => ⟨S4096x384, .f32⟩
  | 55 => ⟨S4096x384, .f32⟩
  | 56 => ⟨S4096x768, .f32⟩
  | 57 => ⟨S4096x4x192, .f32⟩
  | 58 => ⟨S4096x4x128, .f32⟩
  | 59 => ⟨S4096x4x128, .f32⟩
  | 60 => ⟨S_, .f32⟩
  | 61 => ⟨S4096x4, .f32⟩
  | 62 => ⟨S4096x4x1, .f32⟩
  | 63 => ⟨S_, .f32⟩
  | 64 => ⟨S4096x4x1, .f32⟩
  | 65 => ⟨S4096x4x1, .f32⟩
  | 66 => ⟨S_, .f32⟩
  | 67 => ⟨S4096x4x1, .f32⟩
  | 68 => ⟨S4096x4x1, .f32⟩
  | 69 => ⟨S4096x4x1, .f32⟩
  | 70 => ⟨S4096x4x128, .f32⟩
  | 71 => ⟨S4096x4x128, .f32⟩
  | 72 => ⟨S1x1x128, .f32⟩
  | 73 => ⟨S4096x4x128, .f32⟩
  | 74 => ⟨S4096x4x128, .f32⟩
  | 75 => ⟨S4096x4x64, .f32⟩
  | 76 => ⟨S4096x4x64, .f32⟩
  | 77 => ⟨S_, .f32⟩
  | 78 => ⟨S4096x4, .f32⟩
  | 79 => ⟨S4096x4x1, .f32⟩
  | 80 => ⟨S_, .f32⟩
  | 81 => ⟨S4096x4x1, .f32⟩
  | 82 => ⟨S4096x4x1, .f32⟩
  | 83 => ⟨S_, .f32⟩
  | 84 => ⟨S4096x4x1, .f32⟩
  | 85 => ⟨S4096x4x1, .f32⟩
  | 86 => ⟨S4096x4x1, .f32⟩
  | 87 => ⟨S4096x4x64, .f32⟩
  | 88 => ⟨S4096x4x64, .f32⟩
  | 89 => ⟨S1x1x64, .f32⟩
  | 90 => ⟨S4096x4x64, .f32⟩
  | 91 => ⟨S4096x4x64, .f32⟩
  | 92 => ⟨S4096x256, .f32⟩
  | 93 => ⟨S_, .f32⟩
  | 94 => ⟨S4096, .f32⟩
  | 95 => ⟨S4096x1, .f32⟩
  | 96 => ⟨S_, .f32⟩
  | 97 => ⟨S4096x1, .f32⟩
  | 98 => ⟨S4096x1, .f32⟩
  | 99 => ⟨S_, .f32⟩
  | 100 => ⟨S4096x1, .f32⟩
  | 101 => ⟨S4096x1, .f32⟩
  | 102 => ⟨S4096x1, .f32⟩
  | 103 => ⟨S4096x256, .f32⟩
  | 104 => ⟨S4096x256, .f32⟩
  | 105 => ⟨S1x256, .f32⟩
  | 106 => ⟨S4096x256, .f32⟩
  | 107 => ⟨S4096x256, .f32⟩
  | 108 => ⟨S4096x64, .f32⟩
  | 109 => ⟨S_, .f32⟩
  | 110 => ⟨S4096, .f32⟩
  | 111 => ⟨S4096x1, .f32⟩
  | 112 => ⟨S_, .f32⟩
  | 113 => ⟨S4096x1, .f32⟩
  | 114 => ⟨S4096x1, .f32⟩
  | 115 => ⟨S_, .f32⟩
  | 116 => ⟨S4096x1, .f32⟩
  | 117 => ⟨S4096x1, .f32⟩
  | 118 => ⟨S4096x1, .f32⟩
  | 119 => ⟨S4096x64, .f32⟩
  | 120 => ⟨S4096x64, .f32⟩
  | 121 => ⟨S1x64, .f32⟩
  | 122 => ⟨S4096x64, .f32⟩
  | 123 => ⟨S4096x64, .f32⟩
  | 124 => ⟨S2x2048x4x64, .f32⟩
  | 125 => ⟨S2048x1x16, .f32⟩
  | 126 => ⟨S2048x1x16, .f32⟩
  | 127 => ⟨S2x2048x4x32, .f32⟩
  | _ => ⟨S12288x768, .f32⟩

abbrev hbmTy0_1 (i : Nat) : BufTy := match i % 128 with
  | 0 => ⟨S2x2048x4x16, .f32⟩
  | 1 => ⟨S2x2048x4x16, .f32⟩
  | 2 => ⟨S2048x1x16, .f32⟩
  | 3 => ⟨S2048x1x16, .f32⟩
  | 4 => ⟨S1x2048x1x16, .f32⟩
  | 5 => ⟨S2x2048x4x16, .f32⟩
  | 6 => ⟨S2x2048x4x16, .f32⟩
  | 7 => ⟨S1x2048x1x16, .f32⟩
  | 8 => ⟨S2x2048x4x16, .f32⟩
  | 9 => ⟨S2x2048x4x16, .f32⟩
  | 10 => ⟨S2x2048x4x16, .f32⟩
  | 11 => ⟨S1x2048x1x16, .f32⟩
  | 12 => ⟨S2x2048x4x16, .f32⟩
  | 13 => ⟨S2x2048x4x16, .f32⟩
  | 14 => ⟨S1x2048x1x16, .f32⟩
  | 15 => ⟨S2x2048x4x16, .f32⟩
  | 16 => ⟨S2x2048x4x16, .f32⟩
  | 17 => ⟨S2x2048x4x16, .f32⟩
  | 18 => ⟨S2x2048x4x32, .f32⟩
  | 19 => ⟨S2x2048x4x32, .f32⟩
  | 20 => ⟨S2x2048x4x16, .f32⟩
  | 21 => ⟨S2x2048x4x16, .f32⟩
  | 22 => ⟨S2048x1x16, .f32⟩
  | 23 => ⟨S2048x1x16, .f32⟩
  | 24 => ⟨S1x2048x1x16, .f32⟩
  | 25 => ⟨S2x2048x4x16, .f32⟩
  | 26 => ⟨S2x2048x4x16, .f32⟩
  | 27 => ⟨S1x2048x1x16, .f32⟩
  | 28 => ⟨S2x2048x4x16, .f32⟩
  | 29 => ⟨S2x2048x4x16, .f32⟩
  | 30 => ⟨S2x2048x4x16, .f32⟩
  | 31 => ⟨S1x2048x1x16, .f32⟩
  | 32 => ⟨S2x2048x4x16, .f32⟩
  | 33 => ⟨S2x2048x4x16, .f32⟩
  | 34 => ⟨S1x2048x1x16, .f32⟩
  | 35 => ⟨S2x2048x4x16, .f32⟩
  | 36 => ⟨S2x2048x4x16, .f32⟩
  | 37 => ⟨S2x2048x4x16, .f32⟩
  | 38 => ⟨S2x2048x4x32, .f32⟩
  | 39 => ⟨S2x2048x4x64, .f32⟩
  | 40 => ⟨S2x2048x64, .f32⟩
  | 41 => ⟨S2x2048x32, .f32⟩
  | 42 => ⟨S2x2048x16, .f32⟩
  | 43 => ⟨S2x2048x16, .f32⟩
  | 44 => ⟨S2048x16, .f32⟩
  | 45 => ⟨S2048x16, .f32⟩
  | 46 => ⟨S1x2048x16, .f32⟩
  | 47 => ⟨S2x2048x16, .f32⟩
  | 48 => ⟨S2x2048x16, .f32⟩
  | 49 => ⟨S1x2048x16, .f32⟩
  | 50 => ⟨S2x2048x16, .f32⟩
  | 51 => ⟨S2x2048x16, .f32⟩
  | 52 => ⟨S2x2048x16, .f32⟩
  | 53 => ⟨S1x2048x16, .f32⟩
  | 54 => ⟨S2x2048x16, .f32⟩
  | 55 => ⟨S2x2048x16, .f32⟩
  | 56 => ⟨S1x2048x16, .f32⟩
  | 57 => ⟨S2x2048x16, .f32⟩
  | 58 => ⟨S2x2048x16, .f32⟩
  | 59 => ⟨S2x2048x16, .f32⟩
  | 60 => ⟨S2x2048x32, .f32⟩
  | 61 => ⟨S2x2048x32, .f32⟩
  | 62 => ⟨S2x2048x16, .f32⟩
  | 63 => ⟨S2x2048x16, .f32⟩
  | 64 => ⟨S2048x16, .f32⟩
  | 65 => ⟨S2048x16, .f32⟩
  | 66 => ⟨S1x2048x16, .f32⟩
  | 67 => ⟨S2x2048x16, .f32⟩
  | 68 => ⟨S2x2048x16, .f32⟩
  | 69 => ⟨S1x2048x16, .f32⟩
  | 70 => ⟨S2x2048x16, .f32⟩
  | 71 => ⟨S2x2048x16, .f32⟩
  | 72 => ⟨S2x2048x16, .f32⟩
  | 73 => ⟨S1x2048x16, .f32⟩
  | 74 => ⟨S2x2048x16, .f32⟩
  | 75 => ⟨S2x2048x16, .f32⟩
  | 76 => ⟨S1x2048x16, .f32⟩
  | 77 => ⟨S2x2048x16, .f32⟩
  | 78 => ⟨S2x2048x16, .f32⟩
  | 79 => ⟨S2x2048x16, .f32⟩
  | 80 => ⟨S2x2048x32, .f32⟩
  | 81 => ⟨S2x2048x64, .f32⟩
  | 82 => ⟨S4096x1024, .f32⟩
  | 83 => ⟨S4096x4x256, .f32⟩
  | 84 => ⟨S4096x4x128, .f32⟩
  | 85 => ⟨S4096x4x128, .f32⟩
  | 86 => ⟨S_, .f32⟩
  | 87 => ⟨S4096x4, .f32⟩
  | 88 => ⟨S4096x4x1, .f32⟩
  | 89 => ⟨S_, .f32⟩
  | 90 => ⟨S4096x4x1, .f32⟩
  | 91 => ⟨S4096x4x1, .f32⟩
  | 92 => ⟨S_, .f32⟩
  | 93 => ⟨S4096x4x1, .f32⟩
  | 94 => ⟨S4096x4x1, .f32⟩
  | 95 => ⟨S4096x4x1, .f32⟩
  | 96 => ⟨S4096x4x128, .f32⟩
  | 97 => ⟨S4096x4x128, .f32⟩
  | 98 => ⟨S1x1x128, .f32⟩
  | 99 => ⟨S4096x4x128, .f32⟩
  | 100 => ⟨S4096x4x128, .f32⟩
  | 101 => ⟨S4096x4x128, .f32⟩
  | 102 => ⟨S4096x1x64, .f32⟩
  | 103 => ⟨S4096x4x64, .f32⟩
  | 104 => ⟨S_, .f32⟩
  | 105 => ⟨S4096x4x128, .f32⟩
  | 106 => ⟨S4096x4x128, .f32⟩
  | 107 => ⟨S4096x4x64, .f32⟩
  | 108 => ⟨S_, .f32⟩
  | 109 => ⟨S4096x4x64, .f32⟩
  | 110 => ⟨S4096x4x64, .f32⟩
  | 111 => ⟨S_, .i32⟩
  | 112 => ⟨S_, .f32⟩
  | 113 => ⟨S4096x4x128, .f32⟩
  | 114 => ⟨S4096x4x256, .f32⟩
  | 115 => ⟨S4096x1024, .f32⟩
  | 116 => ⟨S4096x1024, .bf16⟩
  | 117 => ⟨S_, .i32⟩
  | 118 => ⟨S_, .f32⟩
  | 119 => ⟨S4096x4x128, .f32⟩
  | 120 => ⟨S4096x4x256, .f32⟩
  | 121 => ⟨S4096x1024, .f32⟩
  | 122 => ⟨S4096x1024, .bf16⟩
  | 123 => ⟨S4096x512, .f32⟩
  | 124 => ⟨S4096x512, .bf16⟩
  | _ => ⟨S12288x768, .f32⟩

abbrev hbmTy (i : Nat) : BufTy := match i / 128 with
  | 0 => hbmTy0_0 i
  | 1 => hbmTy0_1 i
  | _ => ⟨S12288x768, .f32⟩

abbrev bufTy : (tb : Table) → Fin (tcTables nBuf tb) → BufTy
  | .hbm, ⟨i, _⟩ => hbmTy i
  | _, _ => ⟨S12288x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_10 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_v76 : Ref sig .tc := ⟨.hbm, 98, rfl⟩
abbrev main_cst_12 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_13 : Ref sig .tc := ⟨.hbm, 109, rfl⟩
abbrev main_v86 : Ref sig .tc := ⟨.hbm, 110, rfl⟩
abbrev main_v87 : Ref sig .tc := ⟨.hbm, 111, rfl⟩
abbrev main_cst_14 : Ref sig .tc := ⟨.hbm, 112, rfl⟩
abbrev main_v88 : Ref sig .tc := ⟨.hbm, 113, rfl⟩
abbrev main_v89 : Ref sig .tc := ⟨.hbm, 114, rfl⟩
abbrev main_cst_15 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_cst_16 : Ref sig .tc := ⟨.hbm, 214, rfl⟩
abbrev main_v188 : Ref sig .tc := ⟨.hbm, 215, rfl⟩
abbrev main_v189 : Ref sig .tc := ⟨.hbm, 216, rfl⟩
abbrev main_cst_17 : Ref sig .tc := ⟨.hbm, 217, rfl⟩
abbrev main_v190 : Ref sig .tc := ⟨.hbm, 218, rfl⟩
abbrev main_v191 : Ref sig .tc := ⟨.hbm, 219, rfl⟩
abbrev main_cst_18 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_cst_19 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_cst_20 : Ref sig .tc := ⟨.hbm, 236, rfl⟩
abbrev main_v206 : Ref sig .tc := ⟨.hbm, 237, rfl⟩
abbrev main_v207 : Ref sig .tc := ⟨.hbm, 238, rfl⟩
abbrev main_c : Ref sig .tc := ⟨.hbm, 239, rfl⟩
abbrev main_call0_v0 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_c_21 : Ref sig .tc := ⟨.hbm, 245, rfl⟩
abbrev main_call1_v0 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩

abbrev nD : Nat := 1
abbrev τ : Topo := Topo.v7x

variable {F : FTy → Type} [FloatOps F]
-- ==== Proof.AttnMath.lean ====
/- One entry of an attention product over two key lists: a softmax over the joined list, divided entry by entry,
   against one division of the weighted sum at the end. Extended reals; the scores are finite. -/
module

public import Idealize.ShloMosaic.Lib.Pointwise

@[expose] public section

noncomputable section

namespace Cert.AttnMath

open Idealize.ShloMosaic

/-- The value both reductions by maximum start from. -/
abbrev low : EReal := Ideal.ofBits .f32 0xFF800000#32

theorem low_eq : low = ⊥ := by simp [low, Ideal.ofBits, Ideal.ieee]

/-- The largest score of a list. -/
abbrev top {n : ℕ} (s : Fin n → EReal) : EReal := Finset.univ.fold max low s

/-- The largest score of two lists. -/
abbrev top2 {n1 n2 : ℕ} (s1 : Fin n1 → EReal) (s2 : Fin n2 → EReal) : EReal := max (top s1) (top s2)

/-- One entry: the weighted sum of the two value lists divided by the sum of the weights. -/
def entry {n1 n2 : ℕ} (s1 : Fin n1 → EReal) (s2 : Fin n2 → EReal) (v1 : Fin n1 → EReal) (v2 : Fin n2 → EReal) : EReal :=
  Ideal.div
    (∑ l, Ideal.exp (s1 l - top2 s1 s2) * v1 l + ∑ l, Ideal.exp (s2 l - top2 s1 s2) * v2 l)
    (∑ l, Ideal.exp (s1 l - top2 s1 s2) + ∑ l, Ideal.exp (s2 l - top2 s1 s2))

theorem top_eq_sup {n : ℕ} (s : Fin n → EReal) : top s = Finset.univ.sup s := by
  unfold top; rw [low_eq]; rfl

/-- The largest score of a joined list is the larger of the two lists' largest. -/
theorem top_join {n1 n2 : ℕ} (S : Fin (n1 + n2) → EReal) :
    top S = top2 (fun l => S (Fin.castAdd n2 l)) (fun l => S (Fin.natAdd n1 l)) := by
  unfold top2
  rw [top_eq_sup, top_eq_sup, top_eq_sup]
  refine le_antisymm (Finset.sup_le fun l _ => ?_) (max_le (Finset.sup_le fun l _ => ?_) (Finset.sup_le fun l _ => ?_))
  · refine Fin.addCases (fun l => ?_) (fun l => ?_) l
    · exact le_max_of_le_left (Finset.le_sup (f := fun l => S (Fin.castAdd n2 l)) (Finset.mem_univ l))
    · exact le_max_of_le_right (Finset.le_sup (f := fun l => S (Fin.natAdd n1 l)) (Finset.mem_univ l))
  · exact Finset.le_sup (f := S) (Finset.mem_univ _)
  · exact Finset.le_sup (f := S) (Finset.mem_univ _)

/-- A finite real sum, as an extended real. -/
theorem coe_sum {ι : Type} (A : Finset ι) (f : ι → ℝ) : ∑ i ∈ A, ((f i : ℝ) : EReal) = ((∑ i ∈ A, f i : ℝ) : EReal) := by
  classical
  induction A using Finset.induction_on with
  | empty => simp
  | insert i A h ih => rw [Finset.sum_insert h, Finset.sum_insert h, ih, EReal.coe_add]

/-- A nonnegative real factor moves out of a sum of extended reals. -/
theorem sum_mul_real {ι : Type} (A : Finset ι) (f : ι → EReal) (c : ℝ) (hc : 0 ≤ c) :
    ∑ i ∈ A, f i * (c : EReal) = (∑ i ∈ A, f i) * (c : EReal) := by
  classical
  induction A using Finset.induction_on with
  | empty => simp
  | insert i A h ih =>
    rw [Finset.sum_insert h, Finset.sum_insert h, ih, mul_comm (f i), mul_comm (∑ i ∈ A, f i), mul_comm (f i + _),
      EReal.left_distrib_of_nonneg_of_ne_top (by exact_mod_cast hc) (EReal.coe_ne_top c)]

/-- The largest of a nonempty list of reals is real. -/
theorem top_real {n : ℕ} (hn : 0 < n) (S : Fin n → ℝ) : ∃ μ : ℝ, top (fun l => (S l : EReal)) = (μ : EReal) := by
  have h1 : top (fun l => (S l : EReal)) ≠ ⊤ := by
    rw [top_eq_sup]
    exact ((Finset.sup_lt_iff bot_lt_top).2 fun l _ => EReal.coe_lt_top _).ne
  have h2 : top (fun l => (S l : EReal)) ≠ ⊥ := by
    rw [top_eq_sup]
    have := Finset.le_sup (f := fun l => (S l : EReal)) (Finset.mem_univ (⟨0, hn⟩ : Fin n))
    exact ((EReal.bot_lt_coe _).trans_le this).ne'
  exact ⟨_, (EReal.coe_toReal h1 h2).symm⟩

/-- The softmax over a joined list, weighting the joined values, is the entry over the two lists. -/
theorem softmax_join {n1 n2 : ℕ} (hn : 0 < n1 + n2) (S : Fin (n1 + n2) → EReal) (hS : ∀ l, ∃ x : ℝ, S l = (x : EReal))
    (W : Fin (n1 + n2) → EReal) :
    ∑ l, W l * Ideal.div (Ideal.exp (S l - top S)) (∑ l, Ideal.exp (S l - top S))
      = entry (fun l => S (Fin.castAdd n2 l)) (fun l => S (Fin.natAdd n1 l))
          (fun l => W (Fin.castAdd n2 l)) (fun l => W (Fin.natAdd n1 l)) := by
  choose s hs using hS
  have hSe : S = fun l => (s l : EReal) := funext hs
  obtain ⟨μ, hμ⟩ := top_real hn s
  have hden : ∑ l, Ideal.exp (S l - top S) = ((∑ l, Real.exp (s l - μ) : ℝ) : EReal) := by
    rw [hSe, hμ, ← coe_sum]
    refine Finset.sum_congr rfl fun l _ => ?_
    rw [← EReal.coe_sub]; rfl
  have hpos : 0 < ∑ l, Real.exp (s l - μ) :=
    Finset.sum_pos (fun l _ => Real.exp_pos _) ⟨⟨0, hn⟩, Finset.mem_univ _⟩
  unfold entry
  rw [← top_join, ← Fin.sum_univ_add (fun l => Ideal.exp (S l - top S)),
    ← Fin.sum_univ_add (fun l => Ideal.exp (S l - top S) * W l), hden, Ideal.div_coe hpos.ne']
  rw [← sum_mul_real _ _ _ (by positivity)]
  refine Finset.sum_congr rfl fun l _ => ?_
  rw [Ideal.div_coe hpos.ne', ← mul_assoc, mul_comm (W l)]

/-- One entry over a single list of keys. -/
def entry1 {n : ℕ} (s : Fin n → EReal) (v : Fin n → EReal) : EReal :=
  Ideal.div (∑ l, Ideal.exp (s l - top s) * v l) (∑ l, Ideal.exp (s l - top s))

/-- The softmax over a single list, weighting its values, is the entry over that list. -/
theorem softmax_one {n : ℕ} (hn : 0 < n) (S : Fin n → EReal) (hS : ∀ l, ∃ x : ℝ, S l = (x : EReal)) (W : Fin n → EReal) :
    ∑ l, W l * Ideal.div (Ideal.exp (S l - top S)) (∑ l, Ideal.exp (S l - top S)) = entry1 S W := by
  choose s hs using hS
  have hSe : S = fun l => (s l : EReal) := funext hs
  obtain ⟨μ, hμ⟩ := top_real hn s
  have hden : ∑ l, Ideal.exp (S l - top S) = ((∑ l, Real.exp (s l - μ) : ℝ) : EReal) := by
    rw [hSe, hμ, ← coe_sum]
    refine Finset.sum_congr rfl fun l _ => ?_
    rw [← EReal.coe_sub]; rfl
  have hpos : 0 < ∑ l, Real.exp (s l - μ) :=
    Finset.sum_pos (fun l _ => Real.exp_pos _) ⟨⟨0, hn⟩, Finset.mem_univ _⟩
  unfold entry1
  rw [hden, Ideal.div_coe hpos.ne', ← sum_mul_real _ _ _ (by positivity)]
  refine Finset.sum_congr rfl fun l _ => ?_
  rw [Ideal.div_coe hpos.ne', ← mul_assoc, mul_comm (W l)]

end Cert.AttnMath

end
-- ==== Proof.AttnLatRef.lean ====
/- Latent attention: the reference's result, entry by entry, as plain sums. -/
module

public import proofs.«01_k».proof.Proof.Gen.AttnLatRefIdeal.Run
public import Idealize.ShloMosaic.Lib.Pointwise
public import proofs.«01_k».proof.Proof.AttnMath

@[expose] public section

set_option maxRecDepth 16384

noncomputable section

namespace Cert.AttnLatRefIdeal.Rows

open Cert.AttnLatRefIdeal Cert.AttnLatRefIdeal.Gen Idealize.ShloMosaic Idealize.ShloMosaic.TcCoe Idealize.SL.Sem

/-- The keys of both lists, joined along the key axis. -/
def keys (a1 : FVec Ideal S4096x1024 .bf16) (a3 : FVec Ideal S512x1024 .bf16) : FVec Ideal S2x2304x4x256 .f32 :=
  concatenate S2x2304x4x256 1 [⟨S2x2048x4x256, (shapeCast _ (extf .f32 a1 bitsLt_bf16_f32) shapeCasts_S4096x1024_S2x2048x4x256)⟩, ⟨S2x256x4x256, (shapeCast _ (extf .f32 a3 bitsLt_bf16_f32) shapeCasts_S512x1024_S2x256x4x256)⟩] concatenates_S2x2048x4x256_S2x256x4x256_S2x2304x4x256_d1

/-- The scores: the product over the first 128 features of a head plus the product over the last 128. -/
def scores (a0 : FVec Ideal S4096x1024 .bf16) (a1 : FVec Ideal S4096x1024 .bf16) (a3 : FVec Ideal S512x1024 .bf16) :
    FVec Ideal S2x4x2048x2304 .f32 :=
  addf (Host.dotGeneral dot_S2x2048x4x128_S2x2304x4x128_S2x4x2048x2304_3_3_1_1_02_02 none (extractStridedSlice S2x2048x4x128 ![0, 0, 0, 0] (shapeCast _ (extf .f32 a0 bitsLt_bf16_f32) shapeCasts_S4096x1024_S2x2048x4x256) slices_S2x2048x4x256_S2x2048x4x128_0_0_0_0) (extractStridedSlice S2x2304x4x128 ![0, 0, 0, 0] (keys a1 a3) slices_S2x2304x4x256_S2x2304x4x128_0_0_0_0)) (Host.dotGeneral dot_S2x2048x4x128_S2x2304x4x128_S2x4x2048x2304_3_3_1_1_02_02 none (extractStridedSlice S2x2048x4x128 ![0, 0, 0, 128] (shapeCast _ (extf .f32 a0 bitsLt_bf16_f32) shapeCasts_S4096x1024_S2x2048x4x256) slices_S2x2048x4x256_S2x2048x4x128_0_0_0_128) (extractStridedSlice S2x2304x4x128 ![0, 0, 0, 128] (keys a1 a3) slices_S2x2304x4x256_S2x2304x4x128_0_0_0_128))

/-- The largest score of each row. -/
def peak (S : FVec Ideal S2x4x2048x2304 .f32) : FVec Ideal S2x4x2048 .f32 :=
  Host.reduce FloatOps.maximumf S (constant S_ .f32 0xFF800000#32) reducesTo_S2x4x2048x2304_S2x4x2048_d3 h_S_

/-- One value per row, along the row. -/
def spread (P : FVec Ideal S2x4x2048 .f32) : FVec Ideal S2x4x2048x2304 .f32 :=
  broadcastInDim S2x4x2048x2304 ![0, 1, 2, 3] bcast_S2x4x2048x1_S2x4x2048x2304_0_1_2_3 (broadcastInDim S2x4x2048x1 ![0, 1, 2] bcast_S2x4x2048_S2x4x2048x1_0_1_2 P)

/-- The exponentials of the scores less their row's largest. -/
def weights (S : FVec Ideal S2x4x2048x2304 .f32) : FVec Ideal S2x4x2048x2304 .f32 :=
  Host.exp (subf S (spread (maximumf (broadcastInDim S2x4x2048 ![] bcast_S_S2x4x2048 (constant S_ .f32 0xFF800000#32)) (peak S))))

/-- The weights divided by their row's sum. -/
def probs (E : FVec Ideal S2x4x2048x2304 .f32) : FVec Ideal S2x4x2048x2304 .f32 :=
  Host.divf E (broadcastInDim S2x4x2048x2304 ![0, 1, 2, 3] bcast_S2x4x2048x1_S2x4x2048x2304_0_1_2_3 (broadcastInDim S2x4x2048x1 ![0, 1, 2] bcast_S2x4x2048_S2x4x2048x1_0_1_2 (Host.reduceAdd E (constant S_ .f32 0x00000000#32) reducesTo_S2x4x2048x2304_S2x4x2048_d3 h_S_)))

/-- The values of both lists, joined along the key axis. -/
def vals (a2 : FVec Ideal S4096x512 .bf16) (a4 : FVec Ideal S512x512 .bf16) : FVec Ideal S2x2304x4x128 .f32 :=
  concatenate S2x2304x4x128 1 [⟨S2x2048x4x128, (shapeCast _ (extf .f32 a2 bitsLt_bf16_f32) shapeCasts_S4096x512_S2x2048x4x128)⟩, ⟨S2x256x4x128, (shapeCast _ (extf .f32 a4 bitsLt_bf16_f32) shapeCasts_S512x512_S2x256x4x128)⟩] concatenates_S2x2048x4x128_S2x256x4x128_S2x2304x4x128_d1

/-- The weighted values, heads side by side. -/
def mixed (U : FVec Ideal S2x2304x4x128 .f32) (P : FVec Ideal S2x4x2048x2304 .f32) : FVec Ideal S4096x512 .bf16 :=
  truncf .bf16 (shapeCast _ (transpose S2x2048x4x128 [0, 3, 1, 2] (Host.dotGeneral dot_S2x2304x4x128_S2x4x2048x2304_S2x4x128x2048_1_3_3_2_02_01 none U P) transposes_S2x4x128x2048_S2x2048x4x128_0_3_1_2) shapeCasts_S2x2048x4x128_S4096x512) bitsLt_bf16_f32

/-- The reference's result as a function of its five arguments. -/
def REF (a0 : FVec Ideal S4096x1024 .bf16) (a1 : FVec Ideal S4096x1024 .bf16) (a2 : FVec Ideal S4096x512 .bf16)
    (a3 : FVec Ideal S512x1024 .bf16) (a4 : FVec Ideal S512x512 .bf16) : FVec Ideal S4096x512 .bf16 :=
  mixed (vals a2 a4) (probs (weights (scores a0 a1 a3)))

theorem res_eq (m : (ℓ : Loc nD τ sig) → Buf (Elt Ideal) ℓ) (c : Dev nD) :
    Value.res_main_v33 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem keys_first (a1 : FVec Ideal S4096x1024 .bf16) (a3 : FVec Ideal S512x1024 .bf16) (b : Fin 2) (l : Fin 2304)
    (l' : Fin 2048) (hl : (l : ℕ) = l') (h : Fin 4) (k : Fin 256) :
    keys a1 a3 (ix4 b l h k) = a1 (ix2 ⟨b * 2048 + l', by omega⟩ ⟨h * 256 + k, by omega⟩) := by
  pointwise [keys]
  rw [dif_pos (by omega)]
  simp only [hl]

theorem keys_second (a1 : FVec Ideal S4096x1024 .bf16) (a3 : FVec Ideal S512x1024 .bf16) (b : Fin 2) (l : Fin 2304)
    (l' : Fin 256) (hl : (l : ℕ) = 2048 + l') (h : Fin 4) (k : Fin 256) :
    keys a1 a3 (ix4 b l h k) = a3 (ix2 ⟨b * 256 + l', by omega⟩ ⟨h * 256 + k, by omega⟩) := by
  pointwise [keys]
  rw [dif_neg (by omega)]
  simp only [hl, Nat.add_sub_cancel_left]

theorem vals_first (a2 : FVec Ideal S4096x512 .bf16) (a4 : FVec Ideal S512x512 .bf16) (b : Fin 2) (l : Fin 2304)
    (l' : Fin 2048) (hl : (l : ℕ) = l') (h : Fin 4) (k : Fin 128) :
    vals a2 a4 (ix4 b l h k) = a2 (ix2 ⟨b * 2048 + l', by omega⟩ ⟨h * 128 + k, by omega⟩) := by
  pointwise [vals]
  rw [dif_pos (by omega)]
  simp only [hl]

theorem vals_second (a2 : FVec Ideal S4096x512 .bf16) (a4 : FVec Ideal S512x512 .bf16) (b : Fin 2) (l : Fin 2304)
    (l' : Fin 256) (hl : (l : ℕ) = 2048 + l') (h : Fin 4) (k : Fin 128) :
    vals a2 a4 (ix4 b l h k) = a4 (ix2 ⟨b * 256 + l', by omega⟩ ⟨h * 128 + k, by omega⟩) := by
  pointwise [vals]
  rw [dif_neg (by omega)]
  simp only [hl, Nat.add_sub_cancel_left]

/-- A score is one product over all 256 features of a head. -/
theorem scores_at (a0 : FVec Ideal S4096x1024 .bf16) (a1 : FVec Ideal S4096x1024 .bf16) (a3 : FVec Ideal S512x1024 .bf16)
    (b : Fin 2) (h : Fin 4) (s : Fin 2048) (l : Fin 2304) :
    scores a0 a1 a3 (ix4 b h s l)
      = ∑ k : Fin 256, a0 (ix2 ⟨b * 2048 + s, by omega⟩ ⟨h * 256 + k, by omega⟩) * keys a1 a3 (ix4 b l h k) := by
  pointwise [scores]
  exact (Fin.sum_univ_add (a := 128) (b := 128) (fun k : Fin 256 =>
    a0 (ix2 ⟨b * 2048 + s, by omega⟩ ⟨h * 256 + k, by omega⟩) * keys a1 a3 (ix4 b l h k))).symm

theorem peak_at (S : FVec Ideal S2x4x2048x2304 .f32) (b : Fin 2) (h : Fin 4) (s : Fin 2048) :
    peak S (ix3 b h s) = AttnMath.top fun l : Fin 2304 => S (ix4 b h s l) := by
  unfold peak
  rw [Host.reduce_eq_fold, Shape.ReducesTo.fold_fiber_r4_a3]
  rfl

theorem spread_at (P : FVec Ideal S2x4x2048 .f32) (b : Fin 2) (h : Fin 4) (s : Fin 2048) (l : Fin 2304) :
    spread P (ix4 b h s l) = P (ix3 b h s) := by
  pointwise [spread]

/-- The maximum with the value the reductions start from changes nothing. -/
theorem floor_at (P : FVec Ideal S2x4x2048 .f32) (b : Fin 2) (h : Fin 4) (s : Fin 2048) :
    maximumf (broadcastInDim S2x4x2048 ![] bcast_S_S2x4x2048 (constant S_ .f32 0xFF800000#32)) P (ix3 b h s) = P (ix3 b h s) := by
  have e : maximumf (broadcastInDim S2x4x2048 ![] bcast_S_S2x4x2048 (constant S_ .f32 0xFF800000#32)) P (ix3 b h s)
      = max AttnMath.low (P (ix3 b h s)) := by pointwise
  rw [e, AttnMath.low_eq, max_bot_left]

theorem exp_sub_at (S T : FVec Ideal S2x4x2048x2304 .f32) (i : S2x4x2048x2304.Idx) :
    Host.exp (subf S T) i = Ideal.exp (S i - T i) := by pointwise

theorem weights_at (S : FVec Ideal S2x4x2048x2304 .f32) (b : Fin 2) (h : Fin 4) (s : Fin 2048) (l : Fin 2304) :
    weights S (ix4 b h s l) = Ideal.exp (S (ix4 b h s l) - AttnMath.top fun l : Fin 2304 => S (ix4 b h s l)) := by
  unfold weights
  rw [exp_sub_at, spread_at, floor_at, peak_at]

theorem probs_at (E : FVec Ideal S2x4x2048x2304 .f32) (b : Fin 2) (h : Fin 4) (s : Fin 2048) (l : Fin 2304) :
    probs E (ix4 b h s l) = Ideal.div (E (ix4 b h s l)) (∑ l : Fin 2304, E (ix4 b h s l)) := by
  pointwise [probs]

theorem mixed_at (U : FVec Ideal S2x2304x4x128 .f32) (P : FVec Ideal S2x4x2048x2304 .f32)
    (r : Fin 4096) (n : Fin 512) (b : Fin 2) (s : Fin 2048) (h : Fin 4) (d : Fin 128)
    (hr : (r : ℕ) = b * 2048 + s) (hn : (n : ℕ) = h * 128 + d) :
    mixed U P (ix2 r n) = ∑ l : Fin 2304, U (ix4 b l h d) * P (ix4 b h s l) := by
  have h0 : (⟨(r : ℕ) / 2048, by omega⟩ : Fin 2) = b := Fin.ext (by simp; omega)
  have h1 : (⟨(r : ℕ) % 2048, by omega⟩ : Fin 2048) = s := Fin.ext (by simp; omega)
  have h2 : (⟨(n : ℕ) / 128, by omega⟩ : Fin 4) = h := Fin.ext (by simp; omega)
  have h3 : (⟨(n : ℕ) % 128, by omega⟩ : Fin 128) = d := Fin.ext (by simp; omega)
  pointwise [mixed]
  simp only [h0, h1, h2, h3]

/-- An entry that is a real number. -/
abbrev IsReal (x : EReal) : Prop := ∃ y : ℝ, x = (y : EReal)

theorem real_sum {n : ℕ} (f g : Fin n → EReal) (hf : ∀ i, IsReal (f i)) (hg : ∀ i, IsReal (g i)) :
    IsReal (∑ i, f i * g i) := by
  choose u hu using hf
  choose v hv using hg
  refine ⟨∑ i, u i * v i, ?_⟩
  rw [← AttnMath.coe_sum]
  exact Finset.sum_congr rfl fun i _ => by rw [hu, hv, EReal.coe_mul]

theorem scores_real (a0 : FVec Ideal S4096x1024 .bf16) (a1 : FVec Ideal S4096x1024 .bf16) (a3 : FVec Ideal S512x1024 .bf16)
    (h0 : ∀ i, IsReal (a0 i)) (h1 : ∀ i, IsReal (a1 i)) (h3 : ∀ i, IsReal (a3 i))
    (b : Fin 2) (h : Fin 4) (s : Fin 2048) (l : Fin 2304) : IsReal (scores a0 a1 a3 (ix4 b h s l)) := by
  rw [scores_at]
  refine real_sum _ _ (fun k => h0 _) fun k => ?_
  by_cases hl : (l : ℕ) < 2048
  · rw [keys_first a1 a3 b l ⟨l, hl⟩ rfl h k]; exact h1 _
  · rw [keys_second a1 a3 b l ⟨l - 2048, by omega⟩ (by simp; omega) h k]; exact h3 _

/-- One entry of the reference's result: head `h`, feature `d`, query `s` of sequence `b`. -/
theorem at_entry (a0 : FVec Ideal S4096x1024 .bf16) (a1 : FVec Ideal S4096x1024 .bf16) (a2 : FVec Ideal S4096x512 .bf16)
    (a3 : FVec Ideal S512x1024 .bf16) (a4 : FVec Ideal S512x512 .bf16)
    (h0 : ∀ i, IsReal (a0 i)) (h1 : ∀ i, IsReal (a1 i)) (h3 : ∀ i, IsReal (a3 i))
    (r : Fin 4096) (n : Fin 512) (b : Fin 2) (s : Fin 2048) (h : Fin 4) (d : Fin 128)
    (hr : (r : ℕ) = b * 2048 + s) (hn : (n : ℕ) = h * 128 + d) :
    REF a0 a1 a2 a3 a4 (ix2 r n)
      = AttnMath.entry (n1 := 2048) (n2 := 256)
          (fun l => ∑ k : Fin 256, a0 (ix2 r ⟨h * 256 + k, by omega⟩) * a1 (ix2 ⟨b * 2048 + l, by omega⟩ ⟨h * 256 + k, by omega⟩))
          (fun l => ∑ k : Fin 256, a0 (ix2 r ⟨h * 256 + k, by omega⟩) * a3 (ix2 ⟨b * 256 + l, by omega⟩ ⟨h * 256 + k, by omega⟩))
          (fun l => a2 (ix2 ⟨b * 2048 + l, by omega⟩ n)) (fun l => a4 (ix2 ⟨b * 256 + l, by omega⟩ n)) := by
  obtain ⟨r, r_lt⟩ := r
  obtain ⟨n, n_lt⟩ := n
  dsimp only at hr hn
  subst hr hn
  have key := AttnMath.softmax_join (n1 := 2048) (n2 := 256) (by norm_num) (fun l => scores a0 a1 a3 (ix4 b h s l))
    (fun l => scores_real a0 a1 a3 h0 h1 h3 b h s l) (fun l => vals a2 a4 (ix4 b l h d))
  unfold REF
  rw [mixed_at _ _ _ _ b s h d rfl rfl]
  simp only [probs_at, weights_at]
  refine key.trans ?_
  congr 1
  · funext l
    rw [scores_at]
    exact Finset.sum_congr rfl fun k _ => by rw [keys_first a1 a3 b _ l rfl h k]
  · funext l
    rw [scores_at]
    exact Finset.sum_congr rfl fun k _ => by rw [keys_second a1 a3 b _ l rfl h k]
  · funext l
    exact vals_first a2 a4 b _ l rfl h d
  · funext l
    exact vals_second a2 a4 b _ l rfl h d

end Cert.AttnLatRefIdeal.Rows

end
-- ==== Proof.AttnLatValue.lean ====
/- Latent attention: the array the kernel leaves is the reference's result. -/
module

public import proofs.«01_k».proof.Proof.Gen.AttnLatIdeal.Frame
public import proofs.«01_k».proof.Proof.AttnLatRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnLatIdeal.Rows

open Cert.AttnLatIdeal Cert.AttnLatIdeal.Gen

variable (m : (ℓ : Loc nD τ sig) → Buf (Elt Ideal) ℓ)

/-- The reference's result over the kernel's own argument arrays. -/
abbrev want (c : Dev nD) : FVec Ideal S4096x512 .bf16 :=
  Cert.AttnLatRefIdeal.Rows.REF (m ((c : Thread nD τ).loc main_arg0)) (m ((c : Thread nD τ).loc main_arg1))
    (m ((c : Thread nD τ).loc main_arg2)) (m ((c : Thread nD τ).loc main_arg3)) (m ((c : Thread nD τ).loc main_arg4))

/-- What the body stores for one head, entry by entry. -/
theorem head (q : Vec Ideal S256x256 .bf16) (k1 : Vec Ideal S2048x256 .bf16) (k2 : Vec Ideal S256x256 .bf16)
    (v1 : Vec Ideal S2048x128 .bf16) (v2 : Vec Ideal S256x128 .bf16) (p : Fin 256) (d : Fin 128) :
    k0_pay2 (F := Ideal) q k1 k2 v1 v2 (ix2 p d)
      = AttnMath.entry (fun l : Fin 2048 => ∑ k : Fin 256, q (ix2 p k) * k1 (ix2 l k))
          (fun l : Fin 256 => ∑ k : Fin 256, q (ix2 p k) * k2 (ix2 l k))
          (fun l => v1 (ix2 l d)) (fun l => v2 (ix2 l d)) := by
  pointwise [k0_pay2, AttnMath.entry]

/-- The body does the same for every head. -/
theorem head_second (q : Vec Ideal S256x256 .bf16) (k1 : Vec Ideal S2048x256 .bf16) (k2 : Vec Ideal S256x256 .bf16)
    (v1 : Vec Ideal S2048x128 .bf16) (v2 : Vec Ideal S256x128 .bf16) :
    k0_pay3 (F := Ideal) q k1 k2 v1 v2 = k0_pay2 q k1 k2 v1 v2 := rfl

theorem head_third (q : Vec Ideal S256x256 .bf16) (k1 : Vec Ideal S2048x256 .bf16) (k2 : Vec Ideal S256x256 .bf16)
    (v1 : Vec Ideal S2048x128 .bf16) (v2 : Vec Ideal S256x128 .bf16) :
    k0_pay6 (F := Ideal) q (k0_pay4 q k1) (k0_pay5 q k1) k2 v1 v2 = k0_pay2 q k1 k2 v1 v2 := rfl

theorem head_fourth (q : Vec Ideal S256x256 .bf16) (k1 : Vec Ideal S2048x256 .bf16) (k2 : Vec Ideal S256x256 .bf16)
    (v1 : Vec Ideal S2048x128 .bf16) (v2 : Vec Ideal S256x128 .bf16) :
    k0_pay1 (F := Ideal) (k0_pay7 q k1) (k0_pay8 q k1) (k0_pay9 q k2) (k0_pay10 q k2) v1 v2 = k0_pay2 q k1 k2 v1 v2 := rfl

/-- Where each window stands at grid point `t = 8 b + i`: query tile `t`, and sequence `b`'s keys and values. -/
theorem places : ∀ t : Fin cfg0.N, win0_0.index t = ![t.val, 0] ∧ win0_1.index t = ![t.val / 8, 0]
    ∧ win0_2.index t = ![t.val / 8, 0] ∧ win0_3.index t = ![t.val / 8, 0]
    ∧ win0_4.index t = ![t.val / 8, 0] ∧ win0_5.index t = ![t.val, 0] ∧ t.val < 16 :=
  (by decide +kernel : ∀ t : Fin grid0.N, _)

theorem read0 (c : Dev nD) (t : Fin cfg0.N) (p : Fin 256) (k : Fin 1024) (r : Fin 4096) (hr : (r : ℕ) = t.val * 256 + p) :
    iblk m c 0 t (ix2 p k) = m ((c : Thread nD τ).loc main_arg0) (ix2 r k) := by
  blk_ext [iblk, V, places t]

theorem read1 (c : Dev nD) (t : Fin cfg0.N) (l : Fin 2048) (k : Fin 1024) (r : Fin 4096) (hr : (r : ℕ) = t.val / 8 * 2048 + l) :
    iblk m c 1 t (ix2 l k) = m ((c : Thread nD τ).loc main_arg1) (ix2 r k) := by
  blk_ext [iblk, V, places t]

theorem read2 (c : Dev nD) (t : Fin cfg0.N) (l : Fin 2048) (k : Fin 512) (r : Fin 4096) (hr : (r : ℕ) = t.val / 8 * 2048 + l) :
    iblk m c 2 t (ix2 l k) = m ((c : Thread nD τ).loc main_arg2) (ix2 r k) := by
  blk_ext [iblk, V, places t]

theorem read3 (c : Dev nD) (t : Fin cfg0.N) (l : Fin 256) (k : Fin 1024) (r : Fin 512) (hr : (r : ℕ) = t.val / 8 * 256 + l) :
    iblk m c 3 t (ix2 l k) = m ((c : Thread nD τ).loc main_arg3) (ix2 r k) := by
  blk_ext [iblk, V, places t]

theorem read4 (c : Dev nD) (t : Fin cfg0.N) (l : Fin 256) (k : Fin 512) (r : Fin 512) (hr : (r : ℕ) = t.val / 8 * 256 + l) :
    iblk m c 4 t (ix2 l k) = m ((c : Thread nD τ).loc main_arg4) (ix2 r k) := by
  blk_ext [iblk, V, places t]

open Cert.AttnLatRefIdeal.Rows (IsReal)

/-- One head's payload over the head's columns of the staged blocks is the reference's entry. -/
theorem core (c : Dev nD)
    (h0 : ∀ i : S4096x1024.Idx, IsReal (m ((c : Thread nD τ).loc main_arg0) i))
    (h1 : ∀ i : S4096x1024.Idx, IsReal (m ((c : Thread nD τ).loc main_arg1) i))
    (h3 : ∀ i : S512x1024.Idx, IsReal (m ((c : Thread nD τ).loc main_arg3) i))
    (t : Fin cfg0.N) (h : Fin 4) (p : Fin 256) (d : Fin 128) (r : Fin 4096) (n : Fin 512)
    (hr : (r : ℕ) = t.val * 256 + p) (hn : (n : ℕ) = h * 128 + d)
    (q : Vec Ideal S256x256 .bf16) (k1 : Vec Ideal S2048x256 .bf16) (k2 : Vec Ideal S256x256 .bf16)
    (v1 : Vec Ideal S2048x128 .bf16) (v2 : Vec Ideal S256x128 .bf16)
    (eq : ∀ (p : Fin 256) (k : Fin 256), q (ix2 p k) = iblk m c 0 t (ix2 p (⟨h * 256 + k, by omega⟩ : Fin 1024)))
    (ek1 : ∀ (l : Fin 2048) (k : Fin 256), k1 (ix2 l k) = iblk m c 1 t (ix2 l (⟨h * 256 + k, by omega⟩ : Fin 1024)))
    (ek2 : ∀ (l : Fin 256) (k : Fin 256), k2 (ix2 l k) = iblk m c 3 t (ix2 l (⟨h * 256 + k, by omega⟩ : Fin 1024)))
    (ev1 : ∀ (l : Fin 2048) (d : Fin 128), v1 (ix2 l d) = iblk m c 2 t (ix2 l (⟨h * 128 + d, by omega⟩ : Fin 512)))
    (ev2 : ∀ (l : Fin 256) (d : Fin 128), v2 (ix2 l d) = iblk m c 4 t (ix2 l (⟨h * 128 + d, by omega⟩ : Fin 512))) :
    k0_pay2 (F := Ideal) q k1 k2 v1 v2 (ix2 p d) = want m c (ix2 r n) := by
  have ht := (places t).2.2.2.2.2.2
  refine (head q k1 k2 v1 v2 p d).trans (Eq.trans ?_ (Cert.AttnLatRefIdeal.Rows.at_entry _ _ _ _ _ h0 h1 h3 r n
    ⟨t.val / 8, by omega⟩ ⟨t.val % 8 * 256 + p, by omega⟩ h d (by simp; omega) hn).symm)
  have hn' : n = ⟨h * 128 + d, by omega⟩ := Fin.ext hn
  congr 1
  · funext l
    refine Finset.sum_congr rfl fun k _ => ?_
    rw [eq, ek1]
    exact congrArg₂ (fun a b : EReal => a * b) (read0 m c t p _ r hr) (read1 m c t l _ _ rfl)
  · funext l
    refine Finset.sum_congr rfl fun k _ => ?_
    rw [eq, ek2]
    exact congrArg₂ (fun a b : EReal => a * b) (read0 m c t p _ r hr) (read3 m c t l _ _ rfl)
  · funext l
    rw [ev1, hn']
    exact read2 m c t l _ _ rfl
  · funext l
    rw [ev2, hn']
    exact read4 m c t l _ _ rfl

end Cert.AttnLatIdeal.Rows

end
-- ==== Proof.AttnLatFinal.lean ====
/- Latent attention: the four heads' stores together are the reference's result. -/
module

public import proofs.«01_k».proof.Proof.AttnLatValue

@[expose] public section

set_option maxRecDepth 16384

noncomputable section

open Idealize.ShloMosaic Idealize.ShloMosaic.TcCoe Idealize.SL.Sem
open Idealize.ShloMosaic.Pipeline (Dat)

namespace Cert.AttnLatIdeal.Rows

open Cert.AttnLatIdeal Cert.AttnLatIdeal.Gen
open Cert.AttnLatRefIdeal.Rows (IsReal)

variable (m : (ℓ : Loc nD τ sig) → Buf (Elt Ideal) ℓ)

/-- Where entry `y` of the block stored at point `t` goes in the whole array. -/
theorem lands (t : Fin cfg0.N) (y : S256x512.Idx) (r : Fin 4096) (n : Fin 512)
    (hr : (r : ℕ) = t.val * 256 + (y 0).val) (hn : (n : ℕ) = (y 1).val) :
    ((cfg0.win 5).blk t).view.emb y = ix2 r n := by
  idx_vars y
  blk_ext [places t]

theorem point (c : Dev nD)
    (f0 : ∀ i : S4096x1024.Idx, IsReal (m ((c : Thread nD τ).loc main_arg0) i))
    (f1 : ∀ i : S4096x1024.Idx, IsReal (m ((c : Thread nD τ).loc main_arg1) i))
    (f3 : ∀ i : S512x1024.Idx, IsReal (m ((c : Thread nD τ).loc main_arg3) i))
    (t : Fin cfg0.N) (y : S256x512.Idx) :
    out0_5 (iblk m c 0 t) (iblk m c 1 t) (iblk m c 2 t) (iblk m c 3 t) (iblk m c 4 t) y
      = want m c (((cfg0.win 5).blk t).view.emb y) := by
  have ht := (places t).2.2.2.2.2.2
  canon_tiles x h
  case piece0 =>
    idx_vars x
    have hx0 : ((x0 : Fin 256) : ℕ) < 256 := x0.isLt
    have hx1 : ((x1 : Fin 128) : ℕ) < 128 := x1.isLt
    rw [lands t y ⟨t.val * 256 + x0, by omega⟩ ⟨384 + x1, by omega⟩ (by simp at h0 ⊢; omega) (by simp at h1 ⊢; omega)]
    refine (congrFun (head_fourth _ _ _ _ _) _).trans ?_
    refine core m c f0 f1 f3 t 3 x0 x1 _ _ rfl (by simp) _ _ _ _ _ ?_ ?_ ?_ ?_ ?_
    all_goals
      intro a b
      pointwise
  case piece1 =>
    idx_vars x
    have hx0 : ((x0 : Fin 256) : ℕ) < 256 := x0.isLt
    have hx1 : ((x1 : Fin 128) : ℕ) < 128 := x1.isLt
    rw [lands t y ⟨t.val * 256 + x0, by omega⟩ ⟨256 + x1, by omega⟩ (by simp at h0 ⊢; omega) (by simp at h1 ⊢; omega)]
    refine (congrFun (head_third _ _ _ _ _) _).trans ?_
    refine core m c f0 f1 f3 t 2 x0 x1 _ _ rfl (by simp) _ _ _ _ _ ?_ ?_ ?_ ?_ ?_
    all_goals
      intro a b
      pointwise
  case piece2 =>
    idx_vars x
    have hx0 : ((x0 : Fin 256) : ℕ) < 256 := x0.isLt
    have hx1 : ((x1 : Fin 128) : ℕ) < 128 := x1.isLt
    rw [lands t y ⟨t.val * 256 + x0, by omega⟩ ⟨128 + x1, by omega⟩ (by simp at h0 ⊢; omega) (by simp at h1 ⊢; omega)]
    refine (congrFun (head_second _ _ _ _ _) _).trans ?_
    refine core m c f0 f1 f3 t 1 x0 x1 _ _ rfl (by simp) _ _ _ _ _ ?_ ?_ ?_ ?_ ?_
    all_goals
      intro a b
      pointwise
  case piece3 =>
    idx_vars x
    have hx0 : ((x0 : Fin 256) : ℕ) < 256 := x0.isLt
    have hx1 : ((x1 : Fin 128) : ℕ) < 128 := x1.isLt
    rw [lands t y ⟨t.val * 256 + x0, by omega⟩ ⟨x1, by omega⟩ (by simp at h0 ⊢; omega) (by simp at h1 ⊢; omega)]
    refine core m c f0 f1 f3 t 0 x0 x1 _ _ rfl (by simp) _ _ _ _ _ ?_ ?_ ?_ ?_ ?_
    all_goals
      intro a b
      pointwise

/-- The result array after the run. -/
theorem final (c : Dev nD)
    (f0 : ∀ i : S4096x1024.Idx, IsReal (m ((c : Thread nD τ).loc main_arg0) i))
    (f1 : ∀ i : S4096x1024.Idx, IsReal (m ((c : Thread nD τ).loc main_arg1) i))
    (f3 : ∀ i : S512x1024.Idx, IsReal (m ((c : Thread nD τ).loc main_arg3) i)) :
    (dats m 0 c).arrAt 5 (cfgs 0).N = want m c := by
  refine (dats m 0 c).arrAt_eq_of_covers 5 _ (by decide +kernel) fun t hf y => ?_
  blk_simp; rw [after0_5]
  exact point m c f0 f1 f3 t y

end Cert.AttnLatIdeal.Rows

end
-- ==== Proof.AttnLatPre.lean ====
/- What the precondition of the attention claim says: queries and keys are real numbers. -/
module

public import proofs.«01_k».proof.Proof.Gen.Pre_scores_finite
public import proofs.«01_k».proof.Proof.AttnLatRef
public import Idealize.ShloMosaic.Lib.ReduceAll

@[expose] public section

set_option maxRecDepth 16384

noncomputable section

open Idealize.ShloMosaic

namespace Cert.AttnLatIdeal.Pre

open Cert.AttnLatRefIdeal.Rows (IsReal)

/-- An entry below the largest value in absolute value is a real number. -/
theorem real_of_below (x : EReal) (h : Ideal.cmp .olt (max x (-x)) (Ideal.ofBits .f32 0x7F800000#32) = 1#1) : IsReal x := by
  have top : Ideal.ofBits .f32 0x7F800000#32 = ⊤ := by simp [Ideal.ofBits, Ideal.ieee]
  rw [top] at h
  induction x with
  | bot => simp [Ideal.cmp] at h
  | top => simp [Ideal.cmp] at h
  | coe r => exact ⟨r, rfl⟩

instance : Subsingleton Cert.Pre_scores_finite.S_.Idx := ⟨fun a b => funext fun i => i.elim0⟩

theorem finite (a0 a1 : FVec Ideal Cert.Pre_scores_finite.S4096x1024 .bf16) (a2 : FVec Ideal Cert.Pre_scores_finite.S4096x512 .bf16)
    (a3 : FVec Ideal Cert.Pre_scores_finite.S512x1024 .bf16) (a4 : FVec Ideal Cert.Pre_scores_finite.S512x512 .bf16)
    (h : Cert.Pre_scores_finite.fn (F := Ideal) a0 a1 a2 a3 a4 = fun _ => 1#1) :
    (∀ i, IsReal (a0 i)) ∧ (∀ i, IsReal (a1 i)) ∧ ∀ i, IsReal (a3 i) := by
  have e := congrFun h (Shape.Idx.first Cert.Pre_scores_finite.Facts.h_S_)
  dsimp only [Cert.Pre_scores_finite.fn] at e
  obtain ⟨e01, e3⟩ := IntOp.andi_eq_one.1 e
  obtain ⟨e0, e1⟩ := IntOp.andi_eq_one.1 e01
  refine ⟨fun i => ?_, fun i => ?_, fun i => ?_⟩
  · exact real_of_below _ (Host.reduce_andi_all _ _ _ _ _ e0 i)
  · exact real_of_below _ (Host.reduce_andi_all _ _ _ _ _ e1 i)
  · exact real_of_below _ (Host.reduce_andi_all _ _ _ _ _ e3 i)

end Cert.AttnLatIdeal.Pre

end
-- ==== Proof.AttnLatClaim.lean ====
/- The claims about the latents' attention. -/
module

public import proofs.«01_k».proof.Defs
public import proofs.«01_k».proof.Proof.AttnLatFinal
public import proofs.«01_k».proof.Proof.Gen.AttnLat.Frame
public import proofs.«01_k».proof.Proof.AttnLatPre
public import Idealize.ShloMosaic.Lib.Claim

@[expose] public section

set_option maxRecDepth 16384

noncomputable section

open Idealize.ShloMosaic Idealize.SL.Sem

namespace Cert.AttnLat.Claims

theorem frame : Cert.quiescent_AttnLat := fun m ρ _ => Cert.AttnLat.Gen.frame m ρ

theorem frame_ideal : Cert.quiescent_AttnLatIdeal := fun m ρ _ => Cert.AttnLatIdeal.Gen.frame m ρ

theorem frame_ref : Cert.quiescent_AttnLatRefIdeal := by
  intro m g _
  hlo_run
  · simp only [and_self, implies_true]
  · exact Idealize.ShloMosaic.sem_eq_zero_of_no_sems (sig := Cert.AttnLatRefIdeal.sig) (by decide) _

theorem frame_ideal_pre : Cert.quiescent_AttnLatIdeal_pre_scores_finite := fun m ρ _ => Cert.AttnLatIdeal.Gen.frame m ρ

theorem frame_ref_pre : Cert.quiescent_AttnLatRefIdeal_pre_scores_finite := by
  intro m g _
  hlo_run
  · simp only [and_self, implies_true]
  · exact Idealize.ShloMosaic.sem_eq_zero_of_no_sems (sig := Cert.AttnLatRefIdeal.sig) (by decide) _

theorem algebraic : Cert.algebraic_AttnLatIdeal_AttnLatRefIdeal_pre_scores_finite := by
  pair_intro
  · run_from Cert.AttnLatIdeal.Gen.run_main m g
  · run_from Cert.AttnLatRefIdeal.Value.run m' g'
    rw [Cert.AttnLatRefIdeal.Rows.res_eq]
    obtain ⟨h0, h1, h2, h3, h4⟩ := hagree c
    rw [h0, h1, h2, h3, h4]
    obtain ⟨f0, f1, f3⟩ := Cert.AttnLatIdeal.Pre.finite _ _ _ _ _ (hpre c)
    exact (Cert.AttnLatIdeal.Rows.final m c f0 f1 f3).symm

end Cert.AttnLat.Claims

end
-- ==== Proof.RowMath.lean ====
/- What the layer's blocks do with one row: normalise and modulate it, and pass it through the gated
   feed-forward product. -/
module

public import Idealize.ShloMosaic.Lib.Pointwise

@[expose] public section

noncomputable section

open Idealize.ShloMosaic

namespace Cert.RowMath

/-- Root-mean-square normalisation of a row, times the gain, times one plus the scale, plus the shift. -/
def normed (x g sc sh : Fin 1024 → EReal) (k : Fin 1024) : EReal :=
  x k * Ideal.rsqrt (Ideal.div (∑ i : Fin 1024, x i * x i) (Ideal.ofBits .f32 0x44800000#32)
    + Ideal.ofBits .f32 0x358637BD#32) * g k * (Ideal.ofBits .f32 0x3F800000#32 + sc k) + sh k

/-- One hidden feature: the first product times its logistic value, times the second product. -/
def hidden (h w1 w3 : Fin 1024 → EReal) : EReal :=
  (∑ k : Fin 1024, h k * w1 k)
    * Ideal.div (Ideal.ofBits .f32 0x3F800000#32)
        (Ideal.ofBits .f32 0x3F800000#32 + Ideal.exp (-(∑ k : Fin 1024, h k * w1 k)))
    * (∑ k : Fin 1024, h k * w3 k)

end Cert.RowMath

end
-- ==== Proof.FfnRef.lean ====
/- The feed-forward block: the reference's result, row by row, as plain sums. -/
module

public import proofs.«01_k».proof.Proof.Gen.FfnRefIdeal.Run
public import proofs.«01_k».proof.Proof.RowMath
public import Idealize.ShloMosaic.Lib.Pointwise

@[expose] public section

set_option maxRecDepth 16384

noncomputable section

namespace Cert.FfnRefIdeal.Rows

open Cert.FfnRefIdeal Cert.FfnRefIdeal.Gen Idealize.ShloMosaic Idealize.ShloMosaic.TcCoe Idealize.SL.Sem

/-- The context rows, by sequence. -/
def rowsC (a0 : FVec Ideal S12288x1024 .f32) : FVec Ideal S32x256x1024 .f32 :=
  shapeCast _ (extractStridedSlice S8192x1024 ![0, 0] a0 slices_S12288x1024_S8192x1024_0_0) shapeCasts_S8192x1024_S32x256x1024

/-- The latent rows, by sequence. -/
def rowsL (a0 : FVec Ideal S12288x1024 .f32) : FVec Ideal S2x2048x1024 .f32 :=
  shapeCast _ (extractStridedSlice S4096x1024 ![8192, 0] a0 slices_S12288x1024_S4096x1024_8192_0) shapeCasts_S4096x1024_S2x2048x1024

/-- The context rows, normalised and modulated. -/
def normC (a0 : FVec Ideal S12288x1024 .f32) (a1 : FVec Ideal S4x8x6x1024 .f32) (a2 : FVec Ideal S1024 .f32) :
    FVec Ideal S32x256x1024 .f32 :=
  addf (mulf (mulf (mulf (rowsC a0) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (rowsC a0) (rowsC a0)) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 a2))) (broadcastInDim S32x256x1024 ![0, 1, 2] bcast_S1x1x1024_S32x256x1024_0_1_2 (broadcastInDim S1x1x1024 ![2] bcast_S1024_S1x1x1024_2 (addf (broadcastInDim S1024 ![] bcast_S_S1024 (constant S_ .f32 0x3F800000#32)) (shapeCast _ (extractStridedSlice S1x1x1x1024 ![3, 0, 4, 0] a1 slices_S4x8x6x1024_S1x1x1x1024_3_0_4_0) shapeCasts_S1x1x1x1024_S1024))))) (broadcastInDim S32x256x1024 ![0, 1, 2] bcast_S1x1x1024_S32x256x1024_0_1_2 (broadcastInDim S1x1x1024 ![2] bcast_S1024_S1x1x1024_2 (shapeCast _ (extractStridedSlice S1x1x1x1024 ![3, 0, 3, 0] a1 slices_S4x8x6x1024_S1x1x1x1024_3_0_3_0) shapeCasts_S1x1x1x1024_S1024)))

/-- The latent rows, normalised and modulated. -/
def normL (a0 : FVec Ideal S12288x1024 .f32) (a1 : FVec Ideal S4x8x6x1024 .f32) (a2 : FVec Ideal S1024 .f32) :
    FVec Ideal S2x2048x1024 .f32 :=
  addf (mulf (mulf (mulf (rowsL a0) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (rowsL a0) (rowsL a0)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 a2))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S1x2x1x1024 ![3, 1, 4, 0] a1 slices_S4x8x6x1024_S1x2x1x1024_3_1_4_0) shapeCasts_S1x2x1x1024_S2x1024))))) (broadcastInDim S2x2048x1024 ![0, 1, 2] bcast_S2x1x1024_S2x2048x1024_0_1_2 (broadcastInDim S2x1x1024 ![0, 2] bcast_S2x1024_S2x1x1024_0_2 (shapeCast _ (extractStridedSlice S1x2x1x1024 ![3, 1, 3, 0] a1 slices_S4x8x6x1024_S1x2x1x1024_3_1_3_0) shapeCasts_S1x2x1x1024_S2x1024)))

/-- The hidden features of context rows. -/
def midC (H : FVec Ideal S32x256x1024 .f32) (a3 a4 : FVec Ideal S1024x2816 .f32) :
    FVec Ideal S32x256x2816 .f32 :=
  mulf (mulf (Host.dotGeneral dot_S32x256x1024_S1024x2816_S32x256x2816_2_0_01_1_n_n none H a3) (Host.divf (broadcastInDim S32x256x2816 ![] bcast_S_S32x256x2816 (constant S_ .f32 0x3F800000#32)) (addf (broadcastInDim S32x256x2816 ![] bcast_S_S32x256x2816 (constant S_ .f32 0x3F800000#32)) (Host.exp (Host.negf (Host.dotGeneral dot_S32x256x1024_S1024x2816_S32x256x2816_2_0_01_1_n_n none H a3)))))) (Host.dotGeneral dot_S32x256x1024_S1024x2816_S32x256x2816_2_0_01_1_n_n none H a4)

/-- The hidden features of latent rows. -/
def midL (H : FVec Ideal S2x2048x1024 .f32) (a3 a4 : FVec Ideal S1024x2816 .f32) :
    FVec Ideal S2x2048x2816 .f32 :=
  mulf (mulf (Host.dotGeneral dot_S2x2048x1024_S1024x2816_S2x2048x2816_2_0_01_1_n_n none H a3) (Host.divf (broadcastInDim S2x2048x2816 ![] bcast_S_S2x2048x2816 (constant S_ .f32 0x3F800000#32)) (addf (broadcastInDim S2x2048x2816 ![] bcast_S_S2x2048x2816 (constant S_ .f32 0x3F800000#32)) (Host.exp (Host.negf (Host.dotGeneral dot_S2x2048x1024_S1024x2816_S2x2048x2816_2_0_01_1_n_n none H a3)))))) (Host.dotGeneral dot_S2x2048x1024_S1024x2816_S2x2048x2816_2_0_01_1_n_n none H a4)

/-- The reference's result as a function of its six arguments. -/
def REF (a0 : FVec Ideal S12288x1024 .f32) (a1 : FVec Ideal S4x8x6x1024 .f32) (a2 : FVec Ideal S1024 .f32) (a3 : FVec Ideal S1024x2816 .f32)
    (a4 : FVec Ideal S1024x2816 .f32) (a5 : FVec Ideal S2816x1024 .f32) :
    FVec Ideal S12288x1024 .f32 :=
  concatenate S12288x1024 0 [⟨S8192x1024, (shapeCast _ (addf (rowsC a0) (mulf (broadcastInDim S32x256x1024 ![0, 1, 2] bcast_S1x1x1024_S32x256x1024_0_1_2 (broadcastInDim S1x1x1024 ![2] bcast_S1024_S1x1x1024_2 (shapeCast _ (extractStridedSlice S1x1x1x1024 ![3, 0, 5, 0] a1 slices_S4x8x6x1024_S1x1x1x1024_3_0_5_0) shapeCasts_S1x1x1x1024_S1024))) (Host.dotGeneral dot_S32x256x2816_S2816x1024_S32x256x1024_2_0_01_1_n_n none (midC (normC a0 a1 a2) a3 a4) a5))) shapeCasts_S32x256x1024_S8192x1024)⟩, ⟨S4096x1024, (shapeCast _ (addf (rowsL a0) (mulf (broadcastInDim S2x2048x1024 ![0, 1, 2] bcast_S2x1x1024_S2x2048x1024_0_1_2 (broadcastInDim S2x1x1024 ![0, 2] bcast_S2x1024_S2x1x1024_0_2 (shapeCast _ (extractStridedSlice S1x2x1x1024 ![3, 1, 5, 0] a1 slices_S4x8x6x1024_S1x2x1x1024_3_1_5_0) shapeCasts_S1x2x1x1024_S2x1024))) (Host.dotGeneral dot_S2x2048x2816_S2816x1024_S2x2048x1024_2_0_01_1_n_n none (midL (normL a0 a1 a2) a3 a4) a5))) shapeCasts_S2x2048x1024_S4096x1024)⟩] concatenates_S8192x1024_S4096x1024_S12288x1024_d0

theorem res_eq (m : (ℓ : Loc nD τ sig) → Buf (Elt Ideal) ℓ) (c : Dev nD) :
    Value.res_main_v78 m c = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

theorem normC_at (a0 : FVec Ideal S12288x1024 .f32) (a1 : FVec Ideal S4x8x6x1024 .f32) (a2 : FVec Ideal S1024 .f32)
    (b : Fin 32) (s : Fin 256) (k : Fin 1024) :
    normC a0 a1 a2 (ix3 b s k)
      = RowMath.normed (fun k => a0 (ix2 (⟨b * 256 + s, by omega⟩ : Fin 12288) k)) (fun k => a2 (ix1 k))
          (fun k => a1 (ix4 3 0 4 k)) (fun k => a1 (ix4 3 0 3 k)) k := by
  pointwise [normC, rowsC, RowMath.normed]

theorem midC_at (H : FVec Ideal S32x256x1024 .f32) (a3 a4 : FVec Ideal S1024x2816 .f32) (b : Fin 32) (s : Fin 256)
    (f : Fin 2816) :
    midC H a3 a4 (ix3 b s f)
      = RowMath.hidden (fun k => H (ix3 b s k)) (fun k => a3 (ix2 k f)) (fun k => a4 (ix2 k f)) := by
  pointwise [midC, RowMath.hidden]

theorem normL_at (a0 : FVec Ideal S12288x1024 .f32) (a1 : FVec Ideal S4x8x6x1024 .f32) (a2 : FVec Ideal S1024 .f32)
    (b : Fin 2) (s : Fin 2048) (k : Fin 1024) :
    normL a0 a1 a2 (ix3 b s k)
      = RowMath.normed (fun k => a0 (ix2 (⟨8192 + (b * 2048 + s), by omega⟩ : Fin 12288) k)) (fun k => a2 (ix1 k))
          (fun k => a1 (ix4 3 ⟨1 + b, by omega⟩ 4 k)) (fun k => a1 (ix4 3 ⟨1 + b, by omega⟩ 3 k)) k := by
  pointwise [normL, rowsL, RowMath.normed]

theorem midL_at (H : FVec Ideal S2x2048x1024 .f32) (a3 a4 : FVec Ideal S1024x2816 .f32) (b : Fin 2) (s : Fin 2048)
    (f : Fin 2816) :
    midL H a3 a4 (ix3 b s f)
      = RowMath.hidden (fun k => H (ix3 b s k)) (fun k => a3 (ix2 k f)) (fun k => a4 (ix2 k f)) := by
  pointwise [midL, RowMath.hidden]

/-- A row plus its gate times the feed-forward product of the normalised and modulated row. -/
def fed (x g sc sh gate : Fin 1024 → EReal) (W1 W3 : FVec Ideal S1024x2816 .f32) (W2 : FVec Ideal S2816x1024 .f32)
    (n : Fin 1024) : EReal :=
  x n + gate n * ∑ f : Fin 2816, RowMath.hidden (RowMath.normed x g sc sh) (fun k => W1 (ix2 k f)) (fun k => W3 (ix2 k f))
    * W2 (ix2 f n)

/-- A context row. -/
theorem ctx (a0 : FVec Ideal S12288x1024 .f32) (a1 : FVec Ideal S4x8x6x1024 .f32) (a2 : FVec Ideal S1024 .f32) (a3 : FVec Ideal S1024x2816 .f32)
    (a4 : FVec Ideal S1024x2816 .f32) (a5 : FVec Ideal S2816x1024 .f32)
    (r : Fin 12288) (h : (r : ℕ) < 8192) (n : Fin 1024) :
    REF a0 a1 a2 a3 a4 a5 (ix2 r n)
      = fed (fun k => a0 (ix2 r k)) (fun k => a2 (ix1 k)) (fun k => a1 (ix4 3 0 4 k)) (fun k => a1 (ix4 3 0 3 k))
          (fun k => a1 (ix4 3 0 5 k)) a3 a4 a5 n := by
  have hr : (⟨(r : ℕ) / 256 * 256 + (r : ℕ) % 256, by omega⟩ : Fin 12288) = r := Fin.ext (by simp; omega)
  pointwise [REF, fed, rowsC]
  rw [dif_pos (by omega)]
  simp only [midC_at, normC_at, hr]

/-- A latent row, of latent sequence `s`. -/
theorem lat (a0 : FVec Ideal S12288x1024 .f32) (a1 : FVec Ideal S4x8x6x1024 .f32) (a2 : FVec Ideal S1024 .f32) (a3 : FVec Ideal S1024x2816 .f32)
    (a4 : FVec Ideal S1024x2816 .f32) (a5 : FVec Ideal S2816x1024 .f32)
    (r : Fin 12288) (s : Fin 8) (h : 8192 ≤ (r : ℕ)) (hs : (s : ℕ) = 1 + ((r : ℕ) - 8192) / 2048) (n : Fin 1024) :
    REF a0 a1 a2 a3 a4 a5 (ix2 r n)
      = fed (fun k => a0 (ix2 r k)) (fun k => a2 (ix1 k)) (fun k => a1 (ix4 3 s 4 k)) (fun k => a1 (ix4 3 s 3 k))
          (fun k => a1 (ix4 3 s 5 k)) a3 a4 a5 n := by
  have hr : (⟨8192 + (((r : ℕ) - 8192) / 2048 * 2048 + ((r : ℕ) - 8192) % 2048), by omega⟩ : Fin 12288) = r :=
    Fin.ext (by simp; omega)
  have he : (⟨1 + ((r : ℕ) - 8192) / 2048, by omega⟩ : Fin 8) = s := Fin.ext hs.symm
  pointwise [REF, fed, rowsL]
  rw [dif_neg (by omega)]
  simp only [midL_at, normL_at, hr, he]

end Cert.FfnRefIdeal.Rows

end
-- ==== Proof.FfnValue.lean ====
/- The feed-forward block: the array the kernel leaves is the reference's result. -/
module

public import proofs.«01_k».proof.Proof.Gen.FfnIdeal.Frame
public import proofs.«01_k».proof.Proof.FfnRef
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnIdeal.Rows

open Cert.FfnIdeal Cert.FfnIdeal.Gen

variable (m : (ℓ : Loc nD τ sig) → Buf (Elt Ideal) ℓ)

/-- The reference's result over the kernel's own argument arrays. -/
abbrev want (c : Dev nD) : FVec Ideal S12288x1024 .f32 :=
  Cert.FfnRefIdeal.Rows.REF (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- Where each window stands at grid point `t = 2 i + j`: row tile `i`, the modulation rows of the tile's
    sequence, and half `j` of the hidden features. -/
theorem places : ∀ t : Fin cfg0.N, win0_0.index t = ![t.val / 2, 0]
    ∧ win0_1.index t = ![3, if t.val / 2 < 16 then 0 else 1 + (t.val / 2 - 16) / 4, 0, 0]
    ∧ win0_2.index t = ![0, 0] ∧ win0_3.index t = ![0, t.val % 2] ∧ win0_4.index t = ![0, t.val % 2]
    ∧ win0_5.index t = ![t.val % 2, 0] ∧ win0_6.index t = ![t.val / 2, 0] ∧ t.val < 48 :=
  (by decide +kernel : ∀ t : Fin grid0.N, _)

theorem read0 (c : Dev nD) (t : Fin cfg0.N) (p : Fin 512) (n : Fin 1024) (r : Fin 12288)
    (hr : (r : ℕ) = t.val / 2 * 512 + p) :
    iblk m c 0 t (ix2 p n) = m ((c : Thread nD τ).loc main_arg0) (ix2 r n) := by
  blk_ext [iblk, V, places t]

theorem read1 (c : Dev nD) (t : Fin cfg0.N) (n : Fin 1024) (q : Fin 6) (s : Fin 8)
    (hs : (s : ℕ) = if t.val / 2 < 16 then 0 else 1 + (t.val / 2 - 16) / 4) :
    iblk m c 1 t (ix4 0 0 q n) = m ((c : Thread nD τ).loc main_arg1) (ix4 3 s q n) := by
  blk_ext [iblk, V, places t]

theorem read2 (c : Dev nD) (t : Fin cfg0.N) (n : Fin 1024) :
    iblk m c 2 t (ix2 0 n) = m ((c : Thread nD τ).loc main_arg2) (ix1 n) := by
  blk_point [iblk, V, places t]

theorem read3 (c : Dev nD) (t : Fin cfg0.N) (k : Fin 1024) (f : Fin 1408) (l : Fin 2816)
    (hl : (l : ℕ) = t.val % 2 * 1408 + f) :
    iblk m c 3 t (ix2 k f) = m ((c : Thread nD τ).loc main_arg3) (ix2 k l) := by
  blk_point [iblk, V, places t]

theorem read4 (c : Dev nD) (t : Fin cfg0.N) (k : Fin 1024) (f : Fin 1408) (l : Fin 2816)
    (hl : (l : ℕ) = t.val % 2 * 1408 + f) :
    iblk m c 4 t (ix2 k f) = m ((c : Thread nD τ).loc main_arg4) (ix2 k l) := by
  blk_point [iblk, V, places t]

theorem read5 (c : Dev nD) (t : Fin cfg0.N) (f : Fin 1408) (n : Fin 1024) (l : Fin 2816)
    (hl : (l : ℕ) = t.val % 2 * 1408 + f) :
    iblk m c 5 t (ix2 f n) = m ((c : Thread nD τ).loc main_arg5) (ix2 l n) := by
  blk_point [iblk, V, places t]

/-- The normalised row the first point of a tile keeps. -/
theorem pay_norm (v : Vec Ideal S1x1x6x1024 .f32) (x : Vec Ideal S512x1024 .f32) (g : Vec Ideal S1x1024 .f32)
    (p : Fin 512) (k : Fin 1024) :
    k0_pay3 (F := Ideal) v x g (ix2 p k)
      = RowMath.normed (fun k => x (ix2 p k)) (fun k => g (ix2 0 k)) (fun k => v (ix4 0 0 4 k))
          (fun k => v (ix4 0 0 3 k)) k := by
  pointwise [k0_pay2, k0_pay3, RowMath.normed]

/-- The sum starts at zero. -/
theorem pay_zero (i) : k0_pay4 (F := Ideal) i = 0 := by
  pointwise [k0_pay4]

/-- What a point adds: the product over its half of the hidden features. -/
theorem pay_part (h : Vec Ideal S512x1024 .bf16) (w1 w3 : Vec Ideal S1024x1408 .bf16) (acc : Vec Ideal S512x1024 .f32)
    (w2 : Vec Ideal S1408x1024 .bf16) (p : Fin 512) (n : Fin 1024) :
    k0_pay5 (F := Ideal) h w1 w3 acc w2 (ix2 p n)
      = acc (ix2 p n) + ∑ f : Fin 1408, RowMath.hidden (fun k => h (ix2 p k)) (fun k => w1 (ix2 k f)) (fun k => w3 (ix2 k f))
          * w2 (ix2 f n) := by
  pointwise [k0_pay5, RowMath.hidden]
  simp only [zero_sub]

/-- What the last point of a tile stores. -/
theorem pay_out (v : Vec Ideal S1x1x6x1024 .f32) (x acc : Vec Ideal S512x1024 .f32) (p : Fin 512) (n : Fin 1024) :
    k0_pay1 (F := Ideal) (k0_pay2 v) x acc (ix2 p n) = x (ix2 p n) + v (ix4 0 0 5 n) * acc (ix2 p n) := by
  pointwise [k0_pay1, k0_pay2]

/-- The two halves of the hidden features. -/
theorem halves (f : Fin 2816 → EReal) :
    ∑ i : Fin 2816, f i = ∑ i : Fin 1408, f ⟨i, by omega⟩ + ∑ i : Fin 1408, f ⟨1408 + i, by omega⟩ :=
  Fin.sum_univ_add (a := 1408) (b := 1408) f

/-- The two points of a row tile together give the reference's row. -/
theorem point (c : Dev nD) (t s : Fin cfg0.N) (h1 : t.val % 2 = 1) (hs : s.val = t.val - 1) (y : S512x1024.Idx) :
    k0_pay1 (F := Ideal) (k0_pay2 (iblk m c 1 t)) (iblk m c 0 t)
      (k0_pay5 (k0_pay3 (iblk m c 1 s) (iblk m c 0 s) (iblk m c 2 s)) (iblk m c 3 t) (iblk m c 4 t)
        (k0_pay5 (k0_pay3 (iblk m c 1 s) (iblk m c 0 s) (iblk m c 2 s)) (iblk m c 3 s) (iblk m c 4 s) (k0_pay4 (F := Ideal))
          (iblk m c 5 s)) (iblk m c 5 t)) y
      = want m c (((cfg0.win 6).blk t).view.emb y) := by
  idx_vars y
  have ht := (places t).2.2.2.2.2.2.2
  have hq : s.val / 2 = t.val / 2 := by omega
  have hj : s.val % 2 = 0 := by omega
  have hy : (y0 : ℕ) < 512 := y0.isLt
  have he : ((cfg0.win 6).blk t).view.emb (ix2 y0 y1) = ix2 (⟨t.val / 2 * 512 + y0, by omega⟩ : Fin 12288) y1 := by
    blk_ext [places t]
  rw [he]
  refine (pay_out _ _ _ y0 y1).trans ?_
  rw [pay_part, pay_part, pay_zero, zero_add]
  have hq' : (⟨if t.val / 2 < 16 then 0 else 1 + (t.val / 2 - 16) / 4, by split <;> omega⟩ : Fin 8)
      = ⟨if s.val / 2 < 16 then 0 else 1 + (s.val / 2 - 16) / 4, by split <;> omega⟩ := Fin.ext (by simp only [hq])
  have hrow : want m c (ix2 (⟨t.val / 2 * 512 + y0, by omega⟩ : Fin 12288) y1)
      = Cert.FfnRefIdeal.Rows.fed (fun k => m ((c : Thread nD τ).loc main_arg0) (ix2 (⟨t.val / 2 * 512 + y0, by omega⟩ : Fin 12288) k))
          (fun k => m ((c : Thread nD τ).loc main_arg2) (ix1 k))
          (fun k => m ((c : Thread nD τ).loc main_arg1) (ix4 3 (⟨if t.val / 2 < 16 then 0 else 1 + (t.val / 2 - 16) / 4, by split <;> omega⟩ : Fin 8) 4 k))
          (fun k => m ((c : Thread nD τ).loc main_arg1) (ix4 3 (⟨if t.val / 2 < 16 then 0 else 1 + (t.val / 2 - 16) / 4, by split <;> omega⟩ : Fin 8) 3 k))
          (fun k => m ((c : Thread nD τ).loc main_arg1) (ix4 3 (⟨if t.val / 2 < 16 then 0 else 1 + (t.val / 2 - 16) / 4, by split <;> omega⟩ : Fin 8) 5 k))
          (m ((c : Thread nD τ).loc main_arg3)) (m ((c : Thread nD τ).loc main_arg4)) (m ((c : Thread nD τ).loc main_arg5)) y1 := by
    by_cases h : t.val / 2 < 16
    · have e : (⟨if t.val / 2 < 16 then 0 else 1 + (t.val / 2 - 16) / 4, by split <;> omega⟩ : Fin 8) = 0 :=
        Fin.ext (by simp only [if_pos h]; rfl)
      rw [e]
      exact Cert.FfnRefIdeal.Rows.ctx _ _ _ _ _ _ _ (by simp; omega) y1
    · exact Cert.FfnRefIdeal.Rows.lat _ _ _ _ _ _ _ _ (by simp; omega) (by simp only [if_neg h]; omega) y1
  have hn : (fun k => k0_pay3 (F := Ideal) (iblk m c 1 s) (iblk m c 0 s) (iblk m c 2 s) (ix2 y0 k))
      = RowMath.normed (fun k => m ((c : Thread nD τ).loc main_arg0) (ix2 (⟨t.val / 2 * 512 + y0, by omega⟩ : Fin 12288) k))
          (fun k => m ((c : Thread nD τ).loc main_arg2) (ix1 k))
          (fun k => m ((c : Thread nD τ).loc main_arg1) (ix4 3 (⟨if t.val / 2 < 16 then 0 else 1 + (t.val / 2 - 16) / 4, by split <;> omega⟩ : Fin 8) 4 k))
          (fun k => m ((c : Thread nD τ).loc main_arg1) (ix4 3 (⟨if t.val / 2 < 16 then 0 else 1 + (t.val / 2 - 16) / 4, by split <;> omega⟩ : Fin 8) 3 k)) := by
    funext k
    refine (pay_norm _ _ _ y0 k).trans ?_
    congr 1
    · funext k; exact read0 m c s y0 k _ (by simp only [hq])
    · funext k; exact read2 m c s k
    · funext k; exact read1 m c s k 4 _ (by simp only [hq])
    · funext k; exact read1 m c s k 3 _ (by simp only [hq])
  rw [hrow, hn, read0 m c t y0 y1 ⟨t.val / 2 * 512 + y0, by omega⟩ rfl, read1 m c t y1 5 ⟨if t.val / 2 < 16 then 0 else 1 + (t.val / 2 - 16) / 4, by split <;> omega⟩ rfl]
  unfold Cert.FfnRefIdeal.Rows.fed
  rw [halves]
  refine congrArg _ (congrArg _ (congrArg₂ _ ?_ ?_))
  · refine Fin.sum_fin_congr fun f => ?_
    refine congrArg₂ _ (congrArg₂ _ ?_ ?_) ?_
    · funext k; exact read3 m c s k f _ (by simp only [hj]; simp)
    · funext k; exact read4 m c s k f _ (by simp only [hj]; simp)
    · exact read5 m c s f y1 _ (by simp only [hj]; simp)
  · refine Fin.sum_fin_congr fun f => ?_
    refine congrArg₂ _ (congrArg₂ _ ?_ ?_) ?_
    · funext k; exact read3 m c t k f _ (by simp only [h1])
    · funext k; exact read4 m c t k f _ (by simp only [h1])
    · exact read5 m c t f y1 _ (by simp only [h1])

/-- The result array after the run. -/
theorem final (c : Dev nD) : (dats m 0 c).arrAt 6 (cfgs 0).N = want m c := by
  refine (dats m 0 c).arrAt_eq_of_covers 6 _ (by decide +kernel) fun t hf y => ?_
  have h1 : t.val % 2 = 1 := (flush0_6 t).mp hf
  have ht := (places t).2.2.2.2.2.2.2
  have hp := outsAt0_A m c ⟨t.val - 1, Nat.lt_of_le_of_lt (Nat.sub_le _ _) t.isLt⟩ (by simp; omega) (by simp; omega)
  blk_simp; rw [after0_6, outsAt0_B m c t (by omega) h1]
  dsimp only at hp ⊢
  rw [hp]
  frame_out
  rw [read_unread_whole, read_unread_whole]
  exact point m c t ⟨t.val - 1, Nat.lt_of_le_of_lt (Nat.sub_le _ _) t.isLt⟩ h1 rfl y

end Cert.FfnIdeal.Rows

end
-- ==== Proof.FfnClaim.lean ====
/- The claims about the feed-forward block. -/
module

public import proofs.«01_k».proof.Defs
public import proofs.«01_k».proof.Proof.FfnValue
public import proofs.«01_k».proof.Proof.Gen.Ffn.Frame
public import Idealize.ShloMosaic.Lib.Claim

@[expose] public section

set_option maxRecDepth 16384

noncomputable section

open Idealize.ShloMosaic Idealize.SL.Sem

namespace Cert.Ffn.Claims

theorem frame : Cert.quiescent_Ffn := fun m ρ _ => Cert.Ffn.Gen.frame m ρ

theorem frame_ideal : Cert.quiescent_FfnIdeal := fun m ρ _ => Cert.FfnIdeal.Gen.frame m ρ

theorem frame_ref : Cert.quiescent_FfnRefIdeal := by
  intro m g _
  hlo_run
  · simp only [and_self, implies_true]
  · exact Idealize.ShloMosaic.sem_eq_zero_of_no_sems (sig := Cert.FfnRefIdeal.sig) (by decide) _

theorem algebraic : Cert.algebraic_FfnIdeal_FfnRefIdeal := by
  pair_intro
  · run_from Cert.FfnIdeal.Gen.run_main m g
  · run_from Cert.FfnRefIdeal.Value.run m' g'
    rw [Cert.FfnRefIdeal.Rows.res_eq]
    obtain ⟨h0, h1, h2, h3, h4, h5⟩ := hagree c
    rw [h0, h1, h2, h3, h4, h5]
    exact (Cert.FfnIdeal.Rows.final m c).symm

end Cert.Ffn.Claims

end
-- ==== Proof.InProjRef.lean ====
/- The input projection: the reference's two results, row by row, as plain sums. -/
module

public import proofs.«01_k».proof.Proof.Gen.InProjRefIdeal.Run
public import proofs.«01_k».proof.Proof.RowMath
public import Idealize.ShloMosaic.Lib.Pointwise

@[expose] public section

set_option maxRecDepth 16384

noncomputable section

namespace Cert.InProjRefIdeal.Rows

open Cert.InProjRefIdeal Cert.InProjRefIdeal.Gen Idealize.ShloMosaic Idealize.ShloMosaic.TcCoe Idealize.SL.Sem

/-- The context rows, by sequence. -/
def rowsC (a0 : FVec Ideal S12288x1024 .f32) : FVec Ideal S32x256x1024 .f32 :=
  shapeCast _ (extractStridedSlice S8192x1024 ![0, 0] a0 slices_S12288x1024_S8192x1024_0_0) shapeCasts_S8192x1024_S32x256x1024

/-- The latent rows, by sequence. -/
def rowsL (a0 : FVec Ideal S12288x1024 .f32) : FVec Ideal S2x2048x1024 .f32 :=
  shapeCast _ (extractStridedSlice S4096x1024 ![8192, 0] a0 slices_S12288x1024_S4096x1024_8192_0) shapeCasts_S4096x1024_S2x2048x1024

/-- The context rows, normalised and modulated. -/
def normC (a0 : FVec Ideal S12288x1024 .f32) (a1 : FVec Ideal S4x8x6x1024 .f32) (a2 : FVec Ideal S1024 .f32) :
    FVec Ideal S32x256x1024 .f32 :=
  addf (mulf (mulf (mulf (rowsC a0) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (rowsC a0) (rowsC a0)) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 a2))) (broadcastInDim S32x256x1024 ![0, 1, 2] bcast_S1x1x1024_S32x256x1024_0_1_2 (broadcastInDim S1x1x1024 ![2] bcast_S1024_S1x1x1024_2 (addf (broadcastInDim S1024 ![] bcast_S_S1024 (constant S_ .f32 0x3F800000#32)) (shapeCast _ (extractStridedSlice S1x1x1x1024 ![2, 0, 1, 0] a1 slices_S4x8x6x1024_S1x1x1x1024_2_0_1_0) shapeCasts_S1x1x1x1024_S1024))))) (broadcastInDim S32x256x1024 ![0, 1, 2] bcast_S1x1x1024_S32x256x1024_0_1_2 (broadcastInDim S1x1x1024 ![2] bcast_S1024_S1x1x1024_2 (shapeCast _ (extractStridedSlice S1x1x1x1024 ![2, 0, 0, 0] a1 slices_S4x8x6x1024_S1x1x1x1024_2_0_0_0) shapeCasts_S1x1x1x1024_S1024)))

/-- The latent rows, normalised and modulated. -/
def normL (a0 : FVec Ideal S12288x1024 .f32) (a1 : FVec Ideal S4x8x6x1024 .f32) (a2 : FVec Ideal S1024 .f32) :
    FVec Ideal S2x2048x1024 .f32 :=
  addf (mulf (mulf (mulf (rowsL a0) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (rowsL a0) (rowsL a0)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 a2))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S1x2x1x1024 ![2, 1, 1, 0] a1 slices_S4x8x6x1024_S1x2x1x1024_2_1_1_0) shapeCasts_S1x2x1x1024_S2x1024))))) (broadcastInDim S2x2048x1024 ![0, 1, 2] bcast_S2x1x1024_S2x2048x1024_0_1_2 (broadcastInDim S2x1x1024 ![0, 2] bcast_S2x1024_S2x1x1024_0_2 (shapeCast _ (extractStridedSlice S1x2x1x1024 ![2, 1, 0, 0] a1 slices_S4x8x6x1024_S1x2x1x1024_2_1_0_0) shapeCasts_S1x2x1x1024_S2x1024)))

/-- All rows times the projection weight. -/
def proj (a0 : FVec Ideal S12288x1024 .f32) (a1 : FVec Ideal S4x8x6x1024 .f32) (a2 : FVec Ideal S1024 .f32)
    (a3 : FVec Ideal S1024x2496 .f32) : FVec Ideal S12288x2496 .f32 :=
  concatenate S12288x2496 0 [⟨S8192x2496, (shapeCast _ (Host.dotGeneral dot_S32x256x1024_S1024x2496_S32x256x2496_2_0_01_1_n_n none (normC a0 a1 a2) a3) shapeCasts_S32x256x2496_S8192x2496)⟩, ⟨S4096x2496, (shapeCast _ (Host.dotGeneral dot_S2x2048x1024_S1024x2496_S2x2048x2496_2_0_01_1_n_n none (normL a0 a1 a2) a3) shapeCasts_S2x2048x2496_S4096x2496)⟩] concatenates_S8192x2496_S4096x2496_S12288x2496_d0

/-- The recurrence's share of the columns. -/
def REC (a0 : FVec Ideal S12288x1024 .f32) (a1 : FVec Ideal S4x8x6x1024 .f32) (a2 : FVec Ideal S1024 .f32)
    (a3 : FVec Ideal S1024x2496 .f32) :
    FVec Ideal S12288x1792 .f32 :=
  extractStridedSlice S12288x1792 ![0, 0] (proj a0 a1 a2 a3) slices_S12288x2496_S12288x1792_0_0

/-- The attention's share of the columns, filled up with zeros. -/
def ATT (a0 : FVec Ideal S12288x1024 .f32) (a1 : FVec Ideal S4x8x6x1024 .f32) (a2 : FVec Ideal S1024 .f32)
    (a3 : FVec Ideal S1024x2496 .f32) :
    FVec Ideal S12288x768 .f32 :=
  pad S12288x768 ![0, 0] ![0, 64] ![0, 0] (extractStridedSlice S12288x704 ![0, 1792] (proj a0 a1 a2 a3) slices_S12288x2496_S12288x704_0_1792) (sitofp .f32 (constantI S_ 32 0#32)) pads_S12288x704_S12288x768_000_0640 h_S_

theorem rec_eq (m : (ℓ : Loc nD τ sig) → Buf (Elt Ideal) ℓ) (c : Dev nD) :
    Value.res_main_v59 m c = REC (m ((c.tc : Thread nD τ).loc main_arg0)) (m ((c.tc : Thread nD τ).loc main_arg1)) (m ((c.tc : Thread nD τ).loc main_arg2)) (m ((c.tc : Thread nD τ).loc main_arg3)) := rfl

theorem att_eq (m : (ℓ : Loc nD τ sig) → Buf (Elt Ideal) ℓ) (c : Dev nD) :
    Value.res_main_v61 m c = ATT (m ((c.tc : Thread nD τ).loc main_arg0)) (m ((c.tc : Thread nD τ).loc main_arg1)) (m ((c.tc : Thread nD τ).loc main_arg2)) (m ((c.tc : Thread nD τ).loc main_arg3)) := rfl

theorem normC_at (a0 : FVec Ideal S12288x1024 .f32) (a1 : FVec Ideal S4x8x6x1024 .f32) (a2 : FVec Ideal S1024 .f32)
    (b : Fin 32) (s : Fin 256) (k : Fin 1024) :
    normC a0 a1 a2 (ix3 b s k)
      = RowMath.normed (fun k => a0 (ix2 (⟨b * 256 + s, by omega⟩ : Fin 12288) k)) (fun k => a2 (ix1 k))
          (fun k => a1 (ix4 2 0 1 k)) (fun k => a1 (ix4 2 0 0 k)) k := by
  pointwise [normC, rowsC, RowMath.normed]

theorem normL_at (a0 : FVec Ideal S12288x1024 .f32) (a1 : FVec Ideal S4x8x6x1024 .f32) (a2 : FVec Ideal S1024 .f32)
    (b : Fin 2) (s : Fin 2048) (k : Fin 1024) :
    normL a0 a1 a2 (ix3 b s k)
      = RowMath.normed (fun k => a0 (ix2 (⟨8192 + (b * 2048 + s), by omega⟩ : Fin 12288) k)) (fun k => a2 (ix1 k))
          (fun k => a1 (ix4 2 ⟨1 + b, by omega⟩ 1 k)) (fun k => a1 (ix4 2 ⟨1 + b, by omega⟩ 0 k)) k := by
  pointwise [normL, rowsL, RowMath.normed]

/-- A context row. -/
theorem ctx (a0 : FVec Ideal S12288x1024 .f32) (a1 : FVec Ideal S4x8x6x1024 .f32) (a2 : FVec Ideal S1024 .f32)
    (a3 : FVec Ideal S1024x2496 .f32)
    (r : Fin 12288) (h : (r : ℕ) < 8192) (n : Fin 2496) :
    proj a0 a1 a2 a3 (ix2 r n)
      = ∑ k : Fin 1024, RowMath.normed (fun k => a0 (ix2 r k)) (fun k => a2 (ix1 k)) (fun k => a1 (ix4 2 0 1 k))
          (fun k => a1 (ix4 2 0 0 k)) k * a3 (ix2 k n) := by
  have hr : (⟨(r : ℕ) / 256 * 256 + (r : ℕ) % 256, by omega⟩ : Fin 12288) = r := Fin.ext (by simp; omega)
  pointwise [proj]
  rw [dif_pos (by omega)]
  simp only [normC_at, hr]

/-- A latent row, of latent sequence `s`. -/
theorem lat (a0 : FVec Ideal S12288x1024 .f32) (a1 : FVec Ideal S4x8x6x1024 .f32) (a2 : FVec Ideal S1024 .f32)
    (a3 : FVec Ideal S1024x2496 .f32)
    (r : Fin 12288) (s : Fin 8) (h : 8192 ≤ (r : ℕ)) (hs : (s : ℕ) = 1 + ((r : ℕ) - 8192) / 2048) (n : Fin 2496) :
    proj a0 a1 a2 a3 (ix2 r n)
      = ∑ k : Fin 1024, RowMath.normed (fun k => a0 (ix2 r k)) (fun k => a2 (ix1 k)) (fun k => a1 (ix4 2 s 1 k))
          (fun k => a1 (ix4 2 s 0 k)) k * a3 (ix2 k n) := by
  have hr : (⟨8192 + (((r : ℕ) - 8192) / 2048 * 2048 + ((r : ℕ) - 8192) % 2048), by omega⟩ : Fin 12288) = r :=
    Fin.ext (by simp; omega)
  have he : (⟨1 + ((r : ℕ) - 8192) / 2048, by omega⟩ : Fin 8) = s := Fin.ext hs.symm
  pointwise [proj]
  rw [dif_neg (by omega)]
  simp only [normL_at, hr, he]

theorem rec_at (a0 : FVec Ideal S12288x1024 .f32) (a1 : FVec Ideal S4x8x6x1024 .f32) (a2 : FVec Ideal S1024 .f32)
    (a3 : FVec Ideal S1024x2496 .f32)
    (r : Fin 12288) (n : Fin 1792) : REC a0 a1 a2 a3 (ix2 r n) = proj a0 a1 a2 a3 (ix2 r ⟨n, by omega⟩) := by
  pointwise [REC]

theorem att_low (a0 : FVec Ideal S12288x1024 .f32) (a1 : FVec Ideal S4x8x6x1024 .f32) (a2 : FVec Ideal S1024 .f32)
    (a3 : FVec Ideal S1024x2496 .f32)
    (r : Fin 12288) (n : Fin 768) (h : (n : ℕ) < 704) :
    ATT a0 a1 a2 a3 (ix2 r n) = proj a0 a1 a2 a3 (ix2 r ⟨1792 + n, by omega⟩) := by
  pointwise [ATT]
  rw [dif_pos (by omega)]

/-- The filling value is zero. -/
theorem zero_fill : FloatOps.sitofp (F := Ideal) FTy.f32 (0#32) = (0 : EReal) := by
  simp [FloatOps.sitofp]

theorem att_high (a0 : FVec Ideal S12288x1024 .f32) (a1 : FVec Ideal S4x8x6x1024 .f32) (a2 : FVec Ideal S1024 .f32)
    (a3 : FVec Ideal S1024x2496 .f32)
    (r : Fin 12288) (n : Fin 768) (h : 704 ≤ (n : ℕ)) : ATT a0 a1 a2 a3 (ix2 r n) = 0 := by
  pointwise [ATT]
  rw [dif_neg (by omega)]
  exact zero_fill

end Cert.InProjRefIdeal.Rows

end
-- ==== Proof.InProjValue.lean ====
/- The input projection: the two arrays the kernel leaves are the reference's results. -/
module

public import proofs.«01_k».proof.Proof.Gen.InProjIdeal.Frame
public import proofs.«01_k».proof.Proof.InProjRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjIdeal.Rows

open Cert.InProjIdeal Cert.InProjIdeal.Gen

variable (m : (ℓ : Loc nD τ sig) → Buf (Elt Ideal) ℓ)

/-- The reference's projection over the kernel's own argument arrays. -/
abbrev proj (c : Dev nD) : FVec Ideal Cert.InProjRefIdeal.S12288x2496 .f32 :=
  Cert.InProjRefIdeal.Rows.proj (m ((c : Thread nD τ).loc main_arg0)) (m ((c : Thread nD τ).loc main_arg1))
    (m ((c : Thread nD τ).loc main_arg2)) (m ((c : Thread nD τ).loc main_arg3))

/-- The reference's first result over the kernel's own argument arrays. -/
abbrev want4 (c : Dev nD) : FVec Ideal S12288x1792 .f32 :=
  Cert.InProjRefIdeal.Rows.REC (m ((c : Thread nD τ).loc main_arg0)) (m ((c : Thread nD τ).loc main_arg1))
    (m ((c : Thread nD τ).loc main_arg2)) (m ((c : Thread nD τ).loc main_arg3))

/-- The reference's second result over the kernel's own argument arrays. -/
abbrev want5 (c : Dev nD) : FVec Ideal S12288x768 .f32 :=
  Cert.InProjRefIdeal.Rows.ATT (m ((c : Thread nD τ).loc main_arg0)) (m ((c : Thread nD τ).loc main_arg1))
    (m ((c : Thread nD τ).loc main_arg2)) (m ((c : Thread nD τ).loc main_arg3))

/-- Where each window stands at grid point `t`: row tile `t`, the modulation rows of the tile's sequence, the
    whole gain and the whole weight. -/
theorem places : ∀ t : Fin cfg0.N, win0_0.index t = ![t.val, 0]
    ∧ win0_1.index t = ![2, if t.val < 32 then 0 else 1 + (t.val - 32) / 8, 0, 0]
    ∧ win0_2.index t = ![0, 0] ∧ win0_3.index t = ![0, 0] ∧ win0_4.index t = ![t.val, 0]
    ∧ win0_5.index t = ![t.val, 0] ∧ t.val < 48 :=
  (by decide +kernel : ∀ t : Fin grid0.N, _)

theorem read0 (c : Dev nD) (t : Fin cfg0.N) (p : Fin 256) (n : Fin 1024) (r : Fin 12288)
    (hr : (r : ℕ) = t.val * 256 + p) :
    iblk m c 0 t (ix2 p n) = m ((c : Thread nD τ).loc main_arg0) (ix2 r n) := by
  blk_ext [iblk, V, places t]

theorem read1 (c : Dev nD) (t : Fin cfg0.N) (n : Fin 1024) (q : Fin 6) (s : Fin 8)
    (hs : (s : ℕ) = if t.val < 32 then 0 else 1 + (t.val - 32) / 8) :
    iblk m c 1 t (ix4 0 0 q n) = m ((c : Thread nD τ).loc main_arg1) (ix4 2 s q n) := by
  blk_ext [iblk, V, places t]

/-- The kernel's operand `main_v2` is the gain, as one row. -/
theorem gain (c : Dev nD) (n : Fin 1024) : V m c main_v2 (ix2 0 n) = m ((c : Thread nD τ).loc main_arg2) (ix1 n) := by
  simp only [V, hostOps0, hostOps0_1, hostOps0_2, List.flatten_cons, List.flatten_nil, List.append_nil, List.cons_append,
    List.nil_append]
  entry_read
  pointwise

/-- The kernel's operand `main_v1` is the weight with zero columns added. -/
theorem weight_low (c : Dev nD) (k : Fin 1024) (n : Fin 2560) (l : Fin 2496) (hl : (n : ℕ) = l) :
    V m c main_v1 (ix2 k n) = m ((c : Thread nD τ).loc main_arg3) (ix2 k l) := by
  have e : (⟨(n : ℕ), by omega⟩ : Fin 2496) = l := Fin.ext hl
  simp only [V, hostOps0, hostOps0_1, hostOps0_2, List.flatten_cons, List.flatten_nil, List.append_nil, List.cons_append,
    List.nil_append]
  entry_read
  simp only [StableHlo.TRef.toBuf, StableHlo.TRef.ofBuf, cast_eq]
  pointwise
  rw [dif_pos (by omega), e]

theorem weight_high (c : Dev nD) (k : Fin 1024) (n : Fin 2560) (h : 2496 ≤ (n : ℕ)) :
    V m c main_v1 (ix2 k n) = (0 : EReal) := by
  simp only [V, hostOps0, hostOps0_1, hostOps0_2, List.flatten_cons, List.flatten_nil, List.append_nil, List.cons_append,
    List.nil_append]
  entry_read
  simp only [StableHlo.TRef.toBuf, StableHlo.TRef.ofBuf, cast_eq]
  pointwise
  rw [dif_neg (by omega)]
  exact Cert.InProjRefIdeal.Rows.zero_fill

theorem read2 (c : Dev nD) (t : Fin cfg0.N) (n : Fin 1024) :
    iblk m c 2 t (ix2 0 n) = V m c main_v2 (ix2 0 n) := by
  blk_ext [iblk, places t]

theorem read3 (c : Dev nD) (t : Fin cfg0.N) (k : Fin 1024) (n : Fin 2560) :
    iblk m c 3 t (ix2 k n) = V m c main_v1 (ix2 k n) := by
  blk_ext [iblk, places t]

/-- The body's product: the normalised and modulated row times the padded weight. -/
theorem pay (v : Vec Ideal S1x1x6x1024 .f32) (x : Vec Ideal S256x1024 .f32) (g : Vec Ideal S1x1024 .f32)
    (w : Vec Ideal S1024x2560 .bf16) (p : Fin 256) (n : Fin 2560) :
    k0_pay1 (F := Ideal) v x g w (ix2 p n)
      = ∑ k : Fin 1024, RowMath.normed (fun k => x (ix2 p k)) (fun k => g (ix2 0 k)) (fun k => v (ix4 0 0 1 k))
          (fun k => v (ix4 0 0 0 k)) k * w (ix2 k n) := by
  pointwise [k0_pay1, RowMath.normed]

/-- The first store's columns. -/
theorem pay_rec (v : Vec Ideal S1x1x6x1024 .f32) (x : Vec Ideal S256x1024 .f32) (g : Vec Ideal S1x1024 .f32)
    (w : Vec Ideal S1024x2560 .bf16) (p : Fin 256) (n : Fin 1792) :
    k0_pay2 (F := Ideal) v x g w (ix2 p n) = k0_pay1 (F := Ideal) v x g w (ix2 p ⟨n, by omega⟩) := by
  pointwise [k0_pay2]

/-- The second store's columns. -/
theorem pay_att (v : Vec Ideal S1x1x6x1024 .f32) (x : Vec Ideal S256x1024 .f32) (g : Vec Ideal S1x1024 .f32)
    (w : Vec Ideal S1024x2560 .bf16) (p : Fin 256) (n : Fin 768) :
    k0_pay3 (F := Ideal) v x g w (ix2 p n) = k0_pay1 (F := Ideal) v x g w (ix2 p ⟨1792 + n, by omega⟩) := by
  pointwise [k0_pay3]

/-- A column of the weight proper. -/
theorem column (c : Dev nD) (t : Fin cfg0.N) (p : Fin 256) (n : Fin 2560) (l : Fin 2496) (hl : (n : ℕ) = l)
    (r : Fin 12288) (hr : (r : ℕ) = t.val * 256 + p) :
    k0_pay1 (F := Ideal) (iblk m c 1 t) (iblk m c 0 t) (iblk m c 2 t) (iblk m c 3 t) (ix2 p n) = proj m c (ix2 r l) := by
  have ht := (places t).2.2.2.2.2.2
  refine (pay _ _ _ _ p n).trans ?_
  have sum (s : Fin 8) (hs : (s : ℕ) = if t.val < 32 then 0 else 1 + (t.val - 32) / 8) :
      (∑ k : Fin 1024, RowMath.normed (fun k => iblk m c 0 t (ix2 p k)) (fun k => iblk m c 2 t (ix2 0 k))
          (fun k => iblk m c 1 t (ix4 0 0 1 k)) (fun k => iblk m c 1 t (ix4 0 0 0 k)) k * iblk m c 3 t (ix2 k n))
        = ∑ k : Fin 1024, RowMath.normed (fun k => m ((c : Thread nD τ).loc main_arg0) (ix2 r k))
          (fun k => m ((c : Thread nD τ).loc main_arg2) (ix1 k)) (fun k => m ((c : Thread nD τ).loc main_arg1) (ix4 2 s 1 k))
          (fun k => m ((c : Thread nD τ).loc main_arg1) (ix4 2 s 0 k)) k * m ((c : Thread nD τ).loc main_arg3) (ix2 k l) := by
    refine Fin.sum_fin_congr fun k => ?_
    refine congrArg₂ _ ?_ ((read3 m c t k n).trans (weight_low m c k n l hl))
    congr 1
    · funext k; exact read0 m c t p k r hr
    · funext k; exact (read2 m c t k).trans (gain m c k)
    · funext k; exact read1 m c t k 1 s hs
    · funext k; exact read1 m c t k 0 s hs
  by_cases h : t.val < 32
  · exact (sum 0 (by rw [if_pos h]; rfl)).trans (Cert.InProjRefIdeal.Rows.ctx _ _ _ _ r (by omega) l).symm
  · exact (sum ⟨1 + ((r : ℕ) - 8192) / 2048, by omega⟩ (by rw [if_neg h]; simp; omega)).trans
      (Cert.InProjRefIdeal.Rows.lat _ _ _ _ r _ (by omega) rfl l).symm

/-- A column of the filling. -/
theorem filling (c : Dev nD) (t : Fin cfg0.N) (p : Fin 256) (n : Fin 2560) (h : 2496 ≤ (n : ℕ)) :
    k0_pay1 (F := Ideal) (iblk m c 1 t) (iblk m c 0 t) (iblk m c 2 t) (iblk m c 3 t) (ix2 p n) = (0 : EReal) := by
  refine (pay _ _ _ _ p n).trans ?_
  refine Finset.sum_eq_zero fun k _ => ?_
  rw [read3 m c t k n, weight_high m c k n h, mul_zero]

theorem point4 (c : Dev nD) (t : Fin cfg0.N) (y : S256x1792.Idx) :
    k0_pay2 (F := Ideal) (iblk m c 1 t) (iblk m c 0 t) (iblk m c 2 t) (iblk m c 3 t) y
      = want4 m c (((cfg0.win 4).blk t).view.emb y) := by
  idx_vars y
  have ht := (places t).2.2.2.2.2.2
  have he : ((cfg0.win 4).blk t).view.emb (ix2 y0 y1) = ix2 (⟨t.val * 256 + y0, by omega⟩ : Fin 12288) y1 := by
    blk_ext [places t]
  rw [he]
  refine (pay_rec _ _ _ _ y0 y1).trans ?_
  refine Eq.trans ?_ (Cert.InProjRefIdeal.Rows.rec_at _ _ _ _ _ _).symm
  exact column m c t y0 _ _ rfl ⟨t.val * 256 + y0, by omega⟩ rfl

theorem point5 (c : Dev nD) (t : Fin cfg0.N) (y : S256x768.Idx) :
    k0_pay3 (F := Ideal) (iblk m c 1 t) (iblk m c 0 t) (iblk m c 2 t) (iblk m c 3 t) y
      = want5 m c (((cfg0.win 5).blk t).view.emb y) := by
  idx_vars y
  have ht := (places t).2.2.2.2.2.2
  have he : ((cfg0.win 5).blk t).view.emb (ix2 y0 y1) = ix2 (⟨t.val * 256 + y0, by omega⟩ : Fin 12288) y1 := by
    blk_ext [places t]
  rw [he]
  refine (pay_att _ _ _ _ y0 y1).trans ?_
  by_cases h : (y1 : ℕ) < 704
  · refine Eq.trans ?_ (Cert.InProjRefIdeal.Rows.att_low _ _ _ _ _ _ h).symm
    exact column m c t y0 _ _ rfl ⟨t.val * 256 + y0, by omega⟩ rfl
  · refine Eq.trans ?_ (Cert.InProjRefIdeal.Rows.att_high _ _ _ _ _ _ (by omega)).symm
    exact filling m c t y0 _ (by simp; omega)

/-- The first result array after the run. -/
theorem final4 (c : Dev nD) : (dats m 0 c).arrAt 4 (cfgs 0).N = want4 m c := by
  refine (dats m 0 c).arrAt_eq_of_covers 4 _ (by decide +kernel) fun t hf y => ?_
  blk_simp; rw [after0_4]; frame_out
  exact point4 m c t y

/-- The second result array after the run. -/
theorem final5 (c : Dev nD) : (dats m 0 c).arrAt 5 (cfgs 0).N = want5 m c := by
  refine (dats m 0 c).arrAt_eq_of_covers 5 _ (by decide +kernel) fun t hf y => ?_
  blk_simp; rw [after0_5]; frame_out
  exact point5 m c t y

end Cert.InProjIdeal.Rows

end
-- ==== Proof.InProjClaim.lean ====
/- The claims about the input projection. -/
module

public import proofs.«01_k».proof.Defs
public import proofs.«01_k».proof.Proof.InProjValue
public import proofs.«01_k».proof.Proof.Gen.InProj.Frame
public import Idealize.ShloMosaic.Lib.Claim

@[expose] public section

set_option maxRecDepth 16384

noncomputable section

open Idealize.ShloMosaic Idealize.SL.Sem

namespace Cert.InProj.Claims

theorem frame : Cert.quiescent_InProj := fun m ρ _ => Cert.InProj.Gen.frame m ρ

theorem frame_ideal : Cert.quiescent_InProjIdeal := fun m ρ _ => Cert.InProjIdeal.Gen.frame m ρ

theorem frame_ref : Cert.quiescent_InProjRefIdeal := by
  intro m g _
  hlo_run
  · simp only [and_self, implies_true]
  · exact Idealize.ShloMosaic.sem_eq_zero_of_no_sems (sig := Cert.InProjRefIdeal.sig) (by decide) _

theorem algebraic : Cert.algebraic_InProjIdeal_InProjRefIdeal := by
  pair_intro
  · run_from Cert.InProjIdeal.Gen.run_main m g
    · exact Cert.InProjIdeal.Gen.V_main_arg2 m c
    · exact Cert.InProjIdeal.Gen.V_main_arg3 m c
  · run_from Cert.InProjRefIdeal.Value.run m' g'
    · rw [Cert.InProjRefIdeal.Rows.rec_eq]
      obtain ⟨h0, h1, h2, h3⟩ := hagree c
      rw [h0, h1, h2, h3]
      exact (Cert.InProjIdeal.Rows.final4 m c).symm
    · rw [Cert.InProjRefIdeal.Rows.att_eq]
      obtain ⟨h0, h1, h2, h3⟩ := hagree c
      rw [h0, h1, h2, h3]
      exact (Cert.InProjIdeal.Rows.final5 m c).symm

end Cert.InProj.Claims

end
-- ==== Proof.OutProjRef.lean ====
/- The attention output projection: the reference's result, row by row, as plain sums. -/
module

public import proofs.«01_k».proof.Proof.Gen.OutProjRefIdeal.Run
public import Idealize.ShloMosaic.Lib.Pointwise

@[expose] public section

set_option maxRecDepth 16384

noncomputable section

namespace Cert.OutProjRefIdeal.Rows

open Cert.OutProjRefIdeal Cert.OutProjRefIdeal.Gen Idealize.ShloMosaic Idealize.ShloMosaic.TcCoe Idealize.SL.Sem

/-- The reference's result as a function of its seven arguments. -/
def REF (a0 : FVec Ideal S12288x1024 .f32) (a1 : FVec Ideal S8192x512 .bf16) (a2 : FVec Ideal S4096x512 .bf16)
    (a3 : FVec Ideal S8192x512 .bf16) (a4 : FVec Ideal S4096x512 .bf16) (a5 : FVec Ideal S4x8x6x1024 .f32)
    (a6 : FVec Ideal S1024x1024 .f32) : FVec Ideal S12288x1024 .f32 :=
  concatenate S12288x1024 0 [⟨S8192x1024, (shapeCast _ (addf (shapeCast _ (extractStridedSlice S8192x1024 ![0, 0] a0 slices_S12288x1024_S8192x1024_0_0) shapeCasts_S8192x1024_S32x256x1024) (mulf (broadcastInDim S32x256x1024 ![0, 1, 2] bcast_S1x1x1024_S32x256x1024_0_1_2 (broadcastInDim S1x1x1024 ![2] bcast_S1024_S1x1x1024_2 (shapeCast _ (extractStridedSlice S1x1x1x1024 ![2, 0, 2, 0] a5 slices_S4x8x6x1024_S1x1x1x1024_2_0_2_0) shapeCasts_S1x1x1x1024_S1024))) (shapeCast _ (Host.dotGeneral dot_S8192x1024_S1024x1024_S8192x1024_1_0_0_1_n_n none (concatenate S8192x1024 1 [⟨S8192x512, (extf .f32 a1 bitsLt_bf16_f32)⟩, ⟨S8192x512, (extf .f32 a3 bitsLt_bf16_f32)⟩] concatenates_S8192x512_S8192x512_S8192x1024_d1) a6) shapeCasts_S8192x1024_S32x256x1024))) shapeCasts_S32x256x1024_S8192x1024)⟩, ⟨S4096x1024, (shapeCast _ (addf (shapeCast _ (extractStridedSlice S4096x1024 ![8192, 0] a0 slices_S12288x1024_S4096x1024_8192_0) shapeCasts_S4096x1024_S2x2048x1024) (mulf (broadcastInDim S2x2048x1024 ![0, 1, 2] bcast_S2x1x1024_S2x2048x1024_0_1_2 (broadcastInDim S2x1x1024 ![0, 2] bcast_S2x1024_S2x1x1024_0_2 (shapeCast _ (extractStridedSlice S1x2x1x1024 ![2, 1, 2, 0] a5 slices_S4x8x6x1024_S1x2x1x1024_2_1_2_0) shapeCasts_S1x2x1x1024_S2x1024))) (shapeCast _ (Host.dotGeneral dot_S4096x1024_S1024x1024_S4096x1024_1_0_0_1_n_n none (concatenate S4096x1024 1 [⟨S4096x512, (extf .f32 a2 bitsLt_bf16_f32)⟩, ⟨S4096x512, (extf .f32 a4 bitsLt_bf16_f32)⟩] concatenates_S4096x512_S4096x512_S4096x1024_d1) a6) shapeCasts_S4096x1024_S2x2048x1024))) shapeCasts_S2x2048x1024_S4096x1024)⟩] concatenates_S8192x1024_S4096x1024_S12288x1024_d0

/-- A row plus its gate times the product of the two feature halves with the two halves of the weight. -/
def mixed (x g : EReal) (A B : Fin 512 → EReal) (W : FVec Ideal S1024x1024 .f32) (n : Fin 1024) : EReal :=
  x + g * (∑ k : Fin 512, A k * W (ix2 ⟨k, by omega⟩ n) + ∑ k : Fin 512, B k * W (ix2 ⟨512 + k, by omega⟩ n))

/-- A context row `a`. -/
theorem ctx (a0 : FVec Ideal S12288x1024 .f32) (a1 : FVec Ideal S8192x512 .bf16) (a2 : FVec Ideal S4096x512 .bf16)
    (a3 : FVec Ideal S8192x512 .bf16) (a4 : FVec Ideal S4096x512 .bf16) (a5 : FVec Ideal S4x8x6x1024 .f32)
    (a6 : FVec Ideal S1024x1024 .f32) (r : Fin 12288) (a : Fin 8192) (h : (r : ℕ) = a) (n : Fin 1024) :
    REF a0 a1 a2 a3 a4 a5 a6 (ix2 r n)
      = mixed (a0 (ix2 r n)) (a5 (ix4 2 0 2 n)) (fun k => a1 (ix2 a k)) (fun k => a3 (ix2 a k)) a6 n := by
  have hr : (⟨(r : ℕ) / 256 * 256 + (r : ℕ) % 256, by omega⟩ : Fin 12288) = r := Fin.ext (by simp; omega)
  have ha : (⟨(r : ℕ) / 256 * 256 + (r : ℕ) % 256, by omega⟩ : Fin 8192) = a := Fin.ext (by simp; omega)
  pointwise [REF, mixed]
  rw [dif_pos (by omega)]
  simp only [hr, ha]

/-- A latent row `a`, of latent sequence `a / 2048`. -/
theorem lat (a0 : FVec Ideal S12288x1024 .f32) (a1 : FVec Ideal S8192x512 .bf16) (a2 : FVec Ideal S4096x512 .bf16)
    (a3 : FVec Ideal S8192x512 .bf16) (a4 : FVec Ideal S4096x512 .bf16) (a5 : FVec Ideal S4x8x6x1024 .f32)
    (a6 : FVec Ideal S1024x1024 .f32) (r : Fin 12288) (a : Fin 4096) (h : (r : ℕ) = 8192 + a) (n : Fin 1024) :
    REF a0 a1 a2 a3 a4 a5 a6 (ix2 r n)
      = mixed (a0 (ix2 r n)) (a5 (ix4 2 ⟨1 + (a : ℕ) / 2048, by omega⟩ 2 n)) (fun k => a2 (ix2 a k))
          (fun k => a4 (ix2 a k)) a6 n := by
  have hr : (⟨8192 + (((r : ℕ) - 8192) / 2048 * 2048 + ((r : ℕ) - 8192) % 2048), by omega⟩ : Fin 12288) = r :=
    Fin.ext (by simp; omega)
  have ha : (⟨((r : ℕ) - 8192) / 2048 * 2048 + ((r : ℕ) - 8192) % 2048, by omega⟩ : Fin 4096) = a :=
    Fin.ext (by simp; omega)
  have hs : (⟨1 + ((r : ℕ) - 8192) / 2048, by omega⟩ : Fin 8) = ⟨1 + (a : ℕ) / 2048, by omega⟩ :=
    Fin.ext (by simp; omega)
  pointwise [REF, mixed]
  rw [dif_neg (by omega)]
  simp only [hr, ha, hs]

end Cert.OutProjRefIdeal.Rows

end
-- ==== Proof.OutProjValue.lean ====
/- The attention output projection: the array the kernel leaves is the reference's result. -/
module

public import proofs.«01_k».proof.Proof.Gen.OutProjIdeal.Frame
public import proofs.«01_k».proof.Proof.OutProjRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjIdeal.Rows

open Cert.OutProjIdeal Cert.OutProjIdeal.Gen

variable (m : (ℓ : Loc nD τ sig) → Buf (Elt Ideal) ℓ)

/-- The reference's result over the kernel's own argument arrays. -/
abbrev want (c : Dev nD) : FVec Ideal S12288x1024 .f32 :=
  Cert.OutProjRefIdeal.Rows.REF (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- Where each window stands at grid point `t`: row tile `t`, the whole weight, and the modulation row
    of the tile's sequence (row 0 for the context, row `1 + s` for latent sequence `s`). -/
theorem places : ∀ t : Fin cfg0.N, win0_0.index t = ![t.val, 0] ∧ win0_1.index t = ![t.val, 0]
    ∧ win0_2.index t = ![t.val, 0] ∧ win0_3.index t = ![0, 0]
    ∧ win0_4.index t = ![2, if t.val < 32 then 0 else 1 + (t.val - 32) / 8, 0, 0]
    ∧ win0_5.index t = ![t.val, 0] ∧ t.val < 48 :=
  (by decide +kernel : ∀ t : Fin grid0.N, _)

/-- The kernel's operand `main_v0` holds the context's rows, then the latents'. -/
theorem joinA_ctx (c : Dev nD) (r : Fin 12288) (a : Fin 8192) (h : (r : ℕ) = a) (k : Fin 512) :
    V m c main_v0 (ix2 r k) = m ((c : Thread nD τ).loc main_arg1) (ix2 a k) := by
  have ha : (⟨(r : ℕ), by omega⟩ : Fin 8192) = a := Fin.ext h
  entry_read
  pointwise
  rw [dif_pos (by omega), ha]

theorem joinA_lat (c : Dev nD) (r : Fin 12288) (a : Fin 4096) (h : (r : ℕ) = 8192 + a) (k : Fin 512) :
    V m c main_v0 (ix2 r k) = m ((c : Thread nD τ).loc main_arg2) (ix2 a k) := by
  have ha : (⟨(r : ℕ) - 8192, by omega⟩ : Fin 4096) = a := Fin.ext (by simp; omega)
  entry_read
  pointwise
  rw [dif_neg (by omega), ha]

/-- The kernel's operand `main_v1` holds the context's rows, then the latents'. -/
theorem joinB_ctx (c : Dev nD) (r : Fin 12288) (a : Fin 8192) (h : (r : ℕ) = a) (k : Fin 512) :
    V m c main_v1 (ix2 r k) = m ((c : Thread nD τ).loc main_arg3) (ix2 a k) := by
  have ha : (⟨(r : ℕ), by omega⟩ : Fin 8192) = a := Fin.ext h
  entry_read
  pointwise
  rw [dif_pos (by omega), ha]

theorem joinB_lat (c : Dev nD) (r : Fin 12288) (a : Fin 4096) (h : (r : ℕ) = 8192 + a) (k : Fin 512) :
    V m c main_v1 (ix2 r k) = m ((c : Thread nD τ).loc main_arg4) (ix2 a k) := by
  have ha : (⟨(r : ℕ) - 8192, by omega⟩ : Fin 4096) = a := Fin.ext (by simp; omega)
  entry_read
  pointwise
  rw [dif_neg (by omega), ha]

theorem read0 (c : Dev nD) (t : Fin cfg0.N) (p : Fin 256) (n : Fin 1024) (r : Fin 12288) (hr : (r : ℕ) = t.val * 256 + p) :
    iblk m c 0 t (ix2 p n) = m ((c : Thread nD τ).loc main_arg0) (ix2 r n) := by
  blk_ext [iblk, V, places t]

theorem read1 (c : Dev nD) (t : Fin cfg0.N) (p : Fin 256) (k : Fin 512) (r : Fin 12288) (hr : (r : ℕ) = t.val * 256 + p) :
    iblk m c 1 t (ix2 p k) = V m c main_v0 (ix2 r k) := by
  blk_ext [iblk, places t]

theorem read2 (c : Dev nD) (t : Fin cfg0.N) (p : Fin 256) (k : Fin 512) (r : Fin 12288) (hr : (r : ℕ) = t.val * 256 + p) :
    iblk m c 2 t (ix2 p k) = V m c main_v1 (ix2 r k) := by
  blk_ext [iblk, places t]

theorem read3 (c : Dev nD) (t : Fin cfg0.N) (k : Fin 1024) (n : Fin 1024) :
    iblk m c 3 t (ix2 k n) = m ((c : Thread nD τ).loc main_arg6) (ix2 k n) := by
  blk_point [iblk, V, places t]

theorem read4 (c : Dev nD) (t : Fin cfg0.N) (n : Fin 1024) (q : Fin 6) (s : Fin 8)
    (hs : (s : ℕ) = if t.val < 32 then 0 else 1 + (t.val - 32) / 8) :
    iblk m c 4 t (ix4 0 0 q n) = m ((c : Thread nD τ).loc main_arg5) (ix4 2 s q n) := by
  blk_ext [iblk, V, places t]

/-- The body's arithmetic on one row of a tile. -/
theorem pay (g : Vec Ideal S1x1x6x1024 .f32) (A : Vec Ideal S256x512 .bf16) (B : Vec Ideal S256x512 .bf16)
    (W : Vec Ideal S1024x1024 .bf16) (X : Vec Ideal S256x1024 .f32) (p : Fin 256) (n : Fin 1024) :
    k0_pay1 (F := Ideal) g A (View.ld W r0_2) B (View.ld W r0_3) X (ix2 p n)
      = Cert.OutProjRefIdeal.Rows.mixed (X (ix2 p n)) (g (ix4 0 0 2 n)) (fun k => A (ix2 p k)) (fun k => B (ix2 p k)) W n := by
  pointwise [k0_pay1, Cert.OutProjRefIdeal.Rows.mixed]

/-- What the body stores at block index `y` of point `t` is the reference's entry there. -/
theorem point (c : Dev nD) (t : Fin cfg0.N) (y) :
    k0_pay1 (iblk m c 4 t) (iblk m c 1 t) (View.ld (iblk m c 3 t) r0_2) (iblk m c 2 t) (View.ld (iblk m c 3 t) r0_3)
      (iblk m c 0 t) y = want m c (((cfg0.win 5).blk t).view.emb y) := by
  idx_vars y
  have ht := (places t).2.2.2.2.2.2
  have he : ((cfg0.win 5).blk t).view.emb (ix2 y0 y1) = ix2 (⟨t.val * 256 + y0, by omega⟩ : Fin 12288) y1 := by
    blk_ext [places t]
  have hW : iblk m c 3 t = m ((c : Thread nD τ).loc main_arg6) := by
    funext i; rw [eq_ix2 i]; exact read3 m c t (i 0) (i 1)
  rw [he]
  refine (pay _ _ _ _ _ y0 y1).trans ?_
  rw [hW]
  by_cases h : t.val < 32
  · refine Eq.trans ?_ (Cert.OutProjRefIdeal.Rows.ctx _ _ _ _ _ _ _ ⟨t.val * 256 + y0, by omega⟩ ⟨t.val * 256 + y0, by omega⟩ rfl y1).symm
    rw [read0 m c t y0 y1 ⟨t.val * 256 + y0, by omega⟩ rfl, read4 m c t y1 2 0 (by rw [if_pos h]; rfl)]
    congr 1
    · funext k
      rw [read1 m c t y0 k ⟨t.val * 256 + y0, by omega⟩ rfl]
      exact joinA_ctx m c _ _ rfl k
    · funext k
      rw [read2 m c t y0 k ⟨t.val * 256 + y0, by omega⟩ rfl]
      exact joinB_ctx m c _ _ rfl k
  · refine Eq.trans ?_ (Cert.OutProjRefIdeal.Rows.lat _ _ _ _ _ _ _ ⟨t.val * 256 + y0, by omega⟩ ⟨t.val * 256 + y0 - 8192, by omega⟩ (by simp; omega) y1).symm
    rw [read0 m c t y0 y1 ⟨t.val * 256 + y0, by omega⟩ rfl,
      read4 m c t y1 2 ⟨1 + (t.val * 256 + y0 - 8192) / 2048, by omega⟩ (by rw [if_neg h]; simp; omega)]
    congr 1
    · funext k
      rw [read1 m c t y0 k ⟨t.val * 256 + y0, by omega⟩ rfl]
      exact joinA_lat m c _ _ (by simp; omega) k
    · funext k
      rw [read2 m c t y0 k ⟨t.val * 256 + y0, by omega⟩ rfl]
      exact joinB_lat m c _ _ (by simp; omega) k

/-- The result array after the run. -/
theorem final (c : Dev nD) : (dats m 0 c).arrAt 5 (cfgs 0).N = want m c := by
  refine (dats m 0 c).arrAt_eq_of_covers 5 _ (by decide +kernel) fun t hf y => ?_
  blk_simp; rw [after0_5]; frame_out
  exact point m c t y

end Cert.OutProjIdeal.Rows

end
-- ==== Proof.OutProjClaim.lean ====
/- The claims about the attention output projection. -/
module

public import proofs.«01_k».proof.Defs
public import proofs.«01_k».proof.Proof.OutProjValue
public import proofs.«01_k».proof.Proof.Gen.OutProj.Frame
public import Idealize.ShloMosaic.Lib.Claim

@[expose] public section

set_option maxRecDepth 16384

noncomputable section

open Idealize.ShloMosaic Idealize.SL.Sem

namespace Cert.OutProj.Claims

theorem frame : Cert.quiescent_OutProj := fun m ρ _ => Cert.OutProj.Gen.frame m ρ

theorem frame_ideal : Cert.quiescent_OutProjIdeal := fun m ρ _ => Cert.OutProjIdeal.Gen.frame m ρ

theorem frame_ref : Cert.quiescent_OutProjRefIdeal := by
  intro m g _
  hlo_run
  · simp only [and_self, implies_true]
  · exact Idealize.ShloMosaic.sem_eq_zero_of_no_sems (sig := Cert.OutProjRefIdeal.sig) (by decide) _

theorem algebraic : Cert.algebraic_OutProjIdeal_OutProjRefIdeal := by
  pair_intro
  · run_from Cert.OutProjIdeal.Gen.run_main m g
  · run_from Cert.OutProjRefIdeal.Value.run m' g'
    obtain ⟨h0, h1, h2, h3, h4, h5, h6⟩ := hagree c
    rw [h4, h5, h6]
    exact (Cert.OutProjIdeal.Rows.final m c).symm

end Cert.OutProj.Claims

end
-- ==== Proof.AttnCtxRef.lean ====
/- Context attention: the reference's result, entry by entry, as plain sums. -/
module

public import proofs.«01_k».proof.Proof.Gen.AttnCtxRefIdeal.Run
public import Idealize.ShloMosaic.Lib.Pointwise
public import proofs.«01_k».proof.Proof.AttnMath
public import proofs.«01_k».proof.Proof.AttnLatRef

@[expose] public section

set_option maxRecDepth 16384

noncomputable section

namespace Cert.AttnCtxRefIdeal.Rows

open Cert.AttnCtxRefIdeal Cert.AttnCtxRefIdeal.Gen Idealize.ShloMosaic Idealize.ShloMosaic.TcCoe Idealize.SL.Sem
open Cert.AttnLatRefIdeal.Rows (IsReal real_sum)

/-- The scores: the product over the first 128 features of a head plus the product over the last 128. -/
def scores (a0 a1 : FVec Ideal S8192x1024 .bf16) : FVec Ideal S32x4x256x256 .f32 :=
  addf (Host.dotGeneral dot_S32x256x4x128_S32x256x4x128_S32x4x256x256_3_3_1_1_02_02 none (extractStridedSlice S32x256x4x128 ![0, 0, 0, 0] (shapeCast _ (extf .f32 a0 bitsLt_bf16_f32) shapeCasts_S8192x1024_S32x256x4x256) slices_S32x256x4x256_S32x256x4x128_0_0_0_0) (extractStridedSlice S32x256x4x128 ![0, 0, 0, 0] (shapeCast _ (extf .f32 a1 bitsLt_bf16_f32) shapeCasts_S8192x1024_S32x256x4x256) slices_S32x256x4x256_S32x256x4x128_0_0_0_0)) (Host.dotGeneral dot_S32x256x4x128_S32x256x4x128_S32x4x256x256_3_3_1_1_02_02 none (extractStridedSlice S32x256x4x128 ![0, 0, 0, 128] (shapeCast _ (extf .f32 a0 bitsLt_bf16_f32) shapeCasts_S8192x1024_S32x256x4x256) slices_S32x256x4x256_S32x256x4x128_0_0_0_128) (extractStridedSlice S32x256x4x128 ![0, 0, 0, 128] (shapeCast _ (extf .f32 a1 bitsLt_bf16_f32) shapeCasts_S8192x1024_S32x256x4x256) slices_S32x256x4x256_S32x256x4x128_0_0_0_128))

/-- The largest score of each row. -/
def peak (S : FVec Ideal S32x4x256x256 .f32) : FVec Ideal S32x4x256 .f32 :=
  Host.reduce FloatOps.maximumf S (constant S_ .f32 0xFF800000#32) reducesTo_S32x4x256x256_S32x4x256_d3 h_S_

/-- One value per row, along the row. -/
def spread (P : FVec Ideal S32x4x256 .f32) : FVec Ideal S32x4x256x256 .f32 :=
  broadcastInDim S32x4x256x256 ![0, 1, 2, 3] bcast_S32x4x256x1_S32x4x256x256_0_1_2_3 (broadcastInDim S32x4x256x1 ![0, 1, 2] bcast_S32x4x256_S32x4x256x1_0_1_2 P)

/-- The exponentials of the scores less their row's largest. -/
def weights (S : FVec Ideal S32x4x256x256 .f32) : FVec Ideal S32x4x256x256 .f32 :=
  Host.exp (subf S (spread (maximumf (broadcastInDim S32x4x256 ![] bcast_S_S32x4x256 (constant S_ .f32 0xFF800000#32)) (peak S))))

/-- The weights divided by their row's sum. -/
def probs (E : FVec Ideal S32x4x256x256 .f32) : FVec Ideal S32x4x256x256 .f32 :=
  Host.divf E (broadcastInDim S32x4x256x256 ![0, 1, 2, 3] bcast_S32x4x256x1_S32x4x256x256_0_1_2_3 (broadcastInDim S32x4x256x1 ![0, 1, 2] bcast_S32x4x256_S32x4x256x1_0_1_2 (Host.reduceAdd E (constant S_ .f32 0x00000000#32) reducesTo_S32x4x256x256_S32x4x256_d3 h_S_)))

/-- The weighted values, heads side by side. -/
def mixed (a2 : FVec Ideal S8192x512 .bf16) (P : FVec Ideal S32x4x256x256 .f32) : FVec Ideal S8192x512 .bf16 :=
  truncf .bf16 (shapeCast _ (transpose S32x256x4x128 [0, 3, 1, 2] (Host.dotGeneral dot_S32x256x4x128_S32x4x256x256_S32x4x128x256_1_3_3_2_02_01 none (shapeCast _ (extf .f32 a2 bitsLt_bf16_f32) shapeCasts_S8192x512_S32x256x4x128) P) transposes_S32x4x128x256_S32x256x4x128_0_3_1_2) shapeCasts_S32x256x4x128_S8192x512) bitsLt_bf16_f32

/-- The reference's result as a function of its three arguments. -/
def REF (a0 a1 : FVec Ideal S8192x1024 .bf16) (a2 : FVec Ideal S8192x512 .bf16) : FVec Ideal S8192x512 .bf16 :=
  mixed a2 (probs (weights (scores a0 a1)))

theorem res_eq (m : (ℓ : Loc nD τ sig) → Buf (Elt Ideal) ℓ) (c : Dev nD) :
    Value.res_main_v27 m c = REF (m ((c.tc : Thread nD τ).loc main_arg0)) (m ((c.tc : Thread nD τ).loc main_arg1))
      (m ((c.tc : Thread nD τ).loc main_arg2)) := rfl

/-- A score is one product over all 256 features of a head. -/
theorem scores_at (a0 a1 : FVec Ideal S8192x1024 .bf16) (b : Fin 32) (h : Fin 4) (s : Fin 256) (l : Fin 256) :
    scores a0 a1 (ix4 b h s l)
      = ∑ k : Fin 256, a0 (ix2 ⟨b * 256 + s, by omega⟩ ⟨h * 256 + k, by omega⟩) * a1 (ix2 ⟨b * 256 + l, by omega⟩ ⟨h * 256 + k, by omega⟩) := by
  pointwise [scores]
  exact (Fin.sum_univ_add (a := 128) (b := 128) (fun k : Fin 256 =>
    a0 (ix2 ⟨b * 256 + s, by omega⟩ ⟨h * 256 + k, by omega⟩) * a1 (ix2 ⟨b * 256 + l, by omega⟩ ⟨h * 256 + k, by omega⟩))).symm

theorem peak_at (S : FVec Ideal S32x4x256x256 .f32) (b : Fin 32) (h : Fin 4) (s : Fin 256) :
    peak S (ix3 b h s) = AttnMath.top fun l : Fin 256 => S (ix4 b h s l) := by
  unfold peak
  rw [Host.reduce_eq_fold, Shape.ReducesTo.fold_fiber_r4_a3]
  rfl

theorem spread_at (P : FVec Ideal S32x4x256 .f32) (b : Fin 32) (h : Fin 4) (s : Fin 256) (l : Fin 256) :
    spread P (ix4 b h s l) = P (ix3 b h s) := by
  pointwise [spread]

/-- The maximum with the value the reductions start from changes nothing. -/
theorem floor_at (P : FVec Ideal S32x4x256 .f32) (b : Fin 32) (h : Fin 4) (s : Fin 256) :
    maximumf (broadcastInDim S32x4x256 ![] bcast_S_S32x4x256 (constant S_ .f32 0xFF800000#32)) P (ix3 b h s) = P (ix3 b h s) := by
  have e : maximumf (broadcastInDim S32x4x256 ![] bcast_S_S32x4x256 (constant S_ .f32 0xFF800000#32)) P (ix3 b h s)
      = max AttnMath.low (P (ix3 b h s)) := by pointwise
  rw [e, AttnMath.low_eq, max_bot_left]

theorem exp_sub_at (S T : FVec Ideal S32x4x256x256 .f32) (i : S32x4x256x256.Idx) :
    Host.exp (subf S T) i = Ideal.exp (S i - T i) := by pointwise

theorem weights_at (S : FVec Ideal S32x4x256x256 .f32) (b : Fin 32) (h : Fin 4) (s : Fin 256) (l : Fin 256) :
    weights S (ix4 b h s l) = Ideal.exp (S (ix4 b h s l) - AttnMath.top fun l : Fin 256 => S (ix4 b h s l)) := by
  unfold weights
  rw [exp_sub_at, spread_at, floor_at, peak_at]

theorem probs_at (E : FVec Ideal S32x4x256x256 .f32) (b : Fin 32) (h : Fin 4) (s : Fin 256) (l : Fin 256) :
    probs E (ix4 b h s l) = Ideal.div (E (ix4 b h s l)) (∑ l : Fin 256, E (ix4 b h s l)) := by
  pointwise [probs]

theorem mixed_at (a2 : FVec Ideal S8192x512 .bf16) (P : FVec Ideal S32x4x256x256 .f32)
    (r : Fin 8192) (n : Fin 512) (b : Fin 32) (s : Fin 256) (h : Fin 4) (d : Fin 128)
    (hr : (r : ℕ) = b * 256 + s) (hn : (n : ℕ) = h * 128 + d) :
    mixed a2 P (ix2 r n) = ∑ l : Fin 256, a2 (ix2 ⟨b * 256 + l, by omega⟩ ⟨h * 128 + d, by omega⟩) * P (ix4 b h s l) := by
  have h0 : (⟨(r : ℕ) / 256, by omega⟩ : Fin 32) = b := Fin.ext (by simp; omega)
  have h1 : (⟨(r : ℕ) % 256, by omega⟩ : Fin 256) = s := Fin.ext (by simp; omega)
  have h2 : (⟨(n : ℕ) / 128, by omega⟩ : Fin 4) = h := Fin.ext (by simp; omega)
  have h3 : (⟨(n : ℕ) % 128, by omega⟩ : Fin 128) = d := Fin.ext (by simp; omega)
  pointwise [mixed]
  have hb : (r : ℕ) / 256 * 256 = b * 256 := by omega
  have hn' : (⟨h * 128 + d, by omega⟩ : Fin 512) = n := Fin.ext hn.symm
  simp only [h0, h1, h2, h3, hb, hn']

/-- One entry of the reference's result: head `h`, feature `d`, query `s` of block `b`. -/
theorem at_entry (a0 a1 : FVec Ideal S8192x1024 .bf16) (a2 : FVec Ideal S8192x512 .bf16)
    (h0 : ∀ i, IsReal (a0 i)) (h1 : ∀ i, IsReal (a1 i))
    (r : Fin 8192) (n : Fin 512) (b : Fin 32) (s : Fin 256) (h : Fin 4) (d : Fin 128)
    (hr : (r : ℕ) = b * 256 + s) (hn : (n : ℕ) = h * 128 + d) :
    REF a0 a1 a2 (ix2 r n)
      = AttnMath.entry1 (n := 256)
          (fun l => ∑ k : Fin 256, a0 (ix2 r ⟨h * 256 + k, by omega⟩) * a1 (ix2 ⟨b * 256 + l, by omega⟩ ⟨h * 256 + k, by omega⟩))
          (fun l => a2 (ix2 ⟨b * 256 + l, by omega⟩ n)) := by
  obtain ⟨r, r_lt⟩ := r
  obtain ⟨n, n_lt⟩ := n
  dsimp only at hr hn
  subst hr hn
  have key := AttnMath.softmax_one (n := 256) (by norm_num) (fun l => scores a0 a1 (ix4 b h s l))
    (fun l => by rw [scores_at]; exact real_sum _ _ (fun k => h0 _) fun k => h1 _)
    (fun l => a2 (ix2 ⟨b * 256 + l, by omega⟩ ⟨h * 128 + d, by omega⟩))
  unfold REF
  rw [mixed_at _ _ _ _ b s h d rfl rfl]
  simp only [probs_at, weights_at]
  refine key.trans ?_
  congr 1
  funext l
  exact scores_at a0 a1 b h s l

end Cert.AttnCtxRefIdeal.Rows

end
-- ==== Proof.AttnCtxValue.lean ====
/- Context attention: the array the kernel leaves is the reference's result. -/
module

public import proofs.«01_k».proof.Proof.Gen.AttnCtxIdeal.Frame
public import proofs.«01_k».proof.Proof.AttnCtxRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnCtxIdeal.Rows

open Cert.AttnCtxIdeal Cert.AttnCtxIdeal.Gen
open Cert.AttnLatRefIdeal.Rows (IsReal)

variable (m : (ℓ : Loc nD τ sig) → Buf (Elt Ideal) ℓ)

/-- The reference's result over the kernel's own argument arrays. -/
abbrev want (c : Dev nD) : FVec Ideal S8192x512 .bf16 :=
  Cert.AttnCtxRefIdeal.Rows.REF (m ((c : Thread nD τ).loc main_arg0)) (m ((c : Thread nD τ).loc main_arg1))
    (m ((c : Thread nD τ).loc main_arg2))

/-- What the body stores for one head, entry by entry. -/
theorem head (q k : Vec Ideal S256x256 .bf16) (v : Vec Ideal S256x128 .bf16) (p : Fin 256) (d : Fin 128) :
    k0_pay1 (F := Ideal) q k v (ix2 p d)
      = AttnMath.entry1 (fun l : Fin 256 => ∑ e : Fin 256, q (ix2 p e) * k (ix2 l e)) (fun l => v (ix2 l d)) := by
  pointwise [k0_pay1, AttnMath.entry1]

/-- The body does the same for every head. -/
theorem head_1 (q k : Vec Ideal S256x256 .bf16) (v : Vec Ideal S256x128 .bf16) :
    k0_pay2 (F := Ideal) q k v = k0_pay1 q k v := rfl

theorem head_2 (q k : Vec Ideal S256x256 .bf16) (v : Vec Ideal S256x128 .bf16) :
    k0_pay3 (F := Ideal) q k v = k0_pay1 q k v := rfl

theorem head_3 (q k : Vec Ideal S256x256 .bf16) (v : Vec Ideal S256x128 .bf16) :
    k0_pay4 (F := Ideal) q k v = k0_pay1 q k v := rfl

/-- Every window stands at block `t` at grid point `t`. -/
theorem places : ∀ t : Fin cfg0.N, win0_0.index t = ![t.val, 0] ∧ win0_1.index t = ![t.val, 0]
    ∧ win0_2.index t = ![t.val, 0] ∧ win0_3.index t = ![t.val, 0] ∧ t.val < 32 :=
  (by decide +kernel : ∀ t : Fin grid0.N, _)

theorem read0 (c : Dev nD) (t : Fin cfg0.N) (p : Fin 256) (k : Fin 1024) (r : Fin 8192) (hr : (r : ℕ) = t.val * 256 + p) :
    iblk m c 0 t (ix2 p k) = m ((c : Thread nD τ).loc main_arg0) (ix2 r k) := by
  blk_ext [iblk, V, places t]

theorem read1 (c : Dev nD) (t : Fin cfg0.N) (p : Fin 256) (k : Fin 1024) (r : Fin 8192) (hr : (r : ℕ) = t.val * 256 + p) :
    iblk m c 1 t (ix2 p k) = m ((c : Thread nD τ).loc main_arg1) (ix2 r k) := by
  blk_ext [iblk, V, places t]

theorem read2 (c : Dev nD) (t : Fin cfg0.N) (p : Fin 256) (k : Fin 512) (r : Fin 8192) (hr : (r : ℕ) = t.val * 256 + p) :
    iblk m c 2 t (ix2 p k) = m ((c : Thread nD τ).loc main_arg2) (ix2 r k) := by
  blk_ext [iblk, V, places t]

/-- One head's payload over the head's columns of the staged blocks is the reference's entry. -/
theorem core (c : Dev nD)
    (h0 : ∀ i : S8192x1024.Idx, IsReal (m ((c : Thread nD τ).loc main_arg0) i))
    (h1 : ∀ i : S8192x1024.Idx, IsReal (m ((c : Thread nD τ).loc main_arg1) i))
    (t : Fin cfg0.N) (h : Fin 4) (p : Fin 256) (d : Fin 128) (r : Fin 8192) (n : Fin 512)
    (hr : (r : ℕ) = t.val * 256 + p) (hn : (n : ℕ) = h * 128 + d)
    (q k : Vec Ideal S256x256 .bf16) (v : Vec Ideal S256x128 .bf16)
    (eq : ∀ (p : Fin 256) (e : Fin 256), q (ix2 p e) = iblk m c 0 t (ix2 p (⟨h * 256 + e, by omega⟩ : Fin 1024)))
    (ek : ∀ (l : Fin 256) (e : Fin 256), k (ix2 l e) = iblk m c 1 t (ix2 l (⟨h * 256 + e, by omega⟩ : Fin 1024)))
    (ev : ∀ (l : Fin 256) (d : Fin 128), v (ix2 l d) = iblk m c 2 t (ix2 l (⟨h * 128 + d, by omega⟩ : Fin 512))) :
    k0_pay1 (F := Ideal) q k v (ix2 p d) = want m c (ix2 r n) := by
  have ht := (places t).2.2.2.2
  refine (head q k v p d).trans (Eq.trans ?_ (Cert.AttnCtxRefIdeal.Rows.at_entry _ _ _ h0 h1 r n
    ⟨t.val, ht⟩ p h d hr hn).symm)
  have hn' : n = ⟨h * 128 + d, by omega⟩ := Fin.ext hn
  congr 1
  · funext l
    refine Finset.sum_congr rfl fun e _ => ?_
    rw [eq, ek]
    exact congrArg₂ (fun a b : EReal => a * b) (read0 m c t p _ r hr) (read1 m c t l _ _ rfl)
  · funext l
    rw [ev, hn']
    exact read2 m c t l _ _ rfl

/-- Where entry `y` of the block stored at point `t` goes in the whole array. -/
theorem lands (t : Fin cfg0.N) (y : S256x512.Idx) (r : Fin 8192) (n : Fin 512)
    (hr : (r : ℕ) = t.val * 256 + (y 0).val) (hn : (n : ℕ) = (y 1).val) :
    ((cfg0.win 3).blk t).view.emb y = ix2 r n := by
  idx_vars y
  blk_ext [places t]

theorem point (c : Dev nD)
    (f0 : ∀ i : S8192x1024.Idx, IsReal (m ((c : Thread nD τ).loc main_arg0) i))
    (f1 : ∀ i : S8192x1024.Idx, IsReal (m ((c : Thread nD τ).loc main_arg1) i))
    (t : Fin cfg0.N) (y : S256x512.Idx) :
    out0_3 (iblk m c 0 t) (iblk m c 1 t) (iblk m c 2 t) y = want m c (((cfg0.win 3).blk t).view.emb y) := by
  have ht := (places t).2.2.2.2
  canon_tiles x h
  case piece0 =>
    idx_vars x
    have hx0 : ((x0 : Fin 256) : ℕ) < 256 := x0.isLt
    have hx1 : ((x1 : Fin 128) : ℕ) < 128 := x1.isLt
    rw [lands t y ⟨t.val * 256 + x0, by omega⟩ ⟨384 + x1, by omega⟩ (by simp at h0 ⊢; omega) (by simp at h1 ⊢; omega)]
    refine (congrFun (head_3 _ _ _) _).trans ?_
    refine core m c f0 f1 t 3 x0 x1 _ _ rfl (by simp) _ _ _ ?_ ?_ ?_
    all_goals
      intro a b
      pointwise
  case piece1 =>
    idx_vars x
    have hx0 : ((x0 : Fin 256) : ℕ) < 256 := x0.isLt
    have hx1 : ((x1 : Fin 128) : ℕ) < 128 := x1.isLt
    rw [lands t y ⟨t.val * 256 + x0, by omega⟩ ⟨256 + x1, by omega⟩ (by simp at h0 ⊢; omega) (by simp at h1 ⊢; omega)]
    refine (congrFun (head_2 _ _ _) _).trans ?_
    refine core m c f0 f1 t 2 x0 x1 _ _ rfl (by simp) _ _ _ ?_ ?_ ?_
    all_goals
      intro a b
      pointwise
  case piece2 =>
    idx_vars x
    have hx0 : ((x0 : Fin 256) : ℕ) < 256 := x0.isLt
    have hx1 : ((x1 : Fin 128) : ℕ) < 128 := x1.isLt
    rw [lands t y ⟨t.val * 256 + x0, by omega⟩ ⟨128 + x1, by omega⟩ (by simp at h0 ⊢; omega) (by simp at h1 ⊢; omega)]
    refine (congrFun (head_1 _ _ _) _).trans ?_
    refine core m c f0 f1 t 1 x0 x1 _ _ rfl (by simp) _ _ _ ?_ ?_ ?_
    all_goals
      intro a b
      pointwise
  case piece3 =>
    idx_vars x
    have hx0 : ((x0 : Fin 256) : ℕ) < 256 := x0.isLt
    have hx1 : ((x1 : Fin 128) : ℕ) < 128 := x1.isLt
    rw [lands t y ⟨t.val * 256 + x0, by omega⟩ ⟨x1, by omega⟩ (by simp at h0 ⊢; omega) (by simp at h1 ⊢; omega)]
    refine core m c f0 f1 t 0 x0 x1 _ _ rfl (by simp) _ _ _ ?_ ?_ ?_
    all_goals
      intro a b
      pointwise

/-- The result array after the run. -/
theorem final (c : Dev nD)
    (f0 : ∀ i : S8192x1024.Idx, IsReal (m ((c : Thread nD τ).loc main_arg0) i))
    (f1 : ∀ i : S8192x1024.Idx, IsReal (m ((c : Thread nD τ).loc main_arg1) i)) :
    (dats m 0 c).arrAt 3 (cfgs 0).N = want m c := by
  refine (dats m 0 c).arrAt_eq_of_covers 3 _ (by decide +kernel) fun t hf y => ?_
  blk_simp; rw [after0_3]
  exact point m c f0 f1 t y

end Cert.AttnCtxIdeal.Rows

end
-- ==== Proof.AttnCtxPre.lean ====
/- What the precondition of the context attention claim says: queries and keys are real numbers. -/
module

public import proofs.«01_k».proof.Proof.Gen.Pre_ctx_scores_finite
public import proofs.«01_k».proof.Proof.AttnLatPre
public import Idealize.ShloMosaic.Lib.ReduceAll

@[expose] public section

set_option maxRecDepth 16384

noncomputable section

open Idealize.ShloMosaic

namespace Cert.AttnCtxIdeal.Pre

open Cert.AttnLatRefIdeal.Rows (IsReal)
open Cert.AttnLatIdeal.Pre (real_of_below)

instance : Subsingleton Cert.Pre_ctx_scores_finite.S_.Idx := ⟨fun a b => funext fun i => i.elim0⟩

theorem finite (a0 a1 : FVec Ideal Cert.Pre_ctx_scores_finite.S8192x1024 .bf16) (a2 : FVec Ideal Cert.Pre_ctx_scores_finite.S8192x512 .bf16)
    (h : Cert.Pre_ctx_scores_finite.fn (F := Ideal) a0 a1 a2 = fun _ => 1#1) :
    (∀ i, IsReal (a0 i)) ∧ ∀ i, IsReal (a1 i) := by
  have e := congrFun h (Shape.Idx.first Cert.Pre_ctx_scores_finite.Facts.h_S_)
  dsimp only [Cert.Pre_ctx_scores_finite.fn] at e
  obtain ⟨e0, e1⟩ := IntOp.andi_eq_one.1 e
  refine ⟨fun i => ?_, fun i => ?_⟩
  · exact real_of_below _ (Host.reduce_andi_all _ _ _ _ _ e0 i)
  · exact real_of_below _ (Host.reduce_andi_all _ _ _ _ _ e1 i)

end Cert.AttnCtxIdeal.Pre

end
-- ==== Proof.AttnCtxClaim.lean ====
/- The claims about the context's attention. -/
module

public import proofs.«01_k».proof.Defs
public import proofs.«01_k».proof.Proof.AttnCtxValue
public import proofs.«01_k».proof.Proof.AttnCtxPre
public import proofs.«01_k».proof.Proof.Gen.AttnCtx.Frame
public import Idealize.ShloMosaic.Lib.Claim

@[expose] public section

set_option maxRecDepth 16384

noncomputable section

open Idealize.ShloMosaic Idealize.SL.Sem

namespace Cert.AttnCtx.Claims

theorem frame : Cert.quiescent_AttnCtx := fun m ρ _ => Cert.AttnCtx.Gen.frame m ρ

theorem frame_ideal : Cert.quiescent_AttnCtxIdeal := fun m ρ _ => Cert.AttnCtxIdeal.Gen.frame m ρ

theorem frame_ref : Cert.quiescent_AttnCtxRefIdeal := by
  intro m g _
  hlo_run
  · simp only [and_self, implies_true]
  · exact Idealize.ShloMosaic.sem_eq_zero_of_no_sems (sig := Cert.AttnCtxRefIdeal.sig) (by decide) _

theorem frame_ideal_pre : Cert.quiescent_AttnCtxIdeal_pre_ctx_scores_finite := fun m ρ _ => Cert.AttnCtxIdeal.Gen.frame m ρ

theorem frame_ref_pre : Cert.quiescent_AttnCtxRefIdeal_pre_ctx_scores_finite := by
  intro m g _
  hlo_run
  · simp only [and_self, implies_true]
  · exact Idealize.ShloMosaic.sem_eq_zero_of_no_sems (sig := Cert.AttnCtxRefIdeal.sig) (by decide) _

theorem algebraic : Cert.algebraic_AttnCtxIdeal_AttnCtxRefIdeal_pre_ctx_scores_finite := by
  pair_intro
  · run_from Cert.AttnCtxIdeal.Gen.run_main m g
  · run_from Cert.AttnCtxRefIdeal.Value.run m' g'
    rw [Cert.AttnCtxRefIdeal.Rows.res_eq]
    obtain ⟨h0, h1, h2⟩ := hagree c
    rw [h0, h1, h2]
    obtain ⟨f0, f1⟩ := Cert.AttnCtxIdeal.Pre.finite _ _ _ (hpre c)
    exact (Cert.AttnCtxIdeal.Rows.final m c f0 f1).symm

end Cert.AttnCtx.Claims

end
-- ==== Proof.MlaMath.lean ====
/- One token of the latent projections: normalisation of a row, and the same over a slab filled up with zeros. -/
module

public import Idealize.ShloMosaic.Lib.Pointwise

@[expose] public section

set_option maxRecDepth 16384

noncomputable section

open Idealize.ShloMosaic

namespace Cert.MlaMath

/-- The constant both normalisations add under the root. -/
abbrev eps : EReal := Ideal.ofBits .f32 0x358637BD#32

/-- The factor on the queries. -/
abbrev scale : EReal := Ideal.ofBits .f32 0x3D93CD3A#32

/-- Root-mean-square normalisation of a row of `n` numbers, `w` standing for `n`, times the gain. -/
def rms {n : ℕ} (w : EReal) (x g : Fin n → EReal) (k : Fin n) : EReal :=
  x k * Ideal.rsqrt (Ideal.div (∑ i : Fin n, x i * x i) w + eps) * g k

abbrev rms384 (x g : Fin 384 → EReal) : Fin 384 → EReal := rms (Ideal.ofBits .f32 0x43C00000#32) x g
abbrev rms256 (x g : Fin 256 → EReal) : Fin 256 → EReal := rms (Ideal.ofBits .f32 0x43800000#32) x g
abbrev rms128 (x g : Fin 128 → EReal) : Fin 128 → EReal := rms (Ideal.ofBits .f32 0x43000000#32) x g
abbrev rms64 (x g : Fin 64 → EReal) : Fin 64 → EReal := rms (Ideal.ofBits .f32 0x42800000#32) x g

/-- The normalisation of 64 numbers carried in a row of 128, with the sum of squares times 1/64. -/
def slab (x g : Fin 128 → EReal) (k : Fin 128) : EReal :=
  x k * Ideal.rsqrt ((∑ i : Fin 128, x i * x i) * Ideal.ofBits .f32 0x3C800000#32 + eps) * g k

theorem sixtyfour : Ideal.ofBits .f32 0x42800000#32 = ((64 : ℝ) : EReal) := by
  simp [Ideal.ofBits, Ideal.ieee]
  rw [← EReal.coe_mul]
  norm_num

theorem sixtyfourth : Ideal.ofBits .f32 0x3C800000#32 = ((1 / 64 : ℝ) : EReal) := by
  simp [Ideal.ofBits, Ideal.ieee]
  rw [← EReal.coe_mul]
  norm_num

/-- In the first half the slab's normalisation is that of its 64 numbers. -/
theorem slab_low (x g : Fin 128 → EReal) (y : Fin 64 → EReal) (hx : ∀ k : Fin 64, x (Fin.castAdd 64 k) = y k)
    (h0 : ∀ k : Fin 64, x (Fin.natAdd 64 k) = 0) (g' : Fin 64 → EReal) (hg : ∀ k : Fin 64, g (Fin.castAdd 64 k) = g' k)
    (k : Fin 64) : slab x g (Fin.castAdd 64 k) = rms64 y g' k := by
  unfold slab rms64 rms
  have hs : ∑ i : Fin 128, x i * x i = ∑ i : Fin 64, y i * y i := by
    rw [Fin.sum_univ_add (a := 64) (b := 64) (fun i : Fin (64 + 64) => x i * x i)]
    simp only [h0, hx, mul_zero, Finset.sum_const_zero, add_zero]
  rw [hs, hx, hg, sixtyfour, sixtyfourth, Ideal.div_coe (by norm_num)]

/-- In the second half it is zero. -/
theorem slab_high (x g : Fin 128 → EReal) (h0 : ∀ k : Fin 64, x (Fin.natAdd 64 k) = 0)
    (k : Fin 64) : slab x g (Fin.natAdd 64 k) = 0 := by
  unfold slab
  rw [h0, zero_mul, zero_mul]

/-- The integer zero that the fillings are made of, as a number. -/
theorem zero_fill : FloatOps.sitofp (F := Ideal) FTy.f32 (0#32) = (0 : EReal) := by
  simp [FloatOps.sitofp]

end Cert.MlaMath

end
-- ==== Proof.MlaCtxRef.lean ====
/- The latent projections of the context: the reference's results, entry by entry, as plain sums. -/
module

public import proofs.«01_k».proof.Proof.Gen.MlaCtxRefIdeal.Run
public import Idealize.ShloMosaic.Lib.Pointwise
public import proofs.«01_k».proof.Proof.MlaMath

@[expose] public section

set_option maxRecDepth 16384

noncomputable section

namespace Cert.MlaCtxRefIdeal.Rows

open Cert.MlaCtxRefIdeal Cert.MlaCtxRefIdeal.Gen Idealize.ShloMosaic Idealize.ShloMosaic.TcCoe Idealize.SL.Sem
open Cert.MlaMath (rms384 rms256 rms128 rms64 scale)

/-- Rows of 384 numbers, normalised, times the gain. -/
def norm384 (x : FVec Ideal S8192x384 .f32) (g : FVec Ideal S384 .f32) : FVec Ideal S8192x384 .f32 :=
  mulf (mulf x (broadcastInDim S8192x384 ![0, 1] bcast_S8192x1_S8192x384_0_1 (Host.rsqrt (addf (Host.divf (broadcastInDim S8192x1 ![0] bcast_S8192_S8192x1_0 (Host.reduceAdd (mulf x x) (constant S_ .f32 0x00000000#32) reducesTo_S8192x384_S8192_d1 h_S_)) (broadcastInDim S8192x1 ![] bcast_S_S8192x1 (constant S_ .f32 0x43C00000#32))) (broadcastInDim S8192x1 ![] bcast_S_S8192x1 (constant S_ .f32 0x358637BD#32)))))) (broadcastInDim S8192x384 ![0, 1] bcast_S1x384_S8192x384_0_1 (broadcastInDim S1x384 ![1] bcast_S384_S1x384_1 g))

theorem norm384_at (x : FVec Ideal S8192x384 .f32) (g : FVec Ideal S384 .f32) (r : Fin 8192) (k : Fin 384) :
    norm384 x g (ix2 r k) = rms384 (fun k => x (ix2 r k)) (fun k => g (ix1 k)) k := by
  pointwise [norm384, MlaMath.rms]

/-- Rows of 256 numbers, normalised, times the gain. -/
def norm256 (x : FVec Ideal S8192x256 .f32) (g : FVec Ideal S256 .f32) : FVec Ideal S8192x256 .f32 :=
  mulf (mulf x (broadcastInDim S8192x256 ![0, 1] bcast_S8192x1_S8192x256_0_1 (Host.rsqrt (addf (Host.divf (broadcastInDim S8192x1 ![0] bcast_S8192_S8192x1_0 (Host.reduceAdd (mulf x x) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32)))))) (broadcastInDim S8192x256 ![0, 1] bcast_S1x256_S8192x256_0_1 (broadcastInDim S1x256 ![1] bcast_S256_S1x256_1 g))

theorem norm256_at (x : FVec Ideal S8192x256 .f32) (g : FVec Ideal S256 .f32) (r : Fin 8192) (k : Fin 256) :
    norm256 x g (ix2 r k) = rms256 (fun k => x (ix2 r k)) (fun k => g (ix1 k)) k := by
  pointwise [norm256, MlaMath.rms]

/-- Rows of 64 numbers, normalised, times the gain. -/
def norm64 (x : FVec Ideal S8192x64 .f32) (g : FVec Ideal S64 .f32) : FVec Ideal S8192x64 .f32 :=
  mulf (mulf x (broadcastInDim S8192x64 ![0, 1] bcast_S8192x1_S8192x64_0_1 (Host.rsqrt (addf (Host.divf (broadcastInDim S8192x1 ![0] bcast_S8192_S8192x1_0 (Host.reduceAdd (mulf x x) (constant S_ .f32 0x00000000#32) reducesTo_S8192x64_S8192_d1 h_S_)) (broadcastInDim S8192x1 ![] bcast_S_S8192x1 (constant S_ .f32 0x42800000#32))) (broadcastInDim S8192x1 ![] bcast_S_S8192x1 (constant S_ .f32 0x358637BD#32)))))) (broadcastInDim S8192x64 ![0, 1] bcast_S1x64_S8192x64_0_1 (broadcastInDim S1x64 ![1] bcast_S64_S1x64_1 g))

theorem norm64_at (x : FVec Ideal S8192x64 .f32) (g : FVec Ideal S64 .f32) (r : Fin 8192) (k : Fin 64) :
    norm64 x g (ix2 r k) = rms64 (fun k => x (ix2 r k)) (fun k => g (ix1 k)) k := by
  pointwise [norm64, MlaMath.rms]

/-- Rows of 128 numbers of each head, normalised, times the gain. -/
def head128 (x : FVec Ideal S8192x4x128 .f32) (g : FVec Ideal S128 .f32) : FVec Ideal S8192x4x128 .f32 :=
  mulf (mulf x (broadcastInDim S8192x4x128 ![0, 1, 2] bcast_S8192x4x1_S8192x4x128_0_1_2 (Host.rsqrt (addf (Host.divf (broadcastInDim S8192x4x1 ![0, 1] bcast_S8192x4_S8192x4x1_0_1 (Host.reduceAdd (mulf x x) (constant S_ .f32 0x00000000#32) reducesTo_S8192x4x128_S8192x4_d2 h_S_)) (broadcastInDim S8192x4x1 ![] bcast_S_S8192x4x1 (constant S_ .f32 0x43000000#32))) (broadcastInDim S8192x4x1 ![] bcast_S_S8192x4x1 (constant S_ .f32 0x358637BD#32)))))) (broadcastInDim S8192x4x128 ![0, 1, 2] bcast_S1x1x128_S8192x4x128_0_1_2 (broadcastInDim S1x1x128 ![2] bcast_S128_S1x1x128_2 g))

theorem head128_at (x : FVec Ideal S8192x4x128 .f32) (g : FVec Ideal S128 .f32) (r : Fin 8192) (h : Fin 4) (k : Fin 128) :
    head128 x g (ix3 r h k) = rms128 (fun k => x (ix3 r h k)) (fun k => g (ix1 k)) k := by
  pointwise [head128, MlaMath.rms]

/-- Rows of 64 numbers of each head, normalised, times the gain. -/
def head64 (x : FVec Ideal S8192x4x64 .f32) (g : FVec Ideal S64 .f32) : FVec Ideal S8192x4x64 .f32 :=
  mulf (mulf x (broadcastInDim S8192x4x64 ![0, 1, 2] bcast_S8192x4x1_S8192x4x64_0_1_2 (Host.rsqrt (addf (Host.divf (broadcastInDim S8192x4x1 ![0, 1] bcast_S8192x4_S8192x4x1_0_1 (Host.reduceAdd (mulf x x) (constant S_ .f32 0x00000000#32) reducesTo_S8192x4x64_S8192x4_d2 h_S_)) (broadcastInDim S8192x4x1 ![] bcast_S_S8192x4x1 (constant S_ .f32 0x42800000#32))) (broadcastInDim S8192x4x1 ![] bcast_S_S8192x4x1 (constant S_ .f32 0x358637BD#32)))))) (broadcastInDim S8192x4x64 ![0, 1, 2] bcast_S1x1x64_S8192x4x64_0_1_2 (broadcastInDim S1x1x64 ![2] bcast_S64_S1x1x64_2 g))

theorem head64_at (x : FVec Ideal S8192x4x64 .f32) (g : FVec Ideal S64 .f32) (r : Fin 8192) (h : Fin 4) (k : Fin 64) :
    head64 x g (ix3 r h k) = rms64 (fun k => x (ix3 r h k)) (fun k => g (ix1 k)) k := by
  pointwise [head64, MlaMath.rms]

/-- The query part of the projected rows. -/
def cutQ (a0 : FVec Ideal S12288x768 .f32) : FVec Ideal S8192x384 .f32 :=
  extractStridedSlice S8192x384 ![0, 0] (extractStridedSlice S8192x704 ![0, 0] a0 slices_S12288x768_S8192x704_0_0) slices_S8192x704_S8192x384_0_0

theorem cutQ_at (a0 : FVec Ideal S12288x768 .f32) (r : Fin 8192) (k : Fin 384) :
    cutQ a0 (ix2 r k) = a0 (ix2 ⟨r, by omega⟩ ⟨0 + k, by omega⟩) := by
  pointwise [cutQ]

/-- The key-value part of the projected rows. -/
def cutKV (a0 : FVec Ideal S12288x768 .f32) : FVec Ideal S8192x256 .f32 :=
  extractStridedSlice S8192x256 ![0, 384] (extractStridedSlice S8192x704 ![0, 0] a0 slices_S12288x768_S8192x704_0_0) slices_S8192x704_S8192x256_0_384

theorem cutKV_at (a0 : FVec Ideal S12288x768 .f32) (r : Fin 8192) (k : Fin 256) :
    cutKV a0 (ix2 r k) = a0 (ix2 ⟨r, by omega⟩ ⟨384 + k, by omega⟩) := by
  pointwise [cutKV]

/-- The rotary part of the projected rows. -/
def cutR (a0 : FVec Ideal S12288x768 .f32) : FVec Ideal S8192x64 .f32 :=
  extractStridedSlice S8192x64 ![0, 640] (extractStridedSlice S8192x704 ![0, 0] a0 slices_S12288x768_S8192x704_0_0) slices_S8192x704_S8192x64_0_640

theorem cutR_at (a0 : FVec Ideal S12288x768 .f32) (r : Fin 8192) (k : Fin 64) :
    cutR a0 (ix2 r k) = a0 (ix2 ⟨r, by omega⟩ ⟨640 + k, by omega⟩) := by
  pointwise [cutR]

/-- The queries of all heads before their normalisation. -/
def queries (c : FVec Ideal S8192x384 .f32) (a2 : FVec Ideal S384x768 .f32) : FVec Ideal S8192x4x192 .f32 :=
  shapeCast _ (Host.dotGeneral dot_S8192x384_S384x768_S8192x768_1_0_0_1_n_n none c a2) shapeCasts_S8192x768_S8192x4x192

theorem queries_at (c : FVec Ideal S8192x384 .f32) (a2 : FVec Ideal S384x768 .f32) (r : Fin 8192) (h : Fin 4) (e : Fin 192) :
    queries c a2 (ix3 r h e) = ∑ k : Fin 384, c (ix2 r k) * a2 (ix2 k ⟨h * 192 + e, by omega⟩) := by
  pointwise [queries]

/-- The keys and values of all heads before the keys' normalisation. -/
def pairs (c : FVec Ideal S8192x256 .f32) (a6 : FVec Ideal S256x1024 .f32) : FVec Ideal S8192x4x256 .f32 :=
  shapeCast _ (Host.dotGeneral dot_S8192x256_S256x1024_S8192x1024_1_0_0_1_n_n none c a6) shapeCasts_S8192x1024_S8192x4x256

theorem pairs_at (c : FVec Ideal S8192x256 .f32) (a6 : FVec Ideal S256x1024 .f32) (r : Fin 8192) (h : Fin 4) (e : Fin 256) :
    pairs c a6 (ix3 r h e) = ∑ k : Fin 256, c (ix2 r k) * a6 (ix2 k ⟨h * 256 + e, by omega⟩) := by
  pointwise [pairs]

/-- The heads side by side: the plain part, the rotary part, zeros. -/
def rows (x : FVec Ideal S8192x4x128 .f32) (y : FVec Ideal S8192x4x64 .f32) : FVec Ideal S8192x1024 .bf16 :=
  truncf .bf16 (shapeCast _ (concatenate S8192x4x256 2 [⟨S8192x4x128, x⟩, ⟨S8192x4x128, (pad S8192x4x128 ![0, 0, 0] ![0, 0, 64] ![0, 0, 0] y (sitofp .f32 (constantI S_ 32 0#32)) pads_S8192x4x64_S8192x4x128_000_000_0640 h_S_)⟩] concatenates_S8192x4x128_S8192x4x128_S8192x4x256_d2) shapeCasts_S8192x4x256_S8192x1024) bitsLt_bf16_f32

theorem rows_first (x : FVec Ideal S8192x4x128 .f32) (y : FVec Ideal S8192x4x64 .f32) (r : Fin 8192) (n : Fin 1024)
    (h : Fin 4) (e : Fin 128) (hn : (n : ℕ) = h * 256 + e) : rows x y (ix2 r n) = x (ix3 r h e) := by
  have h0 : (⟨(n : ℕ) / 256, by omega⟩ : Fin 4) = h := Fin.ext (by simp; omega)
  have h1 : (n : ℕ) % 256 = e := by omega
  pointwise [rows]
  rw [dif_pos (by omega)]
  simp only [h0, h1]

theorem rows_second (x : FVec Ideal S8192x4x128 .f32) (y : FVec Ideal S8192x4x64 .f32) (r : Fin 8192) (n : Fin 1024)
    (h : Fin 4) (e : Fin 64) (hn : (n : ℕ) = h * 256 + 128 + e) : rows x y (ix2 r n) = y (ix3 r h e) := by
  have h0 : (⟨(n : ℕ) / 256, by omega⟩ : Fin 4) = h := Fin.ext (by simp; omega)
  have h1 : (n : ℕ) % 256 - 128 = e := by omega
  pointwise [rows]
  rw [dif_neg (by omega), dif_pos (by omega)]
  simp only [h0, h1]

theorem rows_third (x : FVec Ideal S8192x4x128 .f32) (y : FVec Ideal S8192x4x64 .f32) (r : Fin 8192) (n : Fin 1024)
    (h : Fin 4) (e : Fin 64) (hn : (n : ℕ) = h * 256 + 192 + e) : rows x y (ix2 r n) = 0 := by
  pointwise [rows]
  rw [dif_neg (by omega), dif_neg (by omega)]
  exact MlaMath.zero_fill

/-- The normalised latents of the queries, of the keys and values, and the rotary keys. -/
def latQ (a0 : FVec Ideal S12288x768 .f32) (a1 : FVec Ideal S384 .f32) : FVec Ideal S8192x384 .f32 := norm384 (cutQ a0) a1
def CKV (a0 : FVec Ideal S12288x768 .f32) (a5 : FVec Ideal S256 .f32) : FVec Ideal S8192x256 .f32 := norm256 (cutKV a0) a5
def KR (a0 : FVec Ideal S12288x768 .f32) (a8 : FVec Ideal S64 .f32) : FVec Ideal S8192x64 .f32 := norm64 (cutR a0) a8

/-- The plain part of the queries, scaled. -/
def plainQ (Q : FVec Ideal S8192x4x192 .f32) (a3 : FVec Ideal S128 .f32) : FVec Ideal S8192x4x128 .f32 :=
  mulf (head128 (extractStridedSlice S8192x4x128 ![0, 0, 0] Q slices_S8192x4x192_S8192x4x128_0_0_0) a3) (broadcastInDim S8192x4x128 ![] bcast_S_S8192x4x128 (constant S_ .f32 0x3D93CD3A#32))

/-- The rotary part of the queries, scaled. -/
def rotaryQ (Q : FVec Ideal S8192x4x192 .f32) (a4 : FVec Ideal S64 .f32) : FVec Ideal S8192x4x64 .f32 :=
  mulf (head64 (extractStridedSlice S8192x4x64 ![0, 0, 128] Q slices_S8192x4x192_S8192x4x64_0_0_128) a4) (broadcastInDim S8192x4x64 ![] bcast_S_S8192x4x64 (constant S_ .f32 0x3D93CD3A#32))

/-- The rotary key, the same for every head. -/
def spread (k : FVec Ideal S8192x64 .f32) : FVec Ideal S8192x4x64 .f32 :=
  broadcastInDim S8192x4x64 ![0, 1, 2] bcast_S8192x1x64_S8192x4x64_0_1_2 (broadcastInDim S8192x1x64 ![0, 2] bcast_S8192x64_S8192x1x64_0_2 k)

/-- The plain part of the keys. -/
def plainK (U : FVec Ideal S8192x4x256 .f32) (a7 : FVec Ideal S128 .f32) : FVec Ideal S8192x4x128 .f32 :=
  head128 (extractStridedSlice S8192x4x128 ![0, 0, 0] U slices_S8192x4x256_S8192x4x128_0_0_0) a7

/-- The values, heads side by side. -/
def vals (U : FVec Ideal S8192x4x256 .f32) : FVec Ideal S8192x512 .bf16 :=
  truncf .bf16 (shapeCast _ (extractStridedSlice S8192x4x128 ![0, 0, 128] U slices_S8192x4x256_S8192x4x128_0_0_128) shapeCasts_S8192x4x128_S8192x512) bitsLt_bf16_f32

/-- The queries, the keys and the values as functions of the arguments. -/
def QS (a0 : FVec Ideal S12288x768 .f32) (a1 : FVec Ideal S384 .f32) (a2 : FVec Ideal S384x768 .f32) (a3 : FVec Ideal S128 .f32)
    (a4 : FVec Ideal S64 .f32) : FVec Ideal S8192x1024 .bf16 :=
  rows (plainQ (queries (latQ a0 a1) a2) a3) (rotaryQ (queries (latQ a0 a1) a2) a4)

def KS (a0 : FVec Ideal S12288x768 .f32) (a5 : FVec Ideal S256 .f32) (a6 : FVec Ideal S256x1024 .f32) (a7 : FVec Ideal S128 .f32)
    (a8 : FVec Ideal S64 .f32) : FVec Ideal S8192x1024 .bf16 :=
  rows (plainK (pairs (CKV a0 a5) a6) a7) (spread (KR a0 a8))

def VS (a0 : FVec Ideal S12288x768 .f32) (a5 : FVec Ideal S256 .f32) (a6 : FVec Ideal S256x1024 .f32) : FVec Ideal S8192x512 .bf16 :=
  vals (pairs (CKV a0 a5) a6)

theorem qs_eq (m : (ℓ : Loc nD τ sig) → Buf (Elt Ideal) ℓ) (c : Dev nD) :
    Value.res_main_v99 m c = QS (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem ks_eq (m : (ℓ : Loc nD τ sig) → Buf (Elt Ideal) ℓ) (c : Dev nD) :
    Value.res_main_v103 m c = KS (m ((c.tc : Thread nD τ).loc main_arg0)) (m ((c.tc : Thread nD τ).loc main_arg5))
      (m ((c.tc : Thread nD τ).loc main_arg6)) (m ((c.tc : Thread nD τ).loc main_arg7)) (m ((c.tc : Thread nD τ).loc main_arg8)) := rfl

/-- One row of the projection, and the numbers the results are made of. -/
abbrev row (a0 : FVec Ideal S12288x768 .f32) (r : Fin 8192) (c : Fin 768) : EReal := a0 (ix2 (⟨r, by omega⟩ : Fin 12288) c)

/-- One column of the queries' product over a row `x` of the projection. -/
def qcol (x : Fin 768 → EReal) (a1 : FVec Ideal S384 .f32) (w : Fin 384 → EReal) : EReal :=
  ∑ k : Fin 384, rms384 (fun k => x ⟨k, by omega⟩) (fun k => a1 (ix1 k)) k * w k

/-- The normalised latent of the keys and values. -/
def lat (x : Fin 768 → EReal) (a5 : FVec Ideal S256 .f32) (k : Fin 256) : EReal :=
  rms256 (fun k => x ⟨384 + k, by omega⟩) (fun k => a5 (ix1 k)) k

theorem ckv_at (a0 : FVec Ideal S12288x768 .f32) (a5 : FVec Ideal S256 .f32) (r : Fin 8192) (k : Fin 256) :
    CKV a0 a5 (ix2 r k) = lat (row a0 r) a5 k := by
  unfold CKV lat
  simp only [norm256_at, cutKV_at]

theorem kr_at (a0 : FVec Ideal S12288x768 .f32) (a8 : FVec Ideal S64 .f32) (r : Fin 8192) (k : Fin 64) :
    KR a0 a8 (ix2 r k) = rms64 (fun k => row a0 r ⟨640 + k, by omega⟩) (fun k => a8 (ix1 k)) k := by
  unfold KR
  simp only [norm64_at, cutR_at]

theorem q_at (a0 : FVec Ideal S12288x768 .f32) (a1 : FVec Ideal S384 .f32) (a2 : FVec Ideal S384x768 .f32) (r : Fin 8192)
    (h : Fin 4) (e : Fin 192) :
    queries (latQ a0 a1) a2 (ix3 r h e) = qcol (row a0 r) a1 fun k => a2 (ix2 k ⟨h * 192 + e, by omega⟩) := by
  unfold latQ qcol
  simp only [queries_at, norm384_at, cutQ_at, Nat.zero_add]

theorem u_at (a0 : FVec Ideal S12288x768 .f32) (a5 : FVec Ideal S256 .f32) (a6 : FVec Ideal S256x1024 .f32) (r : Fin 8192)
    (h : Fin 4) (e : Fin 256) :
    pairs (CKV a0 a5) a6 (ix3 r h e) = ∑ k : Fin 256, lat (row a0 r) a5 k * a6 (ix2 k ⟨h * 256 + e, by omega⟩) := by
  simp only [pairs_at, ckv_at]

theorem plainQ_at (Q : FVec Ideal S8192x4x192 .f32) (a3 : FVec Ideal S128 .f32) (r : Fin 8192) (h : Fin 4) (e : Fin 128) :
    plainQ Q a3 (ix3 r h e) = rms128 (fun k => Q (ix3 r h ⟨k, by omega⟩)) (fun k => a3 (ix1 k)) e * scale := by
  pointwise [plainQ, head128, MlaMath.rms]

theorem rotaryQ_at (Q : FVec Ideal S8192x4x192 .f32) (a4 : FVec Ideal S64 .f32) (r : Fin 8192) (h : Fin 4) (e : Fin 64) :
    rotaryQ Q a4 (ix3 r h e) = rms64 (fun k => Q (ix3 r h ⟨128 + k, by omega⟩)) (fun k => a4 (ix1 k)) e * scale := by
  pointwise [rotaryQ, head64, MlaMath.rms]

theorem plainK_at (U : FVec Ideal S8192x4x256 .f32) (a7 : FVec Ideal S128 .f32) (r : Fin 8192) (h : Fin 4) (e : Fin 128) :
    plainK U a7 (ix3 r h e) = rms128 (fun k => U (ix3 r h ⟨k, by omega⟩)) (fun k => a7 (ix1 k)) e := by
  pointwise [plainK, head128, MlaMath.rms]

theorem spread_at (k : FVec Ideal S8192x64 .f32) (r : Fin 8192) (h : Fin 4) (e : Fin 64) : spread k (ix3 r h e) = k (ix2 r e) := by
  pointwise [spread]

theorem vals_at (U : FVec Ideal S8192x4x256 .f32) (r : Fin 8192) (n : Fin 512) (h : Fin 4) (d : Fin 128)
    (hn : (n : ℕ) = h * 128 + d) : vals U (ix2 r n) = U (ix3 r h ⟨128 + d, by omega⟩) := by
  have h0 : (⟨(n : ℕ) / 128, by omega⟩ : Fin 4) = h := Fin.ext (by simp; omega)
  have h1 : (n : ℕ) % 128 = d := by omega
  pointwise [vals]
  simp only [h0, h1]

end Cert.MlaCtxRefIdeal.Rows

end
-- ==== Proof.MlaCtxValue.lean ====
/- The latent projections of the context: what the kernel computes from one tile of rows, and the operands it is given. -/
module

public import proofs.«01_k».proof.Proof.Gen.MlaCtxIdeal.Frame
public import proofs.«01_k».proof.Proof.MlaCtxRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlaCtxIdeal.Rows

open Cert.MlaCtxIdeal Cert.MlaCtxIdeal.Gen
open Cert.MlaMath (rms384 rms256 rms128 rms64 slab scale eps)
open Cert.MlaCtxRefIdeal.Rows (qcol lat row)

variable (m : (ℓ : Loc nD τ sig) → Buf (Elt Ideal) ℓ)

/-- The queries' product. -/
theorem pay_q (x : Vec Ideal S256x768 .f32) (g : Vec Ideal S1x384 .f32) (w : Vec Ideal S384x1024 .bf16) (p : Fin 256) (n : Fin 1024) :
    k0_pay2 (F := Ideal) x g w (ix2 p n)
      = ∑ k : Fin 384, rms384 (fun k => x (ix2 p ⟨k, by omega⟩)) (fun k => g (ix2 0 k)) k * w (ix2 k n) := by
  pointwise [k0_pay2, MlaMath.rms]

/-- The normalised latent of the keys and values. -/
theorem pay_ckv (x : Vec Ideal S256x768 .f32) (g : Vec Ideal S1x256 .f32) (p : Fin 256) (k : Fin 256) :
    k0_pay25 (F := Ideal) x g (ix2 p k) = rms256 (fun k => x (ix2 p ⟨384 + k, by omega⟩)) (fun k => g (ix2 0 k)) k := by
  pointwise [k0_pay25, MlaMath.rms]

/-- The rotary key in its slab. -/
theorem pay_kr (x : Vec Ideal S256x768 .f32) (g : Vec Ideal S1x128 .f32) (p : Fin 256) (k : Fin 128) :
    k0_pay26 (F := Ideal) x g (ix2 p k) = slab (fun k => x (ix2 p ⟨640 + k, by omega⟩)) (fun k => g (ix2 0 k)) k := by
  pointwise [k0_pay26, MlaMath.slab]

theorem pay_kr_low (x : Vec Ideal S256x768 .f32) (g : Vec Ideal S1x128 .f32) (p : Fin 256) (k : Fin 64) :
    k0_pay27 (F := Ideal) x g (ix2 p k) = k0_pay26 x g (ix2 p ⟨k, by omega⟩) := by
  pointwise [k0_pay27]

theorem pay_kr_cast (x : FVec Ideal S256x128 .f32) (p : Fin 256) (k : Fin 128) :
    k0_pay29 (F := Ideal) x (ix2 p k) = x (ix2 p k) := by
  pointwise [k0_pay29]

/-- The product of the keys and values. -/
theorem pay_kv (x : FVec Ideal S256x256 .f32) (w : Vec Ideal S256x1024 .bf16) (p : Fin 256) (n : Fin 1024) :
    k0_pay28 (F := Ideal) x w (ix2 p n) = ∑ k : Fin 256, x (ix2 p k) * w (ix2 k n) := by
  pointwise [k0_pay28]

theorem pay_v (u : FVec Ideal S256x1024 .f32) (p : Fin 256) (n : Fin 512) :
    k0_pay1 (F := Ideal) u (ix2 p n) = u (ix2 p ⟨512 + n, by omega⟩) := by
  pointwise [k0_pay1]

/-! The plain part of each head's queries. -/

theorem plain_0 (x : Vec Ideal S256x768 .f32) (c : Vec Ideal S1x384 .f32) (w : Vec Ideal S384x1024 .bf16) (g : Vec Ideal S1x128 .f32) (p : Fin 256) (e : Fin 128) :
    k0_pay7 (F := Ideal) (k0_pay3 x c w g) (ix2 p e)
      = rms128 (fun k => k0_pay2 (F := Ideal) x c w (ix2 p ⟨k, by omega⟩)) (fun k => g (ix2 0 k)) e * scale := by
  pointwise [k0_pay7, k0_pay3, MlaMath.rms, MlaMath.slab]

theorem plain_1 (u : FVec Ideal S256x1024 .f32) (g : Vec Ideal S1x128 .f32) (p : Fin 256) (e : Fin 128) :
    k0_pay13 (F := Ideal) (k0_pay9 u g) (ix2 p e)
      = rms128 (fun k => u (ix2 p ⟨256 + k, by omega⟩)) (fun k => g (ix2 0 k)) e * scale := by
  pointwise [k0_pay13, k0_pay9, MlaMath.rms, MlaMath.slab]

theorem plain_2 (u : FVec Ideal S256x1024 .f32) (g : Vec Ideal S1x128 .f32) (p : Fin 256) (e : Fin 128) :
    k0_pay19 (F := Ideal) (k0_pay15 u g) (ix2 p e)
      = rms128 (fun k => u (ix2 p ⟨512 + k, by omega⟩)) (fun k => g (ix2 0 k)) e * scale := by
  pointwise [k0_pay19, k0_pay15, MlaMath.rms, MlaMath.slab]

theorem plain_3 (u : FVec Ideal S256x1024 .f32) (g : Vec Ideal S1x128 .f32) (p : Fin 256) (e : Fin 128) :
    k0_pay23 (F := Ideal) (k0_pay21 u g) (Scalar.ofBits .f32 0x3D93CD3A#32) (ix2 p e)
      = rms128 (fun k => u (ix2 p ⟨768 + k, by omega⟩)) (fun k => g (ix2 0 k)) e * scale := by
  pointwise [k0_pay23, k0_pay21, MlaMath.rms, MlaMath.slab]

/-! The rotary part of each head's queries. -/

theorem rotary_0 (x : Vec Ideal S256x768 .f32) (c : Vec Ideal S1x384 .f32) (w : Vec Ideal S384x1024 .bf16) (g : Vec Ideal S1x128 .f32) (p : Fin 256) (e : Fin 128) :
    k0_pay8 (F := Ideal) (k0_pay4 x c w) (k0_pay5 g) (k0_pay6 x c w) (ix2 p e)
      = slab (fun k => k0_pay2 (F := Ideal) x c w (ix2 p ⟨128 + k, by omega⟩)) (fun k => g (ix2 0 k)) e * scale := by
  pointwise [k0_pay8, k0_pay4, k0_pay5, k0_pay6, MlaMath.rms, MlaMath.slab]

theorem rotary_1 (u : FVec Ideal S256x1024 .f32) (g : Vec Ideal S1x128 .f32) (p : Fin 256) (e : Fin 128) :
    k0_pay14 (F := Ideal) (k0_pay10 u) (k0_pay11 g) (k0_pay12 u) (Scalar.ofBits .f32 0x358637BD#32) (ix2 p e)
      = slab (fun k => u (ix2 p ⟨384 + k, by omega⟩)) (fun k => g (ix2 0 k)) e * scale := by
  pointwise [k0_pay14, k0_pay10, k0_pay11, k0_pay12, MlaMath.rms, MlaMath.slab]

theorem rotary_2 (u : FVec Ideal S256x1024 .f32) (g : Vec Ideal S1x128 .f32) (p : Fin 256) (e : Fin 128) :
    k0_pay20 (F := Ideal) (k0_pay16 u) (k0_pay17 g) (k0_pay18 u) (ix2 p e)
      = slab (fun k => u (ix2 p ⟨640 + k, by omega⟩)) (fun k => g (ix2 0 k)) e * scale := by
  pointwise [k0_pay20, k0_pay16, k0_pay17, k0_pay18, MlaMath.rms, MlaMath.slab]

theorem rotary_3 (u : FVec Ideal S256x1024 .f32) (g : Vec Ideal S1x128 .f32) (p : Fin 256) (e : Fin 128) :
    k0_pay24 (F := Ideal) (k0_pay22 u g) (ix2 p e)
      = slab (fun k => u (ix2 p ⟨896 + k, by omega⟩)) (fun k => g (ix2 0 k)) e * scale := by
  pointwise [k0_pay24, k0_pay22, MlaMath.rms, MlaMath.slab]

/-! The plain part of each head's keys. -/

theorem key_0 (x : FVec Ideal S256x256 .f32) (w : Vec Ideal S256x1024 .bf16) (g : Vec Ideal S1x128 .f32) (p : Fin 256) (e : Fin 128) :
    k0_pay30 (F := Ideal) x w g (ix2 p e)
      = rms128 (fun k => k0_pay28 (F := Ideal) x w (ix2 p ⟨k, by omega⟩)) (fun k => g (ix2 0 k)) e := by
  pointwise [k0_pay30, MlaMath.rms, MlaMath.slab]

theorem key_1 (x : FVec Ideal S256x256 .f32) (w : Vec Ideal S256x1024 .bf16) (g : Vec Ideal S1x128 .f32) (p : Fin 256) (e : Fin 128) :
    k0_pay33 (F := Ideal) (k0_pay31 x w) (k0_pay32 g) (ix2 p e)
      = rms128 (fun k => k0_pay28 (F := Ideal) x w (ix2 p ⟨128 + k, by omega⟩)) (fun k => g (ix2 0 k)) e := by
  pointwise [k0_pay33, k0_pay31, k0_pay32, MlaMath.rms, MlaMath.slab]

theorem key_2 (u : FVec Ideal S256x1024 .f32) (g : Vec Ideal S1x128 .f32) (p : Fin 256) (e : Fin 128) :
    k0_pay34 (F := Ideal) u g (ix2 p e)
      = rms128 (fun k => u (ix2 p ⟨256 + k, by omega⟩)) (fun k => g (ix2 0 k)) e := by
  pointwise [k0_pay34, MlaMath.rms, MlaMath.slab]

theorem key_3 (u : FVec Ideal S256x1024 .f32) (g : Vec Ideal S1x128 .f32) (p : Fin 256) (e : Fin 128) :
    k0_pay35 (F := Ideal) u g (ix2 p e)
      = rms128 (fun k => u (ix2 p ⟨384 + k, by omega⟩)) (fun k => g (ix2 0 k)) e := by
  pointwise [k0_pay35, MlaMath.rms, MlaMath.slab]

/-- Where each window stands at grid point `t`: row tile `t`, or the whole operand. -/
theorem places : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0] ∧ t.val < 32 :=
  (by decide +kernel : ∀ t : Fin grid0.N, _)

theorem tile_lt (t : Fin cfg0.N) : t.val < 32 := (places t).2.2.2.2.2.2.2.2.2.2.2.2.2.2

theorem read0 (c : Dev nD) (t : Fin cfg0.N) (p : Fin 256) (n : Fin 768) (r : Fin 8192) (hr : (r : ℕ) = t.val * 256 + p) :
    iblk m c 0 t (ix2 p n) = row (m ((c : Thread nD τ).loc main_arg0)) r n := by
  blk_ext [iblk, V, places t]

theorem gain1 (c : Dev nD) (n : Fin 384) : V m c main_v9 (ix2 0 n) = m ((c : Thread nD τ).loc main_arg1) (ix1 n) := by
  simp only [V, hostOps0, hostOps0_1, hostOps0_2, hostOps0_3, hostOps0_4, hostOps0_5, hostOps0_6, List.flatten_cons,
    List.flatten_nil, List.append_nil, List.cons_append, List.nil_append]
  entry_read
  pointwise

theorem read1 (c : Dev nD) (t : Fin cfg0.N) (n : Fin 384) :
    iblk m c 1 t (ix2 0 n) = m ((c : Thread nD τ).loc main_arg1) (ix1 n) := by
  refine Eq.trans ?_ (gain1 m c n)
  blk_ext [iblk, places t]

theorem gain3 (c : Dev nD) (n : Fin 128) : V m c main_v11 (ix2 0 n) = m ((c : Thread nD τ).loc main_arg3) (ix1 n) := by
  simp only [V, hostOps0, hostOps0_1, hostOps0_2, hostOps0_3, hostOps0_4, hostOps0_5, hostOps0_6, List.flatten_cons,
    List.flatten_nil, List.append_nil, List.cons_append, List.nil_append]
  entry_read
  pointwise

theorem read3 (c : Dev nD) (t : Fin cfg0.N) (n : Fin 128) :
    iblk m c 3 t (ix2 0 n) = m ((c : Thread nD τ).loc main_arg3) (ix1 n) := by
  refine Eq.trans ?_ (gain3 m c n)
  blk_ext [iblk, places t]

theorem gain5 (c : Dev nD) (n : Fin 256) : V m c main_v14 (ix2 0 n) = m ((c : Thread nD τ).loc main_arg5) (ix1 n) := by
  simp only [V, hostOps0, hostOps0_1, hostOps0_2, hostOps0_3, hostOps0_4, hostOps0_5, hostOps0_6, List.flatten_cons,
    List.flatten_nil, List.append_nil, List.cons_append, List.nil_append]
  entry_read
  pointwise

theorem read5 (c : Dev nD) (t : Fin cfg0.N) (n : Fin 256) :
    iblk m c 5 t (ix2 0 n) = m ((c : Thread nD τ).loc main_arg5) (ix1 n) := by
  refine Eq.trans ?_ (gain5 m c n)
  blk_ext [iblk, places t]

theorem gain7 (c : Dev nD) (n : Fin 128) : V m c main_v16 (ix2 0 n) = m ((c : Thread nD τ).loc main_arg7) (ix1 n) := by
  simp only [V, hostOps0, hostOps0_1, hostOps0_2, hostOps0_3, hostOps0_4, hostOps0_5, hostOps0_6, List.flatten_cons,
    List.flatten_nil, List.append_nil, List.cons_append, List.nil_append]
  entry_read
  pointwise

theorem read7 (c : Dev nD) (t : Fin cfg0.N) (n : Fin 128) :
    iblk m c 7 t (ix2 0 n) = m ((c : Thread nD τ).loc main_arg7) (ix1 n) := by
  refine Eq.trans ?_ (gain7 m c n)
  blk_ext [iblk, places t]

theorem gain4 (c : Dev nD) (n : Fin 64) :
    V m c main_v13 (ix2 0 (⟨n, by omega⟩ : Fin 128)) = m ((c : Thread nD τ).loc main_arg4) (ix1 n) := by
  simp only [V, hostOps0, hostOps0_1, hostOps0_2, hostOps0_3, hostOps0_4, hostOps0_5, hostOps0_6, List.flatten_cons,
    List.flatten_nil, List.append_nil, List.cons_append, List.nil_append]
  entry_read
  simp only [StableHlo.TRef.toBuf, StableHlo.TRef.ofBuf, cast_eq]
  pointwise

theorem read4 (c : Dev nD) (t : Fin cfg0.N) (n : Fin 64) :
    iblk m c 4 t (ix2 0 (⟨n, by omega⟩ : Fin 128)) = m ((c : Thread nD τ).loc main_arg4) (ix1 n) := by
  refine Eq.trans ?_ (gain4 m c n)
  blk_ext [iblk, places t]

theorem gain8 (c : Dev nD) (n : Fin 64) :
    V m c main_v18 (ix2 0 (⟨n, by omega⟩ : Fin 128)) = m ((c : Thread nD τ).loc main_arg8) (ix1 n) := by
  simp only [V, hostOps0, hostOps0_1, hostOps0_2, hostOps0_3, hostOps0_4, hostOps0_5, hostOps0_6, List.flatten_cons,
    List.flatten_nil, List.append_nil, List.cons_append, List.nil_append]
  entry_read
  simp only [StableHlo.TRef.toBuf, StableHlo.TRef.ofBuf, cast_eq]
  pointwise

theorem read8 (c : Dev nD) (t : Fin cfg0.N) (n : Fin 64) :
    iblk m c 8 t (ix2 0 (⟨n, by omega⟩ : Fin 128)) = m ((c : Thread nD τ).loc main_arg8) (ix1 n) := by
  refine Eq.trans ?_ (gain8 m c n)
  blk_ext [iblk, places t]

/-- The queries' weight: each head's 192 columns, then 64 columns of zeros. -/
theorem weight2 (c : Dev nD) (k : Fin 384) (n : Fin 1024) (h : Fin 4) (e : Fin 192) (hn : (n : ℕ) = h * 256 + e) :
    V m c main_v10 (ix2 k n) = m ((c : Thread nD τ).loc main_arg2) (ix2 k ⟨h * 192 + e, by omega⟩) := by
  have h0 : (n : ℕ) / 256 = h := by omega
  have h1 : (n : ℕ) % 256 = e := by omega
  simp only [V, hostOps0, hostOps0_1, hostOps0_2, hostOps0_3, hostOps0_4, hostOps0_5, hostOps0_6, List.flatten_cons,
    List.flatten_nil, List.append_nil, List.cons_append, List.nil_append]
  entry_read
  simp only [StableHlo.TRef.toBuf, StableHlo.TRef.ofBuf, cast_eq]
  pointwise
  rw [dif_pos (by omega)]
  simp only [h0, h1]

theorem weight2_fill (c : Dev nD) (k : Fin 384) (n : Fin 1024) (hn : 192 ≤ (n : ℕ) % 256) :
    V m c main_v10 (ix2 k n) = (0 : EReal) := by
  simp only [V, hostOps0, hostOps0_1, hostOps0_2, hostOps0_3, hostOps0_4, hostOps0_5, hostOps0_6, List.flatten_cons,
    List.flatten_nil, List.append_nil, List.cons_append, List.nil_append]
  entry_read
  simp only [StableHlo.TRef.toBuf, StableHlo.TRef.ofBuf, cast_eq]
  pointwise
  rw [dif_neg (by omega)]
  exact MlaMath.zero_fill

theorem whole2 (c : Dev nD) (t : Fin cfg0.N) (k : Fin 384) (n : Fin 1024) :
    iblk m c 2 t (ix2 k n) = V m c main_v10 (ix2 k n) := by
  blk_ext [iblk, places t]

/-- The weight of the keys and values: every head's keys first, then every head's values. -/
theorem weight6_key (c : Dev nD) (k : Fin 256) (n : Fin 1024) (h : Fin 4) (e : Fin 128) (hn : (n : ℕ) = h * 128 + e) :
    V m c main_v15 (ix2 k n) = m ((c : Thread nD τ).loc main_arg6) (ix2 k ⟨h * 256 + e, by omega⟩) := by
  have h0 : (n : ℕ) / 128 = h := by omega
  have h1 : (n : ℕ) % 128 = e := by omega
  simp only [V, hostOps0, hostOps0_1, hostOps0_2, hostOps0_3, hostOps0_4, hostOps0_5, hostOps0_6, List.flatten_cons,
    List.flatten_nil, List.append_nil, List.cons_append, List.nil_append]
  entry_read
  pointwise
  rw [dif_pos (by omega)]
  simp only [h0, h1]

theorem weight6_val (c : Dev nD) (k : Fin 256) (n : Fin 1024) (h : Fin 4) (e : Fin 128) (hn : (n : ℕ) = 512 + h * 128 + e) :
    V m c main_v15 (ix2 k n) = m ((c : Thread nD τ).loc main_arg6) (ix2 k ⟨h * 256 + (128 + e), by omega⟩) := by
  have h0 : ((n : ℕ) - 512) / 128 = h := by omega
  have h1 : ((n : ℕ) - 512) % 128 = e := by omega
  simp only [V, hostOps0, hostOps0_1, hostOps0_2, hostOps0_3, hostOps0_4, hostOps0_5, hostOps0_6, List.flatten_cons,
    List.flatten_nil, List.append_nil, List.cons_append, List.nil_append]
  entry_read
  pointwise
  rw [dif_neg (by omega)]
  simp only [h0, h1]

theorem whole6 (c : Dev nD) (t : Fin cfg0.N) (k : Fin 256) (n : Fin 1024) :
    iblk m c 6 t (ix2 k n) = V m c main_v15 (ix2 k n) := by
  blk_ext [iblk, places t]

end Cert.MlaCtxIdeal.Rows

end
-- ==== Proof.MlaCtxFinal.lean ====
/- The latent projections of the context: the five arrays the kernel leaves are the reference's results. -/
module

public import proofs.«01_k».proof.Proof.MlaCtxValue

@[expose] public section

set_option maxRecDepth 16384

noncomputable section

open Idealize.ShloMosaic Idealize.ShloMosaic.TcCoe Idealize.SL.Sem
open Idealize.ShloMosaic.Pipeline (Dat)

namespace Cert.MlaCtxIdeal.Rows

open Cert.MlaCtxIdeal Cert.MlaCtxIdeal.Gen
open Cert.MlaMath (rms384 rms256 rms128 rms64 slab scale eps)
open Cert.MlaCtxRefIdeal.Rows (qcol lat row)

variable (m : (ℓ : Loc nD τ sig) → Buf (Elt Ideal) ℓ)

/-- The reference's results over the kernel's own argument arrays. -/
abbrev wantQ (c : Dev nD) : FVec Ideal S8192x1024 .bf16 :=
  Cert.MlaCtxRefIdeal.Rows.QS (m ((c : Thread nD τ).loc main_arg0)) (m ((c : Thread nD τ).loc main_arg1))
    (m ((c : Thread nD τ).loc main_arg2)) (m ((c : Thread nD τ).loc main_arg3)) (m ((c : Thread nD τ).loc main_arg4))

abbrev wantK (c : Dev nD) : FVec Ideal S8192x1024 .bf16 :=
  Cert.MlaCtxRefIdeal.Rows.KS (m ((c : Thread nD τ).loc main_arg0)) (m ((c : Thread nD τ).loc main_arg5))
    (m ((c : Thread nD τ).loc main_arg6)) (m ((c : Thread nD τ).loc main_arg7)) (m ((c : Thread nD τ).loc main_arg8))

abbrev wantV (c : Dev nD) : FVec Ideal S8192x512 .bf16 :=
  Cert.MlaCtxRefIdeal.Rows.VS (m ((c : Thread nD τ).loc main_arg0)) (m ((c : Thread nD τ).loc main_arg5))
    (m ((c : Thread nD τ).loc main_arg6))

abbrev wantC (c : Dev nD) : FVec Ideal S8192x256 .f32 :=
  Cert.MlaCtxRefIdeal.Rows.CKV (m ((c : Thread nD τ).loc main_arg0)) (m ((c : Thread nD τ).loc main_arg5))

abbrev wantR (c : Dev nD) : FVec Ideal S8192x64 .f32 :=
  Cert.MlaCtxRefIdeal.Rows.KR (m ((c : Thread nD τ).loc main_arg0)) (m ((c : Thread nD τ).loc main_arg8))

/-- The last 64 columns of the projection, which fill it up, are zero at the context's rows. -/
abbrev Filled (c : Dev nD) : Prop :=
  ∀ (r : Fin 8192) (n : Fin 768), 704 ≤ (n : ℕ) → m ((c : Thread nD τ).loc main_arg0) (ix2 (⟨r, by omega⟩ : Fin 12288) n) = (0 : EReal)

/-- The queries' product over tile `t`. -/
abbrev Q (c : Dev nD) (t : Fin cfg0.N) : FVec Ideal S256x1024 .f32 :=
  k0_pay2 (F := Ideal) (iblk m c 0 t) (iblk m c 1 t) (iblk m c 2 t)

/-- The latents of the keys and values over tile `t`. -/
abbrev C (c : Dev nD) (t : Fin cfg0.N) : FVec Ideal S256x256 .f32 := k0_pay25 (F := Ideal) (iblk m c 0 t) (iblk m c 5 t)

/-- The product of the keys and values over tile `t`. -/
abbrev U (c : Dev nD) (t : Fin cfg0.N) : FVec Ideal S256x1024 .f32 := k0_pay28 (F := Ideal) (C m c t) (iblk m c 6 t)

theorem q_low (c : Dev nD) (t : Fin cfg0.N) (p : Fin 256) (n : Fin 1024) (h : Fin 4) (e : Fin 192) (hn : (n : ℕ) = h * 256 + e)
    (r : Fin 8192) (hr : (r : ℕ) = t.val * 256 + p) :
    Q m c t (ix2 p n) = qcol (row (m ((c : Thread nD τ).loc main_arg0)) r) (m ((c : Thread nD τ).loc main_arg1))
      fun k => m ((c : Thread nD τ).loc main_arg2) (ix2 k ⟨h * 192 + e, by omega⟩) := by
  refine (pay_q _ _ _ p n).trans (Finset.sum_congr rfl fun k _ => ?_)
  refine congrArg₂ (fun a b : EReal => a * b) ?_ ((whole2 m c t k n).trans (weight2 m c k n h e hn))
  exact congrArg₂ (fun a b : Fin 384 → EReal => rms384 a b k) (funext fun k => read0 m c t p _ r hr) (funext fun k => read1 m c t k)

theorem q_fill (c : Dev nD) (t : Fin cfg0.N) (p : Fin 256) (n : Fin 1024) (hn : 192 ≤ (n : ℕ) % 256) :
    Q m c t (ix2 p n) = (0 : EReal) := by
  refine (pay_q _ _ _ p n).trans (Finset.sum_eq_zero fun k _ => ?_)
  rw [whole2 m c t k n, weight2_fill m c k n hn, mul_zero]

theorem c_at (c : Dev nD) (t : Fin cfg0.N) (p : Fin 256) (k : Fin 256) (r : Fin 8192) (hr : (r : ℕ) = t.val * 256 + p) :
    C m c t (ix2 p k) = lat (row (m ((c : Thread nD τ).loc main_arg0)) r) (m ((c : Thread nD τ).loc main_arg5)) k :=
  (pay_ckv _ _ p k).trans (congrArg₂ (fun a b : Fin 256 → EReal => rms256 a b k) (funext fun k => read0 m c t p _ r hr)
    (funext fun k => read5 m c t k))

theorem u_key (c : Dev nD) (t : Fin cfg0.N) (p : Fin 256) (n : Fin 1024) (h : Fin 4) (e : Fin 128) (hn : (n : ℕ) = h * 128 + e)
    (r : Fin 8192) (hr : (r : ℕ) = t.val * 256 + p) :
    U m c t (ix2 p n) = ∑ k : Fin 256, lat (row (m ((c : Thread nD τ).loc main_arg0)) r) (m ((c : Thread nD τ).loc main_arg5)) k
      * m ((c : Thread nD τ).loc main_arg6) (ix2 k ⟨h * 256 + e, by omega⟩) :=
  (pay_kv _ _ p n).trans (Finset.sum_congr rfl fun k _ => congrArg₂ (fun a b : EReal => a * b) (c_at m c t p k r hr)
    ((whole6 m c t k n).trans (weight6_key m c k n h e hn)))

theorem u_val (c : Dev nD) (t : Fin cfg0.N) (p : Fin 256) (n : Fin 1024) (h : Fin 4) (e : Fin 128)
    (hn : (n : ℕ) = 512 + h * 128 + e) (r : Fin 8192) (hr : (r : ℕ) = t.val * 256 + p) :
    U m c t (ix2 p n) = ∑ k : Fin 256, lat (row (m ((c : Thread nD τ).loc main_arg0)) r) (m ((c : Thread nD τ).loc main_arg5)) k
      * m ((c : Thread nD τ).loc main_arg6) (ix2 k ⟨h * 256 + (128 + e), by omega⟩) :=
  (pay_kv _ _ p n).trans (Finset.sum_congr rfl fun k _ => congrArg₂ (fun a b : EReal => a * b) (c_at m c t p k r hr)
    ((whole6 m c t k n).trans (weight6_val m c k n h e hn)))

/-- The plain part of head `h`'s queries. -/
theorem plain (c : Dev nD) (t : Fin cfg0.N) (h : Fin 4) (p : Fin 256) (e : Fin 128) (r : Fin 8192) (n : Fin 1024)
    (hr : (r : ℕ) = t.val * 256 + p) (hn : (n : ℕ) = h * 256 + e) (col : Fin 128 → Fin 1024)
    (hcol : ∀ k, (col k : ℕ) = h * 256 + k) :
    rms128 (fun k => Q m c t (ix2 p (col k))) (fun k => iblk m c 3 t (ix2 0 k)) e * scale = wantQ m c (ix2 r n) := by
  unfold wantQ Cert.MlaCtxRefIdeal.Rows.QS
  refine Eq.trans ?_ ((Cert.MlaCtxRefIdeal.Rows.rows_first _ _ r n h e hn).trans (Cert.MlaCtxRefIdeal.Rows.plainQ_at _ _ r h e)).symm
  refine congrArg₂ (fun a b : Fin 128 → EReal => rms128 a b e * scale) (funext fun k => ?_) (funext fun k => read3 m c t k)
  exact (q_low m c t p (col k) h ⟨k, by omega⟩ (hcol k) r hr).trans (Cert.MlaCtxRefIdeal.Rows.q_at _ _ _ r h ⟨k, by omega⟩).symm

/-- The rotary part of head `h`'s queries and the zeros after it. -/
theorem rotary (c : Dev nD) (t : Fin cfg0.N) (h : Fin 4) (p : Fin 256) (e : Fin 128) (r : Fin 8192) (n : Fin 1024)
    (hr : (r : ℕ) = t.val * 256 + p) (hn : (n : ℕ) = h * 256 + 128 + e) (col : Fin 128 → Fin 1024)
    (hcol : ∀ k, (col k : ℕ) = h * 256 + 128 + k) :
    slab (fun k => Q m c t (ix2 p (col k))) (fun k => iblk m c 4 t (ix2 0 k)) e * scale = wantQ m c (ix2 r n) := by
  unfold wantQ Cert.MlaCtxRefIdeal.Rows.QS
  have fill : ∀ k : Fin 64, Q m c t (ix2 p (col (Fin.natAdd 64 k))) = (0 : EReal) := fun k =>
    q_fill m c t p _ (by rw [hcol]; simp; omega)
  by_cases he : (e : ℕ) < 64
  · refine Eq.trans ?_ ((Cert.MlaCtxRefIdeal.Rows.rows_second _ _ r n h ⟨e, he⟩ hn).trans
      (Cert.MlaCtxRefIdeal.Rows.rotaryQ_at _ _ r h ⟨e, he⟩)).symm
    refine congrArg (fun a : EReal => a * scale) ?_
    refine MlaMath.slab_low _ _ _ (fun k => ?_) fill _ (fun k => read4 m c t k) ⟨e, he⟩
    exact (q_low m c t p _ h ⟨128 + k, by omega⟩ (by rw [hcol]; simp; omega) r hr).trans
      (Cert.MlaCtxRefIdeal.Rows.q_at _ _ _ r h ⟨128 + k, by omega⟩).symm
  · refine Eq.trans ?_ (Cert.MlaCtxRefIdeal.Rows.rows_third _ _ r n h ⟨e - 64, by omega⟩ (by simp; omega)).symm
    have e' : e = Fin.natAdd 64 (⟨e - 64, by omega⟩ : Fin 64) := Fin.ext (by simp; omega)
    rw [e', MlaMath.slab_high _ _ fill, zero_mul]

/-- The plain part of head `h`'s keys. -/
theorem key (c : Dev nD) (t : Fin cfg0.N) (h : Fin 4) (p : Fin 256) (e : Fin 128) (r : Fin 8192) (n : Fin 1024)
    (hr : (r : ℕ) = t.val * 256 + p) (hn : (n : ℕ) = h * 256 + e) (col : Fin 128 → Fin 1024)
    (hcol : ∀ k, (col k : ℕ) = h * 128 + k) :
    rms128 (fun k => U m c t (ix2 p (col k))) (fun k => iblk m c 7 t (ix2 0 k)) e = wantK m c (ix2 r n) := by
  unfold wantK Cert.MlaCtxRefIdeal.Rows.KS
  refine Eq.trans ?_ ((Cert.MlaCtxRefIdeal.Rows.rows_first _ _ r n h e hn).trans (Cert.MlaCtxRefIdeal.Rows.plainK_at _ _ r h e)).symm
  refine congrArg₂ (fun a b : Fin 128 → EReal => rms128 a b e) (funext fun k => ?_) (funext fun k => read7 m c t k)
  exact (u_key m c t p (col k) h k (hcol k) r hr).trans (Cert.MlaCtxRefIdeal.Rows.u_at _ _ _ r h ⟨k, by omega⟩).symm

theorem kr_fill (c : Dev nD) (f : Filled m c) (t : Fin cfg0.N) (p : Fin 256) (k : Fin 64) :
    iblk m c 0 t (ix2 p (⟨640 + (Fin.natAdd 64 k : Fin 128), by omega⟩ : Fin 768)) = (0 : EReal) := by
  have ht := tile_lt t
  exact (read0 m c t p _ ⟨t.val * 256 + p, by omega⟩ rfl).trans (f _ _ (by simp; omega))

/-- The rotary key's 64 numbers. -/
theorem kr_low (c : Dev nD) (f : Filled m c) (t : Fin cfg0.N) (p : Fin 256) (e : Fin 64) (r : Fin 8192)
    (hr : (r : ℕ) = t.val * 256 + p) :
    k0_pay26 (F := Ideal) (iblk m c 0 t) (iblk m c 8 t) (ix2 p (⟨e, by omega⟩ : Fin 128)) = wantR m c (ix2 r e) := by
  refine (pay_kr _ _ p _).trans (Eq.trans ?_ (Cert.MlaCtxRefIdeal.Rows.kr_at _ _ r e).symm)
  exact MlaMath.slab_low _ _ _ (fun k => read0 m c t p _ r hr) (kr_fill m c f t p) _ (fun k => read8 m c t k) e

/-- The rotary key under head `h` and the zeros after it. -/
theorem shared (c : Dev nD) (f : Filled m c) (t : Fin cfg0.N) (h : Fin 4) (p : Fin 256) (e : Fin 128) (r : Fin 8192) (n : Fin 1024)
    (hr : (r : ℕ) = t.val * 256 + p) (hn : (n : ℕ) = h * 256 + 128 + e) :
    k0_pay29 (F := Ideal) (k0_pay26 (iblk m c 0 t) (iblk m c 8 t)) (ix2 p e) = wantK m c (ix2 r n) := by
  unfold wantK Cert.MlaCtxRefIdeal.Rows.KS
  refine (pay_kr_cast _ p e).trans ?_
  by_cases he : (e : ℕ) < 64
  · refine Eq.trans ?_ ((Cert.MlaCtxRefIdeal.Rows.rows_second _ _ r n h ⟨e, he⟩ hn).trans
      (Cert.MlaCtxRefIdeal.Rows.spread_at _ r h ⟨e, he⟩)).symm
    exact kr_low m c f t p ⟨e, he⟩ r hr
  · refine Eq.trans ?_ (Cert.MlaCtxRefIdeal.Rows.rows_third _ _ r n h ⟨e - 64, by omega⟩ (by simp; omega)).symm
    have e' : e = Fin.natAdd 64 (⟨e - 64, by omega⟩ : Fin 64) := Fin.ext (by simp; omega)
    refine (pay_kr _ _ p e).trans ?_
    rw [e']
    exact MlaMath.slab_high _ _ (kr_fill m c f t p) _

/-! Loads of a whole operand. -/

theorem ld0 (x : Vec Ideal S256x768 .f32) : View.ld x r0_0 = x := View.ld_unit_lit _ _ (by decide)
theorem ld1 (x : Vec Ideal S1x384 .f32) : View.ld x r0_1 = x := View.ld_unit_lit _ _ (by decide)
theorem ld2 (x : Vec Ideal S384x1024 .bf16) : View.ld x r0_2 = x := View.ld_unit_lit _ _ (by decide)
theorem ld3 (x : Vec Ideal S1x128 .f32) : View.ld x r0_3 = x := View.ld_unit_lit _ _ (by decide)
theorem ld12 (x : Vec Ideal S1x256 .f32) : View.ld x r0_12 = x := View.ld_unit_lit _ _ (by decide)
theorem ld15 (x : Vec Ideal S256x1024 .bf16) : View.ld x r0_15 = x := View.ld_unit_lit _ _ (by decide)

/-- Eight column slices stored side by side make up an array whose slices they are. -/
theorem slices (G : FVec Ideal S8192x1024 .bf16) (b : Fin 32) (w0 w1 w2 w3 w4 w5 w6 w7 : Vec Ideal S256x128 .bf16)
    (s0 : ∀ (x0 : Fin 256) (x1 : Fin 128), w0 (ix2 x0 x1) = G (ix2 ⟨b * 256 + x0, by omega⟩ ⟨0 + x1, by omega⟩))
    (s1 : ∀ (x0 : Fin 256) (x1 : Fin 128), w1 (ix2 x0 x1) = G (ix2 ⟨b * 256 + x0, by omega⟩ ⟨128 + x1, by omega⟩))
    (s2 : ∀ (x0 : Fin 256) (x1 : Fin 128), w2 (ix2 x0 x1) = G (ix2 ⟨b * 256 + x0, by omega⟩ ⟨256 + x1, by omega⟩))
    (s3 : ∀ (x0 : Fin 256) (x1 : Fin 128), w3 (ix2 x0 x1) = G (ix2 ⟨b * 256 + x0, by omega⟩ ⟨384 + x1, by omega⟩))
    (s4 : ∀ (x0 : Fin 256) (x1 : Fin 128), w4 (ix2 x0 x1) = G (ix2 ⟨b * 256 + x0, by omega⟩ ⟨512 + x1, by omega⟩))
    (s5 : ∀ (x0 : Fin 256) (x1 : Fin 128), w5 (ix2 x0 x1) = G (ix2 ⟨b * 256 + x0, by omega⟩ ⟨640 + x1, by omega⟩))
    (s6 : ∀ (x0 : Fin 256) (x1 : Fin 128), w6 (ix2 x0 x1) = G (ix2 ⟨b * 256 + x0, by omega⟩ ⟨768 + x1, by omega⟩))
    (s7 : ∀ (x0 : Fin 256) (x1 : Fin 128), w7 (ix2 x0 x1) = G (ix2 ⟨b * 256 + x0, by omega⟩ ⟨896 + x1, by omega⟩))
    (y : S256x1024.Idx) (r : Fin 8192) (n : Fin 1024) (hr : (r : ℕ) = b * 256 + (y 0).val) (hn : (n : ℕ) = (y 1).val) :
    (View.canon [⟨r0_11, w7⟩, ⟨r0_10, w6⟩, ⟨r0_9, w5⟩, ⟨r0_8, w4⟩, ⟨r0_7, w3⟩, ⟨r0_6, w2⟩, ⟨r0_5, w1⟩, ⟨r0_4, w0⟩] : Vec Ideal S256x1024 .bf16) y = G (ix2 r n) := by
  canon_tiles x h
  case piece0 =>
    idx_vars x
    have hx0 : ((x0 : Fin 256) : ℕ) < 256 := x0.isLt
    have hx1 : ((x1 : Fin 128) : ℕ) < 128 := x1.isLt
    refine (s7 x0 x1).trans (congrArg₂ (fun a b => G (ix2 a b)) (Fin.ext ?_) (Fin.ext ?_))
    · simp at h0 ⊢; omega
    · simp at h1 ⊢; omega
  case piece1 =>
    idx_vars x
    have hx0 : ((x0 : Fin 256) : ℕ) < 256 := x0.isLt
    have hx1 : ((x1 : Fin 128) : ℕ) < 128 := x1.isLt
    refine (s6 x0 x1).trans (congrArg₂ (fun a b => G (ix2 a b)) (Fin.ext ?_) (Fin.ext ?_))
    · simp at h0 ⊢; omega
    · simp at h1 ⊢; omega
  case piece2 =>
    idx_vars x
    have hx0 : ((x0 : Fin 256) : ℕ) < 256 := x0.isLt
    have hx1 : ((x1 : Fin 128) : ℕ) < 128 := x1.isLt
    refine (s5 x0 x1).trans (congrArg₂ (fun a b => G (ix2 a b)) (Fin.ext ?_) (Fin.ext ?_))
    · simp at h0 ⊢; omega
    · simp at h1 ⊢; omega
  case piece3 =>
    idx_vars x
    have hx0 : ((x0 : Fin 256) : ℕ) < 256 := x0.isLt
    have hx1 : ((x1 : Fin 128) : ℕ) < 128 := x1.isLt
    refine (s4 x0 x1).trans (congrArg₂ (fun a b => G (ix2 a b)) (Fin.ext ?_) (Fin.ext ?_))
    · simp at h0 ⊢; omega
    · simp at h1 ⊢; omega
  case piece4 =>
    idx_vars x
    have hx0 : ((x0 : Fin 256) : ℕ) < 256 := x0.isLt
    have hx1 : ((x1 : Fin 128) : ℕ) < 128 := x1.isLt
    refine (s3 x0 x1).trans (congrArg₂ (fun a b => G (ix2 a b)) (Fin.ext ?_) (Fin.ext ?_))
    · simp at h0 ⊢; omega
    · simp at h1 ⊢; omega
  case piece5 =>
    idx_vars x
    have hx0 : ((x0 : Fin 256) : ℕ) < 256 := x0.isLt
    have hx1 : ((x1 : Fin 128) : ℕ) < 128 := x1.isLt
    refine (s2 x0 x1).trans (congrArg₂ (fun a b => G (ix2 a b)) (Fin.ext ?_) (Fin.ext ?_))
    · simp at h0 ⊢; omega
    · simp at h1 ⊢; omega
  case piece6 =>
    idx_vars x
    have hx0 : ((x0 : Fin 256) : ℕ) < 256 := x0.isLt
    have hx1 : ((x1 : Fin 128) : ℕ) < 128 := x1.isLt
    refine (s1 x0 x1).trans (congrArg₂ (fun a b => G (ix2 a b)) (Fin.ext ?_) (Fin.ext ?_))
    · simp at h0 ⊢; omega
    · simp at h1 ⊢; omega
  case piece7 =>
    idx_vars x
    have hx0 : ((x0 : Fin 256) : ℕ) < 256 := x0.isLt
    have hx1 : ((x1 : Fin 128) : ℕ) < 128 := x1.isLt
    refine (s0 x0 x1).trans (congrArg₂ (fun a b => G (ix2 a b)) (Fin.ext ?_) (Fin.ext ?_))
    · simp at h0 ⊢; omega
    · simp at h1 ⊢; omega

/-- Where entry `y` of the block stored in window 9 at point `t` goes in the whole array. -/
theorem lands9 (t : Fin cfg0.N) (y : S256x1024.Idx) (r : Fin 8192) (n : Fin 1024)
    (hr : (r : ℕ) = t.val * 256 + (y 0).val) (hn : (n : ℕ) = (y 1).val) :
    ((cfg0.win 9).blk t).view.emb y = ix2 r n := by
  idx_vars y
  blk_ext [places t]

theorem stored9 (c : Dev nD) (t : Fin cfg0.N) :
    out0_9 (iblk m c 0 t) (iblk m c 1 t) (iblk m c 2 t) (iblk m c 3 t) (iblk m c 4 t) (iblk m c 5 t) (iblk m c 6 t)
      (iblk m c 7 t) (iblk m c 8 t)
      = View.canon [⟨r0_11, k0_pay24 (k0_pay22 (Q m c t) (iblk m c 4 t))⟩, ⟨r0_10, k0_pay23 (k0_pay21 (Q m c t) (iblk m c 3 t)) (Scalar.ofBits .f32 0x3D93CD3A#32)⟩, ⟨r0_9, k0_pay20 (k0_pay16 (Q m c t)) (k0_pay17 (iblk m c 4 t)) (k0_pay18 (Q m c t))⟩, ⟨r0_8, k0_pay19 (k0_pay15 (Q m c t) (iblk m c 3 t))⟩, ⟨r0_7, k0_pay14 (k0_pay10 (Q m c t)) (k0_pay11 (iblk m c 4 t)) (k0_pay12 (Q m c t)) (Scalar.ofBits .f32 0x358637BD#32)⟩, ⟨r0_6, k0_pay13 (k0_pay9 (Q m c t) (iblk m c 3 t))⟩, ⟨r0_5, k0_pay8 (k0_pay4 (iblk m c 0 t) (iblk m c 1 t) (iblk m c 2 t)) (k0_pay5 (iblk m c 4 t)) (k0_pay6 (iblk m c 0 t) (iblk m c 1 t) (iblk m c 2 t))⟩, ⟨r0_4, k0_pay7 (k0_pay3 (iblk m c 0 t) (iblk m c 1 t) (iblk m c 2 t) (iblk m c 3 t))⟩] := by
  unfold_out out0_9
  simp only [ld0, ld1, ld2, ld3, ld12, ld15]

/-- The array of window 9 after the run. -/
theorem final9 (c : Dev nD) : (dats m 0 c).arrAt 9 (cfgs 0).N = wantQ m c := by
  refine (dats m 0 c).arrAt_eq_of_covers 9 _ (by decide +kernel) fun t hf y => ?_
  have ht := tile_lt t
  blk_simp; rw [after0_9, stored9]
  have hy0 : (y 0).val < 256 := (y 0).isLt
  have hy1 : (y 1).val < 1024 := (y 1).isLt
  rw [lands9 t y ⟨t.val * 256 + (y 0).val, by omega⟩ ⟨(y 1).val, hy1⟩ rfl rfl]
  refine slices (wantQ m c) ⟨t.val, ht⟩ _ _ _ _ _ _ _ _ ?_ ?_ ?_ ?_ ?_ ?_ ?_ ?_ y _ _ rfl rfl
  · intro x0 x1
    exact (plain_0 _ _ _ _ x0 x1).trans (plain m c t 0 x0 x1 _ _ rfl (by simp) _ fun k => by simp)
  · intro x0 x1
    exact (rotary_0 _ _ _ _ x0 x1).trans (rotary m c t 0 x0 x1 _ _ rfl (by simp) _ fun k => by simp)
  · intro x0 x1
    exact (plain_1 _ _ x0 x1).trans (plain m c t 1 x0 x1 _ _ rfl (by simp) _ fun k => by simp)
  · intro x0 x1
    exact (rotary_1 _ _ x0 x1).trans (rotary m c t 1 x0 x1 _ _ rfl (by simp) _ fun k => by simp)
  · intro x0 x1
    exact (plain_2 _ _ x0 x1).trans (plain m c t 2 x0 x1 _ _ rfl (by simp) _ fun k => by simp)
  · intro x0 x1
    exact (rotary_2 _ _ x0 x1).trans (rotary m c t 2 x0 x1 _ _ rfl (by simp) _ fun k => by simp)
  · intro x0 x1
    exact (plain_3 _ _ x0 x1).trans (plain m c t 3 x0 x1 _ _ rfl (by simp) _ fun k => by simp)
  · intro x0 x1
    exact (rotary_3 _ _ x0 x1).trans (rotary m c t 3 x0 x1 _ _ rfl (by simp) _ fun k => by simp)

/-- Where entry `y` of the block stored in window 10 at point `t` goes in the whole array. -/
theorem lands10 (t : Fin cfg0.N) (y : S256x1024.Idx) (r : Fin 8192) (n : Fin 1024)
    (hr : (r : ℕ) = t.val * 256 + (y 0).val) (hn : (n : ℕ) = (y 1).val) :
    ((cfg0.win 10).blk t).view.emb y = ix2 r n := by
  idx_vars y
  blk_ext [places t]

theorem stored10 (c : Dev nD) (t : Fin cfg0.N) :
    out0_10 (iblk m c 0 t) (iblk m c 1 t) (iblk m c 2 t) (iblk m c 3 t) (iblk m c 4 t) (iblk m c 5 t) (iblk m c 6 t)
      (iblk m c 7 t) (iblk m c 8 t)
      = View.canon [⟨r0_11, k0_pay29 (k0_pay26 (iblk m c 0 t) (iblk m c 8 t))⟩, ⟨r0_10, k0_pay35 (U m c t) (iblk m c 7 t)⟩, ⟨r0_9, k0_pay29 (k0_pay26 (iblk m c 0 t) (iblk m c 8 t))⟩, ⟨r0_8, k0_pay34 (U m c t) (iblk m c 7 t)⟩, ⟨r0_7, k0_pay29 (k0_pay26 (iblk m c 0 t) (iblk m c 8 t))⟩, ⟨r0_6, k0_pay33 (k0_pay31 (C m c t) (iblk m c 6 t)) (k0_pay32 (iblk m c 7 t))⟩, ⟨r0_5, k0_pay29 (k0_pay26 (iblk m c 0 t) (iblk m c 8 t))⟩, ⟨r0_4, k0_pay30 (C m c t) (iblk m c 6 t) (iblk m c 7 t)⟩] := by
  unfold_out out0_10
  simp only [ld0, ld1, ld2, ld3, ld12, ld15]

/-- The array of window 10 after the run. -/
theorem final10 (c : Dev nD) (f : Filled m c) : (dats m 0 c).arrAt 10 (cfgs 0).N = wantK m c := by
  refine (dats m 0 c).arrAt_eq_of_covers 10 _ (by decide +kernel) fun t hf y => ?_
  have ht := tile_lt t
  blk_simp; rw [after0_10, stored10]
  have hy0 : (y 0).val < 256 := (y 0).isLt
  have hy1 : (y 1).val < 1024 := (y 1).isLt
  rw [lands10 t y ⟨t.val * 256 + (y 0).val, by omega⟩ ⟨(y 1).val, hy1⟩ rfl rfl]
  refine slices (wantK m c) ⟨t.val, ht⟩ _ _ _ _ _ _ _ _ ?_ ?_ ?_ ?_ ?_ ?_ ?_ ?_ y _ _ rfl rfl
  · intro x0 x1
    exact (key_0 _ _ _ x0 x1).trans (key m c t 0 x0 x1 _ _ rfl (by simp) _ fun k => by simp)
  · intro x0 x1
    exact shared m c f t 0 x0 x1 _ _ rfl (by simp)
  · intro x0 x1
    exact (key_1 _ _ _ x0 x1).trans (key m c t 1 x0 x1 _ _ rfl (by simp) _ fun k => by simp)
  · intro x0 x1
    exact shared m c f t 1 x0 x1 _ _ rfl (by simp)
  · intro x0 x1
    exact (key_2 _ _ x0 x1).trans (key m c t 2 x0 x1 _ _ rfl (by simp) _ fun k => by simp)
  · intro x0 x1
    exact shared m c f t 2 x0 x1 _ _ rfl (by simp)
  · intro x0 x1
    exact (key_3 _ _ x0 x1).trans (key m c t 3 x0 x1 _ _ rfl (by simp) _ fun k => by simp)
  · intro x0 x1
    exact shared m c f t 3 x0 x1 _ _ rfl (by simp)

/-- Where entry `y` of the block stored in window 11 at point `t` goes in the whole array. -/
theorem lands11 (t : Fin cfg0.N) (y : S256x512.Idx) (r : Fin 8192) (n : Fin 512)
    (hr : (r : ℕ) = t.val * 256 + (y 0).val) (hn : (n : ℕ) = (y 1).val) :
    ((cfg0.win 11).blk t).view.emb y = ix2 r n := by
  idx_vars y
  blk_ext [places t]

theorem stored11 (c : Dev nD) (t : Fin cfg0.N) :
    out0_11 (iblk m c 0 t) (iblk m c 1 t) (iblk m c 2 t) (iblk m c 3 t) (iblk m c 4 t) (iblk m c 5 t) (iblk m c 6 t)
      (iblk m c 7 t) (iblk m c 8 t)
      = k0_pay1 (U m c t) := by
  unfold_out out0_11
  simp only [ld0, ld1, ld2, ld3, ld12, ld15]
  exact View.canon_cons_unit_lit _ _ _ (by decide)

theorem final11 (c : Dev nD) : (dats m 0 c).arrAt 11 (cfgs 0).N = wantV m c := by
  refine (dats m 0 c).arrAt_eq_of_covers 11 _ (by decide +kernel) fun t hf y => ?_
  have ht := tile_lt t
  blk_simp; rw [after0_11, stored11]
  have hy0 : (y 0).val < 256 := (y 0).isLt
  have hy1 : (y 1).val < 512 := (y 1).isLt
  rw [lands11 t y ⟨t.val * 256 + (y 0).val, by omega⟩ ⟨(y 1).val, hy1⟩ rfl rfl]
  idx_vars y
  have hy1 : (y1 : ℕ) < 512 := hy1
  refine (pay_v _ y0 y1).trans ?_
  refine (u_val m c t y0 _ ⟨(y1 : ℕ) / 128, by omega⟩ ⟨(y1 : ℕ) % 128, by omega⟩ (by simp; omega) ⟨t.val * 256 + y0, by omega⟩ rfl).trans ?_
  unfold wantV Cert.MlaCtxRefIdeal.Rows.VS
  exact ((Cert.MlaCtxRefIdeal.Rows.vals_at _ _ _ ⟨(y1 : ℕ) / 128, by omega⟩ ⟨(y1 : ℕ) % 128, by omega⟩ (by simp; omega)).trans
    (Cert.MlaCtxRefIdeal.Rows.u_at _ _ _ _ _ _)).symm

/-- Where entry `y` of the block stored in window 12 at point `t` goes in the whole array. -/
theorem lands12 (t : Fin cfg0.N) (y : S256x256.Idx) (r : Fin 8192) (n : Fin 256)
    (hr : (r : ℕ) = t.val * 256 + (y 0).val) (hn : (n : ℕ) = (y 1).val) :
    ((cfg0.win 12).blk t).view.emb y = ix2 r n := by
  idx_vars y
  blk_ext [places t]

theorem stored12 (c : Dev nD) (t : Fin cfg0.N) :
    out0_12 (iblk m c 0 t) (iblk m c 1 t) (iblk m c 2 t) (iblk m c 3 t) (iblk m c 4 t) (iblk m c 5 t) (iblk m c 6 t)
      (iblk m c 7 t) (iblk m c 8 t)
      = C m c t := by
  unfold_out out0_12
  simp only [ld0, ld1, ld2, ld3, ld12, ld15]
  exact View.canon_cons_unit_lit _ _ _ (by decide)

theorem final12 (c : Dev nD) : (dats m 0 c).arrAt 12 (cfgs 0).N = wantC m c := by
  refine (dats m 0 c).arrAt_eq_of_covers 12 _ (by decide +kernel) fun t hf y => ?_
  have ht := tile_lt t
  blk_simp; rw [after0_12, stored12]
  have hy0 : (y 0).val < 256 := (y 0).isLt
  have hy1 : (y 1).val < 256 := (y 1).isLt
  rw [lands12 t y ⟨t.val * 256 + (y 0).val, by omega⟩ ⟨(y 1).val, hy1⟩ rfl rfl]
  idx_vars y
  exact (c_at m c t y0 y1 ⟨t.val * 256 + y0, by omega⟩ rfl).trans (Cert.MlaCtxRefIdeal.Rows.ckv_at _ _ _ y1).symm

/-- Where entry `y` of the block stored in window 13 at point `t` goes in the whole array. -/
theorem lands13 (t : Fin cfg0.N) (y : S256x64.Idx) (r : Fin 8192) (n : Fin 64)
    (hr : (r : ℕ) = t.val * 256 + (y 0).val) (hn : (n : ℕ) = (y 1).val) :
    ((cfg0.win 13).blk t).view.emb y = ix2 r n := by
  idx_vars y
  blk_ext [places t]

theorem stored13 (c : Dev nD) (t : Fin cfg0.N) :
    out0_13 (iblk m c 0 t) (iblk m c 1 t) (iblk m c 2 t) (iblk m c 3 t) (iblk m c 4 t) (iblk m c 5 t) (iblk m c 6 t)
      (iblk m c 7 t) (iblk m c 8 t)
      = k0_pay27 (iblk m c 0 t) (iblk m c 8 t) := by
  unfold_out out0_13
  simp only [ld0, ld1, ld2, ld3, ld12, ld15]
  exact View.canon_cons_unit_lit _ _ _ (by decide)

theorem final13 (c : Dev nD) (f : Filled m c) : (dats m 0 c).arrAt 13 (cfgs 0).N = wantR m c := by
  refine (dats m 0 c).arrAt_eq_of_covers 13 _ (by decide +kernel) fun t hf y => ?_
  have ht := tile_lt t
  blk_simp; rw [after0_13, stored13]
  have hy0 : (y 0).val < 256 := (y 0).isLt
  have hy1 : (y 1).val < 64 := (y 1).isLt
  rw [lands13 t y ⟨t.val * 256 + (y 0).val, by omega⟩ ⟨(y 1).val, hy1⟩ rfl rfl]
  idx_vars y
  exact (pay_kr_low _ _ y0 y1).trans (kr_low m c f t y0 y1 ⟨t.val * 256 + y0, by omega⟩ rfl)

end Cert.MlaCtxIdeal.Rows

end
-- ==== Proof.MlaCtxPre.lean ====
/- What the precondition of the latent projections' claim says: the columns that fill the projection up are zero. -/
module

public import proofs.«01_k».proof.Proof.Gen.Pre_fill_zero
public import Idealize.ShloMosaic.Lib.Pointwise
public import Idealize.ShloMosaic.Lib.ReduceAll

@[expose] public section

set_option maxRecDepth 16384

noncomputable section

open Idealize.ShloMosaic

namespace Cert.MlaCtxIdeal.Pre

open Cert.Pre_fill_zero

instance : Subsingleton Cert.Pre_fill_zero.S_.Idx := ⟨fun a b => funext fun i => i.elim0⟩

theorem zero_of_equal (x y : EReal) (h : Ideal.cmp .oeq x y = 1#1) (hy : y = 0) : x = 0 :=
  ((Ideal.cmp_oeq_eq_one _ _).1 h).trans hy

theorem filled (a0 : FVec Ideal S12288x768 .f32) (a1 : FVec Ideal S384 .f32) (a2 : FVec Ideal S384x768 .f32) (a3 : FVec Ideal S128 .f32)
    (a4 : FVec Ideal S64 .f32) (a5 : FVec Ideal S256 .f32) (a6 : FVec Ideal S256x1024 .f32) (a7 : FVec Ideal S128 .f32) (a8 : FVec Ideal S64 .f32)
    (h : Cert.Pre_fill_zero.fn (F := Ideal) a0 a1 a2 a3 a4 a5 a6 a7 a8 = fun _ => 1#1) (r : Fin 8192) (n : Fin 768) (hn : 704 ≤ (n : ℕ)) :
    a0 (ix2 (⟨r, by omega⟩ : Fin 12288) n) = (0 : EReal) := by
  have e := congrFun h (Shape.Idx.first Cert.Pre_fill_zero.Facts.h_S_)
  dsimp only [Cert.Pre_fill_zero.fn] at e
  have e1 := Host.reduce_andi_all _ _ _ _ _ e (ix2 r ⟨(n : ℕ) - 704, by omega⟩)
  refine Eq.trans (congrArg a0 ?_) (zero_of_equal _ _ e1 (by pointwise))
  funext d
  refine Fin.ext ?_
  match d with
  | ⟨0, _⟩ => simp [ix2]
  | ⟨1, _⟩ => simp [ix2]; omega

end Cert.MlaCtxIdeal.Pre

end
-- ==== Proof.MlaCtxClaim.lean ====
/- The claims about the context's latent projections. -/
module

public import proofs.«01_k».proof.Defs
public import proofs.«01_k».proof.Proof.MlaCtxFinal
public import proofs.«01_k».proof.Proof.MlaCtxPre
public import proofs.«01_k».proof.Proof.Gen.MlaCtx.Frame
public import Idealize.ShloMosaic.Lib.Claim

@[expose] public section

set_option maxRecDepth 16384

noncomputable section

open Idealize.ShloMosaic Idealize.SL.Sem

namespace Cert.MlaCtx.Claims

theorem frame : Cert.quiescent_MlaCtx := fun m ρ _ => Cert.MlaCtx.Gen.frame m ρ

theorem frame_ideal : Cert.quiescent_MlaCtxIdeal := fun m ρ _ => Cert.MlaCtxIdeal.Gen.frame m ρ

theorem frame_ref : Cert.quiescent_MlaCtxRefIdeal := by
  intro m g _
  hlo_run
  · simp only [and_self, implies_true]
  · exact Idealize.ShloMosaic.sem_eq_zero_of_no_sems (sig := Cert.MlaCtxRefIdeal.sig) (by decide) _

theorem frame_ideal_pre : Cert.quiescent_MlaCtxIdeal_pre_fill_zero := fun m ρ _ => Cert.MlaCtxIdeal.Gen.frame m ρ

theorem frame_ref_pre : Cert.quiescent_MlaCtxRefIdeal_pre_fill_zero := by
  intro m g _
  hlo_run
  · simp only [and_self, implies_true]
  · exact Idealize.ShloMosaic.sem_eq_zero_of_no_sems (sig := Cert.MlaCtxRefIdeal.sig) (by decide) _

theorem algebraic : Cert.algebraic_MlaCtxIdeal_MlaCtxRefIdeal_pre_fill_zero := by
  intro m g m' g' hpre hagree
  have f : ∀ c, Cert.MlaCtxIdeal.Rows.Filled m c := fun c => Cert.MlaCtxIdeal.Pre.filled _ _ _ _ _ _ _ _ _ (hpre c)
  refine ⟨fun c => Cert.MlaCtxIdeal.Rows.wantQ m c, fun c => Cert.MlaCtxIdeal.Rows.wantK m c, fun c => Cert.MlaCtxIdeal.Rows.wantV m c,
    fun c => Cert.MlaCtxIdeal.Rows.wantC m c, fun c => Cert.MlaCtxIdeal.Rows.wantR m c, ?_, ?_⟩
  · refine θ_run_mono (θ_run_and (Cert.MlaCtxIdeal.Gen.unchanged m g) (Cert.MlaCtxIdeal.Gen.run_main m g)) ?_
    rintro r ⟨h1, h2⟩ c
    have h := (h2 c).1
    exact ⟨(h 9).trans (Cert.MlaCtxIdeal.Rows.final9 m c), (h 10).trans (Cert.MlaCtxIdeal.Rows.final10 m c (f c)),
      (h 11).trans (Cert.MlaCtxIdeal.Rows.final11 m c), (h 12).trans (Cert.MlaCtxIdeal.Rows.final12 m c),
      (h 13).trans (Cert.MlaCtxIdeal.Rows.final13 m c (f c)), h1 c⟩
  · refine θ_run_mono (Cert.MlaCtxRefIdeal.Value.run m' g') ?_
    intro r h c
    obtain ⟨hq, hk, hv, hc, hr, ha⟩ := h c
    obtain ⟨h0, h1, h2, h3, h4, h5, h6, h7, h8⟩ := hagree c
    refine ⟨(hq.trans (Cert.MlaCtxRefIdeal.Rows.qs_eq m' c)).trans ?_, (hk.trans (Cert.MlaCtxRefIdeal.Rows.ks_eq m' c)).trans ?_,
      (Eq.trans hv (show _ = Cert.MlaCtxRefIdeal.Rows.VS (m' ((c.tc : Thread Cert.MlaCtxRefIdeal.nD Cert.MlaCtxRefIdeal.τ).loc Cert.MlaCtxRefIdeal.main_arg0))
        (m' ((c.tc : Thread Cert.MlaCtxRefIdeal.nD Cert.MlaCtxRefIdeal.τ).loc Cert.MlaCtxRefIdeal.main_arg5))
        (m' ((c.tc : Thread Cert.MlaCtxRefIdeal.nD Cert.MlaCtxRefIdeal.τ).loc Cert.MlaCtxRefIdeal.main_arg6)) from rfl)).trans ?_,
      (Eq.trans hc (show _ = Cert.MlaCtxRefIdeal.Rows.CKV (m' ((c.tc : Thread Cert.MlaCtxRefIdeal.nD Cert.MlaCtxRefIdeal.τ).loc Cert.MlaCtxRefIdeal.main_arg0))
        (m' ((c.tc : Thread Cert.MlaCtxRefIdeal.nD Cert.MlaCtxRefIdeal.τ).loc Cert.MlaCtxRefIdeal.main_arg5)) from rfl)).trans ?_,
      (Eq.trans hr (show _ = Cert.MlaCtxRefIdeal.Rows.KR (m' ((c.tc : Thread Cert.MlaCtxRefIdeal.nD Cert.MlaCtxRefIdeal.τ).loc Cert.MlaCtxRefIdeal.main_arg0))
        (m' ((c.tc : Thread Cert.MlaCtxRefIdeal.nD Cert.MlaCtxRefIdeal.τ).loc Cert.MlaCtxRefIdeal.main_arg8)) from rfl)).trans ?_, ha⟩
    · rw [h0, h1, h2, h3, h4]
    · rw [h0, h5, h6, h7, h8]
    · rw [h0, h5, h6]
    · rw [h0, h5]
    · rw [h0, h8]

end Cert.MlaCtx.Claims

end
-- ==== Proof.MlaCacheRef.lean ====
/- The cached context's keys and values: the results of the reference, entry by entry, as plain sums. -/
module

public import proofs.«01_k».proof.Proof.Gen.MlaCacheRefIdeal.Run
public import Idealize.ShloMosaic.Lib.Pointwise
public import proofs.«01_k».proof.Proof.MlaMath

@[expose] public section

set_option maxRecDepth 16384

noncomputable section

namespace Cert.MlaCacheRefIdeal.Rows

open Cert.MlaCacheRefIdeal Cert.MlaCacheRefIdeal.Gen Idealize.ShloMosaic Idealize.ShloMosaic.TcCoe Idealize.SL.Sem
open Cert.MlaMath (rms128)

/-- Rows of 128 numbers of each head, normalised, times the gain. -/
def head128 (x : FVec Ideal S512x4x128 .f32) (g : FVec Ideal S128 .f32) : FVec Ideal S512x4x128 .f32 :=
  mulf (mulf x (broadcastInDim S512x4x128 ![0, 1, 2] bcast_S512x4x1_S512x4x128_0_1_2 (Host.rsqrt (addf (Host.divf (broadcastInDim S512x4x1 ![0, 1] bcast_S512x4_S512x4x1_0_1 (Host.reduceAdd (mulf x x) (constant S_ .f32 0x00000000#32) reducesTo_S512x4x128_S512x4_d2 h_S_)) (broadcastInDim S512x4x1 ![] bcast_S_S512x4x1 (constant S_ .f32 0x43000000#32))) (broadcastInDim S512x4x1 ![] bcast_S_S512x4x1 (constant S_ .f32 0x358637BD#32)))))) (broadcastInDim S512x4x128 ![0, 1, 2] bcast_S1x1x128_S512x4x128_0_1_2 (broadcastInDim S1x1x128 ![2] bcast_S128_S1x1x128_2 g))

theorem head128_at (x : FVec Ideal S512x4x128 .f32) (g : FVec Ideal S128 .f32) (r : Fin 512) (h : Fin 4) (k : Fin 128) :
    head128 x g (ix3 r h k) = rms128 (fun k => x (ix3 r h k)) (fun k => g (ix1 k)) k := by
  pointwise [head128, MlaMath.rms]

/-- The keys and values of all heads before the keys' normalisation. -/
def pairs (c : FVec Ideal S512x256 .f32) (a2 : FVec Ideal S256x1024 .f32) : FVec Ideal S512x4x256 .f32 :=
  shapeCast _ (Host.dotGeneral dot_S512x256_S256x1024_S512x1024_1_0_0_1_n_n none c a2) shapeCasts_S512x1024_S512x4x256

theorem pairs_at (c : FVec Ideal S512x256 .f32) (a2 : FVec Ideal S256x1024 .f32) (r : Fin 512) (h : Fin 4) (e : Fin 256) :
    pairs c a2 (ix3 r h e) = ∑ k : Fin 256, c (ix2 r k) * a2 (ix2 k ⟨h * 256 + e, by omega⟩) := by
  pointwise [pairs]

/-- The heads side by side: the plain part, the rotary part, zeros. -/
def rows (x : FVec Ideal S512x4x128 .f32) (y : FVec Ideal S512x4x64 .f32) : FVec Ideal S512x1024 .bf16 :=
  truncf .bf16 (shapeCast _ (concatenate S512x4x256 2 [⟨S512x4x128, x⟩, ⟨S512x4x128, (pad S512x4x128 ![0, 0, 0] ![0, 0, 64] ![0, 0, 0] y (sitofp .f32 (constantI S_ 32 0#32)) pads_S512x4x64_S512x4x128_000_000_0640 h_S_)⟩] concatenates_S512x4x128_S512x4x128_S512x4x256_d2) shapeCasts_S512x4x256_S512x1024) bitsLt_bf16_f32

theorem rows_first (x : FVec Ideal S512x4x128 .f32) (y : FVec Ideal S512x4x64 .f32) (r : Fin 512) (n : Fin 1024)
    (h : Fin 4) (e : Fin 128) (hn : (n : ℕ) = h * 256 + e) : rows x y (ix2 r n) = x (ix3 r h e) := by
  have h0 : (⟨(n : ℕ) / 256, by omega⟩ : Fin 4) = h := Fin.ext (by simp; omega)
  have h1 : (n : ℕ) % 256 = e := by omega
  pointwise [rows]
  rw [dif_pos (by omega)]
  simp only [h0, h1]

theorem rows_second (x : FVec Ideal S512x4x128 .f32) (y : FVec Ideal S512x4x64 .f32) (r : Fin 512) (n : Fin 1024)
    (h : Fin 4) (e : Fin 64) (hn : (n : ℕ) = h * 256 + 128 + e) : rows x y (ix2 r n) = y (ix3 r h e) := by
  have h0 : (⟨(n : ℕ) / 256, by omega⟩ : Fin 4) = h := Fin.ext (by simp; omega)
  have h1 : (n : ℕ) % 256 - 128 = e := by omega
  pointwise [rows]
  rw [dif_neg (by omega), dif_pos (by omega)]
  simp only [h0, h1]

theorem rows_third (x : FVec Ideal S512x4x128 .f32) (y : FVec Ideal S512x4x64 .f32) (r : Fin 512) (n : Fin 1024)
    (h : Fin 4) (e : Fin 64) (hn : (n : ℕ) = h * 256 + 192 + e) : rows x y (ix2 r n) = 0 := by
  pointwise [rows]
  rw [dif_neg (by omega), dif_neg (by omega)]
  exact MlaMath.zero_fill

/-- The rotary key, the same for every head. -/
def spread (k : FVec Ideal S512x64 .f32) : FVec Ideal S512x4x64 .f32 :=
  broadcastInDim S512x4x64 ![0, 1, 2] bcast_S512x1x64_S512x4x64_0_1_2 (broadcastInDim S512x1x64 ![0, 2] bcast_S512x64_S512x1x64_0_2 k)

/-- The plain part of the keys. -/
def plainK (U : FVec Ideal S512x4x256 .f32) (a3 : FVec Ideal S128 .f32) : FVec Ideal S512x4x128 .f32 :=
  head128 (extractStridedSlice S512x4x128 ![0, 0, 0] U slices_S512x4x256_S512x4x128_0_0_0) a3

/-- The values, heads side by side. -/
def vals (U : FVec Ideal S512x4x256 .f32) : FVec Ideal S512x512 .bf16 :=
  truncf .bf16 (shapeCast _ (extractStridedSlice S512x4x128 ![0, 0, 128] U slices_S512x4x256_S512x4x128_0_0_128) shapeCasts_S512x4x128_S512x512) bitsLt_bf16_f32

/-- The cached latents and rotary keys of the layer, one row for each token of the cache. -/
def latents (a0 : FVec Ideal S2x2x256x256 .f32) : FVec Ideal S512x256 .f32 :=
  shapeCast _ (shapeCast _ (extractStridedSlice S2x1x256x256 ![0, 1, 0, 0] a0 slices_S2x2x256x256_S2x1x256x256_0_1_0_0) shapeCasts_S2x1x256x256_S2x256x256) shapeCasts_S2x256x256_S512x256

def rotaries (a1 : FVec Ideal S2x2x256x64 .f32) : FVec Ideal S512x64 .f32 :=
  shapeCast _ (shapeCast _ (extractStridedSlice S2x1x256x64 ![0, 1, 0, 0] a1 slices_S2x2x256x64_S2x1x256x64_0_1_0_0) shapeCasts_S2x1x256x64_S2x256x64) shapeCasts_S2x256x64_S512x64

/-- The keys and the values as functions of the arguments. -/
def KS (a0 : FVec Ideal S2x2x256x256 .f32) (a1 : FVec Ideal S2x2x256x64 .f32) (a2 : FVec Ideal S256x1024 .f32) (a3 : FVec Ideal S128 .f32) :
    FVec Ideal S512x1024 .bf16 :=
  rows (plainK (pairs (latents a0) a2) a3) (spread (rotaries a1))

def VS (a0 : FVec Ideal S2x2x256x256 .f32) (a2 : FVec Ideal S256x1024 .f32) : FVec Ideal S512x512 .bf16 :=
  vals (pairs (latents a0) a2)

theorem plainK_at (U : FVec Ideal S512x4x256 .f32) (a3 : FVec Ideal S128 .f32) (r : Fin 512) (h : Fin 4) (e : Fin 128) :
    plainK U a3 (ix3 r h e) = rms128 (fun k => U (ix3 r h ⟨k, by omega⟩)) (fun k => a3 (ix1 k)) e := by
  pointwise [plainK, head128, MlaMath.rms]

theorem spread_at (k : FVec Ideal S512x64 .f32) (r : Fin 512) (h : Fin 4) (e : Fin 64) : spread k (ix3 r h e) = k (ix2 r e) := by
  pointwise [spread]

theorem vals_at (U : FVec Ideal S512x4x256 .f32) (r : Fin 512) (n : Fin 512) (h : Fin 4) (d : Fin 128)
    (hn : (n : ℕ) = h * 128 + d) : vals U (ix2 r n) = U (ix3 r h ⟨128 + d, by omega⟩) := by
  have h0 : (⟨(n : ℕ) / 128, by omega⟩ : Fin 4) = h := Fin.ext (by simp; omega)
  have h1 : (n : ℕ) % 128 = d := by omega
  pointwise [vals]
  simp only [h0, h1]

end Cert.MlaCacheRefIdeal.Rows

end
-- ==== Proof.MlaCacheValue.lean ====
/- The cached context's keys and values: what the kernel computes, and the operands it is given. -/
module

public import proofs.«01_k».proof.Proof.Gen.MlaCacheIdeal.Frame
public import proofs.«01_k».proof.Proof.MlaCacheRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlaCacheIdeal.Rows

open Cert.MlaCacheIdeal Cert.MlaCacheIdeal.Gen
open Cert.MlaMath (rms128)
open Cert.MlaCacheRefIdeal.Rows (latents rotaries)

variable (m : (ℓ : Loc nD τ sig) → Buf (Elt Ideal) ℓ)

/-- The product of the keys and values. -/
theorem pay_kv (x : Vec Ideal S512x256 .f32) (w : Vec Ideal S256x1024 .bf16) (p : Fin 512) (n : Fin 1024) :
    k0_pay3 (F := Ideal) x w (ix2 p n) = ∑ k : Fin 256, x (ix2 p k) * w (ix2 k n) := by
  pointwise [k0_pay3]

/-- The values are the product's right half. -/
theorem pay_v (u : FVec Ideal S512x1024 .f32) (p : Fin 512) (n : Fin 512) :
    k0_pay2 (F := Ideal) u (ix2 p n) = u (ix2 p ⟨512 + n, by omega⟩) := by
  pointwise [k0_pay2]

theorem pay_kr (x : Vec Ideal S512x128 .f32) (p : Fin 512) (k : Fin 128) :
    k0_pay4 (F := Ideal) x (ix2 p k) = x (ix2 p k) := by
  pointwise [k0_pay4]

/-! The plain part of each head's keys. -/

theorem key_0 (x : Vec Ideal S512x256 .f32) (w : Vec Ideal S256x1024 .bf16) (g : Vec Ideal S1x128 .f32) (p : Fin 512) (e : Fin 128) :
    k0_pay5 (F := Ideal) x w g (ix2 p e)
      = rms128 (fun k => k0_pay3 (F := Ideal) x w (ix2 p ⟨k, by omega⟩)) (fun k => g (ix2 0 k)) e := by
  pointwise [k0_pay5, MlaMath.rms]

theorem key_1 (x : Vec Ideal S512x256 .f32) (w : Vec Ideal S256x1024 .bf16) (g : Vec Ideal S1x128 .f32) (p : Fin 512) (e : Fin 128) :
    k0_pay10 (F := Ideal) (k0_pay6 x w) (k0_pay7 g) (k0_pay8 x w) k0_pay9 (ix2 p e)
      = rms128 (fun k => k0_pay3 (F := Ideal) x w (ix2 p ⟨128 + k, by omega⟩)) (fun k => g (ix2 0 k)) e := by
  pointwise [k0_pay10, k0_pay6, k0_pay7, k0_pay8, k0_pay9, MlaMath.rms]

theorem key_2 (u : FVec Ideal S512x1024 .f32) (g : Vec Ideal S1x128 .f32) (p : Fin 512) (e : Fin 128) :
    k0_pay11 (F := Ideal) u g (ix2 p e)
      = rms128 (fun k => u (ix2 p ⟨256 + k, by omega⟩)) (fun k => g (ix2 0 k)) e := by
  pointwise [k0_pay11, MlaMath.rms]

theorem key_3 (u : FVec Ideal S512x1024 .f32) (g : Vec Ideal S1x128 .f32) (p : Fin 512) (e : Fin 128) :
    k0_pay1 (F := Ideal) (k0_pay12 u) (k0_pay13 g) (k0_pay14 u) (ix2 p e)
      = rms128 (fun k => u (ix2 p ⟨384 + k, by omega⟩)) (fun k => g (ix2 0 k)) e := by
  pointwise [k0_pay1, k0_pay12, k0_pay13, k0_pay14, MlaMath.rms]

/-- Every window holds its whole operand. -/
theorem places : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The cached latents and rotary keys, the latter filled up with 64 columns of zeros. -/
theorem cached0 (c : Dev nD) (r : Fin 512) (k : Fin 256) : V m c main_v14 (ix2 r k) = latents (m ((c : Thread nD τ).loc main_arg0)) (ix2 r k) := by
  simp only [V, hostOps0, hostOps0_1, hostOps0_2, List.flatten_cons,
    List.flatten_nil, List.append_nil, List.cons_append, List.nil_append]
  entry_read
  pointwise [latents]

theorem whole0 (c : Dev nD) (t : Fin cfg0.N) (k : Fin 512) (n : Fin 256) :
    iblk m c 0 t (ix2 k n) = V m c main_v14 (ix2 k n) := by
  blk_ext [iblk, places t]

theorem cached1 (c : Dev nD) (r : Fin 512) (k : Fin 64) :
    V m c main_v11 (ix2 r (⟨k, by omega⟩ : Fin 128)) = rotaries (m ((c : Thread nD τ).loc main_arg1)) (ix2 r k) := by
  simp only [V, hostOps0, hostOps0_1, hostOps0_2, List.flatten_cons,
    List.flatten_nil, List.append_nil, List.cons_append, List.nil_append]
  entry_read
  simp only [StableHlo.TRef.toBuf, StableHlo.TRef.ofBuf, cast_eq]
  pointwise [rotaries]

theorem cached1_fill (c : Dev nD) (r : Fin 512) (n : Fin 128) (hn : 64 ≤ (n : ℕ)) : V m c main_v11 (ix2 r n) = (0 : EReal) := by
  simp only [V, hostOps0, hostOps0_1, hostOps0_2, List.flatten_cons,
    List.flatten_nil, List.append_nil, List.cons_append, List.nil_append]
  entry_read
  simp only [StableHlo.TRef.toBuf, StableHlo.TRef.ofBuf, cast_eq]
  pointwise
  rw [dif_neg (by omega)]
  exact MlaMath.zero_fill

theorem whole1 (c : Dev nD) (t : Fin cfg0.N) (k : Fin 512) (n : Fin 128) :
    iblk m c 1 t (ix2 k n) = V m c main_v11 (ix2 k n) := by
  blk_ext [iblk, places t]

theorem gain3 (c : Dev nD) (n : Fin 128) : V m c main_v7 (ix2 0 n) = m ((c : Thread nD τ).loc main_arg3) (ix1 n) := by
  simp only [V, hostOps0, hostOps0_1, hostOps0_2, List.flatten_cons,
    List.flatten_nil, List.append_nil, List.cons_append, List.nil_append]
  entry_read
  pointwise

theorem read3 (c : Dev nD) (t : Fin cfg0.N) (n : Fin 128) : iblk m c 3 t (ix2 0 n) = m ((c : Thread nD τ).loc main_arg3) (ix1 n) := by
  refine Eq.trans ?_ (gain3 m c n)
  blk_ext [iblk, places t]

/-- The weight: every head's keys first, then every head's values. -/
theorem weight2_key (c : Dev nD) (k : Fin 256) (n : Fin 1024) (h : Fin 4) (e : Fin 128) (hn : (n : ℕ) = h * 128 + e) :
    V m c main_v6 (ix2 k n) = m ((c : Thread nD τ).loc main_arg2) (ix2 k ⟨h * 256 + e, by omega⟩) := by
  have h0 : (n : ℕ) / 128 = h := by omega
  have h1 : (n : ℕ) % 128 = e := by omega
  simp only [V, hostOps0, hostOps0_1, hostOps0_2, List.flatten_cons,
    List.flatten_nil, List.append_nil, List.cons_append, List.nil_append]
  entry_read
  pointwise
  rw [dif_pos (by omega)]
  simp only [h0, h1]

theorem weight2_val (c : Dev nD) (k : Fin 256) (n : Fin 1024) (h : Fin 4) (e : Fin 128) (hn : (n : ℕ) = 512 + h * 128 + e) :
    V m c main_v6 (ix2 k n) = m ((c : Thread nD τ).loc main_arg2) (ix2 k ⟨h * 256 + (128 + e), by omega⟩) := by
  have h0 : ((n : ℕ) - 512) / 128 = h := by omega
  have h1 : ((n : ℕ) - 512) % 128 = e := by omega
  simp only [V, hostOps0, hostOps0_1, hostOps0_2, List.flatten_cons,
    List.flatten_nil, List.append_nil, List.cons_append, List.nil_append]
  entry_read
  pointwise
  rw [dif_neg (by omega)]
  simp only [h0, h1]

theorem whole2 (c : Dev nD) (t : Fin cfg0.N) (k : Fin 256) (n : Fin 1024) :
    iblk m c 2 t (ix2 k n) = V m c main_v6 (ix2 k n) := by
  blk_ext [iblk, places t]

end Cert.MlaCacheIdeal.Rows

end
-- ==== Proof.MlaCacheFinal.lean ====
/- The cached context's keys and values: the two arrays the kernel leaves are the results of the reference. -/
module

public import proofs.«01_k».proof.Proof.MlaCacheValue

@[expose] public section

set_option maxRecDepth 16384

noncomputable section

open Idealize.ShloMosaic Idealize.ShloMosaic.TcCoe Idealize.SL.Sem
open Idealize.ShloMosaic.Pipeline (Dat)

namespace Cert.MlaCacheIdeal.Rows

open Cert.MlaCacheIdeal Cert.MlaCacheIdeal.Gen
open Cert.MlaMath (rms128)
open Cert.MlaCacheRefIdeal.Rows (latents rotaries)

variable (m : (ℓ : Loc nD τ sig) → Buf (Elt Ideal) ℓ)

/-- The reference's results over the kernel's own argument arrays. -/
abbrev wantK (c : Dev nD) : FVec Ideal S512x1024 .bf16 :=
  Cert.MlaCacheRefIdeal.Rows.KS (m ((c : Thread nD τ).loc main_arg0)) (m ((c : Thread nD τ).loc main_arg1))
    (m ((c : Thread nD τ).loc main_arg2)) (m ((c : Thread nD τ).loc main_arg3))

abbrev wantV (c : Dev nD) : FVec Ideal S512x512 .bf16 :=
  Cert.MlaCacheRefIdeal.Rows.VS (m ((c : Thread nD τ).loc main_arg0)) (m ((c : Thread nD τ).loc main_arg2))

/-- The product of the keys and values. -/
abbrev U (c : Dev nD) (t : Fin cfg0.N) : FVec Ideal S512x1024 .f32 := k0_pay3 (F := Ideal) (iblk m c 0 t) (iblk m c 2 t)

theorem u_key (c : Dev nD) (t : Fin cfg0.N) (r : Fin 512) (n : Fin 1024) (h : Fin 4) (e : Fin 128) (hn : (n : ℕ) = h * 128 + e) :
    U m c t (ix2 r n) = ∑ k : Fin 256, latents (m ((c : Thread nD τ).loc main_arg0)) (ix2 r k)
      * m ((c : Thread nD τ).loc main_arg2) (ix2 k ⟨h * 256 + e, by omega⟩) :=
  (pay_kv _ _ r n).trans (Finset.sum_congr rfl fun k _ => congrArg₂ (fun a b : EReal => a * b)
    ((whole0 m c t r k).trans (cached0 m c r k)) ((whole2 m c t k n).trans (weight2_key m c k n h e hn)))

theorem u_val (c : Dev nD) (t : Fin cfg0.N) (r : Fin 512) (n : Fin 1024) (h : Fin 4) (e : Fin 128)
    (hn : (n : ℕ) = 512 + h * 128 + e) :
    U m c t (ix2 r n) = ∑ k : Fin 256, latents (m ((c : Thread nD τ).loc main_arg0)) (ix2 r k)
      * m ((c : Thread nD τ).loc main_arg2) (ix2 k ⟨h * 256 + (128 + e), by omega⟩) :=
  (pay_kv _ _ r n).trans (Finset.sum_congr rfl fun k _ => congrArg₂ (fun a b : EReal => a * b)
    ((whole0 m c t r k).trans (cached0 m c r k)) ((whole2 m c t k n).trans (weight2_val m c k n h e hn)))

/-- The plain part of head `h`'s keys. -/
theorem key (c : Dev nD) (t : Fin cfg0.N) (h : Fin 4) (r : Fin 512) (e : Fin 128) (n : Fin 1024)
    (hn : (n : ℕ) = h * 256 + e) (col : Fin 128 → Fin 1024) (hcol : ∀ k, (col k : ℕ) = h * 128 + k) :
    rms128 (fun k => U m c t (ix2 r (col k))) (fun k => iblk m c 3 t (ix2 0 k)) e = wantK m c (ix2 r n) := by
  unfold wantK Cert.MlaCacheRefIdeal.Rows.KS
  refine Eq.trans ?_ ((Cert.MlaCacheRefIdeal.Rows.rows_first _ _ r n h e hn).trans (Cert.MlaCacheRefIdeal.Rows.plainK_at _ _ r h e)).symm
  refine congrArg₂ (fun a b : Fin 128 → EReal => rms128 a b e) (funext fun k => ?_) (funext fun k => read3 m c t k)
  exact (u_key m c t r (col k) h k (hcol k)).trans (Cert.MlaCacheRefIdeal.Rows.pairs_at _ _ r h ⟨k, by omega⟩).symm

/-- The rotary key under head `h` and the zeros after it. -/
theorem shared (c : Dev nD) (t : Fin cfg0.N) (h : Fin 4) (r : Fin 512) (e : Fin 128) (n : Fin 1024)
    (hn : (n : ℕ) = h * 256 + 128 + e) : k0_pay4 (F := Ideal) (iblk m c 1 t) (ix2 r e) = wantK m c (ix2 r n) := by
  unfold wantK Cert.MlaCacheRefIdeal.Rows.KS
  refine ((pay_kr _ r e).trans (whole1 m c t r e)).trans ?_
  by_cases he : (e : ℕ) < 64
  · refine Eq.trans ?_ ((Cert.MlaCacheRefIdeal.Rows.rows_second _ _ r n h ⟨e, he⟩ hn).trans
      (Cert.MlaCacheRefIdeal.Rows.spread_at _ r h ⟨e, he⟩)).symm
    exact cached1 m c r ⟨e, he⟩
  · refine Eq.trans ?_ (Cert.MlaCacheRefIdeal.Rows.rows_third _ _ r n h ⟨e - 64, by omega⟩ (by simp; omega)).symm
    exact cached1_fill m c r e (by omega)

/-! Loads of a whole operand. -/

theorem ld0 (x : Vec Ideal S512x256 .f32) : View.ld x r0_0 = x := View.ld_unit_lit _ _ (by decide)
theorem ld1 (x : Vec Ideal S512x128 .f32) : View.ld x r0_1 = x := View.ld_unit_lit _ _ (by decide)
theorem ld2 (x : Vec Ideal S256x1024 .bf16) : View.ld x r0_2 = x := View.ld_unit_lit _ _ (by decide)
theorem ld3 (x : Vec Ideal S1x128 .f32) : View.ld x r0_3 = x := View.ld_unit_lit _ _ (by decide)

/-- Eight column slices stored side by side make up an array whose slices they are. -/
theorem slices (G : FVec Ideal S512x1024 .bf16) (w0 w1 w2 w3 w4 w5 w6 w7 : Vec Ideal S512x128 .bf16)
    (s0 : ∀ (x0 : Fin 512) (x1 : Fin 128), w0 (ix2 x0 x1) = G (ix2 x0 ⟨0 + x1, by omega⟩))
    (s1 : ∀ (x0 : Fin 512) (x1 : Fin 128), w1 (ix2 x0 x1) = G (ix2 x0 ⟨128 + x1, by omega⟩))
    (s2 : ∀ (x0 : Fin 512) (x1 : Fin 128), w2 (ix2 x0 x1) = G (ix2 x0 ⟨256 + x1, by omega⟩))
    (s3 : ∀ (x0 : Fin 512) (x1 : Fin 128), w3 (ix2 x0 x1) = G (ix2 x0 ⟨384 + x1, by omega⟩))
    (s4 : ∀ (x0 : Fin 512) (x1 : Fin 128), w4 (ix2 x0 x1) = G (ix2 x0 ⟨512 + x1, by omega⟩))
    (s5 : ∀ (x0 : Fin 512) (x1 : Fin 128), w5 (ix2 x0 x1) = G (ix2 x0 ⟨640 + x1, by omega⟩))
    (s6 : ∀ (x0 : Fin 512) (x1 : Fin 128), w6 (ix2 x0 x1) = G (ix2 x0 ⟨768 + x1, by omega⟩))
    (s7 : ∀ (x0 : Fin 512) (x1 : Fin 128), w7 (ix2 x0 x1) = G (ix2 x0 ⟨896 + x1, by omega⟩))
    (y : S512x1024.Idx) (r : Fin 512) (n : Fin 1024) (hr : (r : ℕ) = (y 0).val) (hn : (n : ℕ) = (y 1).val) :
    (View.canon [⟨r0_11, w7⟩, ⟨r0_10, w6⟩, ⟨r0_9, w5⟩, ⟨r0_8, w4⟩, ⟨r0_7, w3⟩, ⟨r0_6, w2⟩, ⟨r0_5, w1⟩, ⟨r0_4, w0⟩] : Vec Ideal S512x1024 .bf16) y = G (ix2 r n) := by
  canon_tiles x h
  case piece0 =>
    idx_vars x
    have hx0 : ((x0 : Fin 512) : ℕ) < 512 := x0.isLt
    have hx1 : ((x1 : Fin 128) : ℕ) < 128 := x1.isLt
    refine (s7 x0 x1).trans (congrArg₂ (fun a b => G (ix2 a b)) (Fin.ext ?_) (Fin.ext ?_))
    · simp at h0 ⊢; omega
    · simp at h1 ⊢; omega
  case piece1 =>
    idx_vars x
    have hx0 : ((x0 : Fin 512) : ℕ) < 512 := x0.isLt
    have hx1 : ((x1 : Fin 128) : ℕ) < 128 := x1.isLt
    refine (s6 x0 x1).trans (congrArg₂ (fun a b => G (ix2 a b)) (Fin.ext ?_) (Fin.ext ?_))
    · simp at h0 ⊢; omega
    · simp at h1 ⊢; omega
  case piece2 =>
    idx_vars x
    have hx0 : ((x0 : Fin 512) : ℕ) < 512 := x0.isLt
    have hx1 : ((x1 : Fin 128) : ℕ) < 128 := x1.isLt
    refine (s5 x0 x1).trans (congrArg₂ (fun a b => G (ix2 a b)) (Fin.ext ?_) (Fin.ext ?_))
    · simp at h0 ⊢; omega
    · simp at h1 ⊢; omega
  case piece3 =>
    idx_vars x
    have hx0 : ((x0 : Fin 512) : ℕ) < 512 := x0.isLt
    have hx1 : ((x1 : Fin 128) : ℕ) < 128 := x1.isLt
    refine (s4 x0 x1).trans (congrArg₂ (fun a b => G (ix2 a b)) (Fin.ext ?_) (Fin.ext ?_))
    · simp at h0 ⊢; omega
    · simp at h1 ⊢; omega
  case piece4 =>
    idx_vars x
    have hx0 : ((x0 : Fin 512) : ℕ) < 512 := x0.isLt
    have hx1 : ((x1 : Fin 128) : ℕ) < 128 := x1.isLt
    refine (s3 x0 x1).trans (congrArg₂ (fun a b => G (ix2 a b)) (Fin.ext ?_) (Fin.ext ?_))
    · simp at h0 ⊢; omega
    · simp at h1 ⊢; omega
  case piece5 =>
    idx_vars x
    have hx0 : ((x0 : Fin 512) : ℕ) < 512 := x0.isLt
    have hx1 : ((x1 : Fin 128) : ℕ) < 128 := x1.isLt
    refine (s2 x0 x1).trans (congrArg₂ (fun a b => G (ix2 a b)) (Fin.ext ?_) (Fin.ext ?_))
    · simp at h0 ⊢; omega
    · simp at h1 ⊢; omega
  case piece6 =>
    idx_vars x
    have hx0 : ((x0 : Fin 512) : ℕ) < 512 := x0.isLt
    have hx1 : ((x1 : Fin 128) : ℕ) < 128 := x1.isLt
    refine (s1 x0 x1).trans (congrArg₂ (fun a b => G (ix2 a b)) (Fin.ext ?_) (Fin.ext ?_))
    · simp at h0 ⊢; omega
    · simp at h1 ⊢; omega
  case piece7 =>
    idx_vars x
    have hx0 : ((x0 : Fin 512) : ℕ) < 512 := x0.isLt
    have hx1 : ((x1 : Fin 128) : ℕ) < 128 := x1.isLt
    refine (s0 x0 x1).trans (congrArg₂ (fun a b => G (ix2 a b)) (Fin.ext ?_) (Fin.ext ?_))
    · simp at h0 ⊢; omega
    · simp at h1 ⊢; omega

/-- Where entry `y` of the block stored in window 4 goes in the whole array. -/
theorem lands4 (t : Fin cfg0.N) (y : S512x1024.Idx) (r : Fin 512) (n : Fin 1024)
    (hr : (r : ℕ) = (y 0).val) (hn : (n : ℕ) = (y 1).val) : ((cfg0.win 4).blk t).view.emb y = ix2 r n := by
  idx_vars y
  blk_ext [places t]

theorem stored4 (c : Dev nD) (t : Fin cfg0.N) :
    out0_4 (iblk m c 0 t) (iblk m c 1 t) (iblk m c 2 t) (iblk m c 3 t)
      = View.canon [⟨r0_11, k0_pay4 (iblk m c 1 t)⟩, ⟨r0_10, k0_pay1 (k0_pay12 (U m c t)) (k0_pay13 (iblk m c 3 t)) (k0_pay14 (U m c t))⟩, ⟨r0_9, k0_pay4 (iblk m c 1 t)⟩, ⟨r0_8, k0_pay11 (U m c t) (iblk m c 3 t)⟩, ⟨r0_7, k0_pay4 (iblk m c 1 t)⟩, ⟨r0_6, k0_pay10 (k0_pay6 (iblk m c 0 t) (iblk m c 2 t)) (k0_pay7 (iblk m c 3 t)) (k0_pay8 (iblk m c 0 t) (iblk m c 2 t)) k0_pay9⟩, ⟨r0_5, k0_pay4 (iblk m c 1 t)⟩, ⟨r0_4, k0_pay5 (iblk m c 0 t) (iblk m c 2 t) (iblk m c 3 t)⟩] := by
  unfold_out out0_4
  simp only [ld0, ld1, ld2, ld3]

/-- The keys after the run. -/
theorem final4 (c : Dev nD) : (dats m 0 c).arrAt 4 (cfgs 0).N = wantK m c := by
  refine (dats m 0 c).arrAt_eq_of_covers 4 _ (by decide +kernel) fun t hf y => ?_
  blk_simp; rw [after0_4, stored4]
  have hy0 : (y 0).val < 512 := (y 0).isLt
  have hy1 : (y 1).val < 1024 := (y 1).isLt
  rw [lands4 t y ⟨(y 0).val, hy0⟩ ⟨(y 1).val, hy1⟩ rfl rfl]
  refine slices (wantK m c) _ _ _ _ _ _ _ _ ?_ ?_ ?_ ?_ ?_ ?_ ?_ ?_ y _ _ rfl rfl
  · intro x0 x1
    exact (key_0 _ _ _ x0 x1).trans (key m c t 0 x0 x1 _ (by simp) _ fun k => by simp)
  · intro x0 x1
    exact shared m c t 0 x0 x1 _ (by simp)
  · intro x0 x1
    exact (key_1 _ _ _ x0 x1).trans (key m c t 1 x0 x1 _ (by simp) _ fun k => by simp)
  · intro x0 x1
    exact shared m c t 1 x0 x1 _ (by simp)
  · intro x0 x1
    exact (key_2 _ _ x0 x1).trans (key m c t 2 x0 x1 _ (by simp) _ fun k => by simp)
  · intro x0 x1
    exact shared m c t 2 x0 x1 _ (by simp)
  · intro x0 x1
    exact (key_3 _ _ x0 x1).trans (key m c t 3 x0 x1 _ (by simp) _ fun k => by simp)
  · intro x0 x1
    exact shared m c t 3 x0 x1 _ (by simp)

/-- Where entry `y` of the block stored in window 5 goes in the whole array. -/
theorem lands5 (t : Fin cfg0.N) (y : S512x512.Idx) (r : Fin 512) (n : Fin 512)
    (hr : (r : ℕ) = (y 0).val) (hn : (n : ℕ) = (y 1).val) : ((cfg0.win 5).blk t).view.emb y = ix2 r n := by
  idx_vars y
  blk_ext [places t]

theorem stored5 (c : Dev nD) (t : Fin cfg0.N) : out0_5 (iblk m c 0 t) (iblk m c 1 t) (iblk m c 2 t) (iblk m c 3 t) = k0_pay2 (U m c t) := by
  unfold_out out0_5
  simp only [ld0, ld1, ld2, ld3]
  exact View.canon_cons_unit_lit _ _ _ (by decide)

/-- The values after the run. -/
theorem final5 (c : Dev nD) : (dats m 0 c).arrAt 5 (cfgs 0).N = wantV m c := by
  refine (dats m 0 c).arrAt_eq_of_covers 5 _ (by decide +kernel) fun t hf y => ?_
  blk_simp; rw [after0_5, stored5]
  have hy0 : (y 0).val < 512 := (y 0).isLt
  have hy1 : (y 1).val < 512 := (y 1).isLt
  rw [lands5 t y ⟨(y 0).val, hy0⟩ ⟨(y 1).val, hy1⟩ rfl rfl]
  idx_vars y
  have hy1 : (y1 : ℕ) < 512 := hy1
  refine (pay_v _ y0 y1).trans ?_
  refine (u_val m c t y0 _ ⟨(y1 : ℕ) / 128, by omega⟩ ⟨(y1 : ℕ) % 128, by omega⟩ (by simp; omega)).trans ?_
  unfold wantV Cert.MlaCacheRefIdeal.Rows.VS
  exact ((Cert.MlaCacheRefIdeal.Rows.vals_at _ _ _ ⟨(y1 : ℕ) / 128, by omega⟩ ⟨(y1 : ℕ) % 128, by omega⟩ (by simp; omega)).trans
    (Cert.MlaCacheRefIdeal.Rows.pairs_at _ _ _ _ _)).symm

end Cert.MlaCacheIdeal.Rows

end
-- ==== Proof.MlaCacheClaim.lean ====
/- The claims about the cached context's keys and values. -/
module

public import proofs.«01_k».proof.Defs
public import proofs.«01_k».proof.Proof.MlaCacheFinal
public import proofs.«01_k».proof.Proof.Gen.MlaCache.Frame
public import Idealize.ShloMosaic.Lib.Claim

@[expose] public section

set_option maxRecDepth 16384

noncomputable section

open Idealize.ShloMosaic Idealize.SL.Sem

namespace Cert.MlaCache.Claims

theorem frame : Cert.quiescent_MlaCache := fun m ρ _ => Cert.MlaCache.Gen.frame m ρ

theorem frame_ideal : Cert.quiescent_MlaCacheIdeal := fun m ρ _ => Cert.MlaCacheIdeal.Gen.frame m ρ

theorem frame_ref : Cert.quiescent_MlaCacheRefIdeal := by
  intro m g _
  hlo_run
  · simp only [and_self, implies_true]
  · exact Idealize.ShloMosaic.sem_eq_zero_of_no_sems (sig := Cert.MlaCacheRefIdeal.sig) (by decide) _

theorem algebraic : Cert.algebraic_MlaCacheIdeal_MlaCacheRefIdeal := by
  intro m g m' g' _ hagree
  refine ⟨fun c => Cert.MlaCacheIdeal.Rows.wantK m c, fun c => Cert.MlaCacheIdeal.Rows.wantV m c, ?_, ?_⟩
  · refine θ_run_mono (θ_run_and (Cert.MlaCacheIdeal.Gen.unchanged m g) (Cert.MlaCacheIdeal.Gen.run_main m g)) ?_
    rintro r ⟨h1, h2⟩ c
    have h := (h2 c).1
    exact ⟨(h 4).trans (Cert.MlaCacheIdeal.Rows.final4 m c), (h 5).trans (Cert.MlaCacheIdeal.Rows.final5 m c), h1 c⟩
  · refine θ_run_mono (Cert.MlaCacheRefIdeal.Value.run m' g') ?_
    intro r h c
    obtain ⟨hk, hv, ha⟩ := h c
    obtain ⟨h0, h1, h2, h3⟩ := hagree c
    refine ⟨(Eq.trans hk (show _ = Cert.MlaCacheRefIdeal.Rows.KS (m' ((c.tc : Thread Cert.MlaCacheRefIdeal.nD Cert.MlaCacheRefIdeal.τ).loc Cert.MlaCacheRefIdeal.main_arg0))
        (m' ((c.tc : Thread Cert.MlaCacheRefIdeal.nD Cert.MlaCacheRefIdeal.τ).loc Cert.MlaCacheRefIdeal.main_arg1))
        (m' ((c.tc : Thread Cert.MlaCacheRefIdeal.nD Cert.MlaCacheRefIdeal.τ).loc Cert.MlaCacheRefIdeal.main_arg2))
        (m' ((c.tc : Thread Cert.MlaCacheRefIdeal.nD Cert.MlaCacheRefIdeal.τ).loc Cert.MlaCacheRefIdeal.main_arg3)) from rfl)).trans ?_,
      (Eq.trans hv (show _ = Cert.MlaCacheRefIdeal.Rows.VS (m' ((c.tc : Thread Cert.MlaCacheRefIdeal.nD Cert.MlaCacheRefIdeal.τ).loc Cert.MlaCacheRefIdeal.main_arg0))
        (m' ((c.tc : Thread Cert.MlaCacheRefIdeal.nD Cert.MlaCacheRefIdeal.τ).loc Cert.MlaCacheRefIdeal.main_arg2)) from rfl)).trans ?_, ha⟩
    · rw [h0, h1, h2, h3]
    · rw [h0, h2]

end Cert.MlaCache.Claims

end
-- ==== Proof.MlaLatRef.lean ====
/- The latent projections of the latent tokens: the reference's results, entry by entry, as plain sums. -/
module

public import proofs.«01_k».proof.Proof.Gen.MlaLatRefIdeal.Run
public import Idealize.ShloMosaic.Lib.Pointwise
public import proofs.«01_k».proof.Proof.MlaMath

@[expose] public section

set_option maxRecDepth 16384

noncomputable section

namespace Cert.MlaLatRefIdeal.Rows

open Cert.MlaLatRefIdeal Cert.MlaLatRefIdeal.Gen Idealize.ShloMosaic Idealize.ShloMosaic.TcCoe Idealize.SL.Sem
open Cert.MlaMath (rms384 rms256 rms128 rms64 scale)

/-- Rows of 384 numbers, normalised, times the gain. -/
def norm384 (x : FVec Ideal S4096x384 .f32) (g : FVec Ideal S384 .f32) : FVec Ideal S4096x384 .f32 :=
  mulf (mulf x (broadcastInDim S4096x384 ![0, 1] bcast_S4096x1_S4096x384_0_1 (Host.rsqrt (addf (Host.divf (broadcastInDim S4096x1 ![0] bcast_S4096_S4096x1_0 (Host.reduceAdd (mulf x x) (constant S_ .f32 0x00000000#32) reducesTo_S4096x384_S4096_d1 h_S_)) (broadcastInDim S4096x1 ![] bcast_S_S4096x1 (constant S_ .f32 0x43C00000#32))) (broadcastInDim S4096x1 ![] bcast_S_S4096x1 (constant S_ .f32 0x358637BD#32)))))) (broadcastInDim S4096x384 ![0, 1] bcast_S1x384_S4096x384_0_1 (broadcastInDim S1x384 ![1] bcast_S384_S1x384_1 g))

theorem norm384_at (x : FVec Ideal S4096x384 .f32) (g : FVec Ideal S384 .f32) (r : Fin 4096) (k : Fin 384) :
    norm384 x g (ix2 r k) = rms384 (fun k => x (ix2 r k)) (fun k => g (ix1 k)) k := by
  pointwise [norm384, MlaMath.rms]

/-- Rows of 256 numbers, normalised, times the gain. -/
def norm256 (x : FVec Ideal S4096x256 .f32) (g : FVec Ideal S256 .f32) : FVec Ideal S4096x256 .f32 :=
  mulf (mulf x (broadcastInDim S4096x256 ![0, 1] bcast_S4096x1_S4096x256_0_1 (Host.rsqrt (addf (Host.divf (broadcastInDim S4096x1 ![0] bcast_S4096_S4096x1_0 (Host.reduceAdd (mulf x x) (constant S_ .f32 0x00000000#32) reducesTo_S4096x256_S4096_d1 h_S_)) (broadcastInDim S4096x1 ![] bcast_S_S4096x1 (constant S_ .f32 0x43800000#32))) (broadcastInDim S4096x1 ![] bcast_S_S4096x1 (constant S_ .f32 0x358637BD#32)))))) (broadcastInDim S4096x256 ![0, 1] bcast_S1x256_S4096x256_0_1 (broadcastInDim S1x256 ![1] bcast_S256_S1x256_1 g))

theorem norm256_at (x : FVec Ideal S4096x256 .f32) (g : FVec Ideal S256 .f32) (r : Fin 4096) (k : Fin 256) :
    norm256 x g (ix2 r k) = rms256 (fun k => x (ix2 r k)) (fun k => g (ix1 k)) k := by
  pointwise [norm256, MlaMath.rms]

/-- Rows of 64 numbers, normalised, times the gain. -/
def norm64 (x : FVec Ideal S4096x64 .f32) (g : FVec Ideal S64 .f32) : FVec Ideal S4096x64 .f32 :=
  mulf (mulf x (broadcastInDim S4096x64 ![0, 1] bcast_S4096x1_S4096x64_0_1 (Host.rsqrt (addf (Host.divf (broadcastInDim S4096x1 ![0] bcast_S4096_S4096x1_0 (Host.reduceAdd (mulf x x) (constant S_ .f32 0x00000000#32) reducesTo_S4096x64_S4096_d1 h_S_)) (broadcastInDim S4096x1 ![] bcast_S_S4096x1 (constant S_ .f32 0x42800000#32))) (broadcastInDim S4096x1 ![] bcast_S_S4096x1 (constant S_ .f32 0x358637BD#32)))))) (broadcastInDim S4096x64 ![0, 1] bcast_S1x64_S4096x64_0_1 (broadcastInDim S1x64 ![1] bcast_S64_S1x64_1 g))

theorem norm64_at (x : FVec Ideal S4096x64 .f32) (g : FVec Ideal S64 .f32) (r : Fin 4096) (k : Fin 64) :
    norm64 x g (ix2 r k) = rms64 (fun k => x (ix2 r k)) (fun k => g (ix1 k)) k := by
  pointwise [norm64, MlaMath.rms]

/-- Rows of 128 numbers of each head, normalised, times the gain. -/
def head128 (x : FVec Ideal S4096x4x128 .f32) (g : FVec Ideal S128 .f32) : FVec Ideal S4096x4x128 .f32 :=
  mulf (mulf x (broadcastInDim S4096x4x128 ![0, 1, 2] bcast_S4096x4x1_S4096x4x128_0_1_2 (Host.rsqrt (addf (Host.divf (broadcastInDim S4096x4x1 ![0, 1] bcast_S4096x4_S4096x4x1_0_1 (Host.reduceAdd (mulf x x) (constant S_ .f32 0x00000000#32) reducesTo_S4096x4x128_S4096x4_d2 h_S_)) (broadcastInDim S4096x4x1 ![] bcast_S_S4096x4x1 (constant S_ .f32 0x43000000#32))) (broadcastInDim S4096x4x1 ![] bcast_S_S4096x4x1 (constant S_ .f32 0x358637BD#32)))))) (broadcastInDim S4096x4x128 ![0, 1, 2] bcast_S1x1x128_S4096x4x128_0_1_2 (broadcastInDim S1x1x128 ![2] bcast_S128_S1x1x128_2 g))

theorem head128_at (x : FVec Ideal S4096x4x128 .f32) (g : FVec Ideal S128 .f32) (r : Fin 4096) (h : Fin 4) (k : Fin 128) :
    head128 x g (ix3 r h k) = rms128 (fun k => x (ix3 r h k)) (fun k => g (ix1 k)) k := by
  pointwise [head128, MlaMath.rms]

/-- Rows of 64 numbers of each head, normalised, times the gain. -/
def head64 (x : FVec Ideal S4096x4x64 .f32) (g : FVec Ideal S64 .f32) : FVec Ideal S4096x4x64 .f32 :=
  mulf (mulf x (broadcastInDim S4096x4x64 ![0, 1, 2] bcast_S4096x4x1_S4096x4x64_0_1_2 (Host.rsqrt (addf (Host.divf (broadcastInDim S4096x4x1 ![0, 1] bcast_S4096x4_S4096x4x1_0_1 (Host.reduceAdd (mulf x x) (constant S_ .f32 0x00000000#32) reducesTo_S4096x4x64_S4096x4_d2 h_S_)) (broadcastInDim S4096x4x1 ![] bcast_S_S4096x4x1 (constant S_ .f32 0x42800000#32))) (broadcastInDim S4096x4x1 ![] bcast_S_S4096x4x1 (constant S_ .f32 0x358637BD#32)))))) (broadcastInDim S4096x4x64 ![0, 1, 2] bcast_S1x1x64_S4096x4x64_0_1_2 (broadcastInDim S1x1x64 ![2] bcast_S64_S1x1x64_2 g))

theorem head64_at (x : FVec Ideal S4096x4x64 .f32) (g : FVec Ideal S64 .f32) (r : Fin 4096) (h : Fin 4) (k : Fin 64) :
    head64 x g (ix3 r h k) = rms64 (fun k => x (ix3 r h k)) (fun k => g (ix1 k)) k := by
  pointwise [head64, MlaMath.rms]

/-- The query part of the projected rows. -/
def cutQ (a0 : FVec Ideal S12288x768 .f32) : FVec Ideal S4096x384 .f32 :=
  extractStridedSlice S4096x384 ![0, 0] (extractStridedSlice S4096x704 ![8192, 0] a0 slices_S12288x768_S4096x704_8192_0) slices_S4096x704_S4096x384_0_0

theorem cutQ_at (a0 : FVec Ideal S12288x768 .f32) (r : Fin 4096) (k : Fin 384) :
    cutQ a0 (ix2 r k) = a0 (ix2 ⟨8192 + r, by omega⟩ ⟨0 + k, by omega⟩) := by
  pointwise [cutQ]

/-- The key-value part of the projected rows. -/
def cutKV (a0 : FVec Ideal S12288x768 .f32) : FVec Ideal S4096x256 .f32 :=
  extractStridedSlice S4096x256 ![0, 384] (extractStridedSlice S4096x704 ![8192, 0] a0 slices_S12288x768_S4096x704_8192_0) slices_S4096x704_S4096x256_0_384

theorem cutKV_at (a0 : FVec Ideal S12288x768 .f32) (r : Fin 4096) (k : Fin 256) :
    cutKV a0 (ix2 r k) = a0 (ix2 ⟨8192 + r, by omega⟩ ⟨384 + k, by omega⟩) := by
  pointwise [cutKV]

/-- The rotary part of the projected rows. -/
def cutR (a0 : FVec Ideal S12288x768 .f32) : FVec Ideal S4096x64 .f32 :=
  extractStridedSlice S4096x64 ![0, 640] (extractStridedSlice S4096x704 ![8192, 0] a0 slices_S12288x768_S4096x704_8192_0) slices_S4096x704_S4096x64_0_640

theorem cutR_at (a0 : FVec Ideal S12288x768 .f32) (r : Fin 4096) (k : Fin 64) :
    cutR a0 (ix2 r k) = a0 (ix2 ⟨8192 + r, by omega⟩ ⟨640 + k, by omega⟩) := by
  pointwise [cutR]

/-- The queries of all heads before their normalisation. -/
def queries (c : FVec Ideal S4096x384 .f32) (a2 : FVec Ideal S384x768 .f32) : FVec Ideal S4096x4x192 .f32 :=
  shapeCast _ (Host.dotGeneral dot_S4096x384_S384x768_S4096x768_1_0_0_1_n_n none c a2) shapeCasts_S4096x768_S4096x4x192

theorem queries_at (c : FVec Ideal S4096x384 .f32) (a2 : FVec Ideal S384x768 .f32) (r : Fin 4096) (h : Fin 4) (e : Fin 192) :
    queries c a2 (ix3 r h e) = ∑ k : Fin 384, c (ix2 r k) * a2 (ix2 k ⟨h * 192 + e, by omega⟩) := by
  pointwise [queries]

/-- The keys and values of all heads before the keys' normalisation. -/
def pairs (c : FVec Ideal S4096x256 .f32) (a6 : FVec Ideal S256x1024 .f32) : FVec Ideal S4096x4x256 .f32 :=
  shapeCast _ (Host.dotGeneral dot_S4096x256_S256x1024_S4096x1024_1_0_0_1_n_n none c a6) shapeCasts_S4096x1024_S4096x4x256

theorem pairs_at (c : FVec Ideal S4096x256 .f32) (a6 : FVec Ideal S256x1024 .f32) (r : Fin 4096) (h : Fin 4) (e : Fin 256) :
    pairs c a6 (ix3 r h e) = ∑ k : Fin 256, c (ix2 r k) * a6 (ix2 k ⟨h * 256 + e, by omega⟩) := by
  pointwise [pairs]

/-- The heads side by side: the plain part, the rotary part, zeros. -/
def rows (x : FVec Ideal S4096x4x128 .f32) (y : FVec Ideal S4096x4x64 .f32) : FVec Ideal S4096x1024 .bf16 :=
  truncf .bf16 (shapeCast _ (concatenate S4096x4x256 2 [⟨S4096x4x128, x⟩, ⟨S4096x4x128, (pad S4096x4x128 ![0, 0, 0] ![0, 0, 64] ![0, 0, 0] y (sitofp .f32 (constantI S_ 32 0#32)) pads_S4096x4x64_S4096x4x128_000_000_0640 h_S_)⟩] concatenates_S4096x4x128_S4096x4x128_S4096x4x256_d2) shapeCasts_S4096x4x256_S4096x1024) bitsLt_bf16_f32

theorem rows_first (x : FVec Ideal S4096x4x128 .f32) (y : FVec Ideal S4096x4x64 .f32) (r : Fin 4096) (n : Fin 1024)
    (h : Fin 4) (e : Fin 128) (hn : (n : ℕ) = h * 256 + e) : rows x y (ix2 r n) = x (ix3 r h e) := by
  have h0 : (⟨(n : ℕ) / 256, by omega⟩ : Fin 4) = h := Fin.ext (by simp; omega)
  have h1 : (n : ℕ) % 256 = e := by omega
  pointwise [rows]
  rw [dif_pos (by omega)]
  simp only [h0, h1]

theorem rows_second (x : FVec Ideal S4096x4x128 .f32) (y : FVec Ideal S4096x4x64 .f32) (r : Fin 4096) (n : Fin 1024)
    (h : Fin 4) (e : Fin 64) (hn : (n : ℕ) = h * 256 + 128 + e) : rows x y (ix2 r n) = y (ix3 r h e) := by
  have h0 : (⟨(n : ℕ) / 256, by omega⟩ : Fin 4) = h := Fin.ext (by simp; omega)
  have h1 : (n : ℕ) % 256 - 128 = e := by omega
  pointwise [rows]
  rw [dif_neg (by omega), dif_pos (by omega)]
  simp only [h0, h1]

theorem rows_third (x : FVec Ideal S4096x4x128 .f32) (y : FVec Ideal S4096x4x64 .f32) (r : Fin 4096) (n : Fin 1024)
    (h : Fin 4) (e : Fin 64) (hn : (n : ℕ) = h * 256 + 192 + e) : rows x y (ix2 r n) = 0 := by
  pointwise [rows]
  rw [dif_neg (by omega), dif_neg (by omega)]
  exact MlaMath.zero_fill

/-- The normalised latents of the queries, of the keys and values, and the rotary keys. -/
def latQ (a0 : FVec Ideal S12288x768 .f32) (a1 : FVec Ideal S384 .f32) : FVec Ideal S4096x384 .f32 := norm384 (cutQ a0) a1
def CKV (a0 : FVec Ideal S12288x768 .f32) (a5 : FVec Ideal S256 .f32) : FVec Ideal S4096x256 .f32 := norm256 (cutKV a0) a5
def KR (a0 : FVec Ideal S12288x768 .f32) (a8 : FVec Ideal S64 .f32) : FVec Ideal S4096x64 .f32 := norm64 (cutR a0) a8

/-! The rotation. -/

/-- The sixteen frequencies. -/
def freqs : FVec Ideal S16 .f32 :=
  Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))

/-- A frequency, as a number. -/
def freq (j : Fin 16) : EReal :=
  Ideal.pow (Ideal.ofBits .f32 0x461C4000#32) (Ideal.div (-(FloatOps.sitofp (F := Ideal) FTy.f32 (BitVec.ofNat 32 j))) (Ideal.ofBits .f32 0x41800000#32))

theorem freqs_at (j : Fin 16) : freqs (ix1 j) = freq j := by
  pointwise [freqs, freq]

/-- The angle at frequency `j` of a coordinate `n`. -/
def angle (n : ℕ) (j : Fin 16) : EReal := FloatOps.sitofp (F := Ideal) FTy.f32 (BitVec.ofNat 32 n) * freq j

/-- The angles of the rows and of the columns of the grid. -/
def rowAngles : FVec Ideal S2048x16 .f32 :=
  mulf (broadcastInDim S2048x16 ![0, 1] bcast_S2048x1_S2048x16_0_1 (broadcastInDim S2048x1 ![0] bcast_S2048_S2048x1_0 (sitofp .f32 (shapeCast _ (broadcastInDim S32x64 ![0] bcast_S32_S32x64_0 (iotaInDim S32 32 0)) shapeCasts_S32x64_S2048)))) (broadcastInDim S2048x16 ![0, 1] bcast_S1x16_S2048x16_0_1 (broadcastInDim S1x16 ![1] bcast_S16_S1x16_1 freqs))

def colAngles : FVec Ideal S2048x16 .f32 :=
  mulf (broadcastInDim S2048x16 ![0, 1] bcast_S2048x1_S2048x16_0_1 (broadcastInDim S2048x1 ![0] bcast_S2048_S2048x1_0 (sitofp .f32 (shapeCast _ (broadcastInDim S32x64 ![0, 1] bcast_S1x64_S32x64_0_1 (shapeCast _ (iotaInDim S64 32 0) shapeCasts_S64_S1x64)) shapeCasts_S32x64_S2048)))) (broadcastInDim S2048x16 ![0, 1] bcast_S1x16_S2048x16_0_1 (broadcastInDim S1x16 ![1] bcast_S16_S1x16_1 freqs))

theorem rowAngles_at (n : Fin 2048) (j : Fin 16) : rowAngles (ix2 n j) = angle (n / 64) j := by
  unfold angle
  rw [← freqs_at]
  pointwise [rowAngles]

theorem colAngles_at (n : Fin 2048) (j : Fin 16) : colAngles (ix2 n j) = angle (n % 64) j := by
  unfold angle
  rw [← freqs_at]
  pointwise [colAngles]

/-- The angle of lane `e` of a row of 64 at position `n`: the first half turns with the grid's rows, the second with its columns. -/
def angleAt (n : ℕ) (e : Fin 64) : EReal :=
  if (e : ℕ) < 32 then angle (n / 64) ⟨e % 16, by omega⟩ else angle (n % 64) ⟨e % 16, by omega⟩

/-- The rotation of a row of 64 at position `n`. -/
def spin (y : Fin 64 → EReal) (n : ℕ) (e : Fin 64) : EReal :=
  if h : (e : ℕ) % 32 < 16 then y e * Ideal.cos (angleAt n e) - y ⟨16 + e, by omega⟩ * Ideal.sin (angleAt n e)
  else y e * Ideal.cos (angleAt n e) + y ⟨e - 16, by omega⟩ * Ideal.sin (angleAt n e)

/-- The rotation of half a row of every head by the angles `a`. -/
def halfHeads (x : FVec Ideal S2x2048x4x32 .f32) (a : FVec Ideal S2048x16 .f32) : FVec Ideal S2x2048x4x32 .f32 :=
  concatenate S2x2048x4x32 3 [⟨S2x2048x4x16, (subf (mulf (extractStridedSlice S2x2048x4x16 ![0, 0, 0, 0] x slices_S2x2048x4x32_S2x2048x4x16_0_0_0_0) (broadcastInDim S2x2048x4x16 ![0, 1, 2, 3] bcast_S1x2048x1x16_S2x2048x4x16_0_1_2_3 (broadcastInDim S1x2048x1x16 ![1, 2, 3] bcast_S2048x1x16_S1x2048x1x16_1_2_3 (Host.cos (broadcastInDim S2048x1x16 ![0, 2] bcast_S2048x16_S2048x1x16_0_2 a))))) (mulf (extractStridedSlice S2x2048x4x16 ![0, 0, 0, 16] x slices_S2x2048x4x32_S2x2048x4x16_0_0_0_16) (broadcastInDim S2x2048x4x16 ![0, 1, 2, 3] bcast_S1x2048x1x16_S2x2048x4x16_0_1_2_3 (broadcastInDim S1x2048x1x16 ![1, 2, 3] bcast_S2048x1x16_S1x2048x1x16_1_2_3 (Host.sin (broadcastInDim S2048x1x16 ![0, 2] bcast_S2048x16_S2048x1x16_0_2 a))))))⟩, ⟨S2x2048x4x16, (addf (mulf (extractStridedSlice S2x2048x4x16 ![0, 0, 0, 16] x slices_S2x2048x4x32_S2x2048x4x16_0_0_0_16) (broadcastInDim S2x2048x4x16 ![0, 1, 2, 3] bcast_S1x2048x1x16_S2x2048x4x16_0_1_2_3 (broadcastInDim S1x2048x1x16 ![1, 2, 3] bcast_S2048x1x16_S1x2048x1x16_1_2_3 (Host.cos (broadcastInDim S2048x1x16 ![0, 2] bcast_S2048x16_S2048x1x16_0_2 a))))) (mulf (extractStridedSlice S2x2048x4x16 ![0, 0, 0, 0] x slices_S2x2048x4x32_S2x2048x4x16_0_0_0_0) (broadcastInDim S2x2048x4x16 ![0, 1, 2, 3] bcast_S1x2048x1x16_S2x2048x4x16_0_1_2_3 (broadcastInDim S1x2048x1x16 ![1, 2, 3] bcast_S2048x1x16_S1x2048x1x16_1_2_3 (Host.sin (broadcastInDim S2048x1x16 ![0, 2] bcast_S2048x16_S2048x1x16_0_2 a))))))⟩] concatenates_S2x2048x4x16_S2x2048x4x16_S2x2048x4x32_d3

theorem halfHeads_low (x : FVec Ideal S2x2048x4x32 .f32) (a : FVec Ideal S2048x16 .f32) (b : Fin 2) (n : Fin 2048) (h : Fin 4) (e : Fin 32)
    (he : (e : ℕ) < 16) : halfHeads x a (ix4 b n h e)
      = x (ix4 b n h e) * Ideal.cos (a (ix2 n ⟨e, he⟩)) - x (ix4 b n h ⟨16 + e, by omega⟩) * Ideal.sin (a (ix2 n ⟨e, he⟩)) := by
  pointwise [halfHeads]
  rw [dif_pos he]

theorem halfHeads_high (x : FVec Ideal S2x2048x4x32 .f32) (a : FVec Ideal S2048x16 .f32) (b : Fin 2) (n : Fin 2048) (h : Fin 4) (e : Fin 32)
    (he : 16 ≤ (e : ℕ)) : halfHeads x a (ix4 b n h e)
      = x (ix4 b n h e) * Ideal.cos (a (ix2 n ⟨e - 16, by omega⟩)) + x (ix4 b n h ⟨e - 16, by omega⟩) * Ideal.sin (a (ix2 n ⟨e - 16, by omega⟩)) := by
  have e' : (⟨16 + (e - 16), by omega⟩ : Fin 32) = e := Fin.ext (by simp; omega)
  pointwise [halfHeads]
  rw [dif_neg (by omega)]
  simp only [e']

/-- The rotation of the rotary parts of all heads. -/
def turnHeads (x : FVec Ideal S4096x4x64 .f32) : FVec Ideal S4096x4x64 .f32 :=
  shapeCast _ (concatenate S2x2048x4x64 3 [⟨S2x2048x4x32, halfHeads (extractStridedSlice S2x2048x4x32 ![0, 0, 0, 0] (shapeCast _ x shapeCasts_S4096x4x64_S2x2048x4x64) slices_S2x2048x4x64_S2x2048x4x32_0_0_0_0) rowAngles⟩, ⟨S2x2048x4x32, halfHeads (extractStridedSlice S2x2048x4x32 ![0, 0, 0, 32] (shapeCast _ x shapeCasts_S4096x4x64_S2x2048x4x64) slices_S2x2048x4x64_S2x2048x4x32_0_0_0_32) colAngles⟩] concatenates_S2x2048x4x32_S2x2048x4x32_S2x2048x4x64_d3) shapeCasts_S2x2048x4x64_S4096x4x64

/-- The two halves of a row of every head. -/
theorem cutHeads_low (x : FVec Ideal S4096x4x64 .f32) (r : Fin 4096) (h : Fin 4) (e : Fin 32) :
    (extractStridedSlice S2x2048x4x32 ![0, 0, 0, 0] (shapeCast _ x shapeCasts_S4096x4x64_S2x2048x4x64) slices_S2x2048x4x64_S2x2048x4x32_0_0_0_0 : FVec Ideal S2x2048x4x32 .f32)
      (ix4 ⟨r / 2048, by omega⟩ ⟨r % 2048, by omega⟩ h e) = x (ix3 r h ⟨e, by omega⟩) := by
  pointwise

theorem cutHeads_high (x : FVec Ideal S4096x4x64 .f32) (r : Fin 4096) (h : Fin 4) (e : Fin 32) :
    (extractStridedSlice S2x2048x4x32 ![0, 0, 0, 32] (shapeCast _ x shapeCasts_S4096x4x64_S2x2048x4x64) slices_S2x2048x4x64_S2x2048x4x32_0_0_0_32 : FVec Ideal S2x2048x4x32 .f32)
      (ix4 ⟨r / 2048, by omega⟩ ⟨r % 2048, by omega⟩ h e) = x (ix3 r h ⟨32 + e, by omega⟩) := by
  pointwise

theorem turnHeads_at (x : FVec Ideal S4096x4x64 .f32) (r : Fin 4096) (h : Fin 4) (e : Fin 64) :
    turnHeads x (ix3 r h e) = spin (fun k => x (ix3 r h k)) (r % 2048) e := by
  pointwise [turnHeads]
  unfold spin angleAt
  by_cases he : (e : ℕ) < 32
  · rw [dif_pos he]
    by_cases h2 : (e : ℕ) % 32 < 16
    · have j : (⟨e, by omega⟩ : Fin 16) = ⟨e % 16, by omega⟩ := Fin.ext (by simp; omega)
      rw [dif_pos h2, halfHeads_low _ _ _ _ _ _ (by simp; omega), rowAngles_at, if_pos he]
      simp only [cutHeads_low, j, Fin.eta]
    · have j : (⟨e - 16, by omega⟩ : Fin 16) = ⟨e % 16, by omega⟩ := Fin.ext (by simp; omega)
      rw [dif_neg h2, halfHeads_high _ _ _ _ _ _ (by simp; omega), rowAngles_at, if_pos he]
      simp only [cutHeads_low, j, Fin.eta]
  · rw [dif_neg he]
    by_cases h2 : (e : ℕ) % 32 < 16
    · have j : (⟨e - 32, by omega⟩ : Fin 16) = ⟨e % 16, by omega⟩ := Fin.ext (by simp; omega)
      have i0 : (⟨32 + (e - 32), by omega⟩ : Fin 64) = e := Fin.ext (by simp; omega)
      have i1 : (⟨32 + (16 + (e - 32)), by omega⟩ : Fin 64) = ⟨16 + e, by omega⟩ := Fin.ext (by simp; omega)
      rw [dif_pos h2, halfHeads_low _ _ _ _ _ _ (by simp; omega), colAngles_at, if_neg he]
      simp only [cutHeads_high, j, i0, i1]
    · have j : (⟨e - 32 - 16, by omega⟩ : Fin 16) = ⟨e % 16, by omega⟩ := Fin.ext (by simp; omega)
      have i0 : (⟨32 + (e - 32), by omega⟩ : Fin 64) = e := Fin.ext (by simp; omega)
      have i1 : (⟨32 + (e - 32 - 16), by omega⟩ : Fin 64) = ⟨e - 16, by omega⟩ := Fin.ext (by simp; omega)
      rw [dif_neg h2, halfHeads_high _ _ _ _ _ _ (by simp; omega), colAngles_at, if_neg he]
      simp only [cutHeads_high, j, i0, i1]

/-- The rotation of half a row of the shared key by the angles `a`. -/
def halfKey (x : FVec Ideal S2x2048x32 .f32) (a : FVec Ideal S2048x16 .f32) : FVec Ideal S2x2048x32 .f32 :=
  concatenate S2x2048x32 2 [⟨S2x2048x16, (subf (mulf (extractStridedSlice S2x2048x16 ![0, 0, 0] x slices_S2x2048x32_S2x2048x16_0_0_0) (broadcastInDim S2x2048x16 ![0, 1, 2] bcast_S1x2048x16_S2x2048x16_0_1_2 (broadcastInDim S1x2048x16 ![1, 2] bcast_S2048x16_S1x2048x16_1_2 (Host.cos a)))) (mulf (extractStridedSlice S2x2048x16 ![0, 0, 16] x slices_S2x2048x32_S2x2048x16_0_0_16) (broadcastInDim S2x2048x16 ![0, 1, 2] bcast_S1x2048x16_S2x2048x16_0_1_2 (broadcastInDim S1x2048x16 ![1, 2] bcast_S2048x16_S1x2048x16_1_2 (Host.sin a)))))⟩, ⟨S2x2048x16, (addf (mulf (extractStridedSlice S2x2048x16 ![0, 0, 16] x slices_S2x2048x32_S2x2048x16_0_0_16) (broadcastInDim S2x2048x16 ![0, 1, 2] bcast_S1x2048x16_S2x2048x16_0_1_2 (broadcastInDim S1x2048x16 ![1, 2] bcast_S2048x16_S1x2048x16_1_2 (Host.cos a)))) (mulf (extractStridedSlice S2x2048x16 ![0, 0, 0] x slices_S2x2048x32_S2x2048x16_0_0_0) (broadcastInDim S2x2048x16 ![0, 1, 2] bcast_S1x2048x16_S2x2048x16_0_1_2 (broadcastInDim S1x2048x16 ![1, 2] bcast_S2048x16_S1x2048x16_1_2 (Host.sin a)))))⟩] concatenates_S2x2048x16_S2x2048x16_S2x2048x32_d2

theorem halfKey_low (x : FVec Ideal S2x2048x32 .f32) (a : FVec Ideal S2048x16 .f32) (b : Fin 2) (n : Fin 2048) (e : Fin 32)
    (he : (e : ℕ) < 16) : halfKey x a (ix3 b n e)
      = x (ix3 b n e) * Ideal.cos (a (ix2 n ⟨e, he⟩)) - x (ix3 b n ⟨16 + e, by omega⟩) * Ideal.sin (a (ix2 n ⟨e, he⟩)) := by
  pointwise [halfKey]
  rw [dif_pos he]

theorem halfKey_high (x : FVec Ideal S2x2048x32 .f32) (a : FVec Ideal S2048x16 .f32) (b : Fin 2) (n : Fin 2048) (e : Fin 32)
    (he : 16 ≤ (e : ℕ)) : halfKey x a (ix3 b n e)
      = x (ix3 b n e) * Ideal.cos (a (ix2 n ⟨e - 16, by omega⟩)) + x (ix3 b n ⟨e - 16, by omega⟩) * Ideal.sin (a (ix2 n ⟨e - 16, by omega⟩)) := by
  have e' : (⟨16 + (e - 16), by omega⟩ : Fin 32) = e := Fin.ext (by simp; omega)
  pointwise [halfKey]
  rw [dif_neg (by omega)]
  simp only [e']

/-- The rotation of the shared key. -/
def turnKey (x : FVec Ideal S4096x64 .f32) : FVec Ideal S4096x1x64 .f32 :=
  shapeCast _ (concatenate S2x2048x64 2 [⟨S2x2048x32, halfKey (extractStridedSlice S2x2048x32 ![0, 0, 0] (shapeCast _ x shapeCasts_S4096x64_S2x2048x64) slices_S2x2048x64_S2x2048x32_0_0_0) rowAngles⟩, ⟨S2x2048x32, halfKey (extractStridedSlice S2x2048x32 ![0, 0, 32] (shapeCast _ x shapeCasts_S4096x64_S2x2048x64) slices_S2x2048x64_S2x2048x32_0_0_32) colAngles⟩] concatenates_S2x2048x32_S2x2048x32_S2x2048x64_d2) shapeCasts_S2x2048x64_S4096x1x64

/-- The two halves of a row of the shared key. -/
theorem cutKey_low (x : FVec Ideal S4096x64 .f32) (r : Fin 4096) (e : Fin 32) :
    (extractStridedSlice S2x2048x32 ![0, 0, 0] (shapeCast _ x shapeCasts_S4096x64_S2x2048x64) slices_S2x2048x64_S2x2048x32_0_0_0 : FVec Ideal S2x2048x32 .f32)
      (ix3 ⟨r / 2048, by omega⟩ ⟨r % 2048, by omega⟩ e) = x (ix2 r ⟨e, by omega⟩) := by
  pointwise

theorem cutKey_high (x : FVec Ideal S4096x64 .f32) (r : Fin 4096) (e : Fin 32) :
    (extractStridedSlice S2x2048x32 ![0, 0, 32] (shapeCast _ x shapeCasts_S4096x64_S2x2048x64) slices_S2x2048x64_S2x2048x32_0_0_32 : FVec Ideal S2x2048x32 .f32)
      (ix3 ⟨r / 2048, by omega⟩ ⟨r % 2048, by omega⟩ e) = x (ix2 r ⟨32 + e, by omega⟩) := by
  pointwise

theorem turnKey_at (x : FVec Ideal S4096x64 .f32) (r : Fin 4096) (e : Fin 64) :
    turnKey x (ix3 r 0 e) = spin (fun k => x (ix2 r k)) (r % 2048) e := by
  pointwise [turnKey]
  unfold spin angleAt
  by_cases he : (e : ℕ) < 32
  · rw [dif_pos he]
    by_cases h2 : (e : ℕ) % 32 < 16
    · have j : (⟨e, by omega⟩ : Fin 16) = ⟨e % 16, by omega⟩ := Fin.ext (by simp; omega)
      rw [dif_pos h2, halfKey_low _ _ _ _ _ (by simp; omega), rowAngles_at, if_pos he]
      simp only [cutKey_low, j, Fin.eta]
    · have j : (⟨e - 16, by omega⟩ : Fin 16) = ⟨e % 16, by omega⟩ := Fin.ext (by simp; omega)
      rw [dif_neg h2, halfKey_high _ _ _ _ _ (by simp; omega), rowAngles_at, if_pos he]
      simp only [cutKey_low, j, Fin.eta]
  · rw [dif_neg he]
    by_cases h2 : (e : ℕ) % 32 < 16
    · have j : (⟨e - 32, by omega⟩ : Fin 16) = ⟨e % 16, by omega⟩ := Fin.ext (by simp; omega)
      have i0 : (⟨32 + (e - 32), by omega⟩ : Fin 64) = e := Fin.ext (by simp; omega)
      have i1 : (⟨32 + (16 + (e - 32)), by omega⟩ : Fin 64) = ⟨16 + e, by omega⟩ := Fin.ext (by simp; omega)
      rw [dif_pos h2, halfKey_low _ _ _ _ _ (by simp; omega), colAngles_at, if_neg he]
      simp only [cutKey_high, j, i0, i1]
    · have j : (⟨e - 32 - 16, by omega⟩ : Fin 16) = ⟨e % 16, by omega⟩ := Fin.ext (by simp; omega)
      have i0 : (⟨32 + (e - 32), by omega⟩ : Fin 64) = e := Fin.ext (by simp; omega)
      have i1 : (⟨32 + (e - 32 - 16), by omega⟩ : Fin 64) = ⟨e - 16, by omega⟩ := Fin.ext (by simp; omega)
      rw [dif_neg h2, halfKey_high _ _ _ _ _ (by simp; omega), colAngles_at, if_neg he]
      simp only [cutKey_high, j, i0, i1]

/-- The plain part of the queries, scaled. -/
def plainQ (Q : FVec Ideal S4096x4x192 .f32) (a3 : FVec Ideal S128 .f32) : FVec Ideal S4096x4x128 .f32 :=
  mulf (head128 (extractStridedSlice S4096x4x128 ![0, 0, 0] Q slices_S4096x4x192_S4096x4x128_0_0_0) a3) (broadcastInDim S4096x4x128 ![] bcast_S_S4096x4x128 (constant S_ .f32 0x3D93CD3A#32))

/-- The rotary part of the queries, rotated and scaled. -/
def rotaryQ (Q : FVec Ideal S4096x4x192 .f32) (a4 : FVec Ideal S64 .f32) : FVec Ideal S4096x4x64 .f32 :=
  mulf (turnHeads (head64 (extractStridedSlice S4096x4x64 ![0, 0, 128] Q slices_S4096x4x192_S4096x4x64_0_0_128) a4)) (broadcastInDim S4096x4x64 ![] bcast_S_S4096x4x64 (constant S_ .f32 0x3D93CD3A#32))

/-- The rotary key, rotated, the same for every head. -/
def spread (k : FVec Ideal S4096x64 .f32) : FVec Ideal S4096x4x64 .f32 :=
  broadcastInDim S4096x4x64 ![0, 1, 2] bcast_S4096x1x64_S4096x4x64_0_1_2 (turnKey k)

/-- The plain part of the keys. -/
def plainK (U : FVec Ideal S4096x4x256 .f32) (a7 : FVec Ideal S128 .f32) : FVec Ideal S4096x4x128 .f32 :=
  head128 (extractStridedSlice S4096x4x128 ![0, 0, 0] U slices_S4096x4x256_S4096x4x128_0_0_0) a7

/-- The values, heads side by side. -/
def vals (U : FVec Ideal S4096x4x256 .f32) : FVec Ideal S4096x512 .bf16 :=
  truncf .bf16 (shapeCast _ (extractStridedSlice S4096x4x128 ![0, 0, 128] U slices_S4096x4x256_S4096x4x128_0_0_128) shapeCasts_S4096x4x128_S4096x512) bitsLt_bf16_f32

/-- The queries, the keys and the values as functions of the arguments. -/
def QS (a0 : FVec Ideal S12288x768 .f32) (a1 : FVec Ideal S384 .f32) (a2 : FVec Ideal S384x768 .f32) (a3 : FVec Ideal S128 .f32)
    (a4 : FVec Ideal S64 .f32) : FVec Ideal S4096x1024 .bf16 :=
  rows (plainQ (queries (latQ a0 a1) a2) a3) (rotaryQ (queries (latQ a0 a1) a2) a4)

def KS (a0 : FVec Ideal S12288x768 .f32) (a5 : FVec Ideal S256 .f32) (a6 : FVec Ideal S256x1024 .f32) (a7 : FVec Ideal S128 .f32)
    (a8 : FVec Ideal S64 .f32) : FVec Ideal S4096x1024 .bf16 :=
  rows (plainK (pairs (CKV a0 a5) a6) a7) (spread (KR a0 a8))

def VS (a0 : FVec Ideal S12288x768 .f32) (a5 : FVec Ideal S256 .f32) (a6 : FVec Ideal S256x1024 .f32) : FVec Ideal S4096x512 .bf16 :=
  vals (pairs (CKV a0 a5) a6)

/-- One row of the projection, and the numbers the results are made of. -/
abbrev row (a0 : FVec Ideal S12288x768 .f32) (r : Fin 4096) (c : Fin 768) : EReal := a0 (ix2 (⟨8192 + r, by omega⟩ : Fin 12288) c)

/-- One column of the queries' product over a row `x` of the projection. -/
def qcol (x : Fin 768 → EReal) (a1 : FVec Ideal S384 .f32) (w : Fin 384 → EReal) : EReal :=
  ∑ k : Fin 384, rms384 (fun k => x ⟨k, by omega⟩) (fun k => a1 (ix1 k)) k * w k

/-- The normalised latent of the keys and values. -/
def lat (x : Fin 768 → EReal) (a5 : FVec Ideal S256 .f32) (k : Fin 256) : EReal :=
  rms256 (fun k => x ⟨384 + k, by omega⟩) (fun k => a5 (ix1 k)) k

theorem ckv_at (a0 : FVec Ideal S12288x768 .f32) (a5 : FVec Ideal S256 .f32) (r : Fin 4096) (k : Fin 256) :
    CKV a0 a5 (ix2 r k) = lat (row a0 r) a5 k := by
  unfold CKV lat
  simp only [norm256_at, cutKV_at]

theorem kr_at (a0 : FVec Ideal S12288x768 .f32) (a8 : FVec Ideal S64 .f32) (r : Fin 4096) (k : Fin 64) :
    KR a0 a8 (ix2 r k) = rms64 (fun k => row a0 r ⟨640 + k, by omega⟩) (fun k => a8 (ix1 k)) k := by
  unfold KR
  simp only [norm64_at, cutR_at]

theorem q_at (a0 : FVec Ideal S12288x768 .f32) (a1 : FVec Ideal S384 .f32) (a2 : FVec Ideal S384x768 .f32) (r : Fin 4096)
    (h : Fin 4) (e : Fin 192) :
    queries (latQ a0 a1) a2 (ix3 r h e) = qcol (row a0 r) a1 fun k => a2 (ix2 k ⟨h * 192 + e, by omega⟩) := by
  unfold latQ qcol
  simp only [queries_at, norm384_at, cutQ_at, Nat.zero_add]

theorem u_at (a0 : FVec Ideal S12288x768 .f32) (a5 : FVec Ideal S256 .f32) (a6 : FVec Ideal S256x1024 .f32) (r : Fin 4096)
    (h : Fin 4) (e : Fin 256) :
    pairs (CKV a0 a5) a6 (ix3 r h e) = ∑ k : Fin 256, lat (row a0 r) a5 k * a6 (ix2 k ⟨h * 256 + e, by omega⟩) := by
  simp only [pairs_at, ckv_at]

theorem plainQ_at (Q : FVec Ideal S4096x4x192 .f32) (a3 : FVec Ideal S128 .f32) (r : Fin 4096) (h : Fin 4) (e : Fin 128) :
    plainQ Q a3 (ix3 r h e) = rms128 (fun k => Q (ix3 r h ⟨k, by omega⟩)) (fun k => a3 (ix1 k)) e * scale := by
  pointwise [plainQ, head128, MlaMath.rms]

theorem rotaryQ_at (Q : FVec Ideal S4096x4x192 .f32) (a4 : FVec Ideal S64 .f32) (r : Fin 4096) (h : Fin 4) (e : Fin 64) :
    rotaryQ Q a4 (ix3 r h e) = spin (rms64 (fun k => Q (ix3 r h ⟨128 + k, by omega⟩)) (fun k => a4 (ix1 k))) (r % 2048) e * scale := by
  have cut : ∀ k : Fin 64, (extractStridedSlice S4096x4x64 ![0, 0, 128] Q slices_S4096x4x192_S4096x4x64_0_0_128 : FVec Ideal S4096x4x64 .f32) (ix3 r h k)
      = Q (ix3 r h ⟨128 + k, by omega⟩) := fun k => by pointwise
  have scaled : ∀ x : FVec Ideal S4096x4x64 .f32, (mulf x (broadcastInDim S4096x4x64 ![] bcast_S_S4096x4x64 (constant (F := Ideal) S_ .f32 0x3D93CD3A#32)) : FVec Ideal S4096x4x64 .f32) (ix3 r h e)
      = x (ix3 r h e) * scale := fun x => by pointwise
  unfold rotaryQ
  rw [scaled, turnHeads_at]
  simp only [head64_at, cut]

theorem plainK_at (U : FVec Ideal S4096x4x256 .f32) (a7 : FVec Ideal S128 .f32) (r : Fin 4096) (h : Fin 4) (e : Fin 128) :
    plainK U a7 (ix3 r h e) = rms128 (fun k => U (ix3 r h ⟨k, by omega⟩)) (fun k => a7 (ix1 k)) e := by
  pointwise [plainK, head128, MlaMath.rms]

theorem spread_at (k : FVec Ideal S4096x64 .f32) (r : Fin 4096) (h : Fin 4) (e : Fin 64) :
    spread k (ix3 r h e) = spin (fun e => k (ix2 r e)) (r % 2048) e := by
  refine Eq.trans ?_ (turnKey_at k r e)
  pointwise [spread]

theorem vals_at (U : FVec Ideal S4096x4x256 .f32) (r : Fin 4096) (n : Fin 512) (h : Fin 4) (d : Fin 128)
    (hn : (n : ℕ) = h * 128 + d) : vals U (ix2 r n) = U (ix3 r h ⟨128 + d, by omega⟩) := by
  have h0 : (⟨(n : ℕ) / 128, by omega⟩ : Fin 4) = h := Fin.ext (by simp; omega)
  have h1 : (n : ℕ) % 128 = d := by omega
  pointwise [vals]
  simp only [h0, h1]

end Cert.MlaLatRefIdeal.Rows

end
-- ==== Proof.MlaLatTables.lean ====
/- The tables of angles that the kernel projecting the latent tokens is given. -/
module

public import proofs.«01_k».proof.Proof.Gen.MlaLatIdeal.Frame
public import proofs.«01_k».proof.Proof.MlaLatRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlaLatIdeal.Rows

open Cert.MlaLatIdeal Cert.MlaLatIdeal.Gen
open Cert.MlaMath (rms384 rms256 rms128 rms64 slab scale eps)
open Cert.MlaLatRefIdeal.Rows (qcol lat row freq angle angleAt spin)

variable (m : (ℓ : Loc nD τ sig) → Buf (Elt Ideal) ℓ)

/-- A line of operations in two. -/
theorem after_split (ops : List (HloOp τ sig (Elt Ideal))) (n : ℕ) (σ : Valuation τ sig (Elt Ideal)) :
    StableHlo.after ops σ = StableHlo.after (ops.drop n) (StableHlo.after (ops.take n) σ) := by
  rw [← StableHlo.after_append, List.take_append_drop]

/-- Four pieces of sixteen columns and one of sixty-four, side by side. -/
abbrev five (a b c d : FVec Ideal S2048x16 .f32) (z : FVec Ideal S2048x64 .f32) : FVec Ideal S2048x128 .f32 :=
  concatenate S2048x128 1 [⟨S2048x16, a⟩, ⟨S2048x16, b⟩, ⟨S2048x16, c⟩, ⟨S2048x16, d⟩, ⟨S2048x64, z⟩]
    concatenates_S2048x16_S2048x16_S2048x16_S2048x16_S2048x64_S2048x128_d1

theorem five_at (a b c d : FVec Ideal S2048x16 .f32) (z : FVec Ideal S2048x64 .f32) (n : Fin 2048) (e : Fin 128) :
    five a b c d z (ix2 n e) = if (e : ℕ) < 16 then a (ix2 n ⟨e % 16, by omega⟩) else if (e : ℕ) < 32 then b (ix2 n ⟨e % 16, by omega⟩)
      else if (e : ℕ) < 48 then c (ix2 n ⟨e % 16, by omega⟩) else if (e : ℕ) < 64 then d (ix2 n ⟨e % 16, by omega⟩)
      else z (ix2 n ⟨e % 64, by omega⟩) := by
  pointwise
  by_cases h1 : (e : ℕ) < 16
  · have e1 : (e : ℕ) % 16 = e := by omega
    rw [dif_pos h1, if_pos h1]
    simp only [e1]
  · rw [dif_neg h1, if_neg h1]
    by_cases h2 : (e : ℕ) < 32
    · have e1 : (e : ℕ) % 16 = e - 16 := by omega
      rw [dif_pos (by omega), if_pos h2]
      simp only [e1]
    · rw [dif_neg (by omega), if_neg h2]
      by_cases h3 : (e : ℕ) < 48
      · have e1 : (e : ℕ) % 16 = e - 16 - 16 := by omega
        rw [dif_pos (by omega), if_pos h3]
        simp only [e1]
      · rw [dif_neg (by omega), if_neg h3]
        by_cases h4 : (e : ℕ) < 64
        · have e1 : (e : ℕ) % 16 = e - 16 - 16 - 16 := by omega
          rw [dif_pos (by omega), if_pos h4]
          simp only [e1]
        · have e1 : (e : ℕ) % 64 = e - 16 - 16 - 16 - 16 := by omega
          rw [dif_neg (by omega), if_neg h4]
          simp only [e1]

theorem cos_last (σ : Valuation τ sig (Elt Ideal)) :
    StableHlo.after ((hostOps0_10 (F := Ideal)).drop 10) σ (Proc.devRef .tc main_v43)
      = five (σ (Proc.devRef .tc main_v41)) (σ (Proc.devRef .tc main_v41)) (σ (Proc.devRef .tc main_v42)) (σ (Proc.devRef .tc main_v42))
        (σ (Proc.devRef .tc main_v40)) := by
  simp only [hostOps0_10, List.drop]
  rw [StableHlo.after_cons]
  refine (StableHlo.after_of_writes_sub (W := [main_v44, main_v45, main_v46, main_v47, main_v48, main_v49, main_v50]) _ _
    (StableHlo.forall_writes_sub_of_map rfl) (by decide)).trans ?_
  exact (StableHlo.nary_result _ _ _ _ _ _).trans rfl

theorem sin_last (σ : Valuation τ sig (Elt Ideal)) :
    StableHlo.after ((hostOps0_10 (F := Ideal)).drop 17) σ (Proc.devRef .tc main_v50)
      = five (σ (Proc.devRef .tc main_v45)) (σ (Proc.devRef .tc main_v46)) (σ (Proc.devRef .tc main_v48)) (σ (Proc.devRef .tc main_v49))
        (σ (Proc.devRef .tc main_v40)) := by
  simp only [hostOps0_10, List.drop]
  rw [StableHlo.after_cons, StableHlo.after_nil]
  exact (StableHlo.nary_result _ _ _ _ _ _).trans rfl

theorem read_v41 (σ : Valuation τ sig (Elt Ideal)) (n : Fin 2048) (j : Fin 16) :
    StableHlo.after ((hostOps0_10 (F := Ideal)).take 10) σ (Proc.devRef .tc main_v41) (ix2 n j)
      = Ideal.cos (σ (Proc.devRef .tc main_v32) (ix2 n j)) := by
  simp only [hostOps0_10, List.take]
  entry_read
  pointwise

theorem read_v42 (σ : Valuation τ sig (Elt Ideal)) (n : Fin 2048) (j : Fin 16) :
    StableHlo.after ((hostOps0_10 (F := Ideal)).take 10) σ (Proc.devRef .tc main_v42) (ix2 n j)
      = Ideal.cos (FloatOps.sitofp (F := Ideal) FTy.f32 (σ (Proc.devRef .tc main_v33) (ix1 n)) * σ (Proc.devRef .tc main_v25) (ix1 j)) := by
  simp only [hostOps0_10, List.take]
  entry_read
  pointwise

theorem read_v40 (σ : Valuation τ sig (Elt Ideal)) (n : Fin 2048) (j : Fin 64) :
    StableHlo.after ((hostOps0_10 (F := Ideal)).take 10) σ (Proc.devRef .tc main_v40) (ix2 n j) = (0 : EReal) := by
  simp only [hostOps0_10, List.take]
  entry_read
  pointwise

theorem read_v40' (σ : Valuation τ sig (Elt Ideal)) (n : Fin 2048) (j : Fin 64) :
    StableHlo.after ((hostOps0_10 (F := Ideal)).take 17) σ (Proc.devRef .tc main_v40) (ix2 n j) = (0 : EReal) := by
  simp only [hostOps0_10, List.take]
  entry_read
  pointwise

theorem read_v45 (σ : Valuation τ sig (Elt Ideal)) (n : Fin 2048) (j : Fin 16) :
    StableHlo.after ((hostOps0_10 (F := Ideal)).take 17) σ (Proc.devRef .tc main_v45) (ix2 n j)
      = -Ideal.sin (σ (Proc.devRef .tc main_v32) (ix2 n j)) := by
  simp only [hostOps0_10, List.take]
  entry_read
  pointwise

theorem read_v46 (σ : Valuation τ sig (Elt Ideal)) (n : Fin 2048) (j : Fin 16) :
    StableHlo.after ((hostOps0_10 (F := Ideal)).take 17) σ (Proc.devRef .tc main_v46) (ix2 n j)
      = Ideal.sin (σ (Proc.devRef .tc main_v32) (ix2 n j)) := by
  simp only [hostOps0_10, List.take]
  entry_read
  pointwise

theorem read_v48 (σ : Valuation τ sig (Elt Ideal)) (n : Fin 2048) (j : Fin 16) :
    StableHlo.after ((hostOps0_10 (F := Ideal)).take 17) σ (Proc.devRef .tc main_v48) (ix2 n j)
      = -Ideal.sin (FloatOps.sitofp (F := Ideal) FTy.f32 (σ (Proc.devRef .tc main_v33) (ix1 n)) * σ (Proc.devRef .tc main_v25) (ix1 j)) := by
  simp only [hostOps0_10, List.take]
  entry_read
  pointwise

theorem read_v49 (σ : Valuation τ sig (Elt Ideal)) (n : Fin 2048) (j : Fin 16) :
    StableHlo.after ((hostOps0_10 (F := Ideal)).take 17) σ (Proc.devRef .tc main_v49) (ix2 n j)
      = Ideal.sin (FloatOps.sitofp (F := Ideal) FTy.f32 (σ (Proc.devRef .tc main_v33) (ix1 n)) * σ (Proc.devRef .tc main_v25) (ix1 j)) := by
  simp only [hostOps0_10, List.take]
  entry_read
  pointwise

/-- The kernel's remainder of a position by the grid's width. -/
abbrev modWidth (x : BitVec 32) (w : BitVec 32) : BitVec 32 :=
  Scalar.select
    (IntOp.andi
      (IntOp.cmpi CmpIPredicate.ne
        (IntOp.cmpi CmpIPredicate.slt (IntOp.remsi ArithUnit.host x (Scalar.select (IntOp.cmpi CmpIPredicate.eq w 0#32) 1#32 w)) 0#32)
        (IntOp.cmpi CmpIPredicate.slt (Scalar.select (IntOp.cmpi CmpIPredicate.eq w 0#32) 1#32 w) 0#32))
      (IntOp.cmpi CmpIPredicate.ne (IntOp.remsi ArithUnit.host x (Scalar.select (IntOp.cmpi CmpIPredicate.eq w 0#32) 1#32 w)) 0#32))
    (IntOp.addi (IntOp.remsi ArithUnit.host x (Scalar.select (IntOp.cmpi CmpIPredicate.eq w 0#32) 1#32 w))
      (Scalar.select (IntOp.cmpi CmpIPredicate.eq w 0#32) 1#32 w))
    (IntOp.remsi ArithUnit.host x (Scalar.select (IntOp.cmpi CmpIPredicate.eq w 0#32) 1#32 w))

/-- The kernel's quotient of a position by the grid's width. -/
abbrev divWidth (x : BitVec 32) (w : BitVec 32) : BitVec 32 :=
  Scalar.select
    (IntOp.andi
      (IntOp.cmpi CmpIPredicate.ne (if x = 0 then (0 : BitVec 32) else if BitVec.msb x = true then -1 else 1)
        (if w = 0 then (0 : BitVec 32) else if BitVec.msb w = true then -1 else 1))
      (IntOp.cmpi CmpIPredicate.ne (IntOp.remsi ArithUnit.host x w) 0#32))
    (IntOp.subi (IntOp.divsi ArithUnit.host x w) 1#32) (IntOp.divsi ArithUnit.host x w)

theorem mod_at : ∀ n : Fin 2048, modWidth (BitVec.ofNat 32 n) 64#32 = BitVec.ofNat 32 ((n : ℕ) % 64) := by
  decide +kernel

theorem div_at : ∀ n : Fin 2048, divWidth (BitVec.ofNat 32 n) 64#32 = BitVec.ofNat 32 ((n : ℕ) / 64) := by
  decide +kernel

theorem read_v33 (σ : Valuation τ sig (Elt Ideal)) (n : Fin 2048) :
    StableHlo.after (hostOps0_9 (F := Ideal)) σ (Proc.devRef .tc main_v33) (ix1 n)
      = modWidth (σ (Proc.devRef .tc main_v19) (ix1 n)) (σ (Proc.devRef .tc main_c_4) ix0) := by
  simp only [hostOps0_9]
  entry_read
  simp only [StableHlo.TRef.toBuf, StableHlo.TRef.ofBuf, cast_eq]
  pointwise

theorem read_v26 (σ : Valuation τ sig (Elt Ideal)) (n : Fin 2048) :
    StableHlo.after (hostOps0_7 (F := Ideal)) σ (Proc.devRef .tc main_v26) (ix1 n)
      = divWidth (σ (Proc.devRef .tc main_v19) (ix1 n)) (σ (Proc.devRef .tc main_c_3) ix0) := by
  simp only [hostOps0_7]
  entry_read
  simp only [StableHlo.TRef.toBuf, StableHlo.TRef.ofBuf, cast_eq]
  pointwise

theorem read_v32 (σ : Valuation τ sig (Elt Ideal)) (n : Fin 2048) (j : Fin 16) :
    StableHlo.after (hostOps0_8 (F := Ideal)) σ (Proc.devRef .tc main_v32) (ix2 n j)
      = FloatOps.sitofp (F := Ideal) FTy.f32 (σ (Proc.devRef .tc main_v26) (ix1 n)) * σ (Proc.devRef .tc main_v25) (ix1 j) := by
  simp only [hostOps0_8]
  entry_read
  pointwise

theorem read_v25 (σ : Valuation τ sig (Elt Ideal)) (j : Fin 16) :
    StableHlo.after (hostOps0_6 (F := Ideal)) σ (Proc.devRef .tc main_v25) (ix1 j) = freq j := by
  simp only [hostOps0_6]
  entry_read
  pointwise [freq]

theorem read_v19 (σ : Valuation τ sig (Elt Ideal)) (n : Fin 2048) :
    StableHlo.after (hostOps0_6 (F := Ideal)) σ (Proc.devRef .tc main_v19) (ix1 n) = BitVec.ofNat 32 n := by
  simp only [hostOps0_6]
  entry_read
  pointwise

theorem read_c_3 (σ : Valuation τ sig (Elt Ideal)) :
    StableHlo.after (hostOps0_6 (F := Ideal)) σ (Proc.devRef .tc main_c_3) ix0 = 64#32 := by
  simp only [hostOps0_6]
  entry_read
  pointwise

theorem read_c_4 (σ : Valuation τ sig (Elt Ideal)) :
    StableHlo.after (hostOps0_8 (F := Ideal)) σ (Proc.devRef .tc main_c_4) ix0 = 64#32 := by
  simp only [hostOps0_8]
  entry_read
  pointwise

/-! What a stretch of operations leaves alone. -/

theorem keep7_v19 (σ : Valuation τ sig (Elt Ideal)) :
    StableHlo.after (hostOps0_7 (F := Ideal)) σ (Proc.devRef .tc main_v19) = σ (Proc.devRef .tc main_v19) := by
  simp only [hostOps0_7]
  entry_read
  rfl

theorem keep8_v19 (σ : Valuation τ sig (Elt Ideal)) :
    StableHlo.after (hostOps0_8 (F := Ideal)) σ (Proc.devRef .tc main_v19) = σ (Proc.devRef .tc main_v19) := by
  simp only [hostOps0_8]
  entry_read
  rfl

theorem keep7_v25 (σ : Valuation τ sig (Elt Ideal)) :
    StableHlo.after (hostOps0_7 (F := Ideal)) σ (Proc.devRef .tc main_v25) = σ (Proc.devRef .tc main_v25) := by
  simp only [hostOps0_7]
  entry_read
  rfl

theorem keep8_v25 (σ : Valuation τ sig (Elt Ideal)) :
    StableHlo.after (hostOps0_8 (F := Ideal)) σ (Proc.devRef .tc main_v25) = σ (Proc.devRef .tc main_v25) := by
  simp only [hostOps0_8]
  entry_read
  rfl

theorem keep9_v25 (σ : Valuation τ sig (Elt Ideal)) :
    StableHlo.after (hostOps0_9 (F := Ideal)) σ (Proc.devRef .tc main_v25) = σ (Proc.devRef .tc main_v25) := by
  simp only [hostOps0_9]
  entry_read
  rfl

theorem keep9_v32 (σ : Valuation τ sig (Elt Ideal)) :
    StableHlo.after (hostOps0_9 (F := Ideal)) σ (Proc.devRef .tc main_v32) = σ (Proc.devRef .tc main_v32) := by
  simp only [hostOps0_9]
  entry_read
  rfl

/-- The contents before the last stretch of operations. -/
def before (c : Dev nD) : Valuation τ sig (Elt Ideal) :=
  StableHlo.after (hostOps0_9 (F := Ideal)) (StableHlo.after (hostOps0_8 (F := Ideal)) (StableHlo.after (hostOps0_7 (F := Ideal))
    (StableHlo.after (hostOps0_6 (F := Ideal))
      (StableHlo.after (List.flatten [hostOps0, hostOps0_1, hostOps0_2, hostOps0_3, hostOps0_4, hostOps0_5]) (fun b => m (c, b))))))

theorem V_before (c : Dev nD) (b : Ref sig .tc) :
    V m c b = StableHlo.after (hostOps0_10 (F := Ideal)) (before m c) (Proc.devRef .tc b) := by
  unfold before
  rw [← StableHlo.after_append, ← StableHlo.after_append, ← StableHlo.after_append, ← StableHlo.after_append, ← StableHlo.after_append]
  rfl

theorem before_v25 (c : Dev nD) (j : Fin 16) : before m c (Proc.devRef .tc main_v25) (ix1 j) = freq j := by
  unfold before
  rw [keep9_v25, keep8_v25, keep7_v25, read_v25]

theorem before_v32 (c : Dev nD) (n : Fin 2048) (j : Fin 16) : before m c (Proc.devRef .tc main_v32) (ix2 n j) = angle (n / 64) j := by
  unfold before angle
  rw [keep9_v32, read_v32, read_v26, keep7_v25, read_v25, read_v19, read_c_3, div_at]

theorem before_v33 (c : Dev nD) (n : Fin 2048) : before m c (Proc.devRef .tc main_v33) (ix1 n) = BitVec.ofNat 32 ((n : ℕ) % 64) := by
  unfold before
  rw [read_v33, read_c_4, keep8_v19, keep7_v19, read_v19, mod_at]

theorem table_cos (c : Dev nD) (n : Fin 2048) (e : Fin 64) :
    V m c main_v43 (ix2 n (⟨e, by omega⟩ : Fin 128)) = Ideal.cos (angleAt n e) := by
  rw [V_before, after_split _ 10, cos_last, five_at, read_v41, read_v42, before_v32, before_v33, before_v25]
  unfold angleAt angle
  have he := e.isLt
  split_ifs <;> first | rfl | (exfalso; simp only at *; omega)

theorem table_cos_fill (c : Dev nD) (n : Fin 2048) (e : Fin 128) (he : 64 ≤ (e : ℕ)) : V m c main_v43 (ix2 n e) = (0 : EReal) := by
  rw [V_before, after_split _ 10, cos_last, five_at, read_v40, if_neg (by omega), if_neg (by omega), if_neg (by omega), if_neg (by omega)]

theorem table_sin (c : Dev nD) (n : Fin 2048) (e : Fin 64) :
    V m c main_v50 (ix2 n (⟨e, by omega⟩ : Fin 128)) = if (e : ℕ) % 32 < 16 then -Ideal.sin (angleAt n e) else Ideal.sin (angleAt n e) := by
  rw [V_before, after_split _ 17, sin_last, five_at, read_v45, read_v46, read_v48, read_v49, before_v32, before_v33, before_v25]
  unfold angleAt angle
  have he := e.isLt
  split_ifs <;> first | rfl | (exfalso; simp only at *; omega)

theorem table_sin_fill (c : Dev nD) (n : Fin 2048) (e : Fin 128) (he : 64 ≤ (e : ℕ)) : V m c main_v50 (ix2 n e) = (0 : EReal) := by
  rw [V_before, after_split _ 17, sin_last, five_at, read_v40', if_neg (by omega), if_neg (by omega), if_neg (by omega), if_neg (by omega)]

end Cert.MlaLatIdeal.Rows

end
-- ==== Proof.MlaLatValue.lean ====
/- The latent projections of the latent tokens: what the kernel computes from one tile of rows, and the operands it is given. -/
module

public import proofs.«01_k».proof.Proof.Gen.MlaLatIdeal.Frame
public import proofs.«01_k».proof.Proof.MlaLatTables
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlaLatIdeal.Rows

open Cert.MlaLatIdeal Cert.MlaLatIdeal.Gen
open Cert.MlaMath (rms384 rms256 rms128 rms64 slab scale eps)
open Cert.MlaLatRefIdeal.Rows (qcol lat row freq angle angleAt spin)

variable (m : (ℓ : Loc nD τ sig) → Buf (Elt Ideal) ℓ)

/-- The queries' product. -/
theorem pay_q (x : Vec Ideal S256x768 .f32) (g : Vec Ideal S1x384 .f32) (w : Vec Ideal S384x1024 .bf16) (p : Fin 256) (n : Fin 1024) :
    k0_pay4 (F := Ideal) x g w (ix2 p n)
      = ∑ k : Fin 384, rms384 (fun k => x (ix2 p ⟨k, by omega⟩)) (fun k => g (ix2 0 k)) k * w (ix2 k n) := by
  pointwise [k0_pay4, MlaMath.rms]

/-- The normalised latent of the keys and values. -/
theorem pay_ckv (x : Vec Ideal S256x768 .f32) (g : Vec Ideal S1x256 .f32) (p : Fin 256) (k : Fin 256) :
    k0_pay35 (F := Ideal) x g (ix2 p k) = rms256 (fun k => x (ix2 p ⟨384 + k, by omega⟩)) (fun k => g (ix2 0 k)) k := by
  pointwise [k0_pay35, MlaMath.rms]

/-- The rotary key in its slab, before the rotation. -/
theorem pay_kr (x : Vec Ideal S256x768 .f32) (g : Vec Ideal S1x128 .f32) (p : Fin 256) (k : Fin 128) :
    k0_pay36 (F := Ideal) x g (ix2 p k) = slab (fun k => x (ix2 p ⟨640 + k, by omega⟩)) (fun k => g (ix2 0 k)) k := by
  pointwise [k0_pay36, MlaMath.slab]

theorem pay_kr_low (x : Vec Ideal S256x768 .f32) (g : Vec Ideal S1x128 .f32) (p : Fin 256) (k : Fin 64) :
    k0_pay37 (F := Ideal) x g (ix2 p k) = k0_pay36 x g (ix2 p ⟨k, by omega⟩) := by
  pointwise [k0_pay37]

/-- The product of the keys and values. -/
theorem pay_kv (x : FVec Ideal S256x256 .f32) (w : Vec Ideal S256x1024 .bf16) (p : Fin 256) (n : Fin 1024) :
    k0_pay40 (F := Ideal) x w (ix2 p n) = ∑ k : Fin 256, x (ix2 p k) * w (ix2 k n) := by
  pointwise [k0_pay40]

theorem pay_v (u : FVec Ideal S256x1024 .f32) (p : Fin 256) (n : Fin 512) :
    k0_pay3 (F := Ideal) u (ix2 p n) = u (ix2 p ⟨512 + n, by omega⟩) := by
  pointwise [k0_pay3]

/-! The rotation. A lane is in the first half of its group of 32 or in the second. -/

/-- The kernel's remainder of a lane by 32. -/
abbrev rest (e : Fin 128) : BitVec 32 :=
  IntOp.remsi ArithUnit.vector (BitVec.ofNat 32 e) (Scalar.select (Scalar.cmpi CmpIPredicate.eq 32#32 0#32) 1#32 32#32)

/-- Whether the kernel takes a lane to be in a first half. -/
abbrev first (e : Fin 128) : BitVec 1 :=
  IntOp.cmpi CmpIPredicate.slt (Scalar.select (IntOp.andi (IntOp.xori (IntOp.cmpi CmpIPredicate.slt (rest e) 0#32)
    (Scalar.cmpi CmpIPredicate.slt (Scalar.select (Scalar.cmpi CmpIPredicate.eq 32#32 0#32) 1#32 32#32) 0#32))
    (IntOp.cmpi CmpIPredicate.ne (rest e) 0#32))
    (IntOp.addi (rest e) (Scalar.select (Scalar.cmpi CmpIPredicate.eq 32#32 0#32) 1#32 32#32)) (rest e)) 16#32

theorem first_at : ∀ e : Fin 128, first e = if (e : ℕ) % 32 < 16 then 1#1 else 0#1 := by
  decide +kernel

/-- The rotation of a slab: the slab times one table plus its exchanged halves times the other. -/
def turn (z c s : Fin 128 → EReal) (e : Fin 128) : EReal :=
  z e * c e + Scalar.select (first e) (z ⟨(e + 128 - 112) % 128, by omega⟩) (z ⟨(e + 128 - 16) % 128, by omega⟩) * s e

theorem pay_turn (x : FVec Ideal S256x128 .f32) (c s : Vec Ideal S256x128 .f32) (p : Fin 256) (e : Fin 128) :
    k0_pay41 (F := Ideal) x (k0_pay38 c) (k0_pay39 s) (ix2 p e)
      = turn (fun k => x (ix2 p k)) (fun k => c (ix2 p k)) (fun k => s (ix2 p k)) e := by
  pointwise [k0_pay41, k0_pay38, k0_pay39, turn]

/-! The plain part of each head's queries. -/

theorem plain_0 (x : Vec Ideal S256x768 .f32) (c : Vec Ideal S1x384 .f32) (w : Vec Ideal S384x1024 .bf16) (g : Vec Ideal S1x128 .f32) (p : Fin 256) (e : Fin 128) :
    k0_pay10 (F := Ideal) (k0_pay5 x c w g) (ix2 p e)
      = rms128 (fun k => k0_pay4 (F := Ideal) x c w (ix2 p ⟨k, by omega⟩)) (fun k => g (ix2 0 k)) e * scale := by
  pointwise [k0_pay10, k0_pay5, MlaMath.rms]

theorem plain_1 (u : FVec Ideal S256x1024 .f32) (g : Vec Ideal S1x128 .f32) (p : Fin 256) (e : Fin 128) :
    k0_pay16 (F := Ideal) (k0_pay12 u g) (ix2 p e)
      = rms128 (fun k => u (ix2 p ⟨256 + k, by omega⟩)) (fun k => g (ix2 0 k)) e * scale := by
  pointwise [k0_pay16, k0_pay12, MlaMath.rms]

theorem plain_2 (u : FVec Ideal S256x1024 .f32) (g : Vec Ideal S1x128 .f32) (p : Fin 256) (e : Fin 128) :
    k0_pay27 (F := Ideal) (k0_pay21 (k0_pay18 u) (k0_pay19 g) (k0_pay20 u) (Scalar.ofBits .f32 0x358637BD#32)) (ix2 p e)
      = rms128 (fun k => u (ix2 p ⟨512 + k, by omega⟩)) (fun k => g (ix2 0 k)) e * scale := by
  pointwise [k0_pay27, k0_pay21, k0_pay18, k0_pay19, k0_pay20, MlaMath.rms]

theorem plain_3 (u : FVec Ideal S256x1024 .f32) (g : Vec Ideal S1x128 .f32) (p : Fin 256) (e : Fin 128) :
    k0_pay33 (F := Ideal) (k0_pay29 u g) (ix2 p e)
      = rms128 (fun k => u (ix2 p ⟨768 + k, by omega⟩)) (fun k => g (ix2 0 k)) e * scale := by
  pointwise [k0_pay33, k0_pay29, MlaMath.rms]

/-! The rotary part of each head's queries. -/

theorem rotary_0 (x : Vec Ideal S256x768 .f32) (a : Vec Ideal S1x384 .f32) (w : Vec Ideal S384x1024 .bf16) (g : Vec Ideal S1x128 .f32)
    (c s : Vec Ideal S256x128 .f32) (p : Fin 256) (e : Fin 128) :
    k0_pay11 (F := Ideal) (k0_pay9 (k0_pay6 x a w) (k0_pay7 g) (k0_pay8 x a w) c s) (ix2 p e)
      = turn (slab (fun k => k0_pay4 (F := Ideal) x a w (ix2 p ⟨128 + k, by omega⟩)) (fun k => g (ix2 0 k)))
          (fun k => c (ix2 p k)) (fun k => s (ix2 p k)) e * scale := by
  pointwise [k0_pay11, k0_pay9, k0_pay6, k0_pay7, k0_pay8, MlaMath.slab, turn]

theorem rotary_1 (u : FVec Ideal S256x1024 .f32) (g : Vec Ideal S1x128 .f32) (c s : Vec Ideal S256x128 .f32) (p : Fin 256) (e : Fin 128) :
    k0_pay17 (F := Ideal) (k0_pay13 u g) (k0_pay14 c) (k0_pay15 s) (iota .tc S256x128 32 [1] iota_S256x128_d1_w32) 32#32 0#32 (ix2 p e)
      = turn (slab (fun k => u (ix2 p ⟨384 + k, by omega⟩)) (fun k => g (ix2 0 k)))
          (fun k => c (ix2 p k)) (fun k => s (ix2 p k)) e * scale := by
  pointwise [k0_pay17, k0_pay13, k0_pay14, k0_pay15, MlaMath.slab, turn]

theorem rotary_2 (u : FVec Ideal S256x1024 .f32) (g : Vec Ideal S1x128 .f32) (c s : Vec Ideal S256x128 .f32) (p : Fin 256) (e : Fin 128) :
    k0_pay28 (F := Ideal) (k0_pay22 u g) (k0_pay23 c) (k0_pay24 s) k0_pay25 k0_pay26 (ix2 p e)
      = turn (slab (fun k => u (ix2 p ⟨640 + k, by omega⟩)) (fun k => g (ix2 0 k)))
          (fun k => c (ix2 p k)) (fun k => s (ix2 p k)) e * scale := by
  pointwise [k0_pay28, k0_pay22, k0_pay23, k0_pay24, k0_pay25, k0_pay26, MlaMath.slab, turn]

theorem rotary_3 (u : FVec Ideal S256x1024 .f32) (g : Vec Ideal S1x128 .f32) (c s : Vec Ideal S256x128 .f32) (p : Fin 256) (e : Fin 128) :
    k0_pay34 (F := Ideal) (k0_pay30 u) (k0_pay31 g) (k0_pay32 u) c s (ix2 p e)
      = turn (slab (fun k => u (ix2 p ⟨896 + k, by omega⟩)) (fun k => g (ix2 0 k)))
          (fun k => c (ix2 p k)) (fun k => s (ix2 p k)) e * scale := by
  pointwise [k0_pay34, k0_pay30, k0_pay31, k0_pay32, MlaMath.slab, turn]

/-! The plain part of each head's keys. -/

theorem key_0 (x : FVec Ideal S256x256 .f32) (w : Vec Ideal S256x1024 .bf16) (g : Vec Ideal S1x128 .f32) (p : Fin 256) (e : Fin 128) :
    k0_pay44 (F := Ideal) (k0_pay42 g) (k0_pay43 x w) (ix2 p e)
      = rms128 (fun k => k0_pay40 (F := Ideal) x w (ix2 p ⟨k, by omega⟩)) (fun k => g (ix2 0 k)) e := by
  pointwise [k0_pay44, k0_pay42, k0_pay43, MlaMath.rms]

theorem key_1 (u : FVec Ideal S256x1024 .f32) (g : Vec Ideal S1x128 .f32) (p : Fin 256) (e : Fin 128) :
    k0_pay45 (F := Ideal) u g (ix2 p e)
      = rms128 (fun k => u (ix2 p ⟨128 + k, by omega⟩)) (fun k => g (ix2 0 k)) e := by
  pointwise [k0_pay45, MlaMath.rms]

theorem key_2 (u : FVec Ideal S256x1024 .f32) (g : Vec Ideal S1x128 .f32) (p : Fin 256) (e : Fin 128) :
    k0_pay1 (F := Ideal) (k0_pay46 u g) (ix2 p e)
      = rms128 (fun k => u (ix2 p ⟨256 + k, by omega⟩)) (fun k => g (ix2 0 k)) e := by
  pointwise [k0_pay1, k0_pay46, MlaMath.rms]

theorem key_3 (u : FVec Ideal S256x1024 .f32) (g : Vec Ideal S1x128 .f32) (p : Fin 256) (e : Fin 128) :
    k0_pay2 (F := Ideal) u g (ix2 p e)
      = rms128 (fun k => u (ix2 p ⟨384 + k, by omega⟩)) (fun k => g (ix2 0 k)) e := by
  pointwise [k0_pay2, MlaMath.rms]

/-- Where each window stands at grid point `t`: row tile `t` (the tokens' rows come after the context's), the table's
row tile for `t`, or the whole operand. -/
theorem places : ∀ t : Fin cfg0.N, win0_0.index t = ![t.val + 32, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val % 8, 0] ∧ win0_10.index t = ![t.val % 8, 0]
    ∧ win0_11.index t = ![t.val, 0] ∧ win0_12.index t = ![t.val, 0] ∧ win0_13.index t = ![t.val, 0]
    ∧ win0_14.index t = ![t.val, 0] ∧ win0_15.index t = ![t.val, 0] ∧ t.val < 16 :=
  (by decide +kernel : ∀ t : Fin grid0.N, _)

theorem tile_lt (t : Fin cfg0.N) : t.val < 16 := (places t).2.2.2.2.2.2.2.2.2.2.2.2.2.2.2.2

theorem read0 (c : Dev nD) (t : Fin cfg0.N) (p : Fin 256) (n : Fin 768) (r : Fin 4096) (hr : (r : ℕ) = t.val * 256 + p) :
    iblk m c 0 t (ix2 p n) = row (m ((c : Thread nD τ).loc main_arg0)) r n := by
  blk_ext [iblk, V, places t]

theorem read9 (c : Dev nD) (t : Fin cfg0.N) (p : Fin 256) (e : Fin 128) (n : Fin 2048) (hn : (n : ℕ) = t.val % 8 * 256 + p) :
    iblk m c 9 t (ix2 p e) = V m c main_v43 (ix2 n e) := by
  blk_ext [iblk, places t]

theorem read10 (c : Dev nD) (t : Fin cfg0.N) (p : Fin 256) (e : Fin 128) (n : Fin 2048) (hn : (n : ℕ) = t.val % 8 * 256 + p) :
    iblk m c 10 t (ix2 p e) = V m c main_v50 (ix2 n e) := by
  blk_ext [iblk, places t]

/-! The last stretches of operations leave the earlier operands alone. -/

theorem keep7_v9 (σ : Valuation τ sig (Elt Ideal)) :
    StableHlo.after (hostOps0_7 (F := Ideal)) σ (Proc.devRef .tc main_v9) = σ (Proc.devRef .tc main_v9) := by
  simp only [hostOps0_7]
  entry_read
  rfl

theorem keep8_v9 (σ : Valuation τ sig (Elt Ideal)) :
    StableHlo.after (hostOps0_8 (F := Ideal)) σ (Proc.devRef .tc main_v9) = σ (Proc.devRef .tc main_v9) := by
  simp only [hostOps0_8]
  entry_read
  rfl

theorem keep9_v9 (σ : Valuation τ sig (Elt Ideal)) :
    StableHlo.after (hostOps0_9 (F := Ideal)) σ (Proc.devRef .tc main_v9) = σ (Proc.devRef .tc main_v9) := by
  simp only [hostOps0_9]
  entry_read
  rfl

theorem keep10_v9 (σ : Valuation τ sig (Elt Ideal)) :
    StableHlo.after (hostOps0_10 (F := Ideal)) σ (Proc.devRef .tc main_v9) = σ (Proc.devRef .tc main_v9) := by
  simp only [hostOps0_10]
  entry_read
  rfl

theorem keep7_v10 (σ : Valuation τ sig (Elt Ideal)) :
    StableHlo.after (hostOps0_7 (F := Ideal)) σ (Proc.devRef .tc main_v10) = σ (Proc.devRef .tc main_v10) := by
  simp only [hostOps0_7]
  entry_read
  rfl

theorem keep8_v10 (σ : Valuation τ sig (Elt Ideal)) :
    StableHlo.after (hostOps0_8 (F := Ideal)) σ (Proc.devRef .tc main_v10) = σ (Proc.devRef .tc main_v10) := by
  simp only [hostOps0_8]
  entry_read
  rfl

theorem keep9_v10 (σ : Valuation τ sig (Elt Ideal)) :
    StableHlo.after (hostOps0_9 (F := Ideal)) σ (Proc.devRef .tc main_v10) = σ (Proc.devRef .tc main_v10) := by
  simp only [hostOps0_9]
  entry_read
  rfl

theorem keep10_v10 (σ : Valuation τ sig (Elt Ideal)) :
    StableHlo.after (hostOps0_10 (F := Ideal)) σ (Proc.devRef .tc main_v10) = σ (Proc.devRef .tc main_v10) := by
  simp only [hostOps0_10]
  entry_read
  rfl

theorem keep7_v11 (σ : Valuation τ sig (Elt Ideal)) :
    StableHlo.after (hostOps0_7 (F := Ideal)) σ (Proc.devRef .tc main_v11) = σ (Proc.devRef .tc main_v11) := by
  simp only [hostOps0_7]
  entry_read
  rfl

theorem keep8_v11 (σ : Valuation τ sig (Elt Ideal)) :
    StableHlo.after (hostOps0_8 (F := Ideal)) σ (Proc.devRef .tc main_v11) = σ (Proc.devRef .tc main_v11) := by
  simp only [hostOps0_8]
  entry_read
  rfl

theorem keep9_v11 (σ : Valuation τ sig (Elt Ideal)) :
    StableHlo.after (hostOps0_9 (F := Ideal)) σ (Proc.devRef .tc main_v11) = σ (Proc.devRef .tc main_v11) := by
  simp only [hostOps0_9]
  entry_read
  rfl

theorem keep10_v11 (σ : Valuation τ sig (Elt Ideal)) :
    StableHlo.after (hostOps0_10 (F := Ideal)) σ (Proc.devRef .tc main_v11) = σ (Proc.devRef .tc main_v11) := by
  simp only [hostOps0_10]
  entry_read
  rfl

theorem keep7_v13 (σ : Valuation τ sig (Elt Ideal)) :
    StableHlo.after (hostOps0_7 (F := Ideal)) σ (Proc.devRef .tc main_v13) = σ (Proc.devRef .tc main_v13) := by
  simp only [hostOps0_7]
  entry_read
  rfl

theorem keep8_v13 (σ : Valuation τ sig (Elt Ideal)) :
    StableHlo.after (hostOps0_8 (F := Ideal)) σ (Proc.devRef .tc main_v13) = σ (Proc.devRef .tc main_v13) := by
  simp only [hostOps0_8]
  entry_read
  rfl

theorem keep9_v13 (σ : Valuation τ sig (Elt Ideal)) :
    StableHlo.after (hostOps0_9 (F := Ideal)) σ (Proc.devRef .tc main_v13) = σ (Proc.devRef .tc main_v13) := by
  simp only [hostOps0_9]
  entry_read
  rfl

theorem keep10_v13 (σ : Valuation τ sig (Elt Ideal)) :
    StableHlo.after (hostOps0_10 (F := Ideal)) σ (Proc.devRef .tc main_v13) = σ (Proc.devRef .tc main_v13) := by
  simp only [hostOps0_10]
  entry_read
  rfl

theorem keep7_v14 (σ : Valuation τ sig (Elt Ideal)) :
    StableHlo.after (hostOps0_7 (F := Ideal)) σ (Proc.devRef .tc main_v14) = σ (Proc.devRef .tc main_v14) := by
  simp only [hostOps0_7]
  entry_read
  rfl

theorem keep8_v14 (σ : Valuation τ sig (Elt Ideal)) :
    StableHlo.after (hostOps0_8 (F := Ideal)) σ (Proc.devRef .tc main_v14) = σ (Proc.devRef .tc main_v14) := by
  simp only [hostOps0_8]
  entry_read
  rfl

theorem keep9_v14 (σ : Valuation τ sig (Elt Ideal)) :
    StableHlo.after (hostOps0_9 (F := Ideal)) σ (Proc.devRef .tc main_v14) = σ (Proc.devRef .tc main_v14) := by
  simp only [hostOps0_9]
  entry_read
  rfl

theorem keep10_v14 (σ : Valuation τ sig (Elt Ideal)) :
    StableHlo.after (hostOps0_10 (F := Ideal)) σ (Proc.devRef .tc main_v14) = σ (Proc.devRef .tc main_v14) := by
  simp only [hostOps0_10]
  entry_read
  rfl

theorem keep7_v15 (σ : Valuation τ sig (Elt Ideal)) :
    StableHlo.after (hostOps0_7 (F := Ideal)) σ (Proc.devRef .tc main_v15) = σ (Proc.devRef .tc main_v15) := by
  simp only [hostOps0_7]
  entry_read
  rfl

theorem keep8_v15 (σ : Valuation τ sig (Elt Ideal)) :
    StableHlo.after (hostOps0_8 (F := Ideal)) σ (Proc.devRef .tc main_v15) = σ (Proc.devRef .tc main_v15) := by
  simp only [hostOps0_8]
  entry_read
  rfl

theorem keep9_v15 (σ : Valuation τ sig (Elt Ideal)) :
    StableHlo.after (hostOps0_9 (F := Ideal)) σ (Proc.devRef .tc main_v15) = σ (Proc.devRef .tc main_v15) := by
  simp only [hostOps0_9]
  entry_read
  rfl

theorem keep10_v15 (σ : Valuation τ sig (Elt Ideal)) :
    StableHlo.after (hostOps0_10 (F := Ideal)) σ (Proc.devRef .tc main_v15) = σ (Proc.devRef .tc main_v15) := by
  simp only [hostOps0_10]
  entry_read
  rfl

theorem keep7_v16 (σ : Valuation τ sig (Elt Ideal)) :
    StableHlo.after (hostOps0_7 (F := Ideal)) σ (Proc.devRef .tc main_v16) = σ (Proc.devRef .tc main_v16) := by
  simp only [hostOps0_7]
  entry_read
  rfl

theorem keep8_v16 (σ : Valuation τ sig (Elt Ideal)) :
    StableHlo.after (hostOps0_8 (F := Ideal)) σ (Proc.devRef .tc main_v16) = σ (Proc.devRef .tc main_v16) := by
  simp only [hostOps0_8]
  entry_read
  rfl

theorem keep9_v16 (σ : Valuation τ sig (Elt Ideal)) :
    StableHlo.after (hostOps0_9 (F := Ideal)) σ (Proc.devRef .tc main_v16) = σ (Proc.devRef .tc main_v16) := by
  simp only [hostOps0_9]
  entry_read
  rfl

theorem keep10_v16 (σ : Valuation τ sig (Elt Ideal)) :
    StableHlo.after (hostOps0_10 (F := Ideal)) σ (Proc.devRef .tc main_v16) = σ (Proc.devRef .tc main_v16) := by
  simp only [hostOps0_10]
  entry_read
  rfl

theorem keep7_v18 (σ : Valuation τ sig (Elt Ideal)) :
    StableHlo.after (hostOps0_7 (F := Ideal)) σ (Proc.devRef .tc main_v18) = σ (Proc.devRef .tc main_v18) := by
  simp only [hostOps0_7]
  entry_read
  rfl

theorem keep8_v18 (σ : Valuation τ sig (Elt Ideal)) :
    StableHlo.after (hostOps0_8 (F := Ideal)) σ (Proc.devRef .tc main_v18) = σ (Proc.devRef .tc main_v18) := by
  simp only [hostOps0_8]
  entry_read
  rfl

theorem keep9_v18 (σ : Valuation τ sig (Elt Ideal)) :
    StableHlo.after (hostOps0_9 (F := Ideal)) σ (Proc.devRef .tc main_v18) = σ (Proc.devRef .tc main_v18) := by
  simp only [hostOps0_9]
  entry_read
  rfl

theorem keep10_v18 (σ : Valuation τ sig (Elt Ideal)) :
    StableHlo.after (hostOps0_10 (F := Ideal)) σ (Proc.devRef .tc main_v18) = σ (Proc.devRef .tc main_v18) := by
  simp only [hostOps0_10]
  entry_read
  rfl

/-- An operand that the last stretches of operations leave alone. -/
theorem V_early (c : Dev nD) (b : Ref sig .tc)
    (h10 : ∀ σ : Valuation τ sig (Elt Ideal), StableHlo.after (hostOps0_10 (F := Ideal)) σ (Proc.devRef .tc b) = σ (Proc.devRef .tc b))
    (h9 : ∀ σ : Valuation τ sig (Elt Ideal), StableHlo.after (hostOps0_9 (F := Ideal)) σ (Proc.devRef .tc b) = σ (Proc.devRef .tc b))
    (h8 : ∀ σ : Valuation τ sig (Elt Ideal), StableHlo.after (hostOps0_8 (F := Ideal)) σ (Proc.devRef .tc b) = σ (Proc.devRef .tc b))
    (h7 : ∀ σ : Valuation τ sig (Elt Ideal), StableHlo.after (hostOps0_7 (F := Ideal)) σ (Proc.devRef .tc b) = σ (Proc.devRef .tc b)) :
    V m c b = StableHlo.after (List.flatten [hostOps0, hostOps0_1, hostOps0_2, hostOps0_3, hostOps0_4, hostOps0_5, hostOps0_6])
      (fun b => m (c, b)) (Proc.devRef .tc b) := by
  rw [V_before, h10]
  unfold before
  rw [h9, h8, h7, ← StableHlo.after_append]
  rfl

theorem gain1 (c : Dev nD) (n : Fin 384) : V m c main_v9 (ix2 0 n) = m ((c : Thread nD τ).loc main_arg1) (ix1 n) := by
  rw [V_early m c _ keep10_v9 keep9_v9 keep8_v9 keep7_v9]
  simp only [hostOps0, hostOps0_1, hostOps0_2, hostOps0_3, hostOps0_4, hostOps0_5, hostOps0_6, List.flatten_cons,
    List.flatten_nil, List.append_nil, List.cons_append, List.nil_append]
  entry_read
  pointwise

theorem read1 (c : Dev nD) (t : Fin cfg0.N) (n : Fin 384) :
    iblk m c 1 t (ix2 0 n) = m ((c : Thread nD τ).loc main_arg1) (ix1 n) := by
  refine Eq.trans ?_ (gain1 m c n)
  blk_ext [iblk, places t]

theorem gain3 (c : Dev nD) (n : Fin 128) : V m c main_v11 (ix2 0 n) = m ((c : Thread nD τ).loc main_arg3) (ix1 n) := by
  rw [V_early m c _ keep10_v11 keep9_v11 keep8_v11 keep7_v11]
  simp only [hostOps0, hostOps0_1, hostOps0_2, hostOps0_3, hostOps0_4, hostOps0_5, hostOps0_6, List.flatten_cons,
    List.flatten_nil, List.append_nil, List.cons_append, List.nil_append]
  entry_read
  pointwise

theorem read3 (c : Dev nD) (t : Fin cfg0.N) (n : Fin 128) :
    iblk m c 3 t (ix2 0 n) = m ((c : Thread nD τ).loc main_arg3) (ix1 n) := by
  refine Eq.trans ?_ (gain3 m c n)
  blk_ext [iblk, places t]

theorem gain5 (c : Dev nD) (n : Fin 256) : V m c main_v14 (ix2 0 n) = m ((c : Thread nD τ).loc main_arg5) (ix1 n) := by
  rw [V_early m c _ keep10_v14 keep9_v14 keep8_v14 keep7_v14]
  simp only [hostOps0, hostOps0_1, hostOps0_2, hostOps0_3, hostOps0_4, hostOps0_5, hostOps0_6, List.flatten_cons,
    List.flatten_nil, List.append_nil, List.cons_append, List.nil_append]
  entry_read
  pointwise

theorem read5 (c : Dev nD) (t : Fin cfg0.N) (n : Fin 256) :
    iblk m c 5 t (ix2 0 n) = m ((c : Thread nD τ).loc main_arg5) (ix1 n) := by
  refine Eq.trans ?_ (gain5 m c n)
  blk_ext [iblk, places t]

theorem gain7 (c : Dev nD) (n : Fin 128) : V m c main_v16 (ix2 0 n) = m ((c : Thread nD τ).loc main_arg7) (ix1 n) := by
  rw [V_early m c _ keep10_v16 keep9_v16 keep8_v16 keep7_v16]
  simp only [hostOps0, hostOps0_1, hostOps0_2, hostOps0_3, hostOps0_4, hostOps0_5, hostOps0_6, List.flatten_cons,
    List.flatten_nil, List.append_nil, List.cons_append, List.nil_append]
  entry_read
  pointwise

theorem read7 (c : Dev nD) (t : Fin cfg0.N) (n : Fin 128) :
    iblk m c 7 t (ix2 0 n) = m ((c : Thread nD τ).loc main_arg7) (ix1 n) := by
  refine Eq.trans ?_ (gain7 m c n)
  blk_ext [iblk, places t]

theorem gain4 (c : Dev nD) (n : Fin 64) :
    V m c main_v13 (ix2 0 (⟨n, by omega⟩ : Fin 128)) = m ((c : Thread nD τ).loc main_arg4) (ix1 n) := by
  rw [V_early m c _ keep10_v13 keep9_v13 keep8_v13 keep7_v13]
  simp only [hostOps0, hostOps0_1, hostOps0_2, hostOps0_3, hostOps0_4, hostOps0_5, hostOps0_6, List.flatten_cons,
    List.flatten_nil, List.append_nil, List.cons_append, List.nil_append]
  entry_read
  simp only [StableHlo.TRef.toBuf, StableHlo.TRef.ofBuf, cast_eq]
  pointwise

theorem read4 (c : Dev nD) (t : Fin cfg0.N) (n : Fin 64) :
    iblk m c 4 t (ix2 0 (⟨n, by omega⟩ : Fin 128)) = m ((c : Thread nD τ).loc main_arg4) (ix1 n) := by
  refine Eq.trans ?_ (gain4 m c n)
  blk_ext [iblk, places t]

theorem gain8 (c : Dev nD) (n : Fin 64) :
    V m c main_v18 (ix2 0 (⟨n, by omega⟩ : Fin 128)) = m ((c : Thread nD τ).loc main_arg8) (ix1 n) := by
  rw [V_early m c _ keep10_v18 keep9_v18 keep8_v18 keep7_v18]
  simp only [hostOps0, hostOps0_1, hostOps0_2, hostOps0_3, hostOps0_4, hostOps0_5, hostOps0_6, List.flatten_cons,
    List.flatten_nil, List.append_nil, List.cons_append, List.nil_append]
  entry_read
  simp only [StableHlo.TRef.toBuf, StableHlo.TRef.ofBuf, cast_eq]
  pointwise

theorem read8 (c : Dev nD) (t : Fin cfg0.N) (n : Fin 64) :
    iblk m c 8 t (ix2 0 (⟨n, by omega⟩ : Fin 128)) = m ((c : Thread nD τ).loc main_arg8) (ix1 n) := by
  refine Eq.trans ?_ (gain8 m c n)
  blk_ext [iblk, places t]

/-- The queries' weight: each head's 192 columns, then 64 columns of zeros. -/
theorem weight2 (c : Dev nD) (k : Fin 384) (n : Fin 1024) (h : Fin 4) (e : Fin 192) (hn : (n : ℕ) = h * 256 + e) :
    V m c main_v10 (ix2 k n) = m ((c : Thread nD τ).loc main_arg2) (ix2 k ⟨h * 192 + e, by omega⟩) := by
  have h0 : (n : ℕ) / 256 = h := by omega
  have h1 : (n : ℕ) % 256 = e := by omega
  rw [V_early m c _ keep10_v10 keep9_v10 keep8_v10 keep7_v10]
  simp only [hostOps0, hostOps0_1, hostOps0_2, hostOps0_3, hostOps0_4, hostOps0_5, hostOps0_6, List.flatten_cons,
    List.flatten_nil, List.append_nil, List.cons_append, List.nil_append]
  entry_read
  simp only [StableHlo.TRef.toBuf, StableHlo.TRef.ofBuf, cast_eq]
  pointwise
  rw [dif_pos (by omega)]
  simp only [h0, h1]

theorem weight2_fill (c : Dev nD) (k : Fin 384) (n : Fin 1024) (hn : 192 ≤ (n : ℕ) % 256) :
    V m c main_v10 (ix2 k n) = (0 : EReal) := by
  rw [V_early m c _ keep10_v10 keep9_v10 keep8_v10 keep7_v10]
  simp only [hostOps0, hostOps0_1, hostOps0_2, hostOps0_3, hostOps0_4, hostOps0_5, hostOps0_6, List.flatten_cons,
    List.flatten_nil, List.append_nil, List.cons_append, List.nil_append]
  entry_read
  simp only [StableHlo.TRef.toBuf, StableHlo.TRef.ofBuf, cast_eq]
  pointwise
  rw [dif_neg (by omega)]
  exact MlaMath.zero_fill

theorem whole2 (c : Dev nD) (t : Fin cfg0.N) (k : Fin 384) (n : Fin 1024) :
    iblk m c 2 t (ix2 k n) = V m c main_v10 (ix2 k n) := by
  blk_ext [iblk, places t]

/-- The weight of the keys and values: every head's keys first, then every head's values. -/
theorem weight6_key (c : Dev nD) (k : Fin 256) (n : Fin 1024) (h : Fin 4) (e : Fin 128) (hn : (n : ℕ) = h * 128 + e) :
    V m c main_v15 (ix2 k n) = m ((c : Thread nD τ).loc main_arg6) (ix2 k ⟨h * 256 + e, by omega⟩) := by
  have h0 : (n : ℕ) / 128 = h := by omega
  have h1 : (n : ℕ) % 128 = e := by omega
  rw [V_early m c _ keep10_v15 keep9_v15 keep8_v15 keep7_v15]
  simp only [hostOps0, hostOps0_1, hostOps0_2, hostOps0_3, hostOps0_4, hostOps0_5, hostOps0_6, List.flatten_cons,
    List.flatten_nil, List.append_nil, List.cons_append, List.nil_append]
  entry_read
  pointwise
  rw [dif_pos (by omega)]
  simp only [h0, h1]

theorem weight6_val (c : Dev nD) (k : Fin 256) (n : Fin 1024) (h : Fin 4) (e : Fin 128) (hn : (n : ℕ) = 512 + h * 128 + e) :
    V m c main_v15 (ix2 k n) = m ((c : Thread nD τ).loc main_arg6) (ix2 k ⟨h * 256 + (128 + e), by omega⟩) := by
  have h0 : ((n : ℕ) - 512) / 128 = h := by omega
  have h1 : ((n : ℕ) - 512) % 128 = e := by omega
  rw [V_early m c _ keep10_v15 keep9_v15 keep8_v15 keep7_v15]
  simp only [hostOps0, hostOps0_1, hostOps0_2, hostOps0_3, hostOps0_4, hostOps0_5, hostOps0_6, List.flatten_cons,
    List.flatten_nil, List.append_nil, List.cons_append, List.nil_append]
  entry_read
  pointwise
  rw [dif_neg (by omega)]
  simp only [h0, h1]

theorem whole6 (c : Dev nD) (t : Fin cfg0.N) (k : Fin 256) (n : Fin 1024) :
    iblk m c 6 t (ix2 k n) = V m c main_v15 (ix2 k n) := by
  blk_ext [iblk, places t]

end Cert.MlaLatIdeal.Rows

end
-- ==== Proof.MlaLatFinal.lean ====
/- The latent projections of the latent tokens: the five arrays the kernel leaves are the reference's results. -/
module

public import proofs.«01_k».proof.Proof.MlaLatValue

@[expose] public section

set_option maxRecDepth 16384

noncomputable section

open Idealize.ShloMosaic Idealize.ShloMosaic.TcCoe Idealize.SL.Sem
open Idealize.ShloMosaic.Pipeline (Dat)

namespace Cert.MlaLatIdeal.Rows

open Cert.MlaLatIdeal Cert.MlaLatIdeal.Gen
open Cert.MlaMath (rms384 rms256 rms128 rms64 slab scale eps)
open Cert.MlaLatRefIdeal.Rows (qcol lat row angleAt spin)

variable (m : (ℓ : Loc nD τ sig) → Buf (Elt Ideal) ℓ)

/-- The reference's results over the kernel's own argument arrays. -/
abbrev wantQ (c : Dev nD) : FVec Ideal S4096x1024 .bf16 :=
  Cert.MlaLatRefIdeal.Rows.QS (m ((c : Thread nD τ).loc main_arg0)) (m ((c : Thread nD τ).loc main_arg1))
    (m ((c : Thread nD τ).loc main_arg2)) (m ((c : Thread nD τ).loc main_arg3)) (m ((c : Thread nD τ).loc main_arg4))

abbrev wantK (c : Dev nD) : FVec Ideal S4096x1024 .bf16 :=
  Cert.MlaLatRefIdeal.Rows.KS (m ((c : Thread nD τ).loc main_arg0)) (m ((c : Thread nD τ).loc main_arg5))
    (m ((c : Thread nD τ).loc main_arg6)) (m ((c : Thread nD τ).loc main_arg7)) (m ((c : Thread nD τ).loc main_arg8))

abbrev wantV (c : Dev nD) : FVec Ideal S4096x512 .bf16 :=
  Cert.MlaLatRefIdeal.Rows.VS (m ((c : Thread nD τ).loc main_arg0)) (m ((c : Thread nD τ).loc main_arg5))
    (m ((c : Thread nD τ).loc main_arg6))

abbrev wantC (c : Dev nD) : FVec Ideal S4096x256 .f32 :=
  Cert.MlaLatRefIdeal.Rows.CKV (m ((c : Thread nD τ).loc main_arg0)) (m ((c : Thread nD τ).loc main_arg5))

abbrev wantR (c : Dev nD) : FVec Ideal S4096x64 .f32 :=
  Cert.MlaLatRefIdeal.Rows.KR (m ((c : Thread nD τ).loc main_arg0)) (m ((c : Thread nD τ).loc main_arg8))

/-- The last 64 columns of the projection, which fill it up, are zero at the latent tokens' rows. -/
abbrev Filled (c : Dev nD) : Prop :=
  ∀ (r : Fin 4096) (n : Fin 768), 704 ≤ (n : ℕ) → m ((c : Thread nD τ).loc main_arg0) (ix2 (⟨8192 + r, by omega⟩ : Fin 12288) n) = (0 : EReal)

/-- The queries' product over tile `t`. -/
abbrev Q (c : Dev nD) (t : Fin cfg0.N) : FVec Ideal S256x1024 .f32 :=
  k0_pay4 (F := Ideal) (iblk m c 0 t) (iblk m c 1 t) (iblk m c 2 t)

/-- The latents of the keys and values over tile `t`. -/
abbrev C (c : Dev nD) (t : Fin cfg0.N) : FVec Ideal S256x256 .f32 := k0_pay35 (F := Ideal) (iblk m c 0 t) (iblk m c 5 t)

/-- The product of the keys and values over tile `t`. -/
abbrev U (c : Dev nD) (t : Fin cfg0.N) : FVec Ideal S256x1024 .f32 := k0_pay40 (F := Ideal) (C m c t) (iblk m c 6 t)

theorem q_low (c : Dev nD) (t : Fin cfg0.N) (p : Fin 256) (n : Fin 1024) (h : Fin 4) (e : Fin 192) (hn : (n : ℕ) = h * 256 + e)
    (r : Fin 4096) (hr : (r : ℕ) = t.val * 256 + p) :
    Q m c t (ix2 p n) = qcol (row (m ((c : Thread nD τ).loc main_arg0)) r) (m ((c : Thread nD τ).loc main_arg1))
      fun k => m ((c : Thread nD τ).loc main_arg2) (ix2 k ⟨h * 192 + e, by omega⟩) := by
  refine (pay_q _ _ _ p n).trans (Finset.sum_congr rfl fun k _ => ?_)
  refine congrArg₂ (fun a b : EReal => a * b) ?_ ((whole2 m c t k n).trans (weight2 m c k n h e hn))
  exact congrArg₂ (fun a b : Fin 384 → EReal => rms384 a b k) (funext fun k => read0 m c t p _ r hr) (funext fun k => read1 m c t k)

theorem q_fill (c : Dev nD) (t : Fin cfg0.N) (p : Fin 256) (n : Fin 1024) (hn : 192 ≤ (n : ℕ) % 256) :
    Q m c t (ix2 p n) = (0 : EReal) := by
  refine (pay_q _ _ _ p n).trans (Finset.sum_eq_zero fun k _ => ?_)
  rw [whole2 m c t k n, weight2_fill m c k n hn, mul_zero]

theorem c_at (c : Dev nD) (t : Fin cfg0.N) (p : Fin 256) (k : Fin 256) (r : Fin 4096) (hr : (r : ℕ) = t.val * 256 + p) :
    C m c t (ix2 p k) = lat (row (m ((c : Thread nD τ).loc main_arg0)) r) (m ((c : Thread nD τ).loc main_arg5)) k :=
  (pay_ckv _ _ p k).trans (congrArg₂ (fun a b : Fin 256 → EReal => rms256 a b k) (funext fun k => read0 m c t p _ r hr)
    (funext fun k => read5 m c t k))

theorem u_key (c : Dev nD) (t : Fin cfg0.N) (p : Fin 256) (n : Fin 1024) (h : Fin 4) (e : Fin 128) (hn : (n : ℕ) = h * 128 + e)
    (r : Fin 4096) (hr : (r : ℕ) = t.val * 256 + p) :
    U m c t (ix2 p n) = ∑ k : Fin 256, lat (row (m ((c : Thread nD τ).loc main_arg0)) r) (m ((c : Thread nD τ).loc main_arg5)) k
      * m ((c : Thread nD τ).loc main_arg6) (ix2 k ⟨h * 256 + e, by omega⟩) :=
  (pay_kv _ _ p n).trans (Finset.sum_congr rfl fun k _ => congrArg₂ (fun a b : EReal => a * b) (c_at m c t p k r hr)
    ((whole6 m c t k n).trans (weight6_key m c k n h e hn)))

theorem u_val (c : Dev nD) (t : Fin cfg0.N) (p : Fin 256) (n : Fin 1024) (h : Fin 4) (e : Fin 128)
    (hn : (n : ℕ) = 512 + h * 128 + e) (r : Fin 4096) (hr : (r : ℕ) = t.val * 256 + p) :
    U m c t (ix2 p n) = ∑ k : Fin 256, lat (row (m ((c : Thread nD τ).loc main_arg0)) r) (m ((c : Thread nD τ).loc main_arg5)) k
      * m ((c : Thread nD τ).loc main_arg6) (ix2 k ⟨h * 256 + (128 + e), by omega⟩) :=
  (pay_kv _ _ p n).trans (Finset.sum_congr rfl fun k _ => congrArg₂ (fun a b : EReal => a * b) (c_at m c t p k r hr)
    ((whole6 m c t k n).trans (weight6_val m c k n h e hn)))

/-- The plain part of head `h`'s queries. -/
theorem plain (c : Dev nD) (t : Fin cfg0.N) (h : Fin 4) (p : Fin 256) (e : Fin 128) (r : Fin 4096) (n : Fin 1024)
    (hr : (r : ℕ) = t.val * 256 + p) (hn : (n : ℕ) = h * 256 + e) (col : Fin 128 → Fin 1024)
    (hcol : ∀ k, (col k : ℕ) = h * 256 + k) :
    rms128 (fun k => Q m c t (ix2 p (col k))) (fun k => iblk m c 3 t (ix2 0 k)) e * scale = wantQ m c (ix2 r n) := by
  unfold wantQ Cert.MlaLatRefIdeal.Rows.QS
  refine Eq.trans ?_ ((Cert.MlaLatRefIdeal.Rows.rows_first _ _ r n h e hn).trans (Cert.MlaLatRefIdeal.Rows.plainQ_at _ _ r h e)).symm
  refine congrArg₂ (fun a b : Fin 128 → EReal => rms128 a b e * scale) (funext fun k => ?_) (funext fun k => read3 m c t k)
  exact (q_low m c t p (col k) h ⟨k, by omega⟩ (hcol k) r hr).trans (Cert.MlaLatRefIdeal.Rows.q_at _ _ _ r h ⟨k, by omega⟩).symm

/-! The rotation, from the kernel's tables. -/

/-- The first 64 lanes of a slab are turned like a row of 64. -/
theorem turn_low (z c s : Fin 128 → EReal) (y : Fin 64 → EReal) (n : ℕ) (hz : ∀ k : Fin 64, z (Fin.castAdd 64 k) = y k)
    (hc : ∀ k : Fin 64, c (Fin.castAdd 64 k) = Ideal.cos (angleAt n k))
    (hs : ∀ k : Fin 64, s (Fin.castAdd 64 k) = if (k : ℕ) % 32 < 16 then -Ideal.sin (angleAt n k) else Ideal.sin (angleAt n k)) (e : Fin 64) :
    turn z c s (Fin.castAdd 64 e) = spin y n e := by
  unfold turn spin
  rw [hz, hc, hs, first_at]
  have hv : ((Fin.castAdd 64 e : Fin 128) : ℕ) = e := rfl
  by_cases h : (e : ℕ) % 32 < 16
  · have e1 : (⟨((Fin.castAdd 64 e : Fin 128) + 128 - 112) % 128, by omega⟩ : Fin 128) = Fin.castAdd 64 (⟨16 + e, by omega⟩ : Fin 64) :=
      Fin.ext (by simp only [Fin.val_castAdd]; omega)
    rw [e1, if_pos (by rw [hv]; exact h), if_pos h, dif_pos h, hz]
    show _ + y _ * _ = _
    rw [mul_neg, sub_eq_add_neg]
  · have e1 : (⟨((Fin.castAdd 64 e : Fin 128) + 128 - 16) % 128, by omega⟩ : Fin 128) = Fin.castAdd 64 (⟨e - 16, by omega⟩ : Fin 64) :=
      Fin.ext (by simp only [Fin.val_castAdd]; omega)
    rw [e1, if_neg (by rw [hv]; exact h), if_neg h, dif_neg h, hz]
    rfl

/-- Where both tables are zero, so is the turned slab. -/
theorem turn_high (z c s : Fin 128 → EReal) (e : Fin 128) (hc : c e = 0) (hs : s e = 0) : turn z c s e = 0 := by
  unfold turn
  rw [hc, hs, mul_zero, mul_zero, add_zero]

/-- The tables' rows for row `r` of the latent tokens. -/
theorem cos_low (c : Dev nD) (t : Fin cfg0.N) (p : Fin 256) (r : Fin 4096) (hr : (r : ℕ) = t.val * 256 + p) (k : Fin 64) :
    iblk m c 9 t (ix2 p (Fin.castAdd 64 k : Fin 128)) = Ideal.cos (angleAt ((r : ℕ) % 2048) k) :=
  (read9 m c t p _ ⟨(r : ℕ) % 2048, by omega⟩ (by simp only; omega)).trans (table_cos m c ⟨(r : ℕ) % 2048, by omega⟩ k)

theorem sin_low (c : Dev nD) (t : Fin cfg0.N) (p : Fin 256) (r : Fin 4096) (hr : (r : ℕ) = t.val * 256 + p) (k : Fin 64) :
    iblk m c 10 t (ix2 p (Fin.castAdd 64 k : Fin 128))
      = if (k : ℕ) % 32 < 16 then -Ideal.sin (angleAt ((r : ℕ) % 2048) k) else Ideal.sin (angleAt ((r : ℕ) % 2048) k) :=
  (read10 m c t p _ ⟨(r : ℕ) % 2048, by omega⟩ (by simp only; omega)).trans (table_sin m c ⟨(r : ℕ) % 2048, by omega⟩ k)

theorem cos_high (c : Dev nD) (t : Fin cfg0.N) (p : Fin 256) (e : Fin 128) (he : 64 ≤ (e : ℕ)) : iblk m c 9 t (ix2 p e) = (0 : EReal) :=
  (read9 m c t p e ⟨t.val % 8 * 256 + p, by omega⟩ rfl).trans (table_cos_fill m c _ e he)

theorem sin_high (c : Dev nD) (t : Fin cfg0.N) (p : Fin 256) (e : Fin 128) (he : 64 ≤ (e : ℕ)) : iblk m c 10 t (ix2 p e) = (0 : EReal) :=
  (read10 m c t p e ⟨t.val % 8 * 256 + p, by omega⟩ rfl).trans (table_sin_fill m c _ e he)

/-- The turned rotary part of head `h`'s queries and the zeros after it. -/
theorem rotary (c : Dev nD) (t : Fin cfg0.N) (h : Fin 4) (p : Fin 256) (e : Fin 128) (r : Fin 4096) (n : Fin 1024)
    (hr : (r : ℕ) = t.val * 256 + p) (hn : (n : ℕ) = h * 256 + 128 + e) (col : Fin 128 → Fin 1024)
    (hcol : ∀ k, (col k : ℕ) = h * 256 + 128 + k) :
    turn (slab (fun k => Q m c t (ix2 p (col k))) (fun k => iblk m c 4 t (ix2 0 k)))
      (fun k => iblk m c 9 t (ix2 p k)) (fun k => iblk m c 10 t (ix2 p k)) e * scale = wantQ m c (ix2 r n) := by
  unfold wantQ Cert.MlaLatRefIdeal.Rows.QS
  have fill : ∀ k : Fin 64, Q m c t (ix2 p (col (Fin.natAdd 64 k))) = (0 : EReal) := fun k =>
    q_fill m c t p _ (by rw [hcol]; simp; omega)
  by_cases he : (e : ℕ) < 64
  · refine Eq.trans ?_ ((Cert.MlaLatRefIdeal.Rows.rows_second _ _ r n h ⟨e, he⟩ hn).trans
      (Cert.MlaLatRefIdeal.Rows.rotaryQ_at _ _ r h ⟨e, he⟩)).symm
    refine congrArg (fun a : EReal => a * scale) ?_
    have hc := cos_low m c t p r hr
    have hs := sin_low m c t p r hr
    generalize (r : ℕ) % 2048 = n' at hc hs ⊢
    have low : ∀ k : Fin 64, Q m c t (ix2 p (col (Fin.castAdd 64 k))) = Cert.MlaLatRefIdeal.Rows.queries
        (Cert.MlaLatRefIdeal.Rows.latQ (m ((c : Thread nD τ).loc main_arg0)) (m ((c : Thread nD τ).loc main_arg1)))
        (m ((c : Thread nD τ).loc main_arg2)) (ix3 r h ⟨128 + k, by omega⟩) := fun k =>
      (q_low m c t p _ h ⟨128 + k, by omega⟩ (by rw [hcol]; simp; omega) r hr).trans
        (Cert.MlaLatRefIdeal.Rows.q_at _ _ _ r h ⟨128 + k, by omega⟩).symm
    have gains : ∀ k : Fin 64, iblk m c 4 t (ix2 0 (Fin.castAdd 64 k : Fin 128)) = m ((c : Thread nD τ).loc main_arg4) (ix1 k) :=
      fun k => read4 m c t k
    exact turn_low (slab (fun k => Q m c t (ix2 p (col k))) (fun k => iblk m c 4 t (ix2 0 k))) (fun k => iblk m c 9 t (ix2 p k))
      (fun k => iblk m c 10 t (ix2 p k)) _ n'
      (fun k => MlaMath.slab_low (fun k => Q m c t (ix2 p (col k))) (fun k => iblk m c 4 t (ix2 0 k)) _ low fill _ gains k) hc hs ⟨e, he⟩
  · refine Eq.trans ?_ (Cert.MlaLatRefIdeal.Rows.rows_third _ _ r n h ⟨e - 64, by omega⟩ (by simp; omega)).symm
    have high := turn_high (slab (fun k => Q m c t (ix2 p (col k))) (fun k => iblk m c 4 t (ix2 0 k))) (fun k => iblk m c 9 t (ix2 p k))
      (fun k => iblk m c 10 t (ix2 p k)) e (cos_high m c t p e (by omega)) (sin_high m c t p e (by omega))
    exact (congrArg (fun a : EReal => a * scale) high).trans (zero_mul _)

/-- The plain part of head `h`'s keys. -/
theorem key (c : Dev nD) (t : Fin cfg0.N) (h : Fin 4) (p : Fin 256) (e : Fin 128) (r : Fin 4096) (n : Fin 1024)
    (hr : (r : ℕ) = t.val * 256 + p) (hn : (n : ℕ) = h * 256 + e) (col : Fin 128 → Fin 1024)
    (hcol : ∀ k, (col k : ℕ) = h * 128 + k) :
    rms128 (fun k => U m c t (ix2 p (col k))) (fun k => iblk m c 7 t (ix2 0 k)) e = wantK m c (ix2 r n) := by
  unfold wantK Cert.MlaLatRefIdeal.Rows.KS
  refine Eq.trans ?_ ((Cert.MlaLatRefIdeal.Rows.rows_first _ _ r n h e hn).trans (Cert.MlaLatRefIdeal.Rows.plainK_at _ _ r h e)).symm
  refine congrArg₂ (fun a b : Fin 128 → EReal => rms128 a b e) (funext fun k => ?_) (funext fun k => read7 m c t k)
  exact (u_key m c t p (col k) h k (hcol k) r hr).trans (Cert.MlaLatRefIdeal.Rows.u_at _ _ _ r h ⟨k, by omega⟩).symm

theorem kr_fill (c : Dev nD) (f : Filled m c) (t : Fin cfg0.N) (p : Fin 256) (k : Fin 64) :
    iblk m c 0 t (ix2 p (⟨640 + (Fin.natAdd 64 k : Fin 128), by omega⟩ : Fin 768)) = (0 : EReal) := by
  have ht := tile_lt t
  exact (read0 m c t p _ ⟨t.val * 256 + p, by omega⟩ rfl).trans (f _ _ (by simp; omega))

/-- The rotary key's 64 numbers. -/
theorem kr_low (c : Dev nD) (f : Filled m c) (t : Fin cfg0.N) (p : Fin 256) (e : Fin 64) (r : Fin 4096)
    (hr : (r : ℕ) = t.val * 256 + p) :
    k0_pay36 (F := Ideal) (iblk m c 0 t) (iblk m c 8 t) (ix2 p (⟨e, by omega⟩ : Fin 128)) = wantR m c (ix2 r e) := by
  refine (pay_kr _ _ p _).trans (Eq.trans ?_ (Cert.MlaLatRefIdeal.Rows.kr_at _ _ r e).symm)
  have low : ∀ k : Fin 64, iblk m c 0 t (ix2 p (⟨640 + (Fin.castAdd 64 k : Fin 128), by omega⟩ : Fin 768))
      = row (m ((c : Thread nD τ).loc main_arg0)) r ⟨640 + k, by omega⟩ := fun k => read0 m c t p _ r hr
  have gains : ∀ k : Fin 64, iblk m c 8 t (ix2 0 (Fin.castAdd 64 k : Fin 128)) = m ((c : Thread nD τ).loc main_arg8) (ix1 k) :=
    fun k => read8 m c t k
  exact MlaMath.slab_low (fun k => iblk m c 0 t (ix2 p (⟨640 + k, by omega⟩ : Fin 768))) (fun k => iblk m c 8 t (ix2 0 k)) _ low
    (kr_fill m c f t p) _ gains e

/-- The turned rotary key under head `h` and the zeros after it. -/
theorem shared (c : Dev nD) (f : Filled m c) (t : Fin cfg0.N) (h : Fin 4) (p : Fin 256) (e : Fin 128) (r : Fin 4096) (n : Fin 1024)
    (hr : (r : ℕ) = t.val * 256 + p) (hn : (n : ℕ) = h * 256 + 128 + e) :
    k0_pay41 (F := Ideal) (k0_pay36 (iblk m c 0 t) (iblk m c 8 t)) (k0_pay38 (iblk m c 9 t)) (k0_pay39 (iblk m c 10 t)) (ix2 p e)
      = wantK m c (ix2 r n) := by
  unfold wantK Cert.MlaLatRefIdeal.Rows.KS
  refine (pay_turn _ _ _ p e).trans ?_
  by_cases he : (e : ℕ) < 64
  · refine Eq.trans ?_ ((Cert.MlaLatRefIdeal.Rows.rows_second _ _ r n h ⟨e, he⟩ hn).trans
      (Cert.MlaLatRefIdeal.Rows.spread_at _ r h ⟨e, he⟩)).symm
    have low : ∀ k : Fin 64, k0_pay36 (F := Ideal) (iblk m c 0 t) (iblk m c 8 t) (ix2 p (Fin.castAdd 64 k : Fin 128)) = wantR m c (ix2 r k) :=
      fun k => kr_low m c f t p k r hr
    have hc := cos_low m c t p r hr
    have hs := sin_low m c t p r hr
    generalize (r : ℕ) % 2048 = n' at hc hs ⊢
    exact turn_low (fun k => k0_pay36 (F := Ideal) (iblk m c 0 t) (iblk m c 8 t) (ix2 p k)) (fun k => iblk m c 9 t (ix2 p k))
      (fun k => iblk m c 10 t (ix2 p k)) _ n' low hc hs ⟨e, he⟩
  · refine Eq.trans ?_ (Cert.MlaLatRefIdeal.Rows.rows_third _ _ r n h ⟨e - 64, by omega⟩ (by simp; omega)).symm
    exact turn_high _ _ _ e (cos_high m c t p e (by omega)) (sin_high m c t p e (by omega))

/-! Loads of a whole operand. -/

theorem ld0 (x : Vec Ideal S256x768 .f32) : View.ld x r0_0 = x := View.ld_unit_lit _ _ (by decide)
theorem ld1 (x : Vec Ideal S1x384 .f32) : View.ld x r0_1 = x := View.ld_unit_lit _ _ (by decide)
theorem ld2 (x : Vec Ideal S384x1024 .bf16) : View.ld x r0_2 = x := View.ld_unit_lit _ _ (by decide)
theorem ld3 (x : Vec Ideal S1x128 .f32) : View.ld x r0_3 = x := View.ld_unit_lit _ _ (by decide)
theorem ld4 (x : Vec Ideal S256x128 .f32) : View.ld x r0_4 = x := View.ld_unit_lit _ _ (by decide)
theorem ld13 (x : Vec Ideal S1x256 .f32) : View.ld x r0_13 = x := View.ld_unit_lit _ _ (by decide)
theorem ld16 (x : Vec Ideal S256x1024 .bf16) : View.ld x r0_16 = x := View.ld_unit_lit _ _ (by decide)

/-- Eight column slices stored side by side make up an array whose slices they are. -/
theorem slices (G : FVec Ideal S4096x1024 .bf16) (b : Fin 16) (w0 w1 w2 w3 w4 w5 w6 w7 : Vec Ideal S256x128 .bf16)
    (s0 : ∀ (x0 : Fin 256) (x1 : Fin 128), w0 (ix2 x0 x1) = G (ix2 ⟨b * 256 + x0, by omega⟩ ⟨0 + x1, by omega⟩))
    (s1 : ∀ (x0 : Fin 256) (x1 : Fin 128), w1 (ix2 x0 x1) = G (ix2 ⟨b * 256 + x0, by omega⟩ ⟨128 + x1, by omega⟩))
    (s2 : ∀ (x0 : Fin 256) (x1 : Fin 128), w2 (ix2 x0 x1) = G (ix2 ⟨b * 256 + x0, by omega⟩ ⟨256 + x1, by omega⟩))
    (s3 : ∀ (x0 : Fin 256) (x1 : Fin 128), w3 (ix2 x0 x1) = G (ix2 ⟨b * 256 + x0, by omega⟩ ⟨384 + x1, by omega⟩))
    (s4 : ∀ (x0 : Fin 256) (x1 : Fin 128), w4 (ix2 x0 x1) = G (ix2 ⟨b * 256 + x0, by omega⟩ ⟨512 + x1, by omega⟩))
    (s5 : ∀ (x0 : Fin 256) (x1 : Fin 128), w5 (ix2 x0 x1) = G (ix2 ⟨b * 256 + x0, by omega⟩ ⟨640 + x1, by omega⟩))
    (s6 : ∀ (x0 : Fin 256) (x1 : Fin 128), w6 (ix2 x0 x1) = G (ix2 ⟨b * 256 + x0, by omega⟩ ⟨768 + x1, by omega⟩))
    (s7 : ∀ (x0 : Fin 256) (x1 : Fin 128), w7 (ix2 x0 x1) = G (ix2 ⟨b * 256 + x0, by omega⟩ ⟨896 + x1, by omega⟩))
    (y : S256x1024.Idx) (r : Fin 4096) (n : Fin 1024) (hr : (r : ℕ) = b * 256 + (y 0).val) (hn : (n : ℕ) = (y 1).val) :
    (View.canon [⟨r0_12, w7⟩, ⟨r0_11, w6⟩, ⟨r0_10, w5⟩, ⟨r0_9, w4⟩, ⟨r0_8, w3⟩, ⟨r0_7, w2⟩, ⟨r0_6, w1⟩, ⟨r0_5, w0⟩] : Vec Ideal S256x1024 .bf16) y = G (ix2 r n) := by
  canon_tiles x h
  case piece0 =>
    idx_vars x
    have hx0 : ((x0 : Fin 256) : ℕ) < 256 := x0.isLt
    have hx1 : ((x1 : Fin 128) : ℕ) < 128 := x1.isLt
    refine (s7 x0 x1).trans (congrArg₂ (fun a b => G (ix2 a b)) (Fin.ext ?_) (Fin.ext ?_))
    · simp at h0 ⊢; omega
    · simp at h1 ⊢; omega
  case piece1 =>
    idx_vars x
    have hx0 : ((x0 : Fin 256) : ℕ) < 256 := x0.isLt
    have hx1 : ((x1 : Fin 128) : ℕ) < 128 := x1.isLt
    refine (s6 x0 x1).trans (congrArg₂ (fun a b => G (ix2 a b)) (Fin.ext ?_) (Fin.ext ?_))
    · simp at h0 ⊢; omega
    · simp at h1 ⊢; omega
  case piece2 =>
    idx_vars x
    have hx0 : ((x0 : Fin 256) : ℕ) < 256 := x0.isLt
    have hx1 : ((x1 : Fin 128) : ℕ) < 128 := x1.isLt
    refine (s5 x0 x1).trans (congrArg₂ (fun a b => G (ix2 a b)) (Fin.ext ?_) (Fin.ext ?_))
    · simp at h0 ⊢; omega
    · simp at h1 ⊢; omega
  case piece3 =>
    idx_vars x
    have hx0 : ((x0 : Fin 256) : ℕ) < 256 := x0.isLt
    have hx1 : ((x1 : Fin 128) : ℕ) < 128 := x1.isLt
    refine (s4 x0 x1).trans (congrArg₂ (fun a b => G (ix2 a b)) (Fin.ext ?_) (Fin.ext ?_))
    · simp at h0 ⊢; omega
    · simp at h1 ⊢; omega
  case piece4 =>
    idx_vars x
    have hx0 : ((x0 : Fin 256) : ℕ) < 256 := x0.isLt
    have hx1 : ((x1 : Fin 128) : ℕ) < 128 := x1.isLt
    refine (s3 x0 x1).trans (congrArg₂ (fun a b => G (ix2 a b)) (Fin.ext ?_) (Fin.ext ?_))
    · simp at h0 ⊢; omega
    · simp at h1 ⊢; omega
  case piece5 =>
    idx_vars x
    have hx0 : ((x0 : Fin 256) : ℕ) < 256 := x0.isLt
    have hx1 : ((x1 : Fin 128) : ℕ) < 128 := x1.isLt
    refine (s2 x0 x1).trans (congrArg₂ (fun a b => G (ix2 a b)) (Fin.ext ?_) (Fin.ext ?_))
    · simp at h0 ⊢; omega
    · simp at h1 ⊢; omega
  case piece6 =>
    idx_vars x
    have hx0 : ((x0 : Fin 256) : ℕ) < 256 := x0.isLt
    have hx1 : ((x1 : Fin 128) : ℕ) < 128 := x1.isLt
    refine (s1 x0 x1).trans (congrArg₂ (fun a b => G (ix2 a b)) (Fin.ext ?_) (Fin.ext ?_))
    · simp at h0 ⊢; omega
    · simp at h1 ⊢; omega
  case piece7 =>
    idx_vars x
    have hx0 : ((x0 : Fin 256) : ℕ) < 256 := x0.isLt
    have hx1 : ((x1 : Fin 128) : ℕ) < 128 := x1.isLt
    refine (s0 x0 x1).trans (congrArg₂ (fun a b => G (ix2 a b)) (Fin.ext ?_) (Fin.ext ?_))
    · simp at h0 ⊢; omega
    · simp at h1 ⊢; omega

/-- Where entry `y` of the block stored in window 11 at point `t` goes in the whole array. -/
theorem lands11 (t : Fin cfg0.N) (y : S256x1024.Idx) (r : Fin 4096) (n : Fin 1024)
    (hr : (r : ℕ) = t.val * 256 + (y 0).val) (hn : (n : ℕ) = (y 1).val) :
    ((cfg0.win 11).blk t).view.emb y = ix2 r n := by
  idx_vars y
  blk_ext [places t]

theorem stored11 (c : Dev nD) (t : Fin cfg0.N) :
    out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t)
      = View.canon [⟨r0_12, k0_pay34 (k0_pay30 (Q m c t)) (k0_pay31 (iblk m c 4 t)) (k0_pay32 (Q m c t)) (iblk m c 9 t) (iblk m c 10 t)⟩, ⟨r0_11, k0_pay33 (k0_pay29 (Q m c t) (iblk m c 3 t))⟩, ⟨r0_10, k0_pay28 (k0_pay22 (Q m c t) (iblk m c 4 t)) (k0_pay23 (iblk m c 9 t)) (k0_pay24 (iblk m c 10 t)) k0_pay25 k0_pay26⟩, ⟨r0_9, k0_pay27 (k0_pay21 (k0_pay18 (Q m c t)) (k0_pay19 (iblk m c 3 t)) (k0_pay20 (Q m c t)) (Scalar.ofBits .f32 0x358637BD#32))⟩, ⟨r0_8, k0_pay17 (k0_pay13 (Q m c t) (iblk m c 4 t)) (k0_pay14 (iblk m c 9 t)) (k0_pay15 (iblk m c 10 t)) (iota .tc S256x128 32 [1] iota_S256x128_d1_w32) 32#32 0#32⟩, ⟨r0_7, k0_pay16 (k0_pay12 (Q m c t) (iblk m c 3 t))⟩, ⟨r0_6, k0_pay11 (k0_pay9 (k0_pay6 (iblk m c 0 t) (iblk m c 1 t) (iblk m c 2 t)) (k0_pay7 (iblk m c 4 t)) (k0_pay8 (iblk m c 0 t) (iblk m c 1 t) (iblk m c 2 t)) (iblk m c 9 t) (iblk m c 10 t))⟩, ⟨r0_5, k0_pay10 (k0_pay5 (iblk m c 0 t) (iblk m c 1 t) (iblk m c 2 t) (iblk m c 3 t))⟩] := by
  unfold_out out0_11
  simp only [ld0, ld1, ld2, ld3, ld4, ld13, ld16]

/-- The array of window 11 after the run. -/
theorem final11 (c : Dev nD) : (dats m 0 c).arrAt 11 (cfgs 0).N = wantQ m c := by
  refine (dats m 0 c).arrAt_eq_of_covers 11 _ (by decide +kernel) fun t hf y => ?_
  have ht := tile_lt t
  blk_simp; rw [after0_11, stored11]
  have hy0 : (y 0).val < 256 := (y 0).isLt
  have hy1 : (y 1).val < 1024 := (y 1).isLt
  rw [lands11 t y ⟨t.val * 256 + (y 0).val, by omega⟩ ⟨(y 1).val, hy1⟩ rfl rfl]
  refine slices (wantQ m c) ⟨t.val, ht⟩ _ _ _ _ _ _ _ _ ?_ ?_ ?_ ?_ ?_ ?_ ?_ ?_ y _ _ rfl rfl
  · intro x0 x1
    exact (plain_0 _ _ _ _ x0 x1).trans (plain m c t 0 x0 x1 _ _ rfl (by simp) _ fun k => by simp)
  · intro x0 x1
    exact (rotary_0 _ _ _ _ _ _ x0 x1).trans (rotary m c t 0 x0 x1 _ _ rfl (by simp) _ fun k => by simp)
  · intro x0 x1
    exact (plain_1 _ _ x0 x1).trans (plain m c t 1 x0 x1 _ _ rfl (by simp) _ fun k => by simp)
  · intro x0 x1
    exact (rotary_1 _ _ _ _ x0 x1).trans (rotary m c t 1 x0 x1 _ _ rfl (by simp) _ fun k => by simp)
  · intro x0 x1
    exact (plain_2 _ _ x0 x1).trans (plain m c t 2 x0 x1 _ _ rfl (by simp) _ fun k => by simp)
  · intro x0 x1
    exact (rotary_2 _ _ _ _ x0 x1).trans (rotary m c t 2 x0 x1 _ _ rfl (by simp) _ fun k => by simp)
  · intro x0 x1
    exact (plain_3 _ _ x0 x1).trans (plain m c t 3 x0 x1 _ _ rfl (by simp) _ fun k => by simp)
  · intro x0 x1
    exact (rotary_3 _ _ _ _ x0 x1).trans (rotary m c t 3 x0 x1 _ _ rfl (by simp) _ fun k => by simp)

/-- Where entry `y` of the block stored in window 12 at point `t` goes in the whole array. -/
theorem lands12 (t : Fin cfg0.N) (y : S256x1024.Idx) (r : Fin 4096) (n : Fin 1024)
    (hr : (r : ℕ) = t.val * 256 + (y 0).val) (hn : (n : ℕ) = (y 1).val) :
    ((cfg0.win 12).blk t).view.emb y = ix2 r n := by
  idx_vars y
  blk_ext [places t]

theorem stored12 (c : Dev nD) (t : Fin cfg0.N) :
    out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t)
      = View.canon [⟨r0_12, k0_pay41 (k0_pay36 (iblk m c 0 t) (iblk m c 8 t)) (k0_pay38 (iblk m c 9 t)) (k0_pay39 (iblk m c 10 t))⟩, ⟨r0_11, k0_pay2 (U m c t) (iblk m c 7 t)⟩, ⟨r0_10, k0_pay41 (k0_pay36 (iblk m c 0 t) (iblk m c 8 t)) (k0_pay38 (iblk m c 9 t)) (k0_pay39 (iblk m c 10 t))⟩, ⟨r0_9, k0_pay1 (k0_pay46 (U m c t) (iblk m c 7 t))⟩, ⟨r0_8, k0_pay41 (k0_pay36 (iblk m c 0 t) (iblk m c 8 t)) (k0_pay38 (iblk m c 9 t)) (k0_pay39 (iblk m c 10 t))⟩, ⟨r0_7, k0_pay45 (U m c t) (iblk m c 7 t)⟩, ⟨r0_6, k0_pay41 (k0_pay36 (iblk m c 0 t) (iblk m c 8 t)) (k0_pay38 (iblk m c 9 t)) (k0_pay39 (iblk m c 10 t))⟩, ⟨r0_5, k0_pay44 (k0_pay42 (iblk m c 7 t)) (k0_pay43 (C m c t) (iblk m c 6 t))⟩] := by
  unfold_out out0_12
  simp only [ld0, ld1, ld2, ld3, ld4, ld13, ld16]

/-- The array of window 12 after the run. -/
theorem final12 (c : Dev nD) (f : Filled m c) : (dats m 0 c).arrAt 12 (cfgs 0).N = wantK m c := by
  refine (dats m 0 c).arrAt_eq_of_covers 12 _ (by decide +kernel) fun t hf y => ?_
  have ht := tile_lt t
  blk_simp; rw [after0_12, stored12]
  have hy0 : (y 0).val < 256 := (y 0).isLt
  have hy1 : (y 1).val < 1024 := (y 1).isLt
  rw [lands12 t y ⟨t.val * 256 + (y 0).val, by omega⟩ ⟨(y 1).val, hy1⟩ rfl rfl]
  refine slices (wantK m c) ⟨t.val, ht⟩ _ _ _ _ _ _ _ _ ?_ ?_ ?_ ?_ ?_ ?_ ?_ ?_ y _ _ rfl rfl
  · intro x0 x1
    exact (key_0 _ _ _ x0 x1).trans (key m c t 0 x0 x1 _ _ rfl (by simp) _ fun k => by simp)
  · intro x0 x1
    exact shared m c f t 0 x0 x1 _ _ rfl (by simp)
  · intro x0 x1
    exact (key_1 _ _ x0 x1).trans (key m c t 1 x0 x1 _ _ rfl (by simp) _ fun k => by simp)
  · intro x0 x1
    exact shared m c f t 1 x0 x1 _ _ rfl (by simp)
  · intro x0 x1
    exact (key_2 _ _ x0 x1).trans (key m c t 2 x0 x1 _ _ rfl (by simp) _ fun k => by simp)
  · intro x0 x1
    exact shared m c f t 2 x0 x1 _ _ rfl (by simp)
  · intro x0 x1
    exact (key_3 _ _ x0 x1).trans (key m c t 3 x0 x1 _ _ rfl (by simp) _ fun k => by simp)
  · intro x0 x1
    exact shared m c f t 3 x0 x1 _ _ rfl (by simp)

/-- Where entry `y` of the block stored in window 13 at point `t` goes in the whole array. -/
theorem lands13 (t : Fin cfg0.N) (y : S256x512.Idx) (r : Fin 4096) (n : Fin 512)
    (hr : (r : ℕ) = t.val * 256 + (y 0).val) (hn : (n : ℕ) = (y 1).val) :
    ((cfg0.win 13).blk t).view.emb y = ix2 r n := by
  idx_vars y
  blk_ext [places t]

theorem stored13 (c : Dev nD) (t : Fin cfg0.N) :
    out0_13 (iblk m c 0 t) (iblk m c 1 t) (iblk m c 2 t) (iblk m c 3 t) (iblk m c 4 t) (iblk m c 5 t) (iblk m c 6 t)
      (iblk m c 7 t) (iblk m c 8 t) (iblk m c 9 t) (iblk m c 10 t)
      = k0_pay3 (U m c t) := by
  unfold_out out0_13
  simp only [ld0, ld1, ld2, ld3, ld4, ld13, ld16]
  exact View.canon_cons_unit_lit _ _ _ (by decide)

theorem final13 (c : Dev nD) : (dats m 0 c).arrAt 13 (cfgs 0).N = wantV m c := by
  refine (dats m 0 c).arrAt_eq_of_covers 13 _ (by decide +kernel) fun t hf y => ?_
  have ht := tile_lt t
  blk_simp; rw [after0_13, stored13]
  have hy0 : (y 0).val < 256 := (y 0).isLt
  have hy1 : (y 1).val < 512 := (y 1).isLt
  rw [lands13 t y ⟨t.val * 256 + (y 0).val, by omega⟩ ⟨(y 1).val, hy1⟩ rfl rfl]
  idx_vars y
  have hy1 : (y1 : ℕ) < 512 := hy1
  refine (pay_v _ y0 y1).trans ?_
  refine (u_val m c t y0 _ ⟨(y1 : ℕ) / 128, by omega⟩ ⟨(y1 : ℕ) % 128, by omega⟩ (by simp; omega) ⟨t.val * 256 + y0, by omega⟩ rfl).trans ?_
  unfold wantV Cert.MlaLatRefIdeal.Rows.VS
  exact ((Cert.MlaLatRefIdeal.Rows.vals_at _ _ _ ⟨(y1 : ℕ) / 128, by omega⟩ ⟨(y1 : ℕ) % 128, by omega⟩ (by simp; omega)).trans
    (Cert.MlaLatRefIdeal.Rows.u_at _ _ _ _ _ _)).symm

/-- Where entry `y` of the block stored in window 14 at point `t` goes in the whole array. -/
theorem lands14 (t : Fin cfg0.N) (y : S256x256.Idx) (r : Fin 4096) (n : Fin 256)
    (hr : (r : ℕ) = t.val * 256 + (y 0).val) (hn : (n : ℕ) = (y 1).val) :
    ((cfg0.win 14).blk t).view.emb y = ix2 r n := by
  idx_vars y
  blk_ext [places t]

theorem stored14 (c : Dev nD) (t : Fin cfg0.N) :
    out0_14 (iblk m c 0 t) (iblk m c 1 t) (iblk m c 2 t) (iblk m c 3 t) (iblk m c 4 t) (iblk m c 5 t) (iblk m c 6 t)
      (iblk m c 7 t) (iblk m c 8 t) (iblk m c 9 t) (iblk m c 10 t)
      = C m c t := by
  unfold_out out0_14
  simp only [ld0, ld1, ld2, ld3, ld4, ld13, ld16]
  exact View.canon_cons_unit_lit _ _ _ (by decide)

theorem final14 (c : Dev nD) : (dats m 0 c).arrAt 14 (cfgs 0).N = wantC m c := by
  refine (dats m 0 c).arrAt_eq_of_covers 14 _ (by decide +kernel) fun t hf y => ?_
  have ht := tile_lt t
  blk_simp; rw [after0_14, stored14]
  have hy0 : (y 0).val < 256 := (y 0).isLt
  have hy1 : (y 1).val < 256 := (y 1).isLt
  rw [lands14 t y ⟨t.val * 256 + (y 0).val, by omega⟩ ⟨(y 1).val, hy1⟩ rfl rfl]
  idx_vars y
  exact (c_at m c t y0 y1 ⟨t.val * 256 + y0, by omega⟩ rfl).trans (Cert.MlaLatRefIdeal.Rows.ckv_at _ _ _ y1).symm

/-- Where entry `y` of the block stored in window 15 at point `t` goes in the whole array. -/
theorem lands15 (t : Fin cfg0.N) (y : S256x64.Idx) (r : Fin 4096) (n : Fin 64)
    (hr : (r : ℕ) = t.val * 256 + (y 0).val) (hn : (n : ℕ) = (y 1).val) :
    ((cfg0.win 15).blk t).view.emb y = ix2 r n := by
  idx_vars y
  blk_ext [places t]

theorem stored15 (c : Dev nD) (t : Fin cfg0.N) :
    out0_15 (iblk m c 0 t) (iblk m c 1 t) (iblk m c 2 t) (iblk m c 3 t) (iblk m c 4 t) (iblk m c 5 t) (iblk m c 6 t)
      (iblk m c 7 t) (iblk m c 8 t) (iblk m c 9 t) (iblk m c 10 t)
      = k0_pay37 (iblk m c 0 t) (iblk m c 8 t) := by
  unfold_out out0_15
  simp only [ld0, ld1, ld2, ld3, ld4, ld13, ld16]
  exact View.canon_cons_unit_lit _ _ _ (by decide)

theorem final15 (c : Dev nD) (f : Filled m c) : (dats m 0 c).arrAt 15 (cfgs 0).N = wantR m c := by
  refine (dats m 0 c).arrAt_eq_of_covers 15 _ (by decide +kernel) fun t hf y => ?_
  have ht := tile_lt t
  blk_simp; rw [after0_15, stored15]
  have hy0 : (y 0).val < 256 := (y 0).isLt
  have hy1 : (y 1).val < 64 := (y 1).isLt
  rw [lands15 t y ⟨t.val * 256 + (y 0).val, by omega⟩ ⟨(y 1).val, hy1⟩ rfl rfl]
  idx_vars y
  exact (pay_kr_low _ _ y0 y1).trans (kr_low m c f t y0 y1 ⟨t.val * 256 + y0, by omega⟩ rfl)

end Cert.MlaLatIdeal.Rows

end
-- ==== Proof.MlaLatPre.lean ====
/- What the precondition of the claim about the latent tokens' projections says: the columns that fill the projection up are zero. -/
module

public import proofs.«01_k».proof.Proof.Gen.Pre_fill_zero_lat
public import Idealize.ShloMosaic.Lib.Pointwise
public import Idealize.ShloMosaic.Lib.ReduceAll

@[expose] public section

set_option maxRecDepth 16384

noncomputable section

open Idealize.ShloMosaic

namespace Cert.MlaLatIdeal.Pre

open Cert.Pre_fill_zero_lat

instance : Subsingleton Cert.Pre_fill_zero_lat.S_.Idx := ⟨fun a b => funext fun i => i.elim0⟩

theorem zero_of_equal (x y : EReal) (h : Ideal.cmp .oeq x y = 1#1) (hy : y = 0) : x = 0 :=
  ((Ideal.cmp_oeq_eq_one _ _).1 h).trans hy

theorem filled (a0 : FVec Ideal S12288x768 .f32) (a1 : FVec Ideal S384 .f32) (a2 : FVec Ideal S384x768 .f32) (a3 : FVec Ideal S128 .f32)
    (a4 : FVec Ideal S64 .f32) (a5 : FVec Ideal S256 .f32) (a6 : FVec Ideal S256x1024 .f32) (a7 : FVec Ideal S128 .f32) (a8 : FVec Ideal S64 .f32)
    (h : Cert.Pre_fill_zero_lat.fn (F := Ideal) a0 a1 a2 a3 a4 a5 a6 a7 a8 = fun _ => 1#1) (r : Fin 4096) (n : Fin 768) (hn : 704 ≤ (n : ℕ)) :
    a0 (ix2 (⟨8192 + r, by omega⟩ : Fin 12288) n) = (0 : EReal) := by
  have e := congrFun h (Shape.Idx.first Cert.Pre_fill_zero_lat.Facts.h_S_)
  dsimp only [Cert.Pre_fill_zero_lat.fn] at e
  have e1 := Host.reduce_andi_all _ _ _ _ _ e (ix2 r ⟨(n : ℕ) - 704, by omega⟩)
  refine Eq.trans (congrArg a0 ?_) (zero_of_equal _ _ e1 (by pointwise))
  funext d
  refine Fin.ext ?_
  match d with
  | ⟨0, _⟩ => simp [ix2]
  | ⟨1, _⟩ => simp [ix2]; omega

end Cert.MlaLatIdeal.Pre

end
-- ==== Proof.MlaLatClaim.lean ====
/- The claims about the latent tokens' projections. -/
module

public import proofs.«01_k».proof.Defs
public import proofs.«01_k».proof.Proof.MlaLatFinal
public import proofs.«01_k».proof.Proof.MlaLatPre
public import proofs.«01_k».proof.Proof.Gen.MlaLat.Frame
public import Idealize.ShloMosaic.Lib.Claim

@[expose] public section

set_option maxRecDepth 16384

noncomputable section

open Idealize.ShloMosaic Idealize.SL.Sem

namespace Cert.MlaLat.Claims

theorem frame : Cert.quiescent_MlaLat := fun m ρ _ => Cert.MlaLat.Gen.frame m ρ

theorem frame_ideal : Cert.quiescent_MlaLatIdeal := fun m ρ _ => Cert.MlaLatIdeal.Gen.frame m ρ

theorem frame_ref : Cert.quiescent_MlaLatRefIdeal := by
  intro m g _
  hlo_run
  · simp only [and_self, implies_true]
  · exact Idealize.ShloMosaic.sem_eq_zero_of_no_sems (sig := Cert.MlaLatRefIdeal.sig) (by decide) _

theorem frame_ideal_pre : Cert.quiescent_MlaLatIdeal_pre_fill_zero_lat := fun m ρ _ => Cert.MlaLatIdeal.Gen.frame m ρ

theorem frame_ref_pre : Cert.quiescent_MlaLatRefIdeal_pre_fill_zero_lat := by
  intro m g _
  hlo_run
  · simp only [and_self, implies_true]
  · exact Idealize.ShloMosaic.sem_eq_zero_of_no_sems (sig := Cert.MlaLatRefIdeal.sig) (by decide) _

/-! What the kernel's run leaves in each result. -/

theorem left11 (m : (ℓ : Loc Cert.MlaLatIdeal.nD Cert.MlaLatIdeal.τ Cert.MlaLatIdeal.sig) → Buf (Elt Ideal) ℓ) (c : Dev Cert.MlaLatIdeal.nD)
    (r : PUnit × MemSt Cert.MlaLatIdeal.nD Cert.MlaLatIdeal.τ Cert.MlaLatIdeal.sig (Elt Ideal))
    (h : Pipeline.FramePost Cert.MlaLatIdeal.cfgs (Cert.MlaLatIdeal.Gen.dats m) 0 (Cert.MlaLatIdeal.Gen.V m) r) :
    r.2.mem ((c.tc : Thread Cert.MlaLatIdeal.nD Cert.MlaLatIdeal.τ).loc Cert.MlaLatIdeal.main_v51_0) = Cert.MlaLatIdeal.Rows.wantQ m c :=
  ((h c).1 11).trans (Cert.MlaLatIdeal.Rows.final11 m c)

theorem left12 (m : (ℓ : Loc Cert.MlaLatIdeal.nD Cert.MlaLatIdeal.τ Cert.MlaLatIdeal.sig) → Buf (Elt Ideal) ℓ) (c : Dev Cert.MlaLatIdeal.nD)
    (r : PUnit × MemSt Cert.MlaLatIdeal.nD Cert.MlaLatIdeal.τ Cert.MlaLatIdeal.sig (Elt Ideal))
    (h : Pipeline.FramePost Cert.MlaLatIdeal.cfgs (Cert.MlaLatIdeal.Gen.dats m) 0 (Cert.MlaLatIdeal.Gen.V m) r) (f : Cert.MlaLatIdeal.Rows.Filled m c) :
    r.2.mem ((c.tc : Thread Cert.MlaLatIdeal.nD Cert.MlaLatIdeal.τ).loc Cert.MlaLatIdeal.main_v51_1) = Cert.MlaLatIdeal.Rows.wantK m c :=
  ((h c).1 12).trans (Cert.MlaLatIdeal.Rows.final12 m c f)

theorem left13 (m : (ℓ : Loc Cert.MlaLatIdeal.nD Cert.MlaLatIdeal.τ Cert.MlaLatIdeal.sig) → Buf (Elt Ideal) ℓ) (c : Dev Cert.MlaLatIdeal.nD)
    (r : PUnit × MemSt Cert.MlaLatIdeal.nD Cert.MlaLatIdeal.τ Cert.MlaLatIdeal.sig (Elt Ideal))
    (h : Pipeline.FramePost Cert.MlaLatIdeal.cfgs (Cert.MlaLatIdeal.Gen.dats m) 0 (Cert.MlaLatIdeal.Gen.V m) r) :
    r.2.mem ((c.tc : Thread Cert.MlaLatIdeal.nD Cert.MlaLatIdeal.τ).loc Cert.MlaLatIdeal.main_v51_2) = Cert.MlaLatIdeal.Rows.wantV m c :=
  ((h c).1 13).trans (Cert.MlaLatIdeal.Rows.final13 m c)

theorem left14 (m : (ℓ : Loc Cert.MlaLatIdeal.nD Cert.MlaLatIdeal.τ Cert.MlaLatIdeal.sig) → Buf (Elt Ideal) ℓ) (c : Dev Cert.MlaLatIdeal.nD)
    (r : PUnit × MemSt Cert.MlaLatIdeal.nD Cert.MlaLatIdeal.τ Cert.MlaLatIdeal.sig (Elt Ideal))
    (h : Pipeline.FramePost Cert.MlaLatIdeal.cfgs (Cert.MlaLatIdeal.Gen.dats m) 0 (Cert.MlaLatIdeal.Gen.V m) r) :
    r.2.mem ((c.tc : Thread Cert.MlaLatIdeal.nD Cert.MlaLatIdeal.τ).loc Cert.MlaLatIdeal.main_v51_3) = Cert.MlaLatIdeal.Rows.wantC m c :=
  ((h c).1 14).trans (Cert.MlaLatIdeal.Rows.final14 m c)

theorem left15 (m : (ℓ : Loc Cert.MlaLatIdeal.nD Cert.MlaLatIdeal.τ Cert.MlaLatIdeal.sig) → Buf (Elt Ideal) ℓ) (c : Dev Cert.MlaLatIdeal.nD)
    (r : PUnit × MemSt Cert.MlaLatIdeal.nD Cert.MlaLatIdeal.τ Cert.MlaLatIdeal.sig (Elt Ideal))
    (h : Pipeline.FramePost Cert.MlaLatIdeal.cfgs (Cert.MlaLatIdeal.Gen.dats m) 0 (Cert.MlaLatIdeal.Gen.V m) r) (f : Cert.MlaLatIdeal.Rows.Filled m c) :
    r.2.mem ((c.tc : Thread Cert.MlaLatIdeal.nD Cert.MlaLatIdeal.τ).loc Cert.MlaLatIdeal.main_v51_4) = Cert.MlaLatIdeal.Rows.wantR m c :=
  ((h c).1 15).trans (Cert.MlaLatIdeal.Rows.final15 m c f)

theorem algebraic : Cert.algebraic_MlaLatIdeal_MlaLatRefIdeal_pre_fill_zero_lat := by
  intro m g m' g' hpre hagree
  have f : ∀ c, Cert.MlaLatIdeal.Rows.Filled m c := fun c => Cert.MlaLatIdeal.Pre.filled _ _ _ _ _ _ _ _ _ (hpre c)
  refine ⟨fun c => Cert.MlaLatIdeal.Rows.wantQ m c, fun c => Cert.MlaLatIdeal.Rows.wantK m c, fun c => Cert.MlaLatIdeal.Rows.wantV m c,
    fun c => Cert.MlaLatIdeal.Rows.wantC m c, fun c => Cert.MlaLatIdeal.Rows.wantR m c, ?_, ?_⟩
  · refine θ_run_mono (θ_run_and (Cert.MlaLatIdeal.Gen.unchanged m g) (Cert.MlaLatIdeal.Gen.run_main m g)) ?_
    rintro r ⟨h1, h2⟩ c
    exact ⟨left11 m c r h2, left12 m c r h2 (f c), left13 m c r h2, left14 m c r h2, left15 m c r h2 (f c), h1 c⟩
  · refine θ_run_mono (Cert.MlaLatRefIdeal.Value.run m' g') ?_
    intro r h c
    obtain ⟨hq, hk, hv, hc, hr, ha⟩ := h c
    obtain ⟨h0, h1, h2, h3, h4, h5, h6, h7, h8⟩ := hagree c
    refine ⟨(Eq.trans hq (show _ = Cert.MlaLatRefIdeal.Rows.QS (m' ((c.tc : Thread Cert.MlaLatRefIdeal.nD Cert.MlaLatRefIdeal.τ).loc Cert.MlaLatRefIdeal.main_arg0))
        (m' ((c.tc : Thread Cert.MlaLatRefIdeal.nD Cert.MlaLatRefIdeal.τ).loc Cert.MlaLatRefIdeal.main_arg1))
        (m' ((c.tc : Thread Cert.MlaLatRefIdeal.nD Cert.MlaLatRefIdeal.τ).loc Cert.MlaLatRefIdeal.main_arg2))
        (m' ((c.tc : Thread Cert.MlaLatRefIdeal.nD Cert.MlaLatRefIdeal.τ).loc Cert.MlaLatRefIdeal.main_arg3))
        (m' ((c.tc : Thread Cert.MlaLatRefIdeal.nD Cert.MlaLatRefIdeal.τ).loc Cert.MlaLatRefIdeal.main_arg4)) from rfl)).trans ?_,
      (Eq.trans hk (show _ = Cert.MlaLatRefIdeal.Rows.KS (m' ((c.tc : Thread Cert.MlaLatRefIdeal.nD Cert.MlaLatRefIdeal.τ).loc Cert.MlaLatRefIdeal.main_arg0))
        (m' ((c.tc : Thread Cert.MlaLatRefIdeal.nD Cert.MlaLatRefIdeal.τ).loc Cert.MlaLatRefIdeal.main_arg5))
        (m' ((c.tc : Thread Cert.MlaLatRefIdeal.nD Cert.MlaLatRefIdeal.τ).loc Cert.MlaLatRefIdeal.main_arg6))
        (m' ((c.tc : Thread Cert.MlaLatRefIdeal.nD Cert.MlaLatRefIdeal.τ).loc Cert.MlaLatRefIdeal.main_arg7))
        (m' ((c.tc : Thread Cert.MlaLatRefIdeal.nD Cert.MlaLatRefIdeal.τ).loc Cert.MlaLatRefIdeal.main_arg8)) from rfl)).trans ?_,
      (Eq.trans hv (show _ = Cert.MlaLatRefIdeal.Rows.VS (m' ((c.tc : Thread Cert.MlaLatRefIdeal.nD Cert.MlaLatRefIdeal.τ).loc Cert.MlaLatRefIdeal.main_arg0))
        (m' ((c.tc : Thread Cert.MlaLatRefIdeal.nD Cert.MlaLatRefIdeal.τ).loc Cert.MlaLatRefIdeal.main_arg5))
        (m' ((c.tc : Thread Cert.MlaLatRefIdeal.nD Cert.MlaLatRefIdeal.τ).loc Cert.MlaLatRefIdeal.main_arg6)) from rfl)).trans ?_,
      (Eq.trans hc (show _ = Cert.MlaLatRefIdeal.Rows.CKV (m' ((c.tc : Thread Cert.MlaLatRefIdeal.nD Cert.MlaLatRefIdeal.τ).loc Cert.MlaLatRefIdeal.main_arg0))
        (m' ((c.tc : Thread Cert.MlaLatRefIdeal.nD Cert.MlaLatRefIdeal.τ).loc Cert.MlaLatRefIdeal.main_arg5)) from rfl)).trans ?_,
      (Eq.trans hr (show _ = Cert.MlaLatRefIdeal.Rows.KR (m' ((c.tc : Thread Cert.MlaLatRefIdeal.nD Cert.MlaLatRefIdeal.τ).loc Cert.MlaLatRefIdeal.main_arg0))
        (m' ((c.tc : Thread Cert.MlaLatRefIdeal.nD Cert.MlaLatRefIdeal.τ).loc Cert.MlaLatRefIdeal.main_arg8)) from rfl)).trans ?_, ha⟩
    · rw [h0, h1, h2, h3, h4]
    · rw [h0, h5, h6, h7, h8]
    · rw [h0, h5, h6]
    · rw [h0, h5]
    · rw [h0, h8]

end Cert.MlaLat.Claims

end
-- ==== Proof.lean ====
module

public import proofs.«01_k».proof.Defs
public import proofs.«01_k».proof.Proof.Gen.AttnLat
public import proofs.«01_k».proof.Proof.Gen.AttnLat.Skeleton
public import proofs.«01_k».proof.Proof.Gen.AttnLat.Launch
public import proofs.«01_k».proof.Proof.Gen.AttnLat.Points
public import proofs.«01_k».proof.Proof.Gen.AttnLat.Frame
public import proofs.«01_k».proof.Proof.Gen.AttnLatIdeal
public import proofs.«01_k».proof.Proof.Gen.AttnLatIdeal.Skeleton
public import proofs.«01_k».proof.Proof.Gen.AttnLatIdeal.Launch
public import proofs.«01_k».proof.Proof.Gen.AttnLatIdeal.Points
public import proofs.«01_k».proof.Proof.Gen.AttnLatIdeal.Frame
public import proofs.«01_k».proof.Proof.Gen.AttnLatRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.AttnCtx
public import proofs.«01_k».proof.Proof.Gen.AttnCtx.Skeleton
public import proofs.«01_k».proof.Proof.Gen.AttnCtx.Launch
public import proofs.«01_k».proof.Proof.Gen.AttnCtx.Points
public import proofs.«01_k».proof.Proof.Gen.AttnCtx.Frame
public import proofs.«01_k».proof.Proof.Gen.AttnCtxIdeal
public import proofs.«01_k».proof.Proof.Gen.AttnCtxIdeal.Skeleton
public import proofs.«01_k».proof.Proof.Gen.AttnCtxIdeal.Launch
public import proofs.«01_k».proof.Proof.Gen.AttnCtxIdeal.Points
public import proofs.«01_k».proof.Proof.Gen.AttnCtxIdeal.Frame
public import proofs.«01_k».proof.Proof.Gen.AttnCtxRefIdeal
public import proofs.«01_k».proof.Proof.Gen.AttnCtxRefIdeal.Run
public import proofs.«01_k».proof.Proof.Gen.MlaCtx
public import proofs.«01_k».proof.Proof.Gen.MlaCtx.Skeleton
public import proofs.«01_k».proof.Proof.Gen.MlaCtx.Launch
public import proofs.«01_k».proof.Proof.Gen.MlaCtx.Points
public import proofs.«01_k».proof.Proof.Gen.MlaCtx.Frame
public import proofs.«01_k».proof.Proof.Gen.MlaCtxIdeal
public import proofs.«01_k».proof.Proof.Gen.MlaCtxIdeal.Skeleton
public import proofs.«01_k».proof.Proof.Gen.MlaCtxIdeal.Launch
public import proofs.«01_k».proof.Proof.Gen.MlaCtxIdeal.Points
public import proofs.«01_k».proof.Proof.Gen.MlaCtxIdeal.Frame
public import proofs.«01_k».proof.Proof.Gen.MlaCtxRefIdeal
public import proofs.«01_k».proof.Proof.Gen.MlaCtxRefIdeal.Run
public import proofs.«01_k».proof.Proof.Gen.MlaCache
public import proofs.«01_k».proof.Proof.Gen.MlaCache.Skeleton
public import proofs.«01_k».proof.Proof.Gen.MlaCache.Launch
public import proofs.«01_k».proof.Proof.Gen.MlaCache.Points
public import proofs.«01_k».proof.Proof.Gen.MlaCache.Frame
public import proofs.«01_k».proof.Proof.Gen.MlaCacheIdeal
public import proofs.«01_k».proof.Proof.Gen.MlaCacheIdeal.Skeleton
public import proofs.«01_k».proof.Proof.Gen.MlaCacheIdeal.Launch
public import proofs.«01_k».proof.Proof.Gen.MlaCacheIdeal.Points
public import proofs.«01_k».proof.Proof.Gen.MlaCacheIdeal.Frame
public import proofs.«01_k».proof.Proof.Gen.MlaCacheRefIdeal
public import proofs.«01_k».proof.Proof.Gen.MlaCacheRefIdeal.Run
public import proofs.«01_k».proof.Proof.Gen.MlaLat
public import proofs.«01_k».proof.Proof.Gen.MlaLat.Skeleton
public import proofs.«01_k».proof.Proof.Gen.MlaLat.Launch
public import proofs.«01_k».proof.Proof.Gen.MlaLat.Points
public import proofs.«01_k».proof.Proof.Gen.MlaLat.Frame
public import proofs.«01_k».proof.Proof.Gen.MlaLatIdeal
public import proofs.«01_k».proof.Proof.Gen.MlaLatIdeal.Skeleton
public import proofs.«01_k».proof.Proof.Gen.MlaLatIdeal.Launch
public import proofs.«01_k».proof.Proof.Gen.MlaLatIdeal.Points
public import proofs.«01_k».proof.Proof.Gen.MlaLatIdeal.Frame
public import proofs.«01_k».proof.Proof.Gen.MlaLatRefIdeal
public import proofs.«01_k».proof.Proof.Gen.MlaLatRefIdeal.Run
public import proofs.«01_k».proof.Proof.Gen.Pre_ctx_scores_finite
public import proofs.«01_k».proof.Proof.Gen.Pre_fill_zero
public import proofs.«01_k».proof.Proof.Gen.Pre_fill_zero_lat
public import proofs.«01_k».proof.Proof.Gen.Pre_scores_finite
public import proofs.«01_k».proof.Proof.Gen.AttnLatIdeal.Value
public import proofs.«01_k».proof.Proof.Gen.AttnLatRefIdeal.Run
public import proofs.«01_k».proof.Proof.Gen.FfnRefIdeal.Run
public import proofs.«01_k».proof.Proof.Gen.InProjIdeal.Value
public import proofs.«01_k».proof.Proof.Gen.InProjRefIdeal.Run
public import proofs.«01_k».proof.Proof.Gen.OutProjIdeal.Value
public import proofs.«01_k».proof.Proof.Gen.OutProjRefIdeal.Run
public import proofs.«01_k».proof.Proof.AttnLatClaim
public import proofs.«01_k».proof.Proof.FfnClaim
public import proofs.«01_k».proof.Proof.InProjClaim
public import proofs.«01_k».proof.Proof.OutProjClaim
public import proofs.«01_k».proof.Proof.AttnCtxClaim
public import proofs.«01_k».proof.Proof.MlaCtxClaim
public import proofs.«01_k».proof.Proof.MlaCacheClaim
public import proofs.«01_k».proof.Proof.MlaLatClaim
public import Idealize.ShloMosaic.Adequacy
public import Idealize.ShloMosaic.Init

@[expose] public section

noncomputable section

namespace Cert.Proof

open Idealize.ShloMosaic Idealize.SL.Sem Cert.AttnLat

theorem claim : Cert.Claim := ⟨Cert.AttnLat.Gen.facts, Cert.AttnLatIdeal.Gen.facts, Cert.AttnLatRefIdeal.Gen.facts, Cert.Ffn.Gen.facts, Cert.FfnIdeal.Gen.facts, Cert.FfnRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.AttnCtx.Gen.facts, Cert.AttnCtxIdeal.Gen.facts, Cert.AttnCtxRefIdeal.Gen.facts, Cert.MlaCtx.Gen.facts, Cert.MlaCtxIdeal.Gen.facts, Cert.MlaCtxRefIdeal.Gen.facts, Cert.MlaCache.Gen.facts, Cert.MlaCacheIdeal.Gen.facts, Cert.MlaCacheRefIdeal.Gen.facts, Cert.MlaLat.Gen.facts, Cert.MlaLatIdeal.Gen.facts, Cert.MlaLatRefIdeal.Gen.facts, Cert.Pre_scores_finite.Gen.facts, Cert.Pre_ctx_scores_finite.Gen.facts, Cert.Pre_fill_zero.Gen.facts, Cert.Pre_fill_zero_lat.Gen.facts,
  AttnLat.Claims.frame, AttnLat.Claims.frame_ideal, AttnLat.Claims.frame_ideal_pre, AttnLat.Claims.frame_ref,
  AttnLat.Claims.frame_ref_pre,
  Ffn.Claims.frame, Ffn.Claims.frame_ideal, Ffn.Claims.frame_ref,
  InProj.Claims.frame, InProj.Claims.frame_ideal, InProj.Claims.frame_ref,
  OutProj.Claims.frame, OutProj.Claims.frame_ideal, OutProj.Claims.frame_ref,
  AttnCtx.Claims.frame, AttnCtx.Claims.frame_ideal, AttnCtx.Claims.frame_ideal_pre, AttnCtx.Claims.frame_ref,
  AttnCtx.Claims.frame_ref_pre,
  MlaCtx.Claims.frame, MlaCtx.Claims.frame_ideal, MlaCtx.Claims.frame_ideal_pre, MlaCtx.Claims.frame_ref,
  MlaCtx.Claims.frame_ref_pre,
  MlaCache.Claims.frame, MlaCache.Claims.frame_ideal, MlaCache.Claims.frame_ref,
  MlaLat.Claims.frame, MlaLat.Claims.frame_ideal, MlaLat.Claims.frame_ideal_pre, MlaLat.Claims.frame_ref,
  MlaLat.Claims.frame_ref_pre,
  trivial, AttnLat.Claims.algebraic, trivial, Ffn.Claims.algebraic, trivial, InProj.Claims.algebraic,
  trivial, OutProj.Claims.algebraic,
  trivial, AttnCtx.Claims.algebraic, trivial, MlaCtx.Claims.algebraic, trivial, MlaCache.Claims.algebraic, trivial, MlaLat.Claims.algebraic⟩

end Cert.Proof

end
